-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v272)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v272) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v207) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32x256x256 : Shape := ⟨3, ![32, 256, 256]⟩
abbrev S1024x256 : Shape := ⟨2, ![1024, 256]⟩
abbrev S4x256x256x3 : Shape := ⟨4, ![4, 256, 256, 3]⟩
abbrev S4x256 : Shape := ⟨2, ![4, 256]⟩
abbrev S_ : Shape := ⟨0, ![]⟩

class Facts : Prop where
  bcast_S_S32x256x256 : S_.BroadcastsInDim S32x256x256 (![] : Fin 0 → Fin S32x256x256.rank)
  bcast_S_S1024x256 : S_.BroadcastsInDim S1024x256 (![] : Fin 0 → Fin S1024x256.rank)
  bcast_S_S4x256x256x3 : S_.BroadcastsInDim S4x256x256x3 (![] : Fin 0 → Fin S4x256x256x3.rank)
  bcast_S_S4x256 : S_.BroadcastsInDim S4x256 (![] : Fin 0 → Fin S4x256.rank)

variable [Facts]

def fn {F : FTy → Type} [FloatOps F] (main_arg0 : FVec F S32x256x256 .f32) (main_arg1 : FVec F S1024x256 .f32) (main_arg2 : FVec F S4x256x256x3 .f32) (main_arg3 : FVec F S4x256 .f32) : IVec S32x256x256 1 × IVec S1024x256 1 × IVec S4x256x256x3 1 × IVec S4x256 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_v3 : FVec F S1024x256 .f32 := Host.absf main_arg1
  let main_cst_0 : FVec F S_ .f32 := constant S_ .f32 0x7F800000#32
  let main_v4 : FVec F S1024x256 .f32 := broadcastInDim S1024x256 ![] bcast_S_S1024x256 main_cst_0
  let main_v5 : IVec S1024x256 1 := cmpf .olt main_v3 main_v4
  let main_v6 : FVec F S4x256x256x3 .f32 := Host.absf main_arg2
  let main_cst_1 : FVec F S_ .f32 := constant S_ .f32 0x7F800000#32
  let main_v7 : FVec F S4x256x256x3 .f32 := broadcastInDim S4x256x256x3 ![] bcast_S_S4x256x256x3 main_cst_1
  let main_v8 : IVec S4x256x256x3 1 := cmpf .olt main_v6 main_v7
  let main_v9 : FVec F S4x256 .f32 := Host.absf main_arg3
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  (main_v2, main_v5, main_v8, main_v11)
-- ==== Kernel.lean ====
abbrev S32x256x256 : Shape := ⟨3, ![32, 256, 256]⟩
abbrev S1024x256 : Shape := ⟨2, ![1024, 256]⟩
abbrev S4x256x256x3 : Shape := ⟨4, ![4, 256, 256, 3]⟩
abbrev S4x256 : Shape := ⟨2, ![4, 256]⟩
abbrev S_ : Shape := ⟨0, ![]⟩
abbrev S1024 : Shape := ⟨1, ![1024]⟩
abbrev S1x1024 : Shape := ⟨2, ![1, 1024]⟩
abbrev S32 : Shape := ⟨1, ![32]⟩
abbrev S256 : Shape := ⟨1, ![256]⟩
abbrev S1x32 : Shape := ⟨2, ![1, 32]⟩
abbrev S256x1 : Shape := ⟨2, ![256, 1]⟩
abbrev S256x32 : Shape := ⟨2, ![256, 32]⟩
abbrev S64 : Shape := ⟨1, ![64]⟩
abbrev S1x64 : Shape := ⟨2, ![1, 64]⟩
abbrev S256x64 : Shape := ⟨2, ![256, 64]⟩
abbrev S128 : Shape := ⟨1, ![128]⟩
abbrev S1x128 : Shape := ⟨2, ![1, 128]⟩
abbrev S256x128 : Shape := ⟨2, ![256, 128]⟩
abbrev S1x256 : Shape := ⟨2, ![1, 256]⟩
abbrev S32x1 : Shape := ⟨2, ![32, 1]⟩
abbrev S32x256 : Shape := ⟨2, ![32, 256]⟩
abbrev S64x1 : Shape := ⟨2, ![64, 1]⟩
abbrev S64x256 : Shape := ⟨2, ![64, 256]⟩
abbrev S128x1 : Shape := ⟨2, ![128, 1]⟩
abbrev S128x256 : Shape := ⟨2, ![128, 256]⟩
abbrev S4x3x256x256 : Shape := ⟨4, ![4, 3, 256, 256]⟩
abbrev S2048 : Shape := ⟨1, ![2048]⟩
abbrev S1x2048 : Shape := ⟨2, ![1, 2048]⟩
abbrev S8x256x256 : Shape := ⟨3, ![8, 256, 256]⟩
abbrev S1x256x256 : Shape := ⟨3, ![1, 256, 256]⟩
abbrev S256x256 : Shape := ⟨2, ![256, 256]⟩
abbrev S256x2048 : Shape := ⟨2, ![256, 2048]⟩
abbrev S256x1024 : Shape := ⟨2, ![256, 1024]⟩
abbrev S256x2047 : Shape := ⟨2, ![256, 2047]⟩
abbrev S1x1x256x256 : Shape := ⟨4, ![1, 1, 256, 256]⟩
abbrev S256x512 : Shape := ⟨2, ![256, 512]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S1024x1 : Shape := ⟨2, ![1024, 1]⟩
abbrev S2048x1024 : Shape := ⟨2, ![2048, 1024]⟩
abbrev S2048x1 : Shape := ⟨2, ![2048, 1]⟩

abbrev nBuf : Space → Nat
  | .hbm => 445
  | .vmem => 16
  | .smem => 0
  | _ => 0

abbrev hbmTy0_0 (i : Nat) : BufTy := match i % 128 with
  | 0 => ⟨S32x256x256, .f32⟩
  | 1 => ⟨S1024x256, .f32⟩
  | 2 => ⟨S4x256x256x3, .f32⟩
  | 3 => ⟨S4x256, .f32⟩
  | 4 => ⟨S1024x256, .f32⟩
  | 5 => ⟨S_, .f32⟩
  | 6 => ⟨S1024, .f32⟩
  | 7 => ⟨S1x1024, .f32⟩
  | 8 => ⟨S_, .f32⟩
  | 9 => ⟨S_, .f32⟩
  | 10 => ⟨S_, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S256, .f32⟩
  | 25 => ⟨S1x32, .f32⟩
  | 26 => ⟨S256x1, .f32⟩
  | 27 => ⟨S256x32, .f32⟩
  | 28 => ⟨S256x32, .f32⟩
  | 29 => ⟨S256x32, .f32⟩
  | 30 => ⟨S256x32, .f32⟩
  | 31 => ⟨S_, .f32⟩
  | 32 => ⟨S256x32, .f32⟩
  | 33 => ⟨S256x32, .f32⟩
  | 34 => ⟨S256x32, .f32⟩
  | 35 => ⟨S_, .f32⟩
  | 36 => ⟨S256x32, .f32⟩
  | 37 => ⟨S256x32, .f32⟩
  | 38 => ⟨S_, .f32⟩
  | 39 => ⟨S256x32, .f32⟩
  | 40 => ⟨S256x32, .f32⟩
  | 41 => ⟨S_, .f32⟩
  | 42 => ⟨S32, .f32⟩
  | 43 => ⟨S1x32, .f32⟩
  | 44 => ⟨S1x32, .f32⟩
  | 45 => ⟨S_, .f32⟩
  | 46 => ⟨S1x32, .f32⟩
  | 47 => ⟨S1x32, .i1⟩
  | 48 => ⟨S_, .f32⟩
  | 49 => ⟨S1x32, .f32⟩
  | 50 => ⟨S1x32, .i1⟩
  | 51 => ⟨S_, .i32⟩
  | 52 => ⟨S_, .f32⟩
  | 53 => ⟨S1x32, .f32⟩
  | 54 => ⟨S1x32, .f32⟩
  | 55 => ⟨S256x32, .f32⟩
  | 56 => ⟨S256x32, .f32⟩
  | 57 => ⟨S_, .i32⟩
  | 58 => ⟨S_, .f32⟩
  | 59 => ⟨S256x32, .i1⟩
  | 60 => ⟨S256x32, .f32⟩
  | 61 => ⟨S256x32, .f32⟩
  | 62 => ⟨S_, .f32⟩
  | 63 => ⟨S32, .f32⟩
  | 64 => ⟨S32, .i1⟩
  | 65 => ⟨S_, .f32⟩
  | 66 => ⟨S32, .f32⟩
  | 67 => ⟨S32, .i1⟩
  | 68 => ⟨S32, .i1⟩
  | 69 => ⟨S1x32, .i1⟩
  | 70 => ⟨S_, .i32⟩
  | 71 => ⟨S_, .f32⟩
  | 72 => ⟨S256x32, .i1⟩
  | 73 => ⟨S256x32, .f32⟩
  | 74 => ⟨S256x32, .f32⟩
  | 75 => ⟨S_, .f32⟩
  | 76 => ⟨S_, .f32⟩
  | 77 => ⟨S_, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S_, .f32⟩
  | 86 => ⟨S64, .f32⟩
  | 87 => ⟨S64, .f32⟩
  | 88 => ⟨S_, .f32⟩
  | 89 => ⟨S64, .f32⟩
  | 90 => ⟨S64, .f32⟩
  | 91 => ⟨S256, .f32⟩
  | 92 => ⟨S1x64, .f32⟩
  | 93 => ⟨S256x1, .f32⟩
  | 94 => ⟨S256x64, .f32⟩
  | 95 => ⟨S256x64, .f32⟩
  | 96 => ⟨S256x64, .f32⟩
  | 97 => ⟨S256x64, .f32⟩
  | 98 => ⟨S_, .f32⟩
  | 99 => ⟨S256x64, .f32⟩
  | 100 => ⟨S256x64, .f32⟩
  | 101 => ⟨S256x64, .f32⟩
  | 102 => ⟨S_, .f32⟩
  | 103 => ⟨S256x64, .f32⟩
  | 104 => ⟨S256x64, .f32⟩
  | 105 => ⟨S_, .f32⟩
  | 106 => ⟨S256x64, .f32⟩
  | 107 => ⟨S256x64, .f32⟩
  | 108 => ⟨S_, .f32⟩
  | 109 => ⟨S64, .f32⟩
  | 110 => ⟨S1x64, .f32⟩
  | 111 => ⟨S1x64, .f32⟩
  | 112 => ⟨S_, .f32⟩
  | 113 => ⟨S1x64, .f32⟩
  | 114 => ⟨S1x64, .i1⟩
  | 115 => ⟨S_, .f32⟩
  | 116 => ⟨S1x64, .f32⟩
  | 117 => ⟨S1x64, .i1⟩
  | 118 => ⟨S_, .i32⟩
  | 119 => ⟨S_, .f32⟩
  | 120 => ⟨S1x64, .f32⟩
  | 121 => ⟨S1x64, .f32⟩
  | 122 => ⟨S256x64, .f32⟩
  | 123 => ⟨S256x64, .f32⟩
  | 124 => ⟨S_, .i32⟩
  | 125 => ⟨S_, .f32⟩
  | 126 => ⟨S256x64, .i1⟩
  | 127 => ⟨S256x64, .f32⟩
  | _ => ⟨S32x256x256, .f32⟩

abbrev hbmTy0_1 (i : Nat) : BufTy := match i % 128 with
  | 0 => ⟨S256x64, .f32⟩
  | 1 => ⟨S_, .f32⟩
  | 2 => ⟨S64, .f32⟩
  | 3 => ⟨S64, .i1⟩
  | 4 => ⟨S_, .f32⟩
  | 5 => ⟨S64, .f32⟩
  | 6 => ⟨S64, .i1⟩
  | 7 => ⟨S64, .i1⟩
  | 8 => ⟨S1x64, .i1⟩
  | 9 => ⟨S_, .i32⟩
  | 10 => ⟨S_, .f32⟩
  | 11 => ⟨S256x64, .i1⟩
  | 12 => ⟨S256x64, .f32⟩
  | 13 => ⟨S256x64, .f32⟩
  | 14 => ⟨S_, .f32⟩
  | 15 => ⟨S_, .f32⟩
  | 16 => ⟨S_, .f32⟩
  | 17 => ⟨S128, .f32⟩
  | 18 => ⟨S_, .f32⟩
  | 19 => ⟨S128, .f32⟩
  | 20 => ⟨S128, .f32⟩
  | 21 => ⟨S_, .f32⟩
  | 22 => ⟨S128, .f32⟩
  | 23 => ⟨S128, .f32⟩
  | 24 => ⟨S_, .f32⟩
  | 25 => ⟨S128, .f32⟩
  | 26 => ⟨S128, .f32⟩
  | 27 => ⟨S_, .f32⟩
  | 28 => ⟨S128, .f32⟩
  | 29 => ⟨S128, .f32⟩
  | 30 => ⟨S256, .f32⟩
  | 31 => ⟨S1x128, .f32⟩
  | 32 => ⟨S256x1, .f32⟩
  | 33 => ⟨S256x128, .f32⟩
  | 34 => ⟨S256x128, .f32⟩
  | 35 => ⟨S256x128, .f32⟩
  | 36 => ⟨S256x128, .f32⟩
  | 37 => ⟨S_, .f32⟩
  | 38 => ⟨S256x128, .f32⟩
  | 39 => ⟨S256x128, .f32⟩
  | 40 => ⟨S256x128, .f32⟩
  | 41 => ⟨S_, .f32⟩
  | 42 => ⟨S256x128, .f32⟩
  | 43 => ⟨S256x128, .f32⟩
  | 44 => ⟨S_, .f32⟩
  | 45 => ⟨S256x128, .f32⟩
  | 46 => ⟨S256x128, .f32⟩
  | 47 => ⟨S_, .f32⟩
  | 48 => ⟨S128, .f32⟩
  | 49 => ⟨S1x128, .f32⟩
  | 50 => ⟨S1x128, .f32⟩
  | 51 => ⟨S_, .f32⟩
  | 52 => ⟨S1x128, .f32⟩
  | 53 => ⟨S1x128, .i1⟩
  | 54 => ⟨S_, .f32⟩
  | 55 => ⟨S1x128, .f32⟩
  | 56 => ⟨S1x128, .i1⟩
  | 57 => ⟨S_, .i32⟩
  | 58 => ⟨S_, .f32⟩
  | 59 => ⟨S1x128, .f32⟩
  | 60 => ⟨S1x128, .f32⟩
  | 61 => ⟨S256x128, .f32⟩
  | 62 => ⟨S256x128, .f32⟩
  | 63 => ⟨S_, .i32⟩
  | 64 => ⟨S_, .f32⟩
  | 65 => ⟨S256x128, .i1⟩
  | 66 => ⟨S256x128, .f32⟩
  | 67 => ⟨S256x128, .f32⟩
  | 68 => ⟨S_, .f32⟩
  | 69 => ⟨S128, .f32⟩
  | 70 => ⟨S128, .i1⟩
  | 71 => ⟨S_, .f32⟩
  | 72 => ⟨S128, .f32⟩
  | 73 => ⟨S128, .i1⟩
  | 74 => ⟨S128, .i1⟩
  | 75 => ⟨S1x128, .i1⟩
  | 76 => ⟨S_, .i32⟩
  | 77 => ⟨S_, .f32⟩
  | 78 => ⟨S256x128, .i1⟩
  | 79 => ⟨S256x128, .f32⟩
  | 80 => ⟨S256x128, .f32⟩
  | 81 => ⟨S_, .f32⟩
  | 82 => ⟨S_, .f32⟩
  | 83 => ⟨S_, .f32⟩
  | 84 => ⟨S256, .f32⟩
  | 85 => ⟨S_, .f32⟩
  | 86 => ⟨S256, .f32⟩
  | 87 => ⟨S256, .f32⟩
  | 88 => ⟨S_, .f32⟩
  | 89 => ⟨S256, .f32⟩
  | 90 => ⟨S256, .f32⟩
  | 91 => ⟨S_, .f32⟩
  | 92 => ⟨S256, .f32⟩
  | 93 => ⟨S256, .f32⟩
  | 94 => ⟨S_, .f32⟩
  | 95 => ⟨S256, .f32⟩
  | 96 => ⟨S256, .f32⟩
  | 97 => ⟨S32, .f32⟩
  | 98 => ⟨S1x256, .f32⟩
  | 99 => ⟨S32x1, .f32⟩
  | 100 => ⟨S32x256, .f32⟩
  | 101 => ⟨S32x256, .f32⟩
  | 102 => ⟨S32x256, .f32⟩
  | 103 => ⟨S32x256, .f32⟩
  | 104 => ⟨S_, .f32⟩
  | 105 => ⟨S32x256, .f32⟩
  | 106 => ⟨S32x256, .f32⟩
  | 107 => ⟨S32x256, .f32⟩
  | 108 => ⟨S_, .f32⟩
  | 109 => ⟨S32x256, .f32⟩
  | 110 => ⟨S32x256, .f32⟩
  | 111 => ⟨S_, .f32⟩
  | 112 => ⟨S32x256, .f32⟩
  | 113 => ⟨S32x256, .f32⟩
  | 114 => ⟨S_, .f32⟩
  | 115 => ⟨S256, .f32⟩
  | 116 => ⟨S1x256, .f32⟩
  | 117 => ⟨S1x256, .f32⟩
  | 118 => ⟨S_, .f32⟩
  | 119 => ⟨S1x256, .f32⟩
  | 120 => ⟨S1x256, .i1⟩
  | 121 => ⟨S_, .f32⟩
  | 122 => ⟨S1x256, .f32⟩
  | 123 => ⟨S1x256, .i1⟩
  | 124 => ⟨S_, .i32⟩
  | 125 => ⟨S_, .f32⟩
  | 126 => ⟨S1x256, .f32⟩
  | 127 => ⟨S1x256, .f32⟩
  | _ => ⟨S32x256x256, .f32⟩

abbrev hbmTy0_2 (i : Nat) : BufTy := match i % 128 with
  | 0 => ⟨S32x256, .f32⟩
  | 1 => ⟨S32x256, .f32⟩
  | 2 => ⟨S_, .i32⟩
  | 3 => ⟨S_, .f32⟩
  | 4 => ⟨S32x256, .i1⟩
  | 5 => ⟨S32x256, .f32⟩
  | 6 => ⟨S32x256, .f32⟩
  | 7 => ⟨S_, .f32⟩
  | 8 => ⟨S256, .f32⟩
  | 9 => ⟨S256, .i1⟩
  | 10 => ⟨S_, .f32⟩
  | 11 => ⟨S256, .f32⟩
  | 12 => ⟨S256, .i1⟩
  | 13 => ⟨S256, .i1⟩
  | 14 => ⟨S1x256, .i1⟩
  | 15 => ⟨S_, .i32⟩
  | 16 => ⟨S_, .f32⟩
  | 17 => ⟨S32x256, .i1⟩
  | 18 => ⟨S32x256, .f32⟩
  | 19 => ⟨S32x256, .f32⟩
  | 20 => ⟨S_, .f32⟩
  | 21 => ⟨S_, .f32⟩
  | 22 => ⟨S_, .f32⟩
  | 23 => ⟨S256, .f32⟩
  | 24 => ⟨S_, .f32⟩
  | 25 => ⟨S256, .f32⟩
  | 26 => ⟨S256, .f32⟩
  | 27 => ⟨S_, .f32⟩
  | 28 => ⟨S256, .f32⟩
  | 29 => ⟨S256, .f32⟩
  | 30 => ⟨S_, .f32⟩
  | 31 => ⟨S256, .f32⟩
  | 32 => ⟨S256, .f32⟩
  | 33 => ⟨S_, .f32⟩
  | 34 => ⟨S256, .f32⟩
  | 35 => ⟨S256, .f32⟩
  | 36 => ⟨S64, .f32⟩
  | 37 => ⟨S1x256, .f32⟩
  | 38 => ⟨S64x1, .f32⟩
  | 39 => ⟨S64x256, .f32⟩
  | 40 => ⟨S64x256, .f32⟩
  | 41 => ⟨S64x256, .f32⟩
  | 42 => ⟨S64x256, .f32⟩
  | 43 => ⟨S_, .f32⟩
  | 44 => ⟨S64x256, .f32⟩
  | 45 => ⟨S64x256, .f32⟩
  | 46 => ⟨S64x256, .f32⟩
  | 47 => ⟨S_, .f32⟩
  | 48 => ⟨S64x256, .f32⟩
  | 49 => ⟨S64x256, .f32⟩
  | 50 => ⟨S_, .f32⟩
  | 51 => ⟨S64x256, .f32⟩
  | 52 => ⟨S64x256, .f32⟩
  | 53 => ⟨S_, .f32⟩
  | 54 => ⟨S256, .f32⟩
  | 55 => ⟨S1x256, .f32⟩
  | 56 => ⟨S1x256, .f32⟩
  | 57 => ⟨S_, .f32⟩
  | 58 => ⟨S1x256, .f32⟩
  | 59 => ⟨S1x256, .i1⟩
  | 60 => ⟨S_, .f32⟩
  | 61 => ⟨S1x256, .f32⟩
  | 62 => ⟨S1x256, .i1⟩
  | 63 => ⟨S_, .i32⟩
  | 64 => ⟨S_, .f32⟩
  | 65 => ⟨S1x256, .f32⟩
  | 66 => ⟨S1x256, .f32⟩
  | 67 => ⟨S64x256, .f32⟩
  | 68 => ⟨S64x256, .f32⟩
  | 69 => ⟨S_, .i32⟩
  | 70 => ⟨S_, .f32⟩
  | 71 => ⟨S64x256, .i1⟩
  | 72 => ⟨S64x256, .f32⟩
  | 73 => ⟨S64x256, .f32⟩
  | 74 => ⟨S_, .f32⟩
  | 75 => ⟨S256, .f32⟩
  | 76 => ⟨S256, .i1⟩
  | 77 => ⟨S_, .f32⟩
  | 78 => ⟨S256, .f32⟩
  | 79 => ⟨S256, .i1⟩
  | 80 => ⟨S256, .i1⟩
  | 81 => ⟨S1x256, .i1⟩
  | 82 => ⟨S_, .i32⟩
  | 83 => ⟨S_, .f32⟩
  | 84 => ⟨S64x256, .i1⟩
  | 85 => ⟨S64x256, .f32⟩
  | 86 => ⟨S64x256, .f32⟩
  | 87 => ⟨S_, .f32⟩
  | 88 => ⟨S_, .f32⟩
  | 89 => ⟨S_, .f32⟩
  | 90 => ⟨S256, .f32⟩
  | 91 => ⟨S_, .f32⟩
  | 92 => ⟨S256, .f32⟩
  | 93 => ⟨S256, .f32⟩
  | 94 => ⟨S_, .f32⟩
  | 95 => ⟨S256, .f32⟩
  | 96 => ⟨S256, .f32⟩
  | 97 => ⟨S_, .f32⟩
  | 98 => ⟨S256, .f32⟩
  | 99 => ⟨S256, .f32⟩
  | 100 => ⟨S_, .f32⟩
  | 101 => ⟨S256, .f32⟩
  | 102 => ⟨S256, .f32⟩
  | 103 => ⟨S128, .f32⟩
  | 104 => ⟨S1x256, .f32⟩
  | 105 => ⟨S128x1, .f32⟩
  | 106 => ⟨S128x256, .f32⟩
  | 107 => ⟨S128x256, .f32⟩
  | 108 => ⟨S128x256, .f32⟩
  | 109 => ⟨S128x256, .f32⟩
  | 110 => ⟨S_, .f32⟩
  | 111 => ⟨S128x256, .f32⟩
  | 112 => ⟨S128x256, .f32⟩
  | 113 => ⟨S128x256, .f32⟩
  | 114 => ⟨S_, .f32⟩
  | 115 => ⟨S128x256, .f32⟩
  | 116 => ⟨S128x256, .f32⟩
  | 117 => ⟨S_, .f32⟩
  | 118 => ⟨S128x256, .f32⟩
  | 119 => ⟨S128x256, .f32⟩
  | 120 => ⟨S_, .f32⟩
  | 121 => ⟨S256, .f32⟩
  | 122 => ⟨S1x256, .f32⟩
  | 123 => ⟨S1x256, .f32⟩
  | 124 => ⟨S_, .f32⟩
  | 125 => ⟨S1x256, .f32⟩
  | 126 => ⟨S1x256, .i1⟩
  | 127 => ⟨S_, .f32⟩
  | _ => ⟨S32x256x256, .f32⟩

abbrev hbmTy0_3 (i : Nat) : BufTy := match i % 128 with
  | 0 => ⟨S1x256, .f32⟩
  | 1 => ⟨S1x256, .i1⟩
  | 2 => ⟨S_, .i32⟩
  | 3 => ⟨S_, .f32⟩
  | 4 => ⟨S1x256, .f32⟩
  | 5 => ⟨S1x256, .f32⟩
  | 6 => ⟨S128x256, .f32⟩
  | 7 => ⟨S128x256, .f32⟩
  | 8 => ⟨S_, .i32⟩
  | 9 => ⟨S_, .f32⟩
  | 10 => ⟨S128x256, .i1⟩
  | 11 => ⟨S128x256, .f32⟩
  | 12 => ⟨S128x256, .f32⟩
  | 13 => ⟨S_, .f32⟩
  | 14 => ⟨S256, .f32⟩
  | 15 => ⟨S256, .i1⟩
  | 16 => ⟨S_, .f32⟩
  | 17 => ⟨S256, .f32⟩
  | 18 => ⟨S256, .i1⟩
  | 19 => ⟨S256, .i1⟩
  | 20 => ⟨S1x256, .i1⟩
  | 21 => ⟨S_, .i32⟩
  | 22 => ⟨S_, .f32⟩
  | 23 => ⟨S128x256, .i1⟩
  | 24 => ⟨S128x256, .f32⟩
  | 25 => ⟨S128x256, .f32⟩
  | 26 => ⟨S4x3x256x256, .f32⟩
  | 27 => ⟨S2048, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S2048, .i32⟩
  | 35 => ⟨S2048, .i32⟩
  | 36 => ⟨S_, .i32⟩
  | 37 => ⟨S2048, .i32⟩
  | 38 => ⟨S2048, .i1⟩
  | 39 => ⟨S_, .i32⟩
  | 40 => ⟨S2048, .i32⟩
  | 41 => ⟨S2048, .i1⟩
  | 42 => ⟨S_, .i32⟩
  | 43 => ⟨S_, .i1⟩
  | 44 => ⟨S2048, .i1⟩
  | 45 => ⟨S2048, .i1⟩
  | 46 => ⟨S2048, .i1⟩
  | 47 => ⟨S2048, .i32⟩
  | 48 => ⟨S2048, .i32⟩
  | 49 => ⟨S2048, .i32⟩
  | 50 => ⟨S_, .i32⟩
  | 51 => ⟨S2048, .i32⟩
  | 52 => ⟨S2048, .i1⟩
  | 53 => ⟨S2048, .f32⟩
  | 54 => ⟨S1x2048, .f32⟩
  | 55 => ⟨S_, .i32⟩
  | 56 => ⟨S2048, .i32⟩
  | 57 => ⟨S2048, .i1⟩
  | 58 => ⟨S2048, .f32⟩
  | 59 => ⟨S1x2048, .f32⟩
  | 60 => ⟨S32x256x256, .f32⟩
  | _ => ⟨S32x256x256, .f32⟩

abbrev hbmTy (i : Nat) : BufTy := match i / 128 with
  | 0 => hbmTy0_0 i
  | 1 => hbmTy0_1 i
  | 2 => hbmTy0_2 i
  | 3 => hbmTy0_3 i
  | _ => ⟨S32x256x256, .f32⟩

abbrev bufTy : (tb : Table) → Fin (tcTables nBuf tb) → BufTy
  | .hbm, ⟨i, _⟩ => hbmTy i
  | .local _ .vmem, ⟨0, _⟩ => ⟨S8x256x256, .f32⟩
  | .local _ .vmem, ⟨1, _⟩ => ⟨S8x256x256, .f32⟩
  | .local _ .vmem, ⟨2, _⟩ => ⟨S1024x256, .f32⟩
  | .local _ .vmem, ⟨3, _⟩ => ⟨S1x1024, .f32⟩
  | .local _ .vmem, ⟨4, _⟩ => ⟨S4x3x256x256, .f32⟩
  | .local _ .vmem, ⟨5, _⟩ => ⟨S4x256, .f32⟩
  | .local _ .vmem, ⟨6, _⟩ => ⟨S256x32, .f32⟩
  | .local _ .vmem, ⟨7, _⟩ => ⟨S256x64, .f32⟩
  | .local _ .vmem, ⟨8, _⟩ => ⟨S256x128, .f32⟩
  | .local _ .vmem, ⟨9, _⟩ => ⟨S32x256, .f32⟩
  | .local _ .vmem, ⟨10, _⟩ => ⟨S64x256, .f32⟩
  | .local _ .vmem, ⟨11, _⟩ => ⟨S128x256, .f32⟩
  | .local _ .vmem, ⟨12, _⟩ => ⟨S1x2048, .f32⟩
  | .local _ .vmem, ⟨13, _⟩ => ⟨S1x2048, .f32⟩
  | .local _ .vmem, ⟨14, _⟩ => ⟨S8x256x256, .f32⟩
  | .local _ .vmem, ⟨15, _⟩ => ⟨S8x256x256, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_cst_4 : Ref sig .tc := ⟨.hbm, 18, rfl⟩
abbrev main_v9 : Ref sig .tc := ⟨.hbm, 19, rfl⟩
abbrev main_v10 : Ref sig .tc := ⟨.hbm, 20, rfl⟩
abbrev main_cst_5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_c : Ref sig .tc := ⟨.hbm, 51, rfl⟩
abbrev main_call0_v0 : Ref sig .tc := ⟨.hbm, 52, rfl⟩
abbrev main_call0_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_11 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_14 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v45 : Ref sig .tc := ⟨.hbm, 74, rfl⟩
abbrev main_cst_15 : Ref sig .tc := ⟨.hbm, 75, rfl⟩
abbrev main_cst_16 : Ref sig .tc := ⟨.hbm, 76, rfl⟩
abbrev main_v46 : Ref sig .tc := ⟨.hbm, 77, rfl⟩
abbrev main_v47 : Ref sig .tc := ⟨.hbm, 78, rfl⟩
abbrev main_cst_17 : Ref sig .tc := ⟨.hbm, 79, rfl⟩
abbrev main_v48 : Ref sig .tc := ⟨.hbm, 80, rfl⟩
abbrev main_v49 : Ref sig .tc := ⟨.hbm, 81, rfl⟩
abbrev main_cst_18 : Ref sig .tc := ⟨.hbm, 82, rfl⟩
abbrev main_v50 : Ref sig .tc := ⟨.hbm, 83, rfl⟩
abbrev main_v51 : Ref sig .tc := ⟨.hbm, 84, rfl⟩
abbrev main_cst_19 : Ref sig .tc := ⟨.hbm, 85, rfl⟩
abbrev main_v52 : Ref sig .tc := ⟨.hbm, 86, rfl⟩
abbrev main_v53 : Ref sig .tc := ⟨.hbm, 87, rfl⟩
abbrev main_cst_20 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_21 : Ref sig .tc := ⟨.hbm, 102, rfl⟩
abbrev main_v67 : Ref sig .tc := ⟨.hbm, 103, rfl⟩
abbrev main_v68 : Ref sig .tc := ⟨.hbm, 104, rfl⟩
abbrev main_cst_22 : Ref sig .tc := ⟨.hbm, 105, rfl⟩
abbrev main_v69 : Ref sig .tc := ⟨.hbm, 106, rfl⟩
abbrev main_v70 : Ref sig .tc := ⟨.hbm, 107, rfl⟩
abbrev main_cst_23 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_cst_24 : Ref sig .tc := ⟨.hbm, 112, rfl⟩
abbrev main_v74 : Ref sig .tc := ⟨.hbm, 113, rfl⟩
abbrev main_v75 : Ref sig .tc := ⟨.hbm, 114, rfl⟩
abbrev main_cst_25 : Ref sig .tc := ⟨.hbm, 115, rfl⟩
abbrev main_v76 : Ref sig .tc := ⟨.hbm, 116, rfl⟩
abbrev main_v77 : Ref sig .tc := ⟨.hbm, 117, rfl⟩
abbrev main_c_26 : Ref sig .tc := ⟨.hbm, 118, rfl⟩
abbrev main_call3_v0 : Ref sig .tc := ⟨.hbm, 119, rfl⟩
abbrev main_call3_v1 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_c_27 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v81 : Ref sig .tc := ⟨.hbm, 128, rfl⟩
abbrev main_cst_28 : Ref sig .tc := ⟨.hbm, 129, rfl⟩
abbrev main_v82 : Ref sig .tc := ⟨.hbm, 130, rfl⟩
abbrev main_v83 : Ref sig .tc := ⟨.hbm, 131, rfl⟩
abbrev main_cst_29 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_c_30 : Ref sig .tc := ⟨.hbm, 137, rfl⟩
abbrev main_call5_v0 : Ref sig .tc := ⟨.hbm, 138, rfl⟩
abbrev main_call5_v1 : Ref sig .tc := ⟨.hbm, 139, rfl⟩
abbrev main_call5_v2 : Ref sig .tc := ⟨.hbm, 140, rfl⟩
abbrev main_v88 : Ref sig .tc := ⟨.hbm, 141, rfl⟩
abbrev main_cst_31 : Ref sig .tc := ⟨.hbm, 142, rfl⟩
abbrev main_cst_32 : Ref sig .tc := ⟨.hbm, 143, rfl⟩
abbrev main_v89 : Ref sig .tc := ⟨.hbm, 144, rfl⟩
abbrev main_v90 : Ref sig .tc := ⟨.hbm, 145, rfl⟩
abbrev main_cst_33 : Ref sig .tc := ⟨.hbm, 146, rfl⟩
abbrev main_v91 : Ref sig .tc := ⟨.hbm, 147, rfl⟩
abbrev main_v92 : Ref sig .tc := ⟨.hbm, 148, rfl⟩
abbrev main_cst_34 : Ref sig .tc := ⟨.hbm, 149, rfl⟩
abbrev main_v93 : Ref sig .tc := ⟨.hbm, 150, rfl⟩
abbrev main_v94 : Ref sig .tc := ⟨.hbm, 151, rfl⟩
abbrev main_cst_35 : Ref sig .tc := ⟨.hbm, 152, rfl⟩
abbrev main_v95 : Ref sig .tc := ⟨.hbm, 153, rfl⟩
abbrev main_v96 : Ref sig .tc := ⟨.hbm, 154, rfl⟩
abbrev main_cst_36 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_cst_37 : Ref sig .tc := ⟨.hbm, 169, rfl⟩
abbrev main_v110 : Ref sig .tc := ⟨.hbm, 170, rfl⟩
abbrev main_v111 : Ref sig .tc := ⟨.hbm, 171, rfl⟩
abbrev main_cst_38 : Ref sig .tc := ⟨.hbm, 172, rfl⟩
abbrev main_v112 : Ref sig .tc := ⟨.hbm, 173, rfl⟩
abbrev main_v113 : Ref sig .tc := ⟨.hbm, 174, rfl⟩
abbrev main_cst_39 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_cst_40 : Ref sig .tc := ⟨.hbm, 179, rfl⟩
abbrev main_v117 : Ref sig .tc := ⟨.hbm, 180, rfl⟩
abbrev main_v118 : Ref sig .tc := ⟨.hbm, 181, rfl⟩
abbrev main_cst_41 : Ref sig .tc := ⟨.hbm, 182, rfl⟩
abbrev main_v119 : Ref sig .tc := ⟨.hbm, 183, rfl⟩
abbrev main_v120 : Ref sig .tc := ⟨.hbm, 184, rfl⟩
abbrev main_c_42 : Ref sig .tc := ⟨.hbm, 185, rfl⟩
abbrev main_call6_v0 : Ref sig .tc := ⟨.hbm, 186, rfl⟩
abbrev main_call6_v1 : Ref sig .tc := ⟨.hbm, 187, rfl⟩
abbrev main_v121 : Ref sig .tc := ⟨.hbm, 188, rfl⟩
abbrev main_v122 : Ref sig .tc := ⟨.hbm, 189, rfl⟩
abbrev main_v123 : Ref sig .tc := ⟨.hbm, 190, rfl⟩
abbrev main_c_43 : Ref sig .tc := ⟨.hbm, 191, rfl⟩
abbrev main_call7_v0 : Ref sig .tc := ⟨.hbm, 192, rfl⟩
abbrev main_call7_v1 : Ref sig .tc := ⟨.hbm, 193, rfl⟩
abbrev main_call7_v2 : Ref sig .tc := ⟨.hbm, 194, rfl⟩
abbrev main_v124 : Ref sig .tc := ⟨.hbm, 195, rfl⟩
abbrev main_cst_44 : Ref sig .tc := ⟨.hbm, 196, rfl⟩
abbrev main_v125 : Ref sig .tc := ⟨.hbm, 197, rfl⟩
abbrev main_v126 : Ref sig .tc := ⟨.hbm, 198, rfl⟩
abbrev main_cst_45 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_c_46 : Ref sig .tc := ⟨.hbm, 204, rfl⟩
abbrev main_call8_v0 : Ref sig .tc := ⟨.hbm, 205, rfl⟩
abbrev main_call8_v1 : Ref sig .tc := ⟨.hbm, 206, rfl⟩
abbrev main_call8_v2 : Ref sig .tc := ⟨.hbm, 207, rfl⟩
abbrev main_v131 : Ref sig .tc := ⟨.hbm, 208, rfl⟩
abbrev main_cst_47 : Ref sig .tc := ⟨.hbm, 209, rfl⟩
abbrev main_cst_48 : Ref sig .tc := ⟨.hbm, 210, rfl⟩
abbrev main_v132 : Ref sig .tc := ⟨.hbm, 211, rfl⟩
abbrev main_v133 : Ref sig .tc := ⟨.hbm, 212, rfl⟩
abbrev main_cst_49 : Ref sig .tc := ⟨.hbm, 213, rfl⟩
abbrev main_v134 : Ref sig .tc := ⟨.hbm, 214, rfl⟩
abbrev main_v135 : Ref sig .tc := ⟨.hbm, 215, rfl⟩
abbrev main_cst_50 : Ref sig .tc := ⟨.hbm, 216, rfl⟩
abbrev main_v136 : Ref sig .tc := ⟨.hbm, 217, rfl⟩
abbrev main_v137 : Ref sig .tc := ⟨.hbm, 218, rfl⟩
abbrev main_cst_51 : Ref sig .tc := ⟨.hbm, 219, rfl⟩
abbrev main_v138 : Ref sig .tc := ⟨.hbm, 220, rfl⟩
abbrev main_v139 : Ref sig .tc := ⟨.hbm, 221, rfl⟩
abbrev main_cst_52 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_v151 : Ref sig .tc := ⟨.hbm, 234, rfl⟩
abbrev main_v152 : Ref sig .tc := ⟨.hbm, 235, rfl⟩
abbrev main_cst_53 : Ref sig .tc := ⟨.hbm, 236, rfl⟩
abbrev main_v153 : Ref sig .tc := ⟨.hbm, 237, rfl⟩
abbrev main_v154 : Ref sig .tc := ⟨.hbm, 238, rfl⟩
abbrev main_cst_54 : Ref sig .tc := ⟨.hbm, 239, rfl⟩
abbrev main_v155 : Ref sig .tc := ⟨.hbm, 240, rfl⟩
abbrev main_v156 : Ref sig .tc := ⟨.hbm, 241, rfl⟩
abbrev main_cst_55 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_cst_56 : Ref sig .tc := ⟨.hbm, 246, rfl⟩
abbrev main_v160 : Ref sig .tc := ⟨.hbm, 247, rfl⟩
abbrev main_v161 : Ref sig .tc := ⟨.hbm, 248, rfl⟩
abbrev main_cst_57 : Ref sig .tc := ⟨.hbm, 249, rfl⟩
abbrev main_v162 : Ref sig .tc := ⟨.hbm, 250, rfl⟩
abbrev main_v163 : Ref sig .tc := ⟨.hbm, 251, rfl⟩
abbrev main_c_58 : Ref sig .tc := ⟨.hbm, 252, rfl⟩
abbrev main_call9_v0 : Ref sig .tc := ⟨.hbm, 253, rfl⟩
abbrev main_call9_v1 : Ref sig .tc := ⟨.hbm, 254, rfl⟩
abbrev main_v164 : Ref sig .tc := ⟨.hbm, 255, rfl⟩
abbrev main_v165 : Ref sig .tc := ⟨.hbm, 256, rfl⟩
abbrev main_v166 : Ref sig .tc := ⟨.hbm, 257, rfl⟩
abbrev main_c_59 : Ref sig .tc := ⟨.hbm, 258, rfl⟩
abbrev main_call10_v0 : Ref sig .tc := ⟨.hbm, 259, rfl⟩
abbrev main_call10_v1 : Ref sig .tc := ⟨.hbm, 260, rfl⟩
abbrev main_call10_v2 : Ref sig .tc := ⟨.hbm, 261, rfl⟩
abbrev main_v167 : Ref sig .tc := ⟨.hbm, 262, rfl⟩
abbrev main_cst_60 : Ref sig .tc := ⟨.hbm, 263, rfl⟩
abbrev main_v168 : Ref sig .tc := ⟨.hbm, 264, rfl⟩
abbrev main_v169 : Ref sig .tc := ⟨.hbm, 265, rfl⟩
abbrev main_cst_61 : Ref sig .tc := ⟨.hbm, 266, rfl⟩
abbrev main_v170 : Ref sig .tc := ⟨.hbm, 267, rfl⟩
abbrev main_v171 : Ref sig .tc := ⟨.hbm, 268, rfl⟩
abbrev main_v172 : Ref sig .tc := ⟨.hbm, 269, rfl⟩
abbrev main_v173 : Ref sig .tc := ⟨.hbm, 270, rfl⟩
abbrev main_c_62 : Ref sig .tc := ⟨.hbm, 271, rfl⟩
abbrev main_call11_v0 : Ref sig .tc := ⟨.hbm, 272, rfl⟩
abbrev main_call11_v1 : Ref sig .tc := ⟨.hbm, 273, rfl⟩
abbrev main_call11_v2 : Ref sig .tc := ⟨.hbm, 274, rfl⟩
abbrev main_v174 : Ref sig .tc := ⟨.hbm, 275, rfl⟩
abbrev main_cst_63 : Ref sig .tc := ⟨.hbm, 276, rfl⟩
abbrev main_cst_64 : Ref sig .tc := ⟨.hbm, 277, rfl⟩
abbrev main_v175 : Ref sig .tc := ⟨.hbm, 278, rfl⟩
abbrev main_v176 : Ref sig .tc := ⟨.hbm, 279, rfl⟩
abbrev main_cst_65 : Ref sig .tc := ⟨.hbm, 280, rfl⟩
abbrev main_v177 : Ref sig .tc := ⟨.hbm, 281, rfl⟩
abbrev main_v178 : Ref sig .tc := ⟨.hbm, 282, rfl⟩
abbrev main_cst_66 : Ref sig .tc := ⟨.hbm, 283, rfl⟩
abbrev main_v179 : Ref sig .tc := ⟨.hbm, 284, rfl⟩
abbrev main_v180 : Ref sig .tc := ⟨.hbm, 285, rfl⟩
abbrev main_cst_67 : Ref sig .tc := ⟨.hbm, 286, rfl⟩
abbrev main_v181 : Ref sig .tc := ⟨.hbm, 287, rfl⟩
abbrev main_v182 : Ref sig .tc := ⟨.hbm, 288, rfl⟩
abbrev main_cst_68 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_v188 : Ref sig .tc := ⟨.hbm, 295, rfl⟩
abbrev main_v189 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_v193 : Ref sig .tc := ⟨.hbm, 300, rfl⟩
abbrev main_v194 : Ref sig .tc := ⟨.hbm, 301, rfl⟩
abbrev main_v195 : Ref sig .tc := ⟨.hbm, 302, rfl⟩
abbrev main_cst_69 : Ref sig .tc := ⟨.hbm, 303, rfl⟩
abbrev main_v196 : Ref sig .tc := ⟨.hbm, 304, rfl⟩
abbrev main_v197 : Ref sig .tc := ⟨.hbm, 305, rfl⟩
abbrev main_cst_70 : Ref sig .tc := ⟨.hbm, 306, rfl⟩
abbrev main_v198 : Ref sig .tc := ⟨.hbm, 307, rfl⟩
abbrev main_v199 : Ref sig .tc := ⟨.hbm, 308, rfl⟩
abbrev main_cst_71 : Ref sig .tc := ⟨.hbm, 309, rfl⟩
abbrev main_v200 : Ref sig .tc := ⟨.hbm, 310, rfl⟩
abbrev main_v201 : Ref sig .tc := ⟨.hbm, 311, rfl⟩
abbrev main_v202 : Ref sig .tc := ⟨.hbm, 312, rfl⟩
abbrev main_cst_72 : Ref sig .tc := ⟨.hbm, 313, rfl⟩
abbrev main_v203 : Ref sig .tc := ⟨.hbm, 314, rfl⟩
abbrev main_v204 : Ref sig .tc := ⟨.hbm, 315, rfl⟩
abbrev main_cst_73 : Ref sig .tc := ⟨.hbm, 316, rfl⟩
abbrev main_v205 : Ref sig .tc := ⟨.hbm, 317, rfl⟩
abbrev main_v206 : Ref sig .tc := ⟨.hbm, 318, rfl⟩
abbrev main_c_74 : Ref sig .tc := ⟨.hbm, 319, rfl⟩
abbrev main_call12_v0 : Ref sig .tc := ⟨.hbm, 320, rfl⟩
abbrev main_call12_v1 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_c_75 : Ref sig .tc := ⟨.hbm, 325, rfl⟩
abbrev main_call13_v0 : Ref sig .tc := ⟨.hbm, 326, rfl⟩
abbrev main_call13_v1 : Ref sig .tc := ⟨.hbm, 327, rfl⟩
abbrev main_call13_v2 : Ref sig .tc := ⟨.hbm, 328, rfl⟩
abbrev main_v210 : Ref sig .tc := ⟨.hbm, 329, rfl⟩
abbrev main_cst_76 : Ref sig .tc := ⟨.hbm, 330, rfl⟩
abbrev main_v211 : Ref sig .tc := ⟨.hbm, 331, rfl⟩
abbrev main_v212 : Ref sig .tc := ⟨.hbm, 332, rfl⟩
abbrev main_cst_77 : Ref sig .tc := ⟨.hbm, 333, rfl⟩
abbrev main_v213 : Ref sig .tc := ⟨.hbm, 334, rfl⟩
abbrev main_v214 : Ref sig .tc := ⟨.hbm, 335, rfl⟩
abbrev main_v215 : Ref sig .tc := ⟨.hbm, 336, rfl⟩
abbrev main_v216 : Ref sig .tc := ⟨.hbm, 337, rfl⟩
abbrev main_c_78 : Ref sig .tc := ⟨.hbm, 338, rfl⟩
abbrev main_call14_v0 : Ref sig .tc := ⟨.hbm, 339, rfl⟩
abbrev main_call14_v1 : Ref sig .tc := ⟨.hbm, 340, rfl⟩
abbrev main_call14_v2 : Ref sig .tc := ⟨.hbm, 341, rfl⟩
abbrev main_v217 : Ref sig .tc := ⟨.hbm, 342, rfl⟩
abbrev main_cst_79 : Ref sig .tc := ⟨.hbm, 343, rfl⟩
abbrev main_cst_80 : Ref sig .tc := ⟨.hbm, 344, rfl⟩
abbrev main_v218 : Ref sig .tc := ⟨.hbm, 345, rfl⟩
abbrev main_v219 : Ref sig .tc := ⟨.hbm, 346, rfl⟩
abbrev main_cst_81 : Ref sig .tc := ⟨.hbm, 347, rfl⟩
abbrev main_v220 : Ref sig .tc := ⟨.hbm, 348, rfl⟩
abbrev main_v221 : Ref sig .tc := ⟨.hbm, 349, rfl⟩
abbrev main_cst_82 : Ref sig .tc := ⟨.hbm, 350, rfl⟩
abbrev main_v222 : Ref sig .tc := ⟨.hbm, 351, rfl⟩
abbrev main_v223 : Ref sig .tc := ⟨.hbm, 352, rfl⟩
abbrev main_cst_83 : Ref sig .tc := ⟨.hbm, 353, rfl⟩
abbrev main_v224 : Ref sig .tc := ⟨.hbm, 354, rfl⟩
abbrev main_v225 : Ref sig .tc := ⟨.hbm, 355, rfl⟩
abbrev main_cst_84 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_v230 : Ref sig .tc := ⟨.hbm, 361, rfl⟩
abbrev main_v231 : Ref sig .tc := ⟨.hbm, 362, rfl⟩
abbrev main_v232 : Ref sig .tc := ⟨.hbm, 363, rfl⟩
abbrev main_v233 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_v237 : Ref sig .tc := ⟨.hbm, 368, rfl⟩
abbrev main_v238 : Ref sig .tc := ⟨.hbm, 369, rfl⟩
abbrev main_cst_85 : Ref sig .tc := ⟨.hbm, 370, rfl⟩
abbrev main_v239 : Ref sig .tc := ⟨.hbm, 371, rfl⟩
abbrev main_v240 : Ref sig .tc := ⟨.hbm, 372, rfl⟩
abbrev main_cst_86 : Ref sig .tc := ⟨.hbm, 373, rfl⟩
abbrev main_v241 : Ref sig .tc := ⟨.hbm, 374, rfl⟩
abbrev main_v242 : Ref sig .tc := ⟨.hbm, 375, rfl⟩
abbrev main_cst_87 : Ref sig .tc := ⟨.hbm, 376, rfl⟩
abbrev main_v243 : Ref sig .tc := ⟨.hbm, 377, rfl⟩
abbrev main_v244 : Ref sig .tc := ⟨.hbm, 378, rfl⟩
abbrev main_v245 : Ref sig .tc := ⟨.hbm, 379, rfl⟩
abbrev main_cst_88 : Ref sig .tc := ⟨.hbm, 380, rfl⟩
abbrev main_v246 : Ref sig .tc := ⟨.hbm, 381, rfl⟩
abbrev main_v247 : Ref sig .tc := ⟨.hbm, 382, rfl⟩
abbrev main_cst_89 : Ref sig .tc := ⟨.hbm, 383, rfl⟩
abbrev main_v248 : Ref sig .tc := ⟨.hbm, 384, rfl⟩
abbrev main_v249 : Ref sig .tc := ⟨.hbm, 385, rfl⟩
abbrev main_c_90 : Ref sig .tc := ⟨.hbm, 386, rfl⟩
abbrev main_call15_v0 : Ref sig .tc := ⟨.hbm, 387, rfl⟩
abbrev main_call15_v1 : Ref sig .tc := ⟨.hbm, 388, rfl⟩
abbrev main_v250 : Ref sig .tc := ⟨.hbm, 389, rfl⟩
abbrev main_v251 : Ref sig .tc := ⟨.hbm, 390, rfl⟩
abbrev main_v252 : Ref sig .tc := ⟨.hbm, 391, rfl⟩
abbrev main_c_91 : Ref sig .tc := ⟨.hbm, 392, rfl⟩
abbrev main_call16_v0 : Ref sig .tc := ⟨.hbm, 393, rfl⟩
abbrev main_call16_v1 : Ref sig .tc := ⟨.hbm, 394, rfl⟩
abbrev main_call16_v2 : Ref sig .tc := ⟨.hbm, 395, rfl⟩
abbrev main_v253 : Ref sig .tc := ⟨.hbm, 396, rfl⟩
abbrev main_cst_92 : Ref sig .tc := ⟨.hbm, 397, rfl⟩
abbrev main_v254 : Ref sig .tc := ⟨.hbm, 398, rfl⟩
abbrev main_v255 : Ref sig .tc := ⟨.hbm, 399, rfl⟩
abbrev main_cst_93 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_v259 : Ref sig .tc := ⟨.hbm, 404, rfl⟩
abbrev main_c_94 : Ref sig .tc := ⟨.hbm, 405, rfl⟩
abbrev main_call17_v0 : Ref sig .tc := ⟨.hbm, 406, rfl⟩
abbrev main_call17_v1 : Ref sig .tc := ⟨.hbm, 407, rfl⟩
abbrev main_call17_v2 : Ref sig .tc := ⟨.hbm, 408, rfl⟩
abbrev main_v260 : Ref sig .tc := ⟨.hbm, 409, rfl⟩
abbrev main_v261 : Ref sig .tc := ⟨.hbm, 410, rfl⟩
abbrev main_v262 : Ref sig .tc := ⟨.hbm, 411, rfl⟩
abbrev main_c_95 : Ref sig .tc := ⟨.hbm, 412, rfl⟩
abbrev main_call18_v0 : Ref sig .tc := ⟨.hbm, 413, rfl⟩
abbrev main_call18_c : Ref sig .tc := ⟨.hbm, 414, rfl⟩
abbrev main_call18_v1 : Ref sig .tc := ⟨.hbm, 415, rfl⟩
abbrev main_call18_c_0 : Ref sig .tc := ⟨.hbm, 416, rfl⟩
abbrev main_call18_v2 : Ref sig .tc := ⟨.hbm, 417, rfl⟩
abbrev main_call18_v3 : Ref sig .tc := ⟨.hbm, 418, rfl⟩
abbrev main_call18_v4 : Ref sig .tc := ⟨.hbm, 419, rfl⟩
abbrev main_call18_c_1 : Ref sig .tc := ⟨.hbm, 420, rfl⟩
abbrev main_call18_v5 : Ref sig .tc := ⟨.hbm, 421, rfl⟩
abbrev main_call18_v6 : Ref sig .tc := ⟨.hbm, 422, rfl⟩
abbrev main_call18_c_2 : Ref sig .tc := ⟨.hbm, 423, rfl⟩
abbrev main_call18_v7 : Ref sig .tc := ⟨.hbm, 424, rfl⟩
abbrev main_call18_v8 : Ref sig .tc := ⟨.hbm, 425, rfl⟩
abbrev main_call18_c_3 : Ref sig .tc := ⟨.hbm, 426, rfl⟩
abbrev main_call18_v9 : Ref sig .tc := ⟨.hbm, 427, rfl⟩
abbrev main_call18_v10 : Ref sig .tc := ⟨.hbm, 428, rfl⟩
abbrev main_call18_v11 : Ref sig .tc := ⟨.hbm, 429, rfl⟩
abbrev main_call18_v12 : Ref sig .tc := ⟨.hbm, 430, rfl⟩
abbrev main_call18_v13 : Ref sig .tc := ⟨.hbm, 431, rfl⟩
abbrev main_call18_v14 : Ref sig .tc := ⟨.hbm, 432, rfl⟩
abbrev main_v263 : Ref sig .tc := ⟨.hbm, 433, rfl⟩
abbrev main_c_96 : Ref sig .tc := ⟨.hbm, 434, rfl⟩
abbrev main_v264 : Ref sig .tc := ⟨.hbm, 435, rfl⟩
abbrev main_v265 : Ref sig .tc := ⟨.hbm, 436, rfl⟩
abbrev main_v266 : Ref sig .tc := ⟨.hbm, 437, rfl⟩
abbrev main_v267 : Ref sig .tc := ⟨.hbm, 438, rfl⟩
abbrev main_c_97 : Ref sig .tc := ⟨.hbm, 439, rfl⟩
abbrev main_v268 : Ref sig .tc := ⟨.hbm, 440, rfl⟩
abbrev main_v269 : Ref sig .tc := ⟨.hbm, 441, rfl⟩
abbrev main_v270 : Ref sig .tc := ⟨.hbm, 442, rfl⟩
abbrev main_v271 : Ref sig .tc := ⟨.hbm, 443, rfl⟩
abbrev main_v272 : Ref sig .tc := ⟨.hbm, 444, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x3x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S8x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S32x256x256 : Shape := ⟨3, ![32, 256, 256]⟩
abbrev S1024x256 : Shape := ⟨2, ![1024, 256]⟩
abbrev S4x256x256x3 : Shape := ⟨4, ![4, 256, 256, 3]⟩
abbrev S4x256 : Shape := ⟨2, ![4, 256]⟩
abbrev S_ : Shape := ⟨0, ![]⟩
abbrev S1024 : Shape := ⟨1, ![1024]⟩
abbrev S32 : Shape := ⟨1, ![32]⟩
abbrev S256 : Shape := ⟨1, ![256]⟩
abbrev S1x32 : Shape := ⟨2, ![1, 32]⟩
abbrev S256x1 : Shape := ⟨2, ![256, 1]⟩
abbrev S256x32 : Shape := ⟨2, ![256, 32]⟩
abbrev S32x256x32 : Shape := ⟨3, ![32, 256, 32]⟩
abbrev S32x32x256 : Shape := ⟨3, ![32, 32, 256]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩
abbrev S1x256 : Shape := ⟨2, ![1, 256]⟩
abbrev S32x1 : Shape := ⟨2, ![32, 1]⟩
abbrev S32x256 : Shape := ⟨2, ![32, 256]⟩
abbrev S1x256x256x3 : Shape := ⟨4, ![1, 256, 256, 3]⟩
abbrev S256x256x3 : Shape := ⟨3, ![256, 256, 3]⟩
abbrev S32x256x258 : Shape := ⟨3, ![32, 256, 258]⟩
abbrev S256x256x1 : Shape := ⟨3, ![256, 256, 1]⟩
abbrev S256x256 : Shape := ⟨2, ![256, 256]⟩
abbrev S1x256x1 : Shape := ⟨3, ![1, 256, 1]⟩
abbrev S64 : Shape := ⟨1, ![64]⟩
abbrev S1x64 : Shape := ⟨2, ![1, 64]⟩
abbrev S256x64 : Shape := ⟨2, ![256, 64]⟩
abbrev S32x256x64 : Shape := ⟨3, ![32, 256, 64]⟩
abbrev S32x64x256 : Shape := ⟨3, ![32, 64, 256]⟩
abbrev S2048x256 : Shape := ⟨2, ![2048, 256]⟩
abbrev S2048 : Shape := ⟨1, ![2048]⟩
abbrev S2048x1 : Shape := ⟨2, ![2048, 1]⟩
abbrev S2048x1024 : Shape := ⟨2, ![2048, 1024]⟩
abbrev S64x1 : Shape := ⟨2, ![64, 1]⟩
abbrev S64x256 : Shape := ⟨2, ![64, 256]⟩
abbrev S128 : Shape := ⟨1, ![128]⟩
abbrev S1x128 : Shape := ⟨2, ![1, 128]⟩
abbrev S256x128 : Shape := ⟨2, ![256, 128]⟩
abbrev S32x256x128 : Shape := ⟨3, ![32, 256, 128]⟩
abbrev S32x128x256 : Shape := ⟨3, ![32, 128, 256]⟩
abbrev S4096x256 : Shape := ⟨2, ![4096, 256]⟩
abbrev S4096 : Shape := ⟨1, ![4096]⟩
abbrev S4096x1 : Shape := ⟨2, ![4096, 1]⟩
abbrev S4096x1024 : Shape := ⟨2, ![4096, 1024]⟩
abbrev S128x1 : Shape := ⟨2, ![128, 1]⟩
abbrev S128x256 : Shape := ⟨2, ![128, 256]⟩
abbrev S8192x256 : Shape := ⟨2, ![8192, 256]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 745
  | .vmem => 0
  | .smem => 0
  | _ => 0

abbrev hbmTy0_0 (i : Nat) : BufTy := match i % 128 with
  | 0 => ⟨S32x256x256, .f32⟩
  | 1 => ⟨S1024x256, .f32⟩
  | 2 => ⟨S4x256x256x3, .f32⟩
  | 3 => ⟨S4x256, .f32⟩
  | 4 => ⟨S_, .f32⟩
  | 5 => ⟨S32x256x256, .f32⟩
  | 6 => ⟨S1024x256, .f32⟩
  | 7 => ⟨S_, .f32⟩
  | 8 => ⟨S1024, .f32⟩
  | 9 => ⟨S_, .f32⟩
  | 10 => ⟨S_, .f32⟩
  | 11 => ⟨S_, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S256, .f32⟩
  | 26 => ⟨S1x32, .f32⟩
  | 27 => ⟨S256x1, .f32⟩
  | 28 => ⟨S256x32, .f32⟩
  | 29 => ⟨S256x32, .f32⟩
  | 30 => ⟨S256x32, .f32⟩
  | 31 => ⟨S256x32, .f32⟩
  | 32 => ⟨S_, .f32⟩
  | 33 => ⟨S256x32, .f32⟩
  | 34 => ⟨S256x32, .f32⟩
  | 35 => ⟨S256x32, .f32⟩
  | 36 => ⟨S_, .f32⟩
  | 37 => ⟨S256x32, .f32⟩
  | 38 => ⟨S256x32, .f32⟩
  | 39 => ⟨S_, .f32⟩
  | 40 => ⟨S256x32, .f32⟩
  | 41 => ⟨S256x32, .f32⟩
  | 42 => ⟨S_, .f32⟩
  | 43 => ⟨S32, .f32⟩
  | 44 => ⟨S1x32, .f32⟩
  | 45 => ⟨S1x32, .f32⟩
  | 46 => ⟨S_, .f32⟩
  | 47 => ⟨S1x32, .f32⟩
  | 48 => ⟨S1x32, .i1⟩
  | 49 => ⟨S_, .f32⟩
  | 50 => ⟨S1x32, .f32⟩
  | 51 => ⟨S1x32, .i1⟩
  | 52 => ⟨S_, .i32⟩
  | 53 => ⟨S_, .f32⟩
  | 54 => ⟨S1x32, .f32⟩
  | 55 => ⟨S1x32, .f32⟩
  | 56 => ⟨S256x32, .f32⟩
  | 57 => ⟨S256x32, .f32⟩
  | 58 => ⟨S_, .i32⟩
  | 59 => ⟨S_, .f32⟩
  | 60 => ⟨S256x32, .i1⟩
  | 61 => ⟨S256x32, .f32⟩
  | 62 => ⟨S256x32, .f32⟩
  | 63 => ⟨S_, .f32⟩
  | 64 => ⟨S32, .f32⟩
  | 65 => ⟨S32, .i1⟩
  | 66 => ⟨S_, .f32⟩
  | 67 => ⟨S32, .f32⟩
  | 68 => ⟨S32, .i1⟩
  | 69 => ⟨S32, .i1⟩
  | 70 => ⟨S1x32, .i1⟩
  | 71 => ⟨S_, .i32⟩
  | 72 => ⟨S_, .f32⟩
  | 73 => ⟨S256x32, .i1⟩
  | 74 => ⟨S256x32, .f32⟩
  | 75 => ⟨S256x32, .f32⟩
  | 76 => ⟨S32x256x32, .f32⟩
  | 77 => ⟨S32x32x256, .f32⟩
  | 78 => ⟨S1024x256, .f32⟩
  | 79 => ⟨S1024x256, .f32⟩
  | 80 => ⟨S_, .f32⟩
  | 81 => ⟨S1024, .f32⟩
  | 82 => ⟨S1024x1, .f32⟩
  | 83 => ⟨S256x1024, .f32⟩
  | 84 => ⟨S1024x1024, .f32⟩
  | 85 => ⟨S_, .f32⟩
  | 86 => ⟨S1024x1024, .f32⟩
  | 87 => ⟨S1024x1024, .f32⟩
  | 88 => ⟨S1024x1024, .f32⟩
  | 89 => ⟨S1024x1024, .f32⟩
  | 90 => ⟨S1x1024, .f32⟩
  | 91 => ⟨S1024x1024, .f32⟩
  | 92 => ⟨S1024x1024, .f32⟩
  | 93 => ⟨S1024x1024, .i32⟩
  | 94 => ⟨S_, .f32⟩
  | 95 => ⟨S_, .i32⟩
  | 96 => ⟨S1024, .f32⟩
  | 97 => ⟨S1024, .i32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S1, .i32⟩
  | 107 => ⟨S_, .i32⟩
  | 108 => ⟨S1024x1, .i32⟩
  | 109 => ⟨S1024x1, .i1⟩
  | 110 => ⟨S1x1, .i32⟩
  | 111 => ⟨S1024x1, .i32⟩
  | 112 => ⟨S1024x1, .i1⟩
  | 113 => ⟨S1024x1, .i1⟩
  | 114 => ⟨S_, .i1⟩
  | 115 => ⟨S1024, .i1⟩
  | 116 => ⟨S1024x256, .f32⟩
  | 117 => ⟨S1024x256, .i1⟩
  | 118 => ⟨S_, .f32⟩
  | 119 => ⟨S1024x256, .f32⟩
  | 120 => ⟨S1024x256, .f32⟩
  | 121 => ⟨S32x32x256, .f32⟩
  | 122 => ⟨S32x256x32, .f32⟩
  | 123 => ⟨S_, .f32⟩
  | 124 => ⟨S_, .f32⟩
  | 125 => ⟨S_, .f32⟩
  | 126 => ⟨S256, .f32⟩
  | 127 => ⟨S_, .f32⟩
  | _ => ⟨S32x256x256, .f32⟩

abbrev hbmTy0_1 (i : Nat) : BufTy := match i % 128 with
  | 0 => ⟨S256, .f32⟩
  | 1 => ⟨S256, .f32⟩
  | 2 => ⟨S_, .f32⟩
  | 3 => ⟨S256, .f32⟩
  | 4 => ⟨S256, .f32⟩
  | 5 => ⟨S_, .f32⟩
  | 6 => ⟨S256, .f32⟩
  | 7 => ⟨S256, .f32⟩
  | 8 => ⟨S_, .f32⟩
  | 9 => ⟨S256, .f32⟩
  | 10 => ⟨S256, .f32⟩
  | 11 => ⟨S32, .f32⟩
  | 12 => ⟨S1x256, .f32⟩
  | 13 => ⟨S32x1, .f32⟩
  | 14 => ⟨S32x256, .f32⟩
  | 15 => ⟨S32x256, .f32⟩
  | 16 => ⟨S32x256, .f32⟩
  | 17 => ⟨S32x256, .f32⟩
  | 18 => ⟨S_, .f32⟩
  | 19 => ⟨S32x256, .f32⟩
  | 20 => ⟨S32x256, .f32⟩
  | 21 => ⟨S32x256, .f32⟩
  | 22 => ⟨S_, .f32⟩
  | 23 => ⟨S32x256, .f32⟩
  | 24 => ⟨S32x256, .f32⟩
  | 25 => ⟨S_, .f32⟩
  | 26 => ⟨S32x256, .f32⟩
  | 27 => ⟨S32x256, .f32⟩
  | 28 => ⟨S_, .f32⟩
  | 29 => ⟨S256, .f32⟩
  | 30 => ⟨S1x256, .f32⟩
  | 31 => ⟨S1x256, .f32⟩
  | 32 => ⟨S_, .f32⟩
  | 33 => ⟨S1x256, .f32⟩
  | 34 => ⟨S1x256, .i1⟩
  | 35 => ⟨S_, .f32⟩
  | 36 => ⟨S1x256, .f32⟩
  | 37 => ⟨S1x256, .i1⟩
  | 38 => ⟨S_, .i32⟩
  | 39 => ⟨S_, .f32⟩
  | 40 => ⟨S1x256, .f32⟩
  | 41 => ⟨S1x256, .f32⟩
  | 42 => ⟨S32x256, .f32⟩
  | 43 => ⟨S32x256, .f32⟩
  | 44 => ⟨S_, .i32⟩
  | 45 => ⟨S_, .f32⟩
  | 46 => ⟨S32x256, .i1⟩
  | 47 => ⟨S32x256, .f32⟩
  | 48 => ⟨S32x256, .f32⟩
  | 49 => ⟨S_, .f32⟩
  | 50 => ⟨S256, .f32⟩
  | 51 => ⟨S256, .i1⟩
  | 52 => ⟨S_, .f32⟩
  | 53 => ⟨S256, .f32⟩
  | 54 => ⟨S256, .i1⟩
  | 55 => ⟨S256, .i1⟩
  | 56 => ⟨S1x256, .i1⟩
  | 57 => ⟨S_, .i32⟩
  | 58 => ⟨S_, .f32⟩
  | 59 => ⟨S32x256, .i1⟩
  | 60 => ⟨S32x256, .f32⟩
  | 61 => ⟨S32x256, .f32⟩
  | 62 => ⟨S32x256x256, .f32⟩
  | 63 => ⟨S_, .f32⟩
  | 64 => ⟨S32x256x256, .f32⟩
  | 65 => ⟨S32x256x256, .f32⟩
  | 66 => ⟨S1x256x256x3, .f32⟩
  | 67 => ⟨S256x256x3, .f32⟩
  | 68 => ⟨S1x256, .f32⟩
  | 69 => ⟨S256, .f32⟩
  | 70 => ⟨S_, .i32⟩
  | 71 => ⟨S_, .f32⟩
  | 72 => ⟨S32x256x258, .f32⟩
  | 73 => ⟨S256x256x1, .f32⟩
  | 74 => ⟨S256x256, .f32⟩
  | 75 => ⟨S32x256x256, .f32⟩
  | 76 => ⟨S32x256x256, .f32⟩
  | 77 => ⟨S32x256x256, .f32⟩
  | 78 => ⟨S256x256x1, .f32⟩
  | 79 => ⟨S256x256, .f32⟩
  | 80 => ⟨S32x256x256, .f32⟩
  | 81 => ⟨S32x256x256, .f32⟩
  | 82 => ⟨S32x256x256, .f32⟩
  | 83 => ⟨S256x256x1, .f32⟩
  | 84 => ⟨S256x256, .f32⟩
  | 85 => ⟨S32x256x256, .f32⟩
  | 86 => ⟨S32x256x256, .f32⟩
  | 87 => ⟨S32x256x256, .f32⟩
  | 88 => ⟨S32x256x256, .f32⟩
  | 89 => ⟨S32x256x256, .f32⟩
  | 90 => ⟨S1x256x1, .f32⟩
  | 91 => ⟨S32x256x256, .f32⟩
  | 92 => ⟨S32x256x256, .f32⟩
  | 93 => ⟨S_, .f32⟩
  | 94 => ⟨S32x256x256, .f32⟩
  | 95 => ⟨S32x256x256, .f32⟩
  | 96 => ⟨S32x256x256, .f32⟩
  | 97 => ⟨S32x256x256, .f32⟩
  | 98 => ⟨S32x256x256, .f32⟩
  | 99 => ⟨S_, .f32⟩
  | 100 => ⟨S_, .f32⟩
  | 101 => ⟨S_, .f32⟩
  | 102 => ⟨S64, .f32⟩
  | 103 => ⟨S_, .f32⟩
  | 104 => ⟨S64, .f32⟩
  | 105 => ⟨S64, .f32⟩
  | 106 => ⟨S_, .f32⟩
  | 107 => ⟨S64, .f32⟩
  | 108 => ⟨S64, .f32⟩
  | 109 => ⟨S_, .f32⟩
  | 110 => ⟨S64, .f32⟩
  | 111 => ⟨S64, .f32⟩
  | 112 => ⟨S_, .f32⟩
  | 113 => ⟨S64, .f32⟩
  | 114 => ⟨S64, .f32⟩
  | 115 => ⟨S256, .f32⟩
  | 116 => ⟨S1x64, .f32⟩
  | 117 => ⟨S256x1, .f32⟩
  | 118 => ⟨S256x64, .f32⟩
  | 119 => ⟨S256x64, .f32⟩
  | 120 => ⟨S256x64, .f32⟩
  | 121 => ⟨S256x64, .f32⟩
  | 122 => ⟨S_, .f32⟩
  | 123 => ⟨S256x64, .f32⟩
  | 124 => ⟨S256x64, .f32⟩
  | 125 => ⟨S256x64, .f32⟩
  | 126 => ⟨S_, .f32⟩
  | 127 => ⟨S256x64, .f32⟩
  | _ => ⟨S32x256x256, .f32⟩

abbrev hbmTy0_2 (i : Nat) : BufTy := match i % 128 with
  | 0 => ⟨S256x64, .f32⟩
  | 1 => ⟨S_, .f32⟩
  | 2 => ⟨S256x64, .f32⟩
  | 3 => ⟨S256x64, .f32⟩
  | 4 => ⟨S_, .f32⟩
  | 5 => ⟨S64, .f32⟩
  | 6 => ⟨S1x64, .f32⟩
  | 7 => ⟨S1x64, .f32⟩
  | 8 => ⟨S_, .f32⟩
  | 9 => ⟨S1x64, .f32⟩
  | 10 => ⟨S1x64, .i1⟩
  | 11 => ⟨S_, .f32⟩
  | 12 => ⟨S1x64, .f32⟩
  | 13 => ⟨S1x64, .i1⟩
  | 14 => ⟨S_, .i32⟩
  | 15 => ⟨S_, .f32⟩
  | 16 => ⟨S1x64, .f32⟩
  | 17 => ⟨S1x64, .f32⟩
  | 18 => ⟨S256x64, .f32⟩
  | 19 => ⟨S256x64, .f32⟩
  | 20 => ⟨S_, .i32⟩
  | 21 => ⟨S_, .f32⟩
  | 22 => ⟨S256x64, .i1⟩
  | 23 => ⟨S256x64, .f32⟩
  | 24 => ⟨S256x64, .f32⟩
  | 25 => ⟨S_, .f32⟩
  | 26 => ⟨S64, .f32⟩
  | 27 => ⟨S64, .i1⟩
  | 28 => ⟨S_, .f32⟩
  | 29 => ⟨S64, .f32⟩
  | 30 => ⟨S64, .i1⟩
  | 31 => ⟨S64, .i1⟩
  | 32 => ⟨S1x64, .i1⟩
  | 33 => ⟨S_, .i32⟩
  | 34 => ⟨S_, .f32⟩
  | 35 => ⟨S256x64, .i1⟩
  | 36 => ⟨S256x64, .f32⟩
  | 37 => ⟨S256x64, .f32⟩
  | 38 => ⟨S32x256x64, .f32⟩
  | 39 => ⟨S32x64x256, .f32⟩
  | 40 => ⟨S2048x256, .f32⟩
  | 41 => ⟨S2048x256, .f32⟩
  | 42 => ⟨S_, .f32⟩
  | 43 => ⟨S2048, .f32⟩
  | 44 => ⟨S2048x1, .f32⟩
  | 45 => ⟨S256x1024, .f32⟩
  | 46 => ⟨S2048x1024, .f32⟩
  | 47 => ⟨S_, .f32⟩
  | 48 => ⟨S2048x1024, .f32⟩
  | 49 => ⟨S2048x1024, .f32⟩
  | 50 => ⟨S2048x1024, .f32⟩
  | 51 => ⟨S2048x1024, .f32⟩
  | 52 => ⟨S1x1024, .f32⟩
  | 53 => ⟨S2048x1024, .f32⟩
  | 54 => ⟨S2048x1024, .f32⟩
  | 55 => ⟨S2048x1024, .i32⟩
  | 56 => ⟨S_, .f32⟩
  | 57 => ⟨S_, .i32⟩
  | 58 => ⟨S2048, .f32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i32⟩
  | 66 => ⟨S2048, .i32⟩
  | 67 => ⟨S2048x1, .i32⟩
  | 68 => ⟨S1, .i32⟩
  | 69 => ⟨S_, .i32⟩
  | 70 => ⟨S2048x1, .i32⟩
  | 71 => ⟨S2048x1, .i1⟩
  | 72 => ⟨S1x1, .i32⟩
  | 73 => ⟨S2048x1, .i32⟩
  | 74 => ⟨S2048x1, .i1⟩
  | 75 => ⟨S2048x1, .i1⟩
  | 76 => ⟨S_, .i1⟩
  | 77 => ⟨S2048, .i1⟩
  | 78 => ⟨S2048x256, .f32⟩
  | 79 => ⟨S2048x256, .i1⟩
  | 80 => ⟨S_, .f32⟩
  | 81 => ⟨S2048x256, .f32⟩
  | 82 => ⟨S2048x256, .f32⟩
  | 83 => ⟨S32x64x256, .f32⟩
  | 84 => ⟨S32x256x64, .f32⟩
  | 85 => ⟨S_, .f32⟩
  | 86 => ⟨S_, .f32⟩
  | 87 => ⟨S_, .f32⟩
  | 88 => ⟨S256, .f32⟩
  | 89 => ⟨S_, .f32⟩
  | 90 => ⟨S256, .f32⟩
  | 91 => ⟨S256, .f32⟩
  | 92 => ⟨S_, .f32⟩
  | 93 => ⟨S256, .f32⟩
  | 94 => ⟨S256, .f32⟩
  | 95 => ⟨S_, .f32⟩
  | 96 => ⟨S256, .f32⟩
  | 97 => ⟨S256, .f32⟩
  | 98 => ⟨S_, .f32⟩
  | 99 => ⟨S256, .f32⟩
  | 100 => ⟨S256, .f32⟩
  | 101 => ⟨S64, .f32⟩
  | 102 => ⟨S1x256, .f32⟩
  | 103 => ⟨S64x1, .f32⟩
  | 104 => ⟨S64x256, .f32⟩
  | 105 => ⟨S64x256, .f32⟩
  | 106 => ⟨S64x256, .f32⟩
  | 107 => ⟨S64x256, .f32⟩
  | 108 => ⟨S_, .f32⟩
  | 109 => ⟨S64x256, .f32⟩
  | 110 => ⟨S64x256, .f32⟩
  | 111 => ⟨S64x256, .f32⟩
  | 112 => ⟨S_, .f32⟩
  | 113 => ⟨S64x256, .f32⟩
  | 114 => ⟨S64x256, .f32⟩
  | 115 => ⟨S_, .f32⟩
  | 116 => ⟨S64x256, .f32⟩
  | 117 => ⟨S64x256, .f32⟩
  | 118 => ⟨S_, .f32⟩
  | 119 => ⟨S256, .f32⟩
  | 120 => ⟨S1x256, .f32⟩
  | 121 => ⟨S1x256, .f32⟩
  | 122 => ⟨S_, .f32⟩
  | 123 => ⟨S1x256, .f32⟩
  | 124 => ⟨S1x256, .i1⟩
  | 125 => ⟨S_, .f32⟩
  | 126 => ⟨S1x256, .f32⟩
  | 127 => ⟨S1x256, .i1⟩
  | _ => ⟨S32x256x256, .f32⟩

abbrev hbmTy0_3 (i : Nat) : BufTy := match i % 128 with
  | 0 => ⟨S_, .i32⟩
  | 1 => ⟨S_, .f32⟩
  | 2 => ⟨S1x256, .f32⟩
  | 3 => ⟨S1x256, .f32⟩
  | 4 => ⟨S64x256, .f32⟩
  | 5 => ⟨S64x256, .f32⟩
  | 6 => ⟨S_, .i32⟩
  | 7 => ⟨S_, .f32⟩
  | 8 => ⟨S64x256, .i1⟩
  | 9 => ⟨S64x256, .f32⟩
  | 10 => ⟨S64x256, .f32⟩
  | 11 => ⟨S_, .f32⟩
  | 12 => ⟨S256, .f32⟩
  | 13 => ⟨S256, .i1⟩
  | 14 => ⟨S_, .f32⟩
  | 15 => ⟨S256, .f32⟩
  | 16 => ⟨S256, .i1⟩
  | 17 => ⟨S256, .i1⟩
  | 18 => ⟨S1x256, .i1⟩
  | 19 => ⟨S_, .i32⟩
  | 20 => ⟨S_, .f32⟩
  | 21 => ⟨S64x256, .i1⟩
  | 22 => ⟨S64x256, .f32⟩
  | 23 => ⟨S64x256, .f32⟩
  | 24 => ⟨S32x256x256, .f32⟩
  | 25 => ⟨S_, .f32⟩
  | 26 => ⟨S32x256x256, .f32⟩
  | 27 => ⟨S32x256x256, .f32⟩
  | 28 => ⟨S1x256x256x3, .f32⟩
  | 29 => ⟨S256x256x3, .f32⟩
  | 30 => ⟨S1x256, .f32⟩
  | 31 => ⟨S256, .f32⟩
  | 32 => ⟨S_, .i32⟩
  | 33 => ⟨S_, .f32⟩
  | 34 => ⟨S32x256x258, .f32⟩
  | 35 => ⟨S256x256x1, .f32⟩
  | 36 => ⟨S256x256, .f32⟩
  | 37 => ⟨S32x256x256, .f32⟩
  | 38 => ⟨S32x256x256, .f32⟩
  | 39 => ⟨S32x256x256, .f32⟩
  | 40 => ⟨S256x256x1, .f32⟩
  | 41 => ⟨S256x256, .f32⟩
  | 42 => ⟨S32x256x256, .f32⟩
  | 43 => ⟨S32x256x256, .f32⟩
  | 44 => ⟨S32x256x256, .f32⟩
  | 45 => ⟨S256x256x1, .f32⟩
  | 46 => ⟨S256x256, .f32⟩
  | 47 => ⟨S32x256x256, .f32⟩
  | 48 => ⟨S32x256x256, .f32⟩
  | 49 => ⟨S32x256x256, .f32⟩
  | 50 => ⟨S32x256x256, .f32⟩
  | 51 => ⟨S32x256x256, .f32⟩
  | 52 => ⟨S1x256x1, .f32⟩
  | 53 => ⟨S32x256x256, .f32⟩
  | 54 => ⟨S32x256x256, .f32⟩
  | 55 => ⟨S_, .f32⟩
  | 56 => ⟨S32x256x256, .f32⟩
  | 57 => ⟨S32x256x256, .f32⟩
  | 58 => ⟨S32x256x256, .f32⟩
  | 59 => ⟨S32x256x256, .f32⟩
  | 60 => ⟨S32x256x256, .f32⟩
  | 61 => ⟨S_, .f32⟩
  | 62 => ⟨S_, .f32⟩
  | 63 => ⟨S_, .f32⟩
  | 64 => ⟨S128, .f32⟩
  | 65 => ⟨S_, .f32⟩
  | 66 => ⟨S128, .f32⟩
  | 67 => ⟨S128, .f32⟩
  | 68 => ⟨S_, .f32⟩
  | 69 => ⟨S128, .f32⟩
  | 70 => ⟨S128, .f32⟩
  | 71 => ⟨S_, .f32⟩
  | 72 => ⟨S128, .f32⟩
  | 73 => ⟨S128, .f32⟩
  | 74 => ⟨S_, .f32⟩
  | 75 => ⟨S128, .f32⟩
  | 76 => ⟨S128, .f32⟩
  | 77 => ⟨S256, .f32⟩
  | 78 => ⟨S1x128, .f32⟩
  | 79 => ⟨S256x1, .f32⟩
  | 80 => ⟨S256x128, .f32⟩
  | 81 => ⟨S256x128, .f32⟩
  | 82 => ⟨S256x128, .f32⟩
  | 83 => ⟨S256x128, .f32⟩
  | 84 => ⟨S_, .f32⟩
  | 85 => ⟨S256x128, .f32⟩
  | 86 => ⟨S256x128, .f32⟩
  | 87 => ⟨S256x128, .f32⟩
  | 88 => ⟨S_, .f32⟩
  | 89 => ⟨S256x128, .f32⟩
  | 90 => ⟨S256x128, .f32⟩
  | 91 => ⟨S_, .f32⟩
  | 92 => ⟨S256x128, .f32⟩
  | 93 => ⟨S256x128, .f32⟩
  | 94 => ⟨S_, .f32⟩
  | 95 => ⟨S128, .f32⟩
  | 96 => ⟨S1x128, .f32⟩
  | 97 => ⟨S1x128, .f32⟩
  | 98 => ⟨S_, .f32⟩
  | 99 => ⟨S1x128, .f32⟩
  | 100 => ⟨S1x128, .i1⟩
  | 101 => ⟨S_, .f32⟩
  | 102 => ⟨S1x128, .f32⟩
  | 103 => ⟨S1x128, .i1⟩
  | 104 => ⟨S_, .i32⟩
  | 105 => ⟨S_, .f32⟩
  | 106 => ⟨S1x128, .f32⟩
  | 107 => ⟨S1x128, .f32⟩
  | 108 => ⟨S256x128, .f32⟩
  | 109 => ⟨S256x128, .f32⟩
  | 110 => ⟨S_, .i32⟩
  | 111 => ⟨S_, .f32⟩
  | 112 => ⟨S256x128, .i1⟩
  | 113 => ⟨S256x128, .f32⟩
  | 114 => ⟨S256x128, .f32⟩
  | 115 => ⟨S_, .f32⟩
  | 116 => ⟨S128, .f32⟩
  | 117 => ⟨S128, .i1⟩
  | 118 => ⟨S_, .f32⟩
  | 119 => ⟨S128, .f32⟩
  | 120 => ⟨S128, .i1⟩
  | 121 => ⟨S128, .i1⟩
  | 122 => ⟨S1x128, .i1⟩
  | 123 => ⟨S_, .i32⟩
  | 124 => ⟨S_, .f32⟩
  | 125 => ⟨S256x128, .i1⟩
  | 126 => ⟨S256x128, .f32⟩
  | 127 => ⟨S256x128, .f32⟩
  | _ => ⟨S32x256x256, .f32⟩

abbrev hbmTy0_4 (i : Nat) : BufTy := match i % 128 with
  | 0 => ⟨S32x256x128, .f32⟩
  | 1 => ⟨S32x128x256, .f32⟩
  | 2 => ⟨S4096x256, .f32⟩
  | 3 => ⟨S4096x256, .f32⟩
  | 4 => ⟨S_, .f32⟩
  | 5 => ⟨S4096, .f32⟩
  | 6 => ⟨S4096x1, .f32⟩
  | 7 => ⟨S256x1024, .f32⟩
  | 8 => ⟨S4096x1024, .f32⟩
  | 9 => ⟨S_, .f32⟩
  | 10 => ⟨S4096x1024, .f32⟩
  | 11 => ⟨S4096x1024, .f32⟩
  | 12 => ⟨S4096x1024, .f32⟩
  | 13 => ⟨S4096x1024, .f32⟩
  | 14 => ⟨S1x1024, .f32⟩
  | 15 => ⟨S4096x1024, .f32⟩
  | 16 => ⟨S4096x1024, .f32⟩
  | 17 => ⟨S4096x1024, .i32⟩
  | 18 => ⟨S_, .f32⟩
  | 19 => ⟨S_, .i32⟩
  | 20 => ⟨S4096, .f32⟩
  | 21 => ⟨S4096, .i32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S1, .i32⟩
  | 31 => ⟨S_, .i32⟩
  | 32 => ⟨S4096x1, .i32⟩
  | 33 => ⟨S4096x1, .i1⟩
  | 34 => ⟨S1x1, .i32⟩
  | 35 => ⟨S4096x1, .i32⟩
  | 36 => ⟨S4096x1, .i1⟩
  | 37 => ⟨S4096x1, .i1⟩
  | 38 => ⟨S_, .i1⟩
  | 39 => ⟨S4096, .i1⟩
  | 40 => ⟨S4096x256, .f32⟩
  | 41 => ⟨S4096x256, .i1⟩
  | 42 => ⟨S_, .f32⟩
  | 43 => ⟨S4096x256, .f32⟩
  | 44 => ⟨S4096x256, .f32⟩
  | 45 => ⟨S32x128x256, .f32⟩
  | 46 => ⟨S32x256x128, .f32⟩
  | 47 => ⟨S_, .f32⟩
  | 48 => ⟨S_, .f32⟩
  | 49 => ⟨S_, .f32⟩
  | 50 => ⟨S256, .f32⟩
  | 51 => ⟨S_, .f32⟩
  | 52 => ⟨S256, .f32⟩
  | 53 => ⟨S256, .f32⟩
  | 54 => ⟨S_, .f32⟩
  | 55 => ⟨S256, .f32⟩
  | 56 => ⟨S256, .f32⟩
  | 57 => ⟨S_, .f32⟩
  | 58 => ⟨S256, .f32⟩
  | 59 => ⟨S256, .f32⟩
  | 60 => ⟨S_, .f32⟩
  | 61 => ⟨S256, .f32⟩
  | 62 => ⟨S256, .f32⟩
  | 63 => ⟨S128, .f32⟩
  | 64 => ⟨S1x256, .f32⟩
  | 65 => ⟨S128x1, .f32⟩
  | 66 => ⟨S128x256, .f32⟩
  | 67 => ⟨S128x256, .f32⟩
  | 68 => ⟨S128x256, .f32⟩
  | 69 => ⟨S128x256, .f32⟩
  | 70 => ⟨S_, .f32⟩
  | 71 => ⟨S128x256, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S_, .f32⟩
  | 78 => ⟨S128x256, .f32⟩
  | 79 => ⟨S128x256, .f32⟩
  | 80 => ⟨S_, .f32⟩
  | 81 => ⟨S256, .f32⟩
  | 82 => ⟨S1x256, .f32⟩
  | 83 => ⟨S1x256, .f32⟩
  | 84 => ⟨S_, .f32⟩
  | 85 => ⟨S1x256, .f32⟩
  | 86 => ⟨S1x256, .i1⟩
  | 87 => ⟨S_, .f32⟩
  | 88 => ⟨S1x256, .f32⟩
  | 89 => ⟨S1x256, .i1⟩
  | 90 => ⟨S_, .i32⟩
  | 91 => ⟨S_, .f32⟩
  | 92 => ⟨S1x256, .f32⟩
  | 93 => ⟨S1x256, .f32⟩
  | 94 => ⟨S128x256, .f32⟩
  | 95 => ⟨S128x256, .f32⟩
  | 96 => ⟨S_, .i32⟩
  | 97 => ⟨S_, .f32⟩
  | 98 => ⟨S128x256, .i1⟩
  | 99 => ⟨S128x256, .f32⟩
  | 100 => ⟨S128x256, .f32⟩
  | 101 => ⟨S_, .f32⟩
  | 102 => ⟨S256, .f32⟩
  | 103 => ⟨S256, .i1⟩
  | 104 => ⟨S_, .f32⟩
  | 105 => ⟨S256, .f32⟩
  | 106 => ⟨S256, .i1⟩
  | 107 => ⟨S256, .i1⟩
  | 108 => ⟨S1x256, .i1⟩
  | 109 => ⟨S_, .i32⟩
  | 110 => ⟨S_, .f32⟩
  | 111 => ⟨S128x256, .i1⟩
  | 112 => ⟨S128x256, .f32⟩
  | 113 => ⟨S128x256, .f32⟩
  | 114 => ⟨S32x256x256, .f32⟩
  | 115 => ⟨S_, .f32⟩
  | 116 => ⟨S32x256x256, .f32⟩
  | 117 => ⟨S32x256x256, .f32⟩
  | 118 => ⟨S1x256x256x3, .f32⟩
  | 119 => ⟨S256x256x3, .f32⟩
  | 120 => ⟨S1x256, .f32⟩
  | 121 => ⟨S256, .f32⟩
  | 122 => ⟨S_, .i32⟩
  | 123 => ⟨S_, .f32⟩
  | 124 => ⟨S32x256x258, .f32⟩
  | 125 => ⟨S256x256x1, .f32⟩
  | 126 => ⟨S256x256, .f32⟩
  | 127 => ⟨S32x256x256, .f32⟩
  | _ => ⟨S32x256x256, .f32⟩

abbrev hbmTy0_5 (i : Nat) : BufTy := match i % 128 with
  | 0 => ⟨S32x256x256, .f32⟩
  | 1 => ⟨S32x256x256, .f32⟩
  | 2 => ⟨S256x256x1, .f32⟩
  | 3 => ⟨S256x256, .f32⟩
  | 4 => ⟨S32x256x256, .f32⟩
  | 5 => ⟨S32x256x256, .f32⟩
  | 6 => ⟨S32x256x256, .f32⟩
  | 7 => ⟨S256x256x1, .f32⟩
  | 8 => ⟨S256x256, .f32⟩
  | 9 => ⟨S32x256x256, .f32⟩
  | 10 => ⟨S32x256x256, .f32⟩
  | 11 => ⟨S32x256x256, .f32⟩
  | 12 => ⟨S32x256x256, .f32⟩
  | 13 => ⟨S32x256x256, .f32⟩
  | 14 => ⟨S1x256x1, .f32⟩
  | 15 => ⟨S32x256x256, .f32⟩
  | 16 => ⟨S32x256x256, .f32⟩
  | 17 => ⟨S_, .f32⟩
  | 18 => ⟨S32x256x256, .f32⟩
  | 19 => ⟨S32x256x256, .f32⟩
  | 20 => ⟨S32x256x256, .f32⟩
  | 21 => ⟨S32x256x256, .f32⟩
  | 22 => ⟨S32x256x256, .f32⟩
  | 23 => ⟨S32x256x256, .f32⟩
  | 24 => ⟨S8192x256, .f32⟩
  | 25 => ⟨S8192x256, .f32⟩
  | 26 => ⟨S_, .f32⟩
  | 27 => ⟨S8192, .f32⟩
  | 28 => ⟨S8192x1, .f32⟩
  | 29 => ⟨S256x1024, .f32⟩
  | 30 => ⟨S8192x1024, .f32⟩
  | 31 => ⟨S_, .f32⟩
  | 32 => ⟨S8192x1024, .f32⟩
  | 33 => ⟨S8192x1024, .f32⟩
  | 34 => ⟨S8192x1024, .f32⟩
  | 35 => ⟨S8192x1024, .f32⟩
  | 36 => ⟨S1x1024, .f32⟩
  | 37 => ⟨S8192x1024, .f32⟩
  | 38 => ⟨S8192x1024, .f32⟩
  | 39 => ⟨S8192x1024, .i32⟩
  | 40 => ⟨S_, .f32⟩
  | 41 => ⟨S_, .i32⟩
  | 42 => ⟨S8192, .f32⟩
  | 43 => ⟨S8192, .i32⟩
  | 44 => ⟨S_, .i32⟩
  | 45 => ⟨S8192, .i32⟩
  | 46 => ⟨S8192, .i1⟩
  | 47 => ⟨S_, .i32⟩
  | 48 => ⟨S8192, .i32⟩
  | 49 => ⟨S8192, .i32⟩
  | 50 => ⟨S8192, .i32⟩
  | 51 => ⟨S8192x1, .i32⟩
  | 52 => ⟨S1, .i32⟩
  | 53 => ⟨S_, .i32⟩
  | 54 => ⟨S8192x1, .i32⟩
  | 55 => ⟨S8192x1, .i1⟩
  | 56 => ⟨S1x1, .i32⟩
  | 57 => ⟨S8192x1, .i32⟩
  | 58 => ⟨S8192x1, .i1⟩
  | 59 => ⟨S8192x1, .i1⟩
  | 60 => ⟨S_, .i1⟩
  | 61 => ⟨S8192, .i1⟩
  | 62 => ⟨S8192x256, .f32⟩
  | 63 => ⟨S8192x256, .i1⟩
  | 64 => ⟨S_, .f32⟩
  | 65 => ⟨S8192x256, .f32⟩
  | 66 => ⟨S8192x256, .f32⟩
  | 67 => ⟨S32x256x256, .f32⟩
  | 68 => ⟨S32x256x256, .f32⟩
  | 69 => ⟨S_, .f32⟩
  | 70 => ⟨S32x256x256, .f32⟩
  | 71 => ⟨S32x256x256, .f32⟩
  | 72 => ⟨S1x256x256x3, .f32⟩
  | 73 => ⟨S256x256x3, .f32⟩
  | 74 => ⟨S1x256, .f32⟩
  | 75 => ⟨S256, .f32⟩
  | 76 => ⟨S_, .i32⟩
  | 77 => ⟨S_, .f32⟩
  | 78 => ⟨S32x256x258, .f32⟩
  | 79 => ⟨S256x256x1, .f32⟩
  | 80 => ⟨S256x256, .f32⟩
  | 81 => ⟨S32x256x256, .f32⟩
  | 82 => ⟨S32x256x256, .f32⟩
  | 83 => ⟨S32x256x256, .f32⟩
  | 84 => ⟨S256x256x1, .f32⟩
  | 85 => ⟨S256x256, .f32⟩
  | 86 => ⟨S32x256x256, .f32⟩
  | 87 => ⟨S32x256x256, .f32⟩
  | 88 => ⟨S32x256x256, .f32⟩
  | 89 => ⟨S256x256x1, .f32⟩
  | 90 => ⟨S256x256, .f32⟩
  | 91 => ⟨S32x256x256, .f32⟩
  | 92 => ⟨S32x256x256, .f32⟩
  | 93 => ⟨S32x256x256, .f32⟩
  | 94 => ⟨S32x256x256, .f32⟩
  | 95 => ⟨S32x256x256, .f32⟩
  | 96 => ⟨S1x256x1, .f32⟩
  | 97 => ⟨S32x256x256, .f32⟩
  | 98 => ⟨S32x256x256, .f32⟩
  | 99 => ⟨S_, .f32⟩
  | 100 => ⟨S32x256x256, .f32⟩
  | 101 => ⟨S32x256x256, .f32⟩
  | 102 => ⟨S32x256x256, .f32⟩
  | 103 => ⟨S32x256x256, .f32⟩
  | 104 => ⟨S32x256x256, .f32⟩
  | _ => ⟨S32x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S32x256x256, .f32⟩

abbrev bufTy : (tb : Table) → Fin (tcTables nBuf tb) → BufTy
  | .hbm, ⟨i, _⟩ => hbmTy i
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_call0_cst : Ref sig .tc := ⟨.hbm, 9, rfl⟩
abbrev main_call0_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_cst_1 : Ref sig .tc := ⟨.hbm, 13, rfl⟩
abbrev main_call0_v2 : Ref sig .tc := ⟨.hbm, 14, rfl⟩
abbrev main_call0_v3 : Ref sig .tc := ⟨.hbm, 15, rfl⟩
abbrev main_call0_cst_2 : Ref sig .tc := ⟨.hbm, 16, rfl⟩
abbrev main_call0_v4 : Ref sig .tc := ⟨.hbm, 17, rfl⟩
abbrev main_call0_v5 : Ref sig .tc := ⟨.hbm, 18, rfl⟩
abbrev main_call0_cst_3 : Ref sig .tc := ⟨.hbm, 19, rfl⟩
abbrev main_call0_v6 : Ref sig .tc := ⟨.hbm, 20, rfl⟩
abbrev main_call0_v7 : Ref sig .tc := ⟨.hbm, 21, rfl⟩
abbrev main_call0_cst_4 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_v17 : Ref sig .tc := ⟨.hbm, 32, rfl⟩
abbrev main_call0_v18 : Ref sig .tc := ⟨.hbm, 33, rfl⟩
abbrev main_call0_v19 : Ref sig .tc := ⟨.hbm, 34, rfl⟩
abbrev main_call0_v20 : Ref sig .tc := ⟨.hbm, 35, rfl⟩
abbrev main_call0_cst_5 : Ref sig .tc := ⟨.hbm, 36, rfl⟩
abbrev main_call0_v21 : Ref sig .tc := ⟨.hbm, 37, rfl⟩
abbrev main_call0_v22 : Ref sig .tc := ⟨.hbm, 38, rfl⟩
abbrev main_call0_cst_6 : Ref sig .tc := ⟨.hbm, 39, rfl⟩
abbrev main_call0_v23 : Ref sig .tc := ⟨.hbm, 40, rfl⟩
abbrev main_call0_v24 : Ref sig .tc := ⟨.hbm, 41, rfl⟩
abbrev main_call0_cst_7 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_cst_8 : Ref sig .tc := ⟨.hbm, 46, rfl⟩
abbrev main_call0_v28 : Ref sig .tc := ⟨.hbm, 47, rfl⟩
abbrev main_call0_v29 : Ref sig .tc := ⟨.hbm, 48, rfl⟩
abbrev main_call0_cst_9 : Ref sig .tc := ⟨.hbm, 49, rfl⟩
abbrev main_call0_v30 : Ref sig .tc := ⟨.hbm, 50, rfl⟩
abbrev main_call0_v31 : Ref sig .tc := ⟨.hbm, 51, rfl⟩
abbrev main_call0_c : Ref sig .tc := ⟨.hbm, 52, rfl⟩
abbrev main_call0_call0_v0 : Ref sig .tc := ⟨.hbm, 53, rfl⟩
abbrev main_call0_call0_v1 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_c_10 : Ref sig .tc := ⟨.hbm, 58, rfl⟩
abbrev main_call0_call1_v0 : Ref sig .tc := ⟨.hbm, 59, rfl⟩
abbrev main_call0_call1_v1 : Ref sig .tc := ⟨.hbm, 60, rfl⟩
abbrev main_call0_call1_v2 : Ref sig .tc := ⟨.hbm, 61, rfl⟩
abbrev main_call0_v35 : Ref sig .tc := ⟨.hbm, 62, rfl⟩
abbrev main_call0_cst_11 : Ref sig .tc := ⟨.hbm, 63, rfl⟩
abbrev main_call0_v36 : Ref sig .tc := ⟨.hbm, 64, rfl⟩
abbrev main_call0_v37 : Ref sig .tc := ⟨.hbm, 65, rfl⟩
abbrev main_call0_cst_12 : Ref sig .tc := ⟨.hbm, 66, rfl⟩
abbrev main_call0_v38 : Ref sig .tc := ⟨.hbm, 67, rfl⟩
abbrev main_call0_v39 : Ref sig .tc := ⟨.hbm, 68, rfl⟩
abbrev main_call0_v40 : Ref sig .tc := ⟨.hbm, 69, rfl⟩
abbrev main_call0_v41 : Ref sig .tc := ⟨.hbm, 70, rfl⟩
abbrev main_call0_c_13 : Ref sig .tc := ⟨.hbm, 71, rfl⟩
abbrev main_call0_call2_v0 : Ref sig .tc := ⟨.hbm, 72, rfl⟩
abbrev main_call0_call2_v1 : Ref sig .tc := ⟨.hbm, 73, rfl⟩
abbrev main_call0_call2_v2 : Ref sig .tc := ⟨.hbm, 74, rfl⟩
abbrev main_call0_v42 : Ref sig .tc := ⟨.hbm, 75, rfl⟩
abbrev main_v3 : Ref sig .tc := ⟨.hbm, 76, rfl⟩
abbrev main_v4 : Ref sig .tc := ⟨.hbm, 77, rfl⟩
abbrev main_v5 : Ref sig .tc := ⟨.hbm, 78, rfl⟩
abbrev main_v6 : Ref sig .tc := ⟨.hbm, 79, rfl⟩
abbrev main_cst_1 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_cst_2 : Ref sig .tc := ⟨.hbm, 85, rfl⟩
abbrev main_v11 : Ref sig .tc := ⟨.hbm, 86, rfl⟩
abbrev main_v12 : Ref sig .tc := ⟨.hbm, 87, rfl⟩
abbrev main_v13 : Ref sig .tc := ⟨.hbm, 88, rfl⟩
abbrev main_v14 : Ref sig .tc := ⟨.hbm, 89, rfl⟩
abbrev main_v15 : Ref sig .tc := ⟨.hbm, 90, rfl⟩
abbrev main_v16 : Ref sig .tc := ⟨.hbm, 91, rfl⟩
abbrev main_v17 : Ref sig .tc := ⟨.hbm, 92, rfl⟩
abbrev main_call1_v0 : Ref sig .tc := ⟨.hbm, 93, rfl⟩
abbrev main_call1_cst : Ref sig .tc := ⟨.hbm, 94, rfl⟩
abbrev main_call1_c : Ref sig .tc := ⟨.hbm, 95, rfl⟩
abbrev main_call1_v1_0 : Ref sig .tc := ⟨.hbm, 96, rfl⟩
abbrev main_v18 : Ref sig .tc := ⟨.hbm, 97, rfl⟩
abbrev main_call2_c : Ref sig .tc := ⟨.hbm, 98, rfl⟩
abbrev main_call2_v0 : Ref sig .tc := ⟨.hbm, 99, rfl⟩
abbrev main_call2_v1 : Ref sig .tc := ⟨.hbm, 100, rfl⟩
abbrev main_call2_c_0 : Ref sig .tc := ⟨.hbm, 101, rfl⟩
abbrev main_call2_v2 : Ref sig .tc := ⟨.hbm, 102, rfl⟩
abbrev main_call2_v3 : Ref sig .tc := ⟨.hbm, 103, rfl⟩
abbrev main_call2_v4 : Ref sig .tc := ⟨.hbm, 104, rfl⟩
abbrev main_call2_v5 : Ref sig .tc := ⟨.hbm, 105, rfl⟩
abbrev main_call2_c_1 : Ref sig .tc := ⟨.hbm, 106, rfl⟩
abbrev main_call2_c_2 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_c_3 : Ref sig .tc := ⟨.hbm, 114, rfl⟩
abbrev main_call2_v12 : Ref sig .tc := ⟨.hbm, 115, rfl⟩
abbrev main_call2_v13 : Ref sig .tc := ⟨.hbm, 116, rfl⟩
abbrev main_call2_v14 : Ref sig .tc := ⟨.hbm, 117, rfl⟩
abbrev main_call2_cst : Ref sig .tc := ⟨.hbm, 118, rfl⟩
abbrev main_call2_v15 : Ref sig .tc := ⟨.hbm, 119, rfl⟩
abbrev main_v19 : Ref sig .tc := ⟨.hbm, 120, rfl⟩
abbrev main_v20 : Ref sig .tc := ⟨.hbm, 121, rfl⟩
abbrev main_v21 : Ref sig .tc := ⟨.hbm, 122, rfl⟩
abbrev main_call3_cst : Ref sig .tc := ⟨.hbm, 123, rfl⟩
abbrev main_call3_cst_0 : Ref sig .tc := ⟨.hbm, 124, rfl⟩
abbrev main_call3_v0 : Ref sig .tc := ⟨.hbm, 125, rfl⟩
abbrev main_call3_v1 : Ref sig .tc := ⟨.hbm, 126, rfl⟩
abbrev main_call3_cst_1 : Ref sig .tc := ⟨.hbm, 127, rfl⟩
abbrev main_call3_v2 : Ref sig .tc := ⟨.hbm, 128, rfl⟩
abbrev main_call3_v3 : Ref sig .tc := ⟨.hbm, 129, rfl⟩
abbrev main_call3_cst_2 : Ref sig .tc := ⟨.hbm, 130, rfl⟩
abbrev main_call3_v4 : Ref sig .tc := ⟨.hbm, 131, rfl⟩
abbrev main_call3_v5 : Ref sig .tc := ⟨.hbm, 132, rfl⟩
abbrev main_call3_cst_3 : Ref sig .tc := ⟨.hbm, 133, rfl⟩
abbrev main_call3_v6 : Ref sig .tc := ⟨.hbm, 134, rfl⟩
abbrev main_call3_v7 : Ref sig .tc := ⟨.hbm, 135, rfl⟩
abbrev main_call3_cst_4 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_call3_v11 : Ref sig .tc := ⟨.hbm, 140, rfl⟩
abbrev main_call3_v12 : Ref sig .tc := ⟨.hbm, 141, rfl⟩
abbrev main_call3_v13 : Ref sig .tc := ⟨.hbm, 142, rfl⟩
abbrev main_call3_v14 : Ref sig .tc := ⟨.hbm, 143, rfl⟩
abbrev main_call3_v15 : Ref sig .tc := ⟨.hbm, 144, rfl⟩
abbrev main_call3_v16 : Ref sig .tc := ⟨.hbm, 145, rfl⟩
abbrev main_call3_v17 : Ref sig .tc := ⟨.hbm, 146, rfl⟩
abbrev main_call3_v18 : Ref sig .tc := ⟨.hbm, 147, rfl⟩
abbrev main_call3_v19 : Ref sig .tc := ⟨.hbm, 148, rfl⟩
abbrev main_call3_v20 : Ref sig .tc := ⟨.hbm, 149, rfl⟩
abbrev main_call3_cst_5 : Ref sig .tc := ⟨.hbm, 150, rfl⟩
abbrev main_call3_v21 : Ref sig .tc := ⟨.hbm, 151, rfl⟩
abbrev main_call3_v22 : Ref sig .tc := ⟨.hbm, 152, rfl⟩
abbrev main_call3_cst_6 : Ref sig .tc := ⟨.hbm, 153, rfl⟩
abbrev main_call3_v23 : Ref sig .tc := ⟨.hbm, 154, rfl⟩
abbrev main_call3_v24 : Ref sig .tc := ⟨.hbm, 155, rfl⟩
abbrev main_call3_cst_7 : Ref sig .tc := ⟨.hbm, 156, rfl⟩
abbrev main_call3_v25 : Ref sig .tc := ⟨.hbm, 157, rfl⟩
abbrev main_call3_v26 : Ref sig .tc := ⟨.hbm, 158, rfl⟩
abbrev main_call3_v27 : Ref sig .tc := ⟨.hbm, 159, rfl⟩
abbrev main_call3_cst_8 : Ref sig .tc := ⟨.hbm, 160, rfl⟩
abbrev main_call3_v28 : Ref sig .tc := ⟨.hbm, 161, rfl⟩
abbrev main_call3_v29 : Ref sig .tc := ⟨.hbm, 162, rfl⟩
abbrev main_call3_cst_9 : Ref sig .tc := ⟨.hbm, 163, rfl⟩
abbrev main_call3_v30 : Ref sig .tc := ⟨.hbm, 164, rfl⟩
abbrev main_call3_v31 : Ref sig .tc := ⟨.hbm, 165, rfl⟩
abbrev main_call3_c : Ref sig .tc := ⟨.hbm, 166, rfl⟩
abbrev main_call3_call0_v0 : Ref sig .tc := ⟨.hbm, 167, rfl⟩
abbrev main_call3_call0_v1 : Ref sig .tc := ⟨.hbm, 168, rfl⟩
abbrev main_call3_v32 : Ref sig .tc := ⟨.hbm, 169, rfl⟩
abbrev main_call3_v33 : Ref sig .tc := ⟨.hbm, 170, rfl⟩
abbrev main_call3_v34 : Ref sig .tc := ⟨.hbm, 171, rfl⟩
abbrev main_call3_c_10 : Ref sig .tc := ⟨.hbm, 172, rfl⟩
abbrev main_call3_call1_v0 : Ref sig .tc := ⟨.hbm, 173, rfl⟩
abbrev main_call3_call1_v1 : Ref sig .tc := ⟨.hbm, 174, rfl⟩
abbrev main_call3_call1_v2 : Ref sig .tc := ⟨.hbm, 175, rfl⟩
abbrev main_call3_v35 : Ref sig .tc := ⟨.hbm, 176, rfl⟩
abbrev main_call3_cst_11 : Ref sig .tc := ⟨.hbm, 177, rfl⟩
abbrev main_call3_v36 : Ref sig .tc := ⟨.hbm, 178, rfl⟩
abbrev main_call3_v37 : Ref sig .tc := ⟨.hbm, 179, rfl⟩
abbrev main_call3_cst_12 : Ref sig .tc := ⟨.hbm, 180, rfl⟩
abbrev main_call3_v38 : Ref sig .tc := ⟨.hbm, 181, rfl⟩
abbrev main_call3_v39 : Ref sig .tc := ⟨.hbm, 182, rfl⟩
abbrev main_call3_v40 : Ref sig .tc := ⟨.hbm, 183, rfl⟩
abbrev main_call3_v41 : Ref sig .tc := ⟨.hbm, 184, rfl⟩
abbrev main_call3_c_13 : Ref sig .tc := ⟨.hbm, 185, rfl⟩
abbrev main_call3_call2_v0 : Ref sig .tc := ⟨.hbm, 186, rfl⟩
abbrev main_call3_call2_v1 : Ref sig .tc := ⟨.hbm, 187, rfl⟩
abbrev main_call3_call2_v2 : Ref sig .tc := ⟨.hbm, 188, rfl⟩
abbrev main_call3_v42 : Ref sig .tc := ⟨.hbm, 189, rfl⟩
abbrev main_v22 : Ref sig .tc := ⟨.hbm, 190, rfl⟩
abbrev main_cst_3 : Ref sig .tc := ⟨.hbm, 191, rfl⟩
abbrev main_v23 : Ref sig .tc := ⟨.hbm, 192, rfl⟩
abbrev main_v24 : Ref sig .tc := ⟨.hbm, 193, rfl⟩
abbrev main_v25 : Ref sig .tc := ⟨.hbm, 194, rfl⟩
abbrev main_v26 : Ref sig .tc := ⟨.hbm, 195, rfl⟩
abbrev main_v27 : Ref sig .tc := ⟨.hbm, 196, rfl⟩
abbrev main_v28 : Ref sig .tc := ⟨.hbm, 197, rfl⟩
abbrev main_c : Ref sig .tc := ⟨.hbm, 198, rfl⟩
abbrev main_call4_v0 : Ref sig .tc := ⟨.hbm, 199, rfl⟩
abbrev main_v29 : Ref sig .tc := ⟨.hbm, 200, rfl⟩
abbrev main_v30 : Ref sig .tc := ⟨.hbm, 201, rfl⟩
abbrev main_v31 : Ref sig .tc := ⟨.hbm, 202, rfl⟩
abbrev main_v32 : Ref sig .tc := ⟨.hbm, 203, rfl⟩
abbrev main_v33 : Ref sig .tc := ⟨.hbm, 204, rfl⟩
abbrev main_v34 : Ref sig .tc := ⟨.hbm, 205, rfl⟩
abbrev main_v35 : Ref sig .tc := ⟨.hbm, 206, rfl⟩
abbrev main_v36 : Ref sig .tc := ⟨.hbm, 207, rfl⟩
abbrev main_v37 : Ref sig .tc := ⟨.hbm, 208, rfl⟩
abbrev main_v38 : Ref sig .tc := ⟨.hbm, 209, rfl⟩
abbrev main_v39 : Ref sig .tc := ⟨.hbm, 210, rfl⟩
abbrev main_v40 : Ref sig .tc := ⟨.hbm, 211, rfl⟩
abbrev main_v41 : Ref sig .tc := ⟨.hbm, 212, rfl⟩
abbrev main_v42 : Ref sig .tc := ⟨.hbm, 213, rfl⟩
abbrev main_v43 : Ref sig .tc := ⟨.hbm, 214, rfl⟩
abbrev main_v44 : Ref sig .tc := ⟨.hbm, 215, rfl⟩
abbrev main_v45 : Ref sig .tc := ⟨.hbm, 216, rfl⟩
abbrev main_v46 : Ref sig .tc := ⟨.hbm, 217, rfl⟩
abbrev main_v47 : Ref sig .tc := ⟨.hbm, 218, rfl⟩
abbrev main_v48 : Ref sig .tc := ⟨.hbm, 219, rfl⟩
abbrev main_v49 : Ref sig .tc := ⟨.hbm, 220, rfl⟩
abbrev main_cst_4 : Ref sig .tc := ⟨.hbm, 221, rfl⟩
abbrev main_v50 : Ref sig .tc := ⟨.hbm, 222, rfl⟩
abbrev main_v51 : Ref sig .tc := ⟨.hbm, 223, rfl⟩
abbrev main_v52 : Ref sig .tc := ⟨.hbm, 224, rfl⟩
abbrev main_v53 : Ref sig .tc := ⟨.hbm, 225, rfl⟩
abbrev main_v54 : Ref sig .tc := ⟨.hbm, 226, rfl⟩
abbrev main_call5_cst : Ref sig .tc := ⟨.hbm, 227, rfl⟩
abbrev main_call5_cst_0 : Ref sig .tc := ⟨.hbm, 228, rfl⟩
abbrev main_call5_v0 : Ref sig .tc := ⟨.hbm, 229, rfl⟩
abbrev main_call5_v1 : Ref sig .tc := ⟨.hbm, 230, rfl⟩
abbrev main_call5_cst_1 : Ref sig .tc := ⟨.hbm, 231, rfl⟩
abbrev main_call5_v2 : Ref sig .tc := ⟨.hbm, 232, rfl⟩
abbrev main_call5_v3 : Ref sig .tc := ⟨.hbm, 233, rfl⟩
abbrev main_call5_cst_2 : Ref sig .tc := ⟨.hbm, 234, rfl⟩
abbrev main_call5_v4 : Ref sig .tc := ⟨.hbm, 235, rfl⟩
abbrev main_call5_v5 : Ref sig .tc := ⟨.hbm, 236, rfl⟩
abbrev main_call5_cst_3 : Ref sig .tc := ⟨.hbm, 237, rfl⟩
abbrev main_call5_v6 : Ref sig .tc := ⟨.hbm, 238, rfl⟩
abbrev main_call5_v7 : Ref sig .tc := ⟨.hbm, 239, rfl⟩
abbrev main_call5_cst_4 : Ref sig .tc := ⟨.hbm, 240, rfl⟩
abbrev main_call5_v8 : Ref sig .tc := ⟨.hbm, 241, rfl⟩
abbrev main_call5_v9 : Ref sig .tc := ⟨.hbm, 242, rfl⟩
abbrev main_call5_v10 : Ref sig .tc := ⟨.hbm, 243, rfl⟩
abbrev main_call5_v11 : Ref sig .tc := ⟨.hbm, 244, rfl⟩
abbrev main_call5_v12 : Ref sig .tc := ⟨.hbm, 245, rfl⟩
abbrev main_call5_v13 : Ref sig .tc := ⟨.hbm, 246, rfl⟩
abbrev main_call5_v14 : Ref sig .tc := ⟨.hbm, 247, rfl⟩
abbrev main_call5_v15 : Ref sig .tc := ⟨.hbm, 248, rfl⟩
abbrev main_call5_v16 : Ref sig .tc := ⟨.hbm, 249, rfl⟩
abbrev main_call5_v17 : Ref sig .tc := ⟨.hbm, 250, rfl⟩
abbrev main_call5_v18 : Ref sig .tc := ⟨.hbm, 251, rfl⟩
abbrev main_call5_v19 : Ref sig .tc := ⟨.hbm, 252, rfl⟩
abbrev main_call5_v20 : Ref sig .tc := ⟨.hbm, 253, rfl⟩
abbrev main_call5_cst_5 : Ref sig .tc := ⟨.hbm, 254, rfl⟩
abbrev main_call5_v21 : Ref sig .tc := ⟨.hbm, 255, rfl⟩
abbrev main_call5_v22 : Ref sig .tc := ⟨.hbm, 256, rfl⟩
abbrev main_call5_cst_6 : Ref sig .tc := ⟨.hbm, 257, rfl⟩
abbrev main_call5_v23 : Ref sig .tc := ⟨.hbm, 258, rfl⟩
abbrev main_call5_v24 : Ref sig .tc := ⟨.hbm, 259, rfl⟩
abbrev main_call5_cst_7 : Ref sig .tc := ⟨.hbm, 260, rfl⟩
abbrev main_call5_v25 : Ref sig .tc := ⟨.hbm, 261, rfl⟩
abbrev main_call5_v26 : Ref sig .tc := ⟨.hbm, 262, rfl⟩
abbrev main_call5_v27 : Ref sig .tc := ⟨.hbm, 263, rfl⟩
abbrev main_call5_cst_8 : Ref sig .tc := ⟨.hbm, 264, rfl⟩
abbrev main_call5_v28 : Ref sig .tc := ⟨.hbm, 265, rfl⟩
abbrev main_call5_v29 : Ref sig .tc := ⟨.hbm, 266, rfl⟩
abbrev main_call5_cst_9 : Ref sig .tc := ⟨.hbm, 267, rfl⟩
abbrev main_call5_v30 : Ref sig .tc := ⟨.hbm, 268, rfl⟩
abbrev main_call5_v31 : Ref sig .tc := ⟨.hbm, 269, rfl⟩
abbrev main_call5_c : Ref sig .tc := ⟨.hbm, 270, rfl⟩
abbrev main_call5_call0_v0 : Ref sig .tc := ⟨.hbm, 271, rfl⟩
abbrev main_call5_call0_v1 : Ref sig .tc := ⟨.hbm, 272, rfl⟩
abbrev main_call5_v32 : Ref sig .tc := ⟨.hbm, 273, rfl⟩
abbrev main_call5_v33 : Ref sig .tc := ⟨.hbm, 274, rfl⟩
abbrev main_call5_v34 : Ref sig .tc := ⟨.hbm, 275, rfl⟩
abbrev main_call5_c_10 : Ref sig .tc := ⟨.hbm, 276, rfl⟩
abbrev main_call5_call1_v0 : Ref sig .tc := ⟨.hbm, 277, rfl⟩
abbrev main_call5_call1_v1 : Ref sig .tc := ⟨.hbm, 278, rfl⟩
abbrev main_call5_call1_v2 : Ref sig .tc := ⟨.hbm, 279, rfl⟩
abbrev main_call5_v35 : Ref sig .tc := ⟨.hbm, 280, rfl⟩
abbrev main_call5_cst_11 : Ref sig .tc := ⟨.hbm, 281, rfl⟩
abbrev main_call5_v36 : Ref sig .tc := ⟨.hbm, 282, rfl⟩
abbrev main_call5_v37 : Ref sig .tc := ⟨.hbm, 283, rfl⟩
abbrev main_call5_cst_12 : Ref sig .tc := ⟨.hbm, 284, rfl⟩
abbrev main_call5_v38 : Ref sig .tc := ⟨.hbm, 285, rfl⟩
abbrev main_call5_v39 : Ref sig .tc := ⟨.hbm, 286, rfl⟩
abbrev main_call5_v40 : Ref sig .tc := ⟨.hbm, 287, rfl⟩
abbrev main_call5_v41 : Ref sig .tc := ⟨.hbm, 288, rfl⟩
abbrev main_call5_c_13 : Ref sig .tc := ⟨.hbm, 289, rfl⟩
abbrev main_call5_call2_v0 : Ref sig .tc := ⟨.hbm, 290, rfl⟩
abbrev main_call5_call2_v1 : Ref sig .tc := ⟨.hbm, 291, rfl⟩
abbrev main_call5_call2_v2 : Ref sig .tc := ⟨.hbm, 292, rfl⟩
abbrev main_call5_v42 : Ref sig .tc := ⟨.hbm, 293, rfl⟩
abbrev main_v55 : Ref sig .tc := ⟨.hbm, 294, rfl⟩
abbrev main_v56 : Ref sig .tc := ⟨.hbm, 295, rfl⟩
abbrev main_v57 : Ref sig .tc := ⟨.hbm, 296, rfl⟩
abbrev main_v58 : Ref sig .tc := ⟨.hbm, 297, rfl⟩
abbrev main_cst_5 : Ref sig .tc := ⟨.hbm, 298, rfl⟩
abbrev main_v59 : Ref sig .tc := ⟨.hbm, 299, rfl⟩
abbrev main_v60 : Ref sig .tc := ⟨.hbm, 300, rfl⟩
abbrev main_v61 : Ref sig .tc := ⟨.hbm, 301, rfl⟩
abbrev main_v62 : Ref sig .tc := ⟨.hbm, 302, rfl⟩
abbrev main_cst_6 : Ref sig .tc := ⟨.hbm, 303, rfl⟩
abbrev main_v63 : Ref sig .tc := ⟨.hbm, 304, rfl⟩
abbrev main_v64 : Ref sig .tc := ⟨.hbm, 305, rfl⟩
abbrev main_v65 : Ref sig .tc := ⟨.hbm, 306, rfl⟩
abbrev main_v66 : Ref sig .tc := ⟨.hbm, 307, rfl⟩
abbrev main_v67 : Ref sig .tc := ⟨.hbm, 308, rfl⟩
abbrev main_v68 : Ref sig .tc := ⟨.hbm, 309, rfl⟩
abbrev main_v69 : Ref sig .tc := ⟨.hbm, 310, rfl⟩
abbrev main_call6_v0 : Ref sig .tc := ⟨.hbm, 311, rfl⟩
abbrev main_call6_cst : Ref sig .tc := ⟨.hbm, 312, rfl⟩
abbrev main_call6_c : Ref sig .tc := ⟨.hbm, 313, rfl⟩
abbrev main_call6_v1_0 : Ref sig .tc := ⟨.hbm, 314, rfl⟩
abbrev main_v70 : Ref sig .tc := ⟨.hbm, 315, rfl⟩
abbrev main_call7_c : Ref sig .tc := ⟨.hbm, 316, rfl⟩
abbrev main_call7_v0 : Ref sig .tc := ⟨.hbm, 317, rfl⟩
abbrev main_call7_v1 : Ref sig .tc := ⟨.hbm, 318, rfl⟩
abbrev main_call7_c_0 : Ref sig .tc := ⟨.hbm, 319, rfl⟩
abbrev main_call7_v2 : Ref sig .tc := ⟨.hbm, 320, rfl⟩
abbrev main_call7_v3 : Ref sig .tc := ⟨.hbm, 321, rfl⟩
abbrev main_call7_v4 : Ref sig .tc := ⟨.hbm, 322, rfl⟩
abbrev main_call7_v5 : Ref sig .tc := ⟨.hbm, 323, rfl⟩
abbrev main_call7_c_1 : Ref sig .tc := ⟨.hbm, 324, rfl⟩
abbrev main_call7_c_2 : Ref sig .tc := ⟨.hbm, 325, rfl⟩
abbrev main_call7_v6 : Ref sig .tc := ⟨.hbm, 326, rfl⟩
abbrev main_call7_v7 : Ref sig .tc := ⟨.hbm, 327, rfl⟩
abbrev main_call7_v8 : Ref sig .tc := ⟨.hbm, 328, rfl⟩
abbrev main_call7_v9 : Ref sig .tc := ⟨.hbm, 329, rfl⟩
abbrev main_call7_v10 : Ref sig .tc := ⟨.hbm, 330, rfl⟩
abbrev main_call7_v11 : Ref sig .tc := ⟨.hbm, 331, rfl⟩
abbrev main_call7_c_3 : Ref sig .tc := ⟨.hbm, 332, rfl⟩
abbrev main_call7_v12 : Ref sig .tc := ⟨.hbm, 333, rfl⟩
abbrev main_call7_v13 : Ref sig .tc := ⟨.hbm, 334, rfl⟩
abbrev main_call7_v14 : Ref sig .tc := ⟨.hbm, 335, rfl⟩
abbrev main_call7_cst : Ref sig .tc := ⟨.hbm, 336, rfl⟩
abbrev main_call7_v15 : Ref sig .tc := ⟨.hbm, 337, rfl⟩
abbrev main_v71 : Ref sig .tc := ⟨.hbm, 338, rfl⟩
abbrev main_v72 : Ref sig .tc := ⟨.hbm, 339, rfl⟩
abbrev main_v73 : Ref sig .tc := ⟨.hbm, 340, rfl⟩
abbrev main_call8_cst : Ref sig .tc := ⟨.hbm, 341, rfl⟩
abbrev main_call8_cst_0 : Ref sig .tc := ⟨.hbm, 342, rfl⟩
abbrev main_call8_v0 : Ref sig .tc := ⟨.hbm, 343, rfl⟩
abbrev main_call8_v1 : Ref sig .tc := ⟨.hbm, 344, rfl⟩
abbrev main_call8_cst_1 : Ref sig .tc := ⟨.hbm, 345, rfl⟩
abbrev main_call8_v2 : Ref sig .tc := ⟨.hbm, 346, rfl⟩
abbrev main_call8_v3 : Ref sig .tc := ⟨.hbm, 347, rfl⟩
abbrev main_call8_cst_2 : Ref sig .tc := ⟨.hbm, 348, rfl⟩
abbrev main_call8_v4 : Ref sig .tc := ⟨.hbm, 349, rfl⟩
abbrev main_call8_v5 : Ref sig .tc := ⟨.hbm, 350, rfl⟩
abbrev main_call8_cst_3 : Ref sig .tc := ⟨.hbm, 351, rfl⟩
abbrev main_call8_v6 : Ref sig .tc := ⟨.hbm, 352, rfl⟩
abbrev main_call8_v7 : Ref sig .tc := ⟨.hbm, 353, rfl⟩
abbrev main_call8_cst_4 : Ref sig .tc := ⟨.hbm, 354, rfl⟩
abbrev main_call8_v8 : Ref sig .tc := ⟨.hbm, 355, rfl⟩
abbrev main_call8_v9 : Ref sig .tc := ⟨.hbm, 356, rfl⟩
abbrev main_call8_v10 : Ref sig .tc := ⟨.hbm, 357, rfl⟩
abbrev main_call8_v11 : Ref sig .tc := ⟨.hbm, 358, rfl⟩
abbrev main_call8_v12 : Ref sig .tc := ⟨.hbm, 359, rfl⟩
abbrev main_call8_v13 : Ref sig .tc := ⟨.hbm, 360, rfl⟩
abbrev main_call8_v14 : Ref sig .tc := ⟨.hbm, 361, rfl⟩
abbrev main_call8_v15 : Ref sig .tc := ⟨.hbm, 362, rfl⟩
abbrev main_call8_v16 : Ref sig .tc := ⟨.hbm, 363, rfl⟩
abbrev main_call8_v17 : Ref sig .tc := ⟨.hbm, 364, rfl⟩
abbrev main_call8_v18 : Ref sig .tc := ⟨.hbm, 365, rfl⟩
abbrev main_call8_v19 : Ref sig .tc := ⟨.hbm, 366, rfl⟩
abbrev main_call8_v20 : Ref sig .tc := ⟨.hbm, 367, rfl⟩
abbrev main_call8_cst_5 : Ref sig .tc := ⟨.hbm, 368, rfl⟩
abbrev main_call8_v21 : Ref sig .tc := ⟨.hbm, 369, rfl⟩
abbrev main_call8_v22 : Ref sig .tc := ⟨.hbm, 370, rfl⟩
abbrev main_call8_cst_6 : Ref sig .tc := ⟨.hbm, 371, rfl⟩
abbrev main_call8_v23 : Ref sig .tc := ⟨.hbm, 372, rfl⟩
abbrev main_call8_v24 : Ref sig .tc := ⟨.hbm, 373, rfl⟩
abbrev main_call8_cst_7 : Ref sig .tc := ⟨.hbm, 374, rfl⟩
abbrev main_call8_v25 : Ref sig .tc := ⟨.hbm, 375, rfl⟩
abbrev main_call8_v26 : Ref sig .tc := ⟨.hbm, 376, rfl⟩
abbrev main_call8_v27 : Ref sig .tc := ⟨.hbm, 377, rfl⟩
abbrev main_call8_cst_8 : Ref sig .tc := ⟨.hbm, 378, rfl⟩
abbrev main_call8_v28 : Ref sig .tc := ⟨.hbm, 379, rfl⟩
abbrev main_call8_v29 : Ref sig .tc := ⟨.hbm, 380, rfl⟩
abbrev main_call8_cst_9 : Ref sig .tc := ⟨.hbm, 381, rfl⟩
abbrev main_call8_v30 : Ref sig .tc := ⟨.hbm, 382, rfl⟩
abbrev main_call8_v31 : Ref sig .tc := ⟨.hbm, 383, rfl⟩
abbrev main_call8_c : Ref sig .tc := ⟨.hbm, 384, rfl⟩
abbrev main_call8_call0_v0 : Ref sig .tc := ⟨.hbm, 385, rfl⟩
abbrev main_call8_call0_v1 : Ref sig .tc := ⟨.hbm, 386, rfl⟩
abbrev main_call8_v32 : Ref sig .tc := ⟨.hbm, 387, rfl⟩
abbrev main_call8_v33 : Ref sig .tc := ⟨.hbm, 388, rfl⟩
abbrev main_call8_v34 : Ref sig .tc := ⟨.hbm, 389, rfl⟩
abbrev main_call8_c_10 : Ref sig .tc := ⟨.hbm, 390, rfl⟩
abbrev main_call8_call1_v0 : Ref sig .tc := ⟨.hbm, 391, rfl⟩
abbrev main_call8_call1_v1 : Ref sig .tc := ⟨.hbm, 392, rfl⟩
abbrev main_call8_call1_v2 : Ref sig .tc := ⟨.hbm, 393, rfl⟩
abbrev main_call8_v35 : Ref sig .tc := ⟨.hbm, 394, rfl⟩
abbrev main_call8_cst_11 : Ref sig .tc := ⟨.hbm, 395, rfl⟩
abbrev main_call8_v36 : Ref sig .tc := ⟨.hbm, 396, rfl⟩
abbrev main_call8_v37 : Ref sig .tc := ⟨.hbm, 397, rfl⟩
abbrev main_call8_cst_12 : Ref sig .tc := ⟨.hbm, 398, rfl⟩
abbrev main_call8_v38 : Ref sig .tc := ⟨.hbm, 399, rfl⟩
abbrev main_call8_v39 : Ref sig .tc := ⟨.hbm, 400, rfl⟩
abbrev main_call8_v40 : Ref sig .tc := ⟨.hbm, 401, rfl⟩
abbrev main_call8_v41 : Ref sig .tc := ⟨.hbm, 402, rfl⟩
abbrev main_call8_c_13 : Ref sig .tc := ⟨.hbm, 403, rfl⟩
abbrev main_call8_call2_v0 : Ref sig .tc := ⟨.hbm, 404, rfl⟩
abbrev main_call8_call2_v1 : Ref sig .tc := ⟨.hbm, 405, rfl⟩
abbrev main_call8_call2_v2 : Ref sig .tc := ⟨.hbm, 406, rfl⟩
abbrev main_call8_v42 : Ref sig .tc := ⟨.hbm, 407, rfl⟩
abbrev main_v74 : Ref sig .tc := ⟨.hbm, 408, rfl⟩
abbrev main_cst_7 : Ref sig .tc := ⟨.hbm, 409, rfl⟩
abbrev main_v75 : Ref sig .tc := ⟨.hbm, 410, rfl⟩
abbrev main_v76 : Ref sig .tc := ⟨.hbm, 411, rfl⟩
abbrev main_v77 : Ref sig .tc := ⟨.hbm, 412, rfl⟩
abbrev main_v78 : Ref sig .tc := ⟨.hbm, 413, rfl⟩
abbrev main_v79 : Ref sig .tc := ⟨.hbm, 414, rfl⟩
abbrev main_v80 : Ref sig .tc := ⟨.hbm, 415, rfl⟩
abbrev main_c_8 : Ref sig .tc := ⟨.hbm, 416, rfl⟩
abbrev main_call9_v0 : Ref sig .tc := ⟨.hbm, 417, rfl⟩
abbrev main_v81 : Ref sig .tc := ⟨.hbm, 418, rfl⟩
abbrev main_v82 : Ref sig .tc := ⟨.hbm, 419, rfl⟩
abbrev main_v83 : Ref sig .tc := ⟨.hbm, 420, rfl⟩
abbrev main_v84 : Ref sig .tc := ⟨.hbm, 421, rfl⟩
abbrev main_v85 : Ref sig .tc := ⟨.hbm, 422, rfl⟩
abbrev main_v86 : Ref sig .tc := ⟨.hbm, 423, rfl⟩
abbrev main_v87 : Ref sig .tc := ⟨.hbm, 424, rfl⟩
abbrev main_v88 : Ref sig .tc := ⟨.hbm, 425, rfl⟩
abbrev main_v89 : Ref sig .tc := ⟨.hbm, 426, rfl⟩
abbrev main_v90 : Ref sig .tc := ⟨.hbm, 427, rfl⟩
abbrev main_v91 : Ref sig .tc := ⟨.hbm, 428, rfl⟩
abbrev main_v92 : Ref sig .tc := ⟨.hbm, 429, rfl⟩
abbrev main_v93 : Ref sig .tc := ⟨.hbm, 430, rfl⟩
abbrev main_v94 : Ref sig .tc := ⟨.hbm, 431, rfl⟩
abbrev main_v95 : Ref sig .tc := ⟨.hbm, 432, rfl⟩
abbrev main_v96 : Ref sig .tc := ⟨.hbm, 433, rfl⟩
abbrev main_v97 : Ref sig .tc := ⟨.hbm, 434, rfl⟩
abbrev main_v98 : Ref sig .tc := ⟨.hbm, 435, rfl⟩
abbrev main_v99 : Ref sig .tc := ⟨.hbm, 436, rfl⟩
abbrev main_v100 : Ref sig .tc := ⟨.hbm, 437, rfl⟩
abbrev main_v101 : Ref sig .tc := ⟨.hbm, 438, rfl⟩
abbrev main_cst_9 : Ref sig .tc := ⟨.hbm, 439, rfl⟩
abbrev main_v102 : Ref sig .tc := ⟨.hbm, 440, rfl⟩
abbrev main_v103 : Ref sig .tc := ⟨.hbm, 441, rfl⟩
abbrev main_v104 : Ref sig .tc := ⟨.hbm, 442, rfl⟩
abbrev main_v105 : Ref sig .tc := ⟨.hbm, 443, rfl⟩
abbrev main_v106 : Ref sig .tc := ⟨.hbm, 444, rfl⟩
abbrev main_call10_cst : Ref sig .tc := ⟨.hbm, 445, rfl⟩
abbrev main_call10_cst_0 : Ref sig .tc := ⟨.hbm, 446, rfl⟩
abbrev main_call10_v0 : Ref sig .tc := ⟨.hbm, 447, rfl⟩
abbrev main_call10_v1 : Ref sig .tc := ⟨.hbm, 448, rfl⟩
abbrev main_call10_cst_1 : Ref sig .tc := ⟨.hbm, 449, rfl⟩
abbrev main_call10_v2 : Ref sig .tc := ⟨.hbm, 450, rfl⟩
abbrev main_call10_v3 : Ref sig .tc := ⟨.hbm, 451, rfl⟩
abbrev main_call10_cst_2 : Ref sig .tc := ⟨.hbm, 452, rfl⟩
abbrev main_call10_v4 : Ref sig .tc := ⟨.hbm, 453, rfl⟩
abbrev main_call10_v5 : Ref sig .tc := ⟨.hbm, 454, rfl⟩
abbrev main_call10_cst_3 : Ref sig .tc := ⟨.hbm, 455, rfl⟩
abbrev main_call10_v6 : Ref sig .tc := ⟨.hbm, 456, rfl⟩
abbrev main_call10_v7 : Ref sig .tc := ⟨.hbm, 457, rfl⟩
abbrev main_call10_cst_4 : Ref sig .tc := ⟨.hbm, 458, rfl⟩
abbrev main_call10_v8 : Ref sig .tc := ⟨.hbm, 459, rfl⟩
abbrev main_call10_v9 : Ref sig .tc := ⟨.hbm, 460, rfl⟩
abbrev main_call10_v10 : Ref sig .tc := ⟨.hbm, 461, rfl⟩
abbrev main_call10_v11 : Ref sig .tc := ⟨.hbm, 462, rfl⟩
abbrev main_call10_v12 : Ref sig .tc := ⟨.hbm, 463, rfl⟩
abbrev main_call10_v13 : Ref sig .tc := ⟨.hbm, 464, rfl⟩
abbrev main_call10_v14 : Ref sig .tc := ⟨.hbm, 465, rfl⟩
abbrev main_call10_v15 : Ref sig .tc := ⟨.hbm, 466, rfl⟩
abbrev main_call10_v16 : Ref sig .tc := ⟨.hbm, 467, rfl⟩
abbrev main_call10_v17 : Ref sig .tc := ⟨.hbm, 468, rfl⟩
abbrev main_call10_v18 : Ref sig .tc := ⟨.hbm, 469, rfl⟩
abbrev main_call10_v19 : Ref sig .tc := ⟨.hbm, 470, rfl⟩
abbrev main_call10_v20 : Ref sig .tc := ⟨.hbm, 471, rfl⟩
abbrev main_call10_cst_5 : Ref sig .tc := ⟨.hbm, 472, rfl⟩
abbrev main_call10_v21 : Ref sig .tc := ⟨.hbm, 473, rfl⟩
abbrev main_call10_v22 : Ref sig .tc := ⟨.hbm, 474, rfl⟩
abbrev main_call10_cst_6 : Ref sig .tc := ⟨.hbm, 475, rfl⟩
abbrev main_call10_v23 : Ref sig .tc := ⟨.hbm, 476, rfl⟩
abbrev main_call10_v24 : Ref sig .tc := ⟨.hbm, 477, rfl⟩
abbrev main_call10_cst_7 : Ref sig .tc := ⟨.hbm, 478, rfl⟩
abbrev main_call10_v25 : Ref sig .tc := ⟨.hbm, 479, rfl⟩
abbrev main_call10_v26 : Ref sig .tc := ⟨.hbm, 480, rfl⟩
abbrev main_call10_v27 : Ref sig .tc := ⟨.hbm, 481, rfl⟩
abbrev main_call10_cst_8 : Ref sig .tc := ⟨.hbm, 482, rfl⟩
abbrev main_call10_v28 : Ref sig .tc := ⟨.hbm, 483, rfl⟩
abbrev main_call10_v29 : Ref sig .tc := ⟨.hbm, 484, rfl⟩
abbrev main_call10_cst_9 : Ref sig .tc := ⟨.hbm, 485, rfl⟩
abbrev main_call10_v30 : Ref sig .tc := ⟨.hbm, 486, rfl⟩
abbrev main_call10_v31 : Ref sig .tc := ⟨.hbm, 487, rfl⟩
abbrev main_call10_c : Ref sig .tc := ⟨.hbm, 488, rfl⟩
abbrev main_call10_call0_v0 : Ref sig .tc := ⟨.hbm, 489, rfl⟩
abbrev main_call10_call0_v1 : Ref sig .tc := ⟨.hbm, 490, rfl⟩
abbrev main_call10_v32 : Ref sig .tc := ⟨.hbm, 491, rfl⟩
abbrev main_call10_v33 : Ref sig .tc := ⟨.hbm, 492, rfl⟩
abbrev main_call10_v34 : Ref sig .tc := ⟨.hbm, 493, rfl⟩
abbrev main_call10_c_10 : Ref sig .tc := ⟨.hbm, 494, rfl⟩
abbrev main_call10_call1_v0 : Ref sig .tc := ⟨.hbm, 495, rfl⟩
abbrev main_call10_call1_v1 : Ref sig .tc := ⟨.hbm, 496, rfl⟩
abbrev main_call10_call1_v2 : Ref sig .tc := ⟨.hbm, 497, rfl⟩
abbrev main_call10_v35 : Ref sig .tc := ⟨.hbm, 498, rfl⟩
abbrev main_call10_cst_11 : Ref sig .tc := ⟨.hbm, 499, rfl⟩
abbrev main_call10_v36 : Ref sig .tc := ⟨.hbm, 500, rfl⟩
abbrev main_call10_v37 : Ref sig .tc := ⟨.hbm, 501, rfl⟩
abbrev main_call10_cst_12 : Ref sig .tc := ⟨.hbm, 502, rfl⟩
abbrev main_call10_v38 : Ref sig .tc := ⟨.hbm, 503, rfl⟩
abbrev main_call10_v39 : Ref sig .tc := ⟨.hbm, 504, rfl⟩
abbrev main_call10_v40 : Ref sig .tc := ⟨.hbm, 505, rfl⟩
abbrev main_call10_v41 : Ref sig .tc := ⟨.hbm, 506, rfl⟩
abbrev main_call10_c_13 : Ref sig .tc := ⟨.hbm, 507, rfl⟩
abbrev main_call10_call2_v0 : Ref sig .tc := ⟨.hbm, 508, rfl⟩
abbrev main_call10_call2_v1 : Ref sig .tc := ⟨.hbm, 509, rfl⟩
abbrev main_call10_call2_v2 : Ref sig .tc := ⟨.hbm, 510, rfl⟩
abbrev main_call10_v42 : Ref sig .tc := ⟨.hbm, 511, rfl⟩
abbrev main_v107 : Ref sig .tc := ⟨.hbm, 512, rfl⟩
abbrev main_v108 : Ref sig .tc := ⟨.hbm, 513, rfl⟩
abbrev main_v109 : Ref sig .tc := ⟨.hbm, 514, rfl⟩
abbrev main_v110 : Ref sig .tc := ⟨.hbm, 515, rfl⟩
abbrev main_cst_10 : Ref sig .tc := ⟨.hbm, 516, rfl⟩
abbrev main_v111 : Ref sig .tc := ⟨.hbm, 517, rfl⟩
abbrev main_v112 : Ref sig .tc := ⟨.hbm, 518, rfl⟩
abbrev main_v113 : Ref sig .tc := ⟨.hbm, 519, rfl⟩
abbrev main_v114 : Ref sig .tc := ⟨.hbm, 520, rfl⟩
abbrev main_cst_11 : Ref sig .tc := ⟨.hbm, 521, rfl⟩
abbrev main_v115 : Ref sig .tc := ⟨.hbm, 522, rfl⟩
abbrev main_v116 : Ref sig .tc := ⟨.hbm, 523, rfl⟩
abbrev main_v117 : Ref sig .tc := ⟨.hbm, 524, rfl⟩
abbrev main_v118 : Ref sig .tc := ⟨.hbm, 525, rfl⟩
abbrev main_v119 : Ref sig .tc := ⟨.hbm, 526, rfl⟩
abbrev main_v120 : Ref sig .tc := ⟨.hbm, 527, rfl⟩
abbrev main_v121 : Ref sig .tc := ⟨.hbm, 528, rfl⟩
abbrev main_call11_v0 : Ref sig .tc := ⟨.hbm, 529, rfl⟩
abbrev main_call11_cst : Ref sig .tc := ⟨.hbm, 530, rfl⟩
abbrev main_call11_c : Ref sig .tc := ⟨.hbm, 531, rfl⟩
abbrev main_call11_v1_0 : Ref sig .tc := ⟨.hbm, 532, rfl⟩
abbrev main_v122 : Ref sig .tc := ⟨.hbm, 533, rfl⟩
abbrev main_call12_c : Ref sig .tc := ⟨.hbm, 534, rfl⟩
abbrev main_call12_v0 : Ref sig .tc := ⟨.hbm, 535, rfl⟩
abbrev main_call12_v1 : Ref sig .tc := ⟨.hbm, 536, rfl⟩
abbrev main_call12_c_0 : Ref sig .tc := ⟨.hbm, 537, rfl⟩
abbrev main_call12_v2 : Ref sig .tc := ⟨.hbm, 538, rfl⟩
abbrev main_call12_v3 : Ref sig .tc := ⟨.hbm, 539, rfl⟩
abbrev main_call12_v4 : Ref sig .tc := ⟨.hbm, 540, rfl⟩
abbrev main_call12_v5 : Ref sig .tc := ⟨.hbm, 541, rfl⟩
abbrev main_call12_c_1 : Ref sig .tc := ⟨.hbm, 542, rfl⟩
abbrev main_call12_c_2 : Ref sig .tc := ⟨.hbm, 543, rfl⟩
abbrev main_call12_v6 : Ref sig .tc := ⟨.hbm, 544, rfl⟩
abbrev main_call12_v7 : Ref sig .tc := ⟨.hbm, 545, rfl⟩
abbrev main_call12_v8 : Ref sig .tc := ⟨.hbm, 546, rfl⟩
abbrev main_call12_v9 : Ref sig .tc := ⟨.hbm, 547, rfl⟩
abbrev main_call12_v10 : Ref sig .tc := ⟨.hbm, 548, rfl⟩
abbrev main_call12_v11 : Ref sig .tc := ⟨.hbm, 549, rfl⟩
abbrev main_call12_c_3 : Ref sig .tc := ⟨.hbm, 550, rfl⟩
abbrev main_call12_v12 : Ref sig .tc := ⟨.hbm, 551, rfl⟩
abbrev main_call12_v13 : Ref sig .tc := ⟨.hbm, 552, rfl⟩
abbrev main_call12_v14 : Ref sig .tc := ⟨.hbm, 553, rfl⟩
abbrev main_call12_cst : Ref sig .tc := ⟨.hbm, 554, rfl⟩
abbrev main_call12_v15 : Ref sig .tc := ⟨.hbm, 555, rfl⟩
abbrev main_v123 : Ref sig .tc := ⟨.hbm, 556, rfl⟩
abbrev main_v124 : Ref sig .tc := ⟨.hbm, 557, rfl⟩
abbrev main_v125 : Ref sig .tc := ⟨.hbm, 558, rfl⟩
abbrev main_call13_cst : Ref sig .tc := ⟨.hbm, 559, rfl⟩
abbrev main_call13_cst_0 : Ref sig .tc := ⟨.hbm, 560, rfl⟩
abbrev main_call13_v0 : Ref sig .tc := ⟨.hbm, 561, rfl⟩
abbrev main_call13_v1 : Ref sig .tc := ⟨.hbm, 562, rfl⟩
abbrev main_call13_cst_1 : Ref sig .tc := ⟨.hbm, 563, rfl⟩
abbrev main_call13_v2 : Ref sig .tc := ⟨.hbm, 564, rfl⟩
abbrev main_call13_v3 : Ref sig .tc := ⟨.hbm, 565, rfl⟩
abbrev main_call13_cst_2 : Ref sig .tc := ⟨.hbm, 566, rfl⟩
abbrev main_call13_v4 : Ref sig .tc := ⟨.hbm, 567, rfl⟩
abbrev main_call13_v5 : Ref sig .tc := ⟨.hbm, 568, rfl⟩
abbrev main_call13_cst_3 : Ref sig .tc := ⟨.hbm, 569, rfl⟩
abbrev main_call13_v6 : Ref sig .tc := ⟨.hbm, 570, rfl⟩
abbrev main_call13_v7 : Ref sig .tc := ⟨.hbm, 571, rfl⟩
abbrev main_call13_cst_4 : Ref sig .tc := ⟨.hbm, 572, rfl⟩
abbrev main_call13_v8 : Ref sig .tc := ⟨.hbm, 573, rfl⟩
abbrev main_call13_v9 : Ref sig .tc := ⟨.hbm, 574, rfl⟩
abbrev main_call13_v10 : Ref sig .tc := ⟨.hbm, 575, rfl⟩
abbrev main_call13_v11 : Ref sig .tc := ⟨.hbm, 576, rfl⟩
abbrev main_call13_v12 : Ref sig .tc := ⟨.hbm, 577, rfl⟩
abbrev main_call13_v13 : Ref sig .tc := ⟨.hbm, 578, rfl⟩
abbrev main_call13_v14 : Ref sig .tc := ⟨.hbm, 579, rfl⟩
abbrev main_call13_v15 : Ref sig .tc := ⟨.hbm, 580, rfl⟩
abbrev main_call13_v16 : Ref sig .tc := ⟨.hbm, 581, rfl⟩
abbrev main_call13_v17 : Ref sig .tc := ⟨.hbm, 582, rfl⟩
abbrev main_call13_v18 : Ref sig .tc := ⟨.hbm, 583, rfl⟩
abbrev main_call13_v19 : Ref sig .tc := ⟨.hbm, 584, rfl⟩
abbrev main_call13_v20 : Ref sig .tc := ⟨.hbm, 585, rfl⟩
abbrev main_call13_cst_5 : Ref sig .tc := ⟨.hbm, 586, rfl⟩
abbrev main_call13_v21 : Ref sig .tc := ⟨.hbm, 587, rfl⟩
abbrev main_call13_v22 : Ref sig .tc := ⟨.hbm, 588, rfl⟩
abbrev main_call13_cst_6 : Ref sig .tc := ⟨.hbm, 589, rfl⟩
abbrev main_call13_v23 : Ref sig .tc := ⟨.hbm, 590, rfl⟩
abbrev main_call13_v24 : Ref sig .tc := ⟨.hbm, 591, rfl⟩
abbrev main_call13_cst_7 : Ref sig .tc := ⟨.hbm, 592, rfl⟩
abbrev main_call13_v25 : Ref sig .tc := ⟨.hbm, 593, rfl⟩
abbrev main_call13_v26 : Ref sig .tc := ⟨.hbm, 594, rfl⟩
abbrev main_call13_v27 : Ref sig .tc := ⟨.hbm, 595, rfl⟩
abbrev main_call13_cst_8 : Ref sig .tc := ⟨.hbm, 596, rfl⟩
abbrev main_call13_v28 : Ref sig .tc := ⟨.hbm, 597, rfl⟩
abbrev main_call13_v29 : Ref sig .tc := ⟨.hbm, 598, rfl⟩
abbrev main_call13_cst_9 : Ref sig .tc := ⟨.hbm, 599, rfl⟩
abbrev main_call13_v30 : Ref sig .tc := ⟨.hbm, 600, rfl⟩
abbrev main_call13_v31 : Ref sig .tc := ⟨.hbm, 601, rfl⟩
abbrev main_call13_c : Ref sig .tc := ⟨.hbm, 602, rfl⟩
abbrev main_call13_call0_v0 : Ref sig .tc := ⟨.hbm, 603, rfl⟩
abbrev main_call13_call0_v1 : Ref sig .tc := ⟨.hbm, 604, rfl⟩
abbrev main_call13_v32 : Ref sig .tc := ⟨.hbm, 605, rfl⟩
abbrev main_call13_v33 : Ref sig .tc := ⟨.hbm, 606, rfl⟩
abbrev main_call13_v34 : Ref sig .tc := ⟨.hbm, 607, rfl⟩
abbrev main_call13_c_10 : Ref sig .tc := ⟨.hbm, 608, rfl⟩
abbrev main_call13_call1_v0 : Ref sig .tc := ⟨.hbm, 609, rfl⟩
abbrev main_call13_call1_v1 : Ref sig .tc := ⟨.hbm, 610, rfl⟩
abbrev main_call13_call1_v2 : Ref sig .tc := ⟨.hbm, 611, rfl⟩
abbrev main_call13_v35 : Ref sig .tc := ⟨.hbm, 612, rfl⟩
abbrev main_call13_cst_11 : Ref sig .tc := ⟨.hbm, 613, rfl⟩
abbrev main_call13_v36 : Ref sig .tc := ⟨.hbm, 614, rfl⟩
abbrev main_call13_v37 : Ref sig .tc := ⟨.hbm, 615, rfl⟩
abbrev main_call13_cst_12 : Ref sig .tc := ⟨.hbm, 616, rfl⟩
abbrev main_call13_v38 : Ref sig .tc := ⟨.hbm, 617, rfl⟩
abbrev main_call13_v39 : Ref sig .tc := ⟨.hbm, 618, rfl⟩
abbrev main_call13_v40 : Ref sig .tc := ⟨.hbm, 619, rfl⟩
abbrev main_call13_v41 : Ref sig .tc := ⟨.hbm, 620, rfl⟩
abbrev main_call13_c_13 : Ref sig .tc := ⟨.hbm, 621, rfl⟩
abbrev main_call13_call2_v0 : Ref sig .tc := ⟨.hbm, 622, rfl⟩
abbrev main_call13_call2_v1 : Ref sig .tc := ⟨.hbm, 623, rfl⟩
abbrev main_call13_call2_v2 : Ref sig .tc := ⟨.hbm, 624, rfl⟩
abbrev main_call13_v42 : Ref sig .tc := ⟨.hbm, 625, rfl⟩
abbrev main_v126 : Ref sig .tc := ⟨.hbm, 626, rfl⟩
abbrev main_cst_12 : Ref sig .tc := ⟨.hbm, 627, rfl⟩
abbrev main_v127 : Ref sig .tc := ⟨.hbm, 628, rfl⟩
abbrev main_v128 : Ref sig .tc := ⟨.hbm, 629, rfl⟩
abbrev main_v129 : Ref sig .tc := ⟨.hbm, 630, rfl⟩
abbrev main_v130 : Ref sig .tc := ⟨.hbm, 631, rfl⟩
abbrev main_v131 : Ref sig .tc := ⟨.hbm, 632, rfl⟩
abbrev main_v132 : Ref sig .tc := ⟨.hbm, 633, rfl⟩
abbrev main_c_13 : Ref sig .tc := ⟨.hbm, 634, rfl⟩
abbrev main_call14_v0 : Ref sig .tc := ⟨.hbm, 635, rfl⟩
abbrev main_v133 : Ref sig .tc := ⟨.hbm, 636, rfl⟩
abbrev main_v134 : Ref sig .tc := ⟨.hbm, 637, rfl⟩
abbrev main_v135 : Ref sig .tc := ⟨.hbm, 638, rfl⟩
abbrev main_v136 : Ref sig .tc := ⟨.hbm, 639, rfl⟩
abbrev main_v137 : Ref sig .tc := ⟨.hbm, 640, rfl⟩
abbrev main_v138 : Ref sig .tc := ⟨.hbm, 641, rfl⟩
abbrev main_v139 : Ref sig .tc := ⟨.hbm, 642, rfl⟩
abbrev main_v140 : Ref sig .tc := ⟨.hbm, 643, rfl⟩
abbrev main_v141 : Ref sig .tc := ⟨.hbm, 644, rfl⟩
abbrev main_v142 : Ref sig .tc := ⟨.hbm, 645, rfl⟩
abbrev main_v143 : Ref sig .tc := ⟨.hbm, 646, rfl⟩
abbrev main_v144 : Ref sig .tc := ⟨.hbm, 647, rfl⟩
abbrev main_v145 : Ref sig .tc := ⟨.hbm, 648, rfl⟩
abbrev main_v146 : Ref sig .tc := ⟨.hbm, 649, rfl⟩
abbrev main_v147 : Ref sig .tc := ⟨.hbm, 650, rfl⟩
abbrev main_v148 : Ref sig .tc := ⟨.hbm, 651, rfl⟩
abbrev main_v149 : Ref sig .tc := ⟨.hbm, 652, rfl⟩
abbrev main_v150 : Ref sig .tc := ⟨.hbm, 653, rfl⟩
abbrev main_v151 : Ref sig .tc := ⟨.hbm, 654, rfl⟩
abbrev main_v152 : Ref sig .tc := ⟨.hbm, 655, rfl⟩
abbrev main_v153 : Ref sig .tc := ⟨.hbm, 656, rfl⟩
abbrev main_cst_14 : Ref sig .tc := ⟨.hbm, 657, rfl⟩
abbrev main_v154 : Ref sig .tc := ⟨.hbm, 658, rfl⟩
abbrev main_v155 : Ref sig .tc := ⟨.hbm, 659, rfl⟩
abbrev main_v156 : Ref sig .tc := ⟨.hbm, 660, rfl⟩
abbrev main_v157 : Ref sig .tc := ⟨.hbm, 661, rfl⟩
abbrev main_v158 : Ref sig .tc := ⟨.hbm, 662, rfl⟩
abbrev main_v159 : Ref sig .tc := ⟨.hbm, 663, rfl⟩
abbrev main_v160 : Ref sig .tc := ⟨.hbm, 664, rfl⟩
abbrev main_v161 : Ref sig .tc := ⟨.hbm, 665, rfl⟩
abbrev main_cst_15 : Ref sig .tc := ⟨.hbm, 666, rfl⟩
abbrev main_v162 : Ref sig .tc := ⟨.hbm, 667, rfl⟩
abbrev main_v163 : Ref sig .tc := ⟨.hbm, 668, rfl⟩
abbrev main_v164 : Ref sig .tc := ⟨.hbm, 669, rfl⟩
abbrev main_v165 : Ref sig .tc := ⟨.hbm, 670, rfl⟩
abbrev main_cst_16 : Ref sig .tc := ⟨.hbm, 671, rfl⟩
abbrev main_v166 : Ref sig .tc := ⟨.hbm, 672, rfl⟩
abbrev main_v167 : Ref sig .tc := ⟨.hbm, 673, rfl⟩
abbrev main_v168 : Ref sig .tc := ⟨.hbm, 674, rfl⟩
abbrev main_v169 : Ref sig .tc := ⟨.hbm, 675, rfl⟩
abbrev main_v170 : Ref sig .tc := ⟨.hbm, 676, rfl⟩
abbrev main_v171 : Ref sig .tc := ⟨.hbm, 677, rfl⟩
abbrev main_v172 : Ref sig .tc := ⟨.hbm, 678, rfl⟩
abbrev main_call15_v0 : Ref sig .tc := ⟨.hbm, 679, rfl⟩
abbrev main_call15_cst : Ref sig .tc := ⟨.hbm, 680, rfl⟩
abbrev main_call15_c : Ref sig .tc := ⟨.hbm, 681, rfl⟩
abbrev main_call15_v1_0 : Ref sig .tc := ⟨.hbm, 682, rfl⟩
abbrev main_v173 : Ref sig .tc := ⟨.hbm, 683, rfl⟩
abbrev main_call16_c : Ref sig .tc := ⟨.hbm, 684, rfl⟩
abbrev main_call16_v0 : Ref sig .tc := ⟨.hbm, 685, rfl⟩
abbrev main_call16_v1 : Ref sig .tc := ⟨.hbm, 686, rfl⟩
abbrev main_call16_c_0 : Ref sig .tc := ⟨.hbm, 687, rfl⟩
abbrev main_call16_v2 : Ref sig .tc := ⟨.hbm, 688, rfl⟩
abbrev main_call16_v3 : Ref sig .tc := ⟨.hbm, 689, rfl⟩
abbrev main_call16_v4 : Ref sig .tc := ⟨.hbm, 690, rfl⟩
abbrev main_call16_v5 : Ref sig .tc := ⟨.hbm, 691, rfl⟩
abbrev main_call16_c_1 : Ref sig .tc := ⟨.hbm, 692, rfl⟩
abbrev main_call16_c_2 : Ref sig .tc := ⟨.hbm, 693, rfl⟩
abbrev main_call16_v6 : Ref sig .tc := ⟨.hbm, 694, rfl⟩
abbrev main_call16_v7 : Ref sig .tc := ⟨.hbm, 695, rfl⟩
abbrev main_call16_v8 : Ref sig .tc := ⟨.hbm, 696, rfl⟩
abbrev main_call16_v9 : Ref sig .tc := ⟨.hbm, 697, rfl⟩
abbrev main_call16_v10 : Ref sig .tc := ⟨.hbm, 698, rfl⟩
abbrev main_call16_v11 : Ref sig .tc := ⟨.hbm, 699, rfl⟩
abbrev main_call16_c_3 : Ref sig .tc := ⟨.hbm, 700, rfl⟩
abbrev main_call16_v12 : Ref sig .tc := ⟨.hbm, 701, rfl⟩
abbrev main_call16_v13 : Ref sig .tc := ⟨.hbm, 702, rfl⟩
abbrev main_call16_v14 : Ref sig .tc := ⟨.hbm, 703, rfl⟩
abbrev main_call16_cst : Ref sig .tc := ⟨.hbm, 704, rfl⟩
abbrev main_call16_v15 : Ref sig .tc := ⟨.hbm, 705, rfl⟩
abbrev main_v174 : Ref sig .tc := ⟨.hbm, 706, rfl⟩
abbrev main_v175 : Ref sig .tc := ⟨.hbm, 707, rfl⟩
abbrev main_v176 : Ref sig .tc := ⟨.hbm, 708, rfl⟩
abbrev main_cst_17 : Ref sig .tc := ⟨.hbm, 709, rfl⟩
abbrev main_v177 : Ref sig .tc := ⟨.hbm, 710, rfl⟩
abbrev main_v178 : Ref sig .tc := ⟨.hbm, 711, rfl⟩
abbrev main_v179 : Ref sig .tc := ⟨.hbm, 712, rfl⟩
abbrev main_v180 : Ref sig .tc := ⟨.hbm, 713, rfl⟩
abbrev main_v181 : Ref sig .tc := ⟨.hbm, 714, rfl⟩
abbrev main_v182 : Ref sig .tc := ⟨.hbm, 715, rfl⟩
abbrev main_c_18 : Ref sig .tc := ⟨.hbm, 716, rfl⟩
abbrev main_call17_v0 : Ref sig .tc := ⟨.hbm, 717, rfl⟩
abbrev main_v183 : Ref sig .tc := ⟨.hbm, 718, rfl⟩
abbrev main_v184 : Ref sig .tc := ⟨.hbm, 719, rfl⟩
abbrev main_v185 : Ref sig .tc := ⟨.hbm, 720, rfl⟩
abbrev main_v186 : Ref sig .tc := ⟨.hbm, 721, rfl⟩
abbrev main_v187 : Ref sig .tc := ⟨.hbm, 722, rfl⟩
abbrev main_v188 : Ref sig .tc := ⟨.hbm, 723, rfl⟩
abbrev main_v189 : Ref sig .tc := ⟨.hbm, 724, rfl⟩
abbrev main_v190 : Ref sig .tc := ⟨.hbm, 725, rfl⟩
abbrev main_v191 : Ref sig .tc := ⟨.hbm, 726, rfl⟩
abbrev main_v192 : Ref sig .tc := ⟨.hbm, 727, rfl⟩
abbrev main_v193 : Ref sig .tc := ⟨.hbm, 728, rfl⟩
abbrev main_v194 : Ref sig .tc := ⟨.hbm, 729, rfl⟩
abbrev main_v195 : Ref sig .tc := ⟨.hbm, 730, rfl⟩
abbrev main_v196 : Ref sig .tc := ⟨.hbm, 731, rfl⟩
abbrev main_v197 : Ref sig .tc := ⟨.hbm, 732, rfl⟩
abbrev main_v198 : Ref sig .tc := ⟨.hbm, 733, rfl⟩
abbrev main_v199 : Ref sig .tc := ⟨.hbm, 734, rfl⟩
abbrev main_v200 : Ref sig .tc := ⟨.hbm, 735, rfl⟩
abbrev main_v201 : Ref sig .tc := ⟨.hbm, 736, rfl⟩
abbrev main_v202 : Ref sig .tc := ⟨.hbm, 737, rfl⟩
abbrev main_v203 : Ref sig .tc := ⟨.hbm, 738, rfl⟩
abbrev main_cst_19 : Ref sig .tc := ⟨.hbm, 739, rfl⟩
abbrev main_v204 : Ref sig .tc := ⟨.hbm, 740, rfl⟩
abbrev main_v205 : Ref sig .tc := ⟨.hbm, 741, rfl⟩
abbrev main_v206 : Ref sig .tc := ⟨.hbm, 742, rfl⟩
abbrev main_v207 : Ref sig .tc := ⟨.hbm, 743, rfl⟩
abbrev main_v208 : Ref sig .tc := ⟨.hbm, 744, rfl⟩

abbrev nD : Nat := 1
abbrev τ : Topo := Topo.v7x

variable {F : FTy → Type} [FloatOps F]
-- ==== Proof.Model.lean ====
/- The mathematics of the residual quantizer, free of any program: one batch row is a function of a channel and a time, a
   stage resamples it, takes the nearest code at every time, resamples back, adds the convolution and subtracts. Also the
   one fact of order theory the two programs differ by: the first greatest of `2 s - q` is the first least of
   `zz - 2 s + q` as long as everything is finite. -/
module

public import Idealize.ShloMosaic.PureOps.Ideal.Laws
public import Idealize.ShloMosaic.Lib.ValueIdx

@[expose] public section

noncomputable section

namespace Cert.Proof.Vq

open Idealize.ShloMosaic

/-! ### Finite values -/

/-- An extended real that is a real number. -/
def Real' (x : EReal) : Prop := ∃ r : ℝ, x = (r : EReal)

theorem Real'.zero : Real' 0 := ⟨0, rfl⟩
theorem Real'.one : Real' 1 := ⟨1, rfl⟩
theorem Real'.add {x y : EReal} : Real' x → Real' y → Real' (x + y) := by
  rintro ⟨a, rfl⟩ ⟨b, rfl⟩; exact ⟨a + b, by simp⟩
theorem Real'.sub {x y : EReal} : Real' x → Real' y → Real' (x - y) := by
  rintro ⟨a, rfl⟩ ⟨b, rfl⟩; exact ⟨a - b, by simp⟩
theorem Real'.neg {x : EReal} : Real' x → Real' (-x) := by
  rintro ⟨a, rfl⟩; exact ⟨-a, by simp⟩
theorem Real'.mul {x y : EReal} : Real' x → Real' y → Real' (x * y) := by
  rintro ⟨a, rfl⟩ ⟨b, rfl⟩; exact ⟨a * b, by simp⟩
theorem Real'.maximum {x y : EReal} (hx : Real' x) (hy : Real' y) : Real' (max x y) := by
  rcases max_choice x y with h | h <;> rw [h] <;> assumption
theorem Real'.sum {ι : Type*} (s : Finset ι) (f : ι → EReal) (h : ∀ i ∈ s, Real' (f i)) : Real' (∑ i ∈ s, f i) := by
  classical
  induction s using Finset.induction_on with
  | empty => exact Real'.zero
  | insert a s ha ih =>
    rw [Finset.sum_insert ha]
    exact (h a (Finset.mem_insert_self a s)).add (ih fun i hi => h i (Finset.mem_insert_of_mem hi))
theorem Real'.of_max_neg_lt {x : EReal} (h : max x (-x) < ⊤) : Real' x := by
  induction x using EReal.rec with
  | bot => simp at h
  | coe r => exact ⟨r, rfl⟩
  | top => simp at h
theorem Real'.sub_self {x : EReal} (h : Real' x) : x - x = 0 := by
  obtain ⟨a, rfl⟩ := h; rw [← EReal.coe_sub]; simp
theorem Real'.sub_zero_self {x : EReal} (h : Real' x) : x - 0 = x := by simp

/-- The value of the literal 2. -/
abbrev two : EReal := Ideal.ofBits .f32 0x40000000#32
/-- The value of the literal 1/2. -/
abbrev half : EReal := Ideal.ofBits .f32 0x3F000000#32

theorem real_ofBits_two : Real' two := ⟨_, by simp [Ideal.ofBits, Ideal.ieee]; rfl⟩
theorem real_ofBits_half : Real' half := ⟨_, by simp [Ideal.ofBits, Ideal.ieee]; rfl⟩

/-! ### The first greatest -/

section First
variable {n : ℕ}

/-- `k` is the first place where `v` takes its greatest value. -/
def IsFirst (v : Fin n → EReal) (k : Fin n) : Prop := (∀ j, v j ≤ v k) ∧ ∀ j < k, v j < v k

theorem IsFirst.unique {v : Fin n → EReal} {k k' : Fin n} (h : IsFirst v k) (h' : IsFirst v k') : k = k' := by
  rcases lt_trichotomy k k' with hk | hk | hk
  · exact absurd (h'.2 k hk) (not_lt.2 (h.1 k'))
  · exact hk
  · exact absurd (h.2 k' hk) (not_lt.2 (h'.1 k))

theorem exists_isFirst [NeZero n] (v : Fin n → EReal) : ∃ k, IsFirst v k := by
  classical
  obtain ⟨m, -, hm⟩ := Finset.exists_max_image (Finset.univ : Finset (Fin n)) v ⟨0, Finset.mem_univ _⟩
  let S := (Finset.univ : Finset (Fin n)).filter fun k => v k = v m
  have hS : S.Nonempty := ⟨m, by simp [S]⟩
  have hk : v (S.min' hS) = v m := (Finset.mem_filter.1 (S.min'_mem hS)).2
  refine ⟨S.min' hS, fun j => hk ▸ hm j (Finset.mem_univ _), fun j hj => ?_⟩
  rw [hk]
  refine lt_of_le_of_ne (hm j (Finset.mem_univ _)) fun e => ?_
  exact absurd (S.min'_le j (Finset.mem_filter.2 ⟨Finset.mem_univ _, e⟩)) (not_le.2 hj)

/-- The first place where `v` takes its greatest value. -/
def first [NeZero n] (v : Fin n → EReal) : Fin n := Classical.choose (exists_isFirst v)
theorem first_spec [NeZero n] (v : Fin n → EReal) : IsFirst v (first v) := Classical.choose_spec (exists_isFirst v)
theorem IsFirst.eq_first [NeZero n] {v : Fin n → EReal} {k : Fin n} (h : IsFirst v k) : k = first v := h.unique (first_spec v)

/-- The first least distance `zz - 2 s + q` is the first greatest `2 s - q`, for finite values. -/
theorem isFirst_of_least [NeZero n] {zz : EReal} {s q : Fin n → EReal} (hz : Real' zz) (hs : ∀ k, Real' (s k))
    (hq : ∀ k, Real' (q k)) {k : Fin n} (h1 : ∀ j, zz - s k + q k ≤ zz - s j + q j)
    (h2 : ∀ j < k, zz - s k + q k < zz - s j + q j) : IsFirst (fun j => s j - q j) k := by
  obtain ⟨z, rfl⟩ := hz
  choose s' hs' using hs
  choose q' hq' using hq
  obtain rfl : s = fun k => (s' k : EReal) := funext hs'
  obtain rfl : q = fun k => (q' k : EReal) := funext hq'
  simp only [← EReal.coe_sub, ← EReal.coe_add, EReal.coe_le_coe_iff, EReal.coe_lt_coe_iff, IsFirst] at h1 h2 ⊢
  exact ⟨fun j => by have := h1 j; linarith, fun j hj => by have := h2 j hj; linarith⟩

end First

/-! ### One stage of one batch row -/

/-- A row: a value per channel and time. -/
abbrev Row (n : ℕ) := Fin 256 → Fin n → EReal

/-- The square of a code's length. -/
def sq (cb : Fin 1024 → Fin 256 → EReal) (k : Fin 1024) : EReal := ∑ c, cb k c * cb k c
/-- Twice the product with a code, less its squared length. -/
def score {n : ℕ} (cb : Fin 1024 → Fin 256 → EReal) (z : Row n) (j : Fin n) (k : Fin 1024) : EReal :=
  two * (∑ c, z c j * cb k c) - sq cb k
/-- The nearest code at every time. -/
def code {n : ℕ} (cb : Fin 1024 → Fin 256 → EReal) (z : Row n) : Row n := fun c j => cb (first (score cb z j)) c
/-- A row resampled by a matrix of weights. -/
def resample {n m : ℕ} (W : Fin n → Fin m → EReal) (r : Row n) : Row m := fun c j => ∑ t, r c t * W t j
/-- The value one time earlier, zero before the first. -/
def prev (h : Row 256) : Row 256 := fun c t => if ht : t.val = 0 then 0 else h c ⟨t.val - 1, by omega⟩
/-- The value one time later, zero after the last. -/
def next (h : Row 256) : Row 256 := fun c t => if ht : t.val = 255 then 0 else h c ⟨t.val + 1, by omega⟩
/-- The convolution of three taps with its bias. -/
def conv (w : Fin 3 → Fin 256 → Fin 256 → EReal) (b : Fin 256 → EReal) (h : Row 256) : Row 256 := fun o t =>
  ((∑ c, w 0 o c * prev h c t) + (∑ c, w 1 o c * h c t) + ∑ c, w 2 o c * next h c t) + b o
/-- Half the row and half its convolution. -/
def phi (w : Fin 3 → Fin 256 → Fin 256 → EReal) (b : Fin 256 → EReal) (h : Row 256) : Row 256 := fun o t =>
  h o t * half + conv w b h o t * half

/-- The row quantized at `n` times and brought back to all 256. -/
def quant {n : ℕ} (cb : Fin 1024 → Fin 256 → EReal) (Wd : Fin 256 → Fin n → EReal) (Wu : Fin n → Fin 256 → EReal)
    (r : Row 256) : Row 256 := resample Wu (code cb (resample Wd r))

/-- The difference of two rows. -/
def less (r h : Row 256) : Row 256 := fun c t => r c t - h c t
/-- The sum of two rows. -/
def plus (f h : Row 256) : Row 256 := fun c t => f c t + h c t

/-! Finite arguments stay finite. -/

/-- Every entry of a row is finite. -/
def RealRow {n : ℕ} (r : Row n) : Prop := ∀ c t, Real' (r c t)

variable {cb : Fin 1024 → Fin 256 → EReal} (hcb : ∀ k c, Real' (cb k c))
include hcb

theorem real_sq (k : Fin 1024) : Real' (sq cb k) := Real'.sum _ _ fun c _ => (hcb k c).mul (hcb k c)
theorem real_code {n : ℕ} (z : Row n) : RealRow (code cb z) := fun c j => hcb _ c
omit hcb in
theorem real_resample {n m : ℕ} {W : Fin n → Fin m → EReal} (hW : ∀ i j, Real' (W i j)) {r : Row n} (hr : RealRow r) :
    RealRow (resample W r) := fun c j => Real'.sum _ _ fun t _ => (hr c t).mul (hW t j)
omit hcb in
theorem real_prev {h : Row 256} (hh : RealRow h) : RealRow (prev h) := fun c t => by
  unfold prev; split
  · exact Real'.zero
  · exact hh _ _
omit hcb in
theorem real_next {h : Row 256} (hh : RealRow h) : RealRow (next h) := fun c t => by
  unfold next; split
  · exact Real'.zero
  · exact hh _ _
omit hcb in
theorem real_phi {w : Fin 3 → Fin 256 → Fin 256 → EReal} (hw : ∀ k o c, Real' (w k o c)) {b : Fin 256 → EReal}
    (hb : ∀ o, Real' (b o)) {h : Row 256} (hh : RealRow h) : RealRow (phi w b h) := fun o t =>
  ((hh o t).mul real_ofBits_half).add ((((Real'.sum _ _ fun c _ => (hw 0 o c).mul (real_prev hh c t)).add
    (Real'.sum _ _ fun c _ => (hw 1 o c).mul (hh c t))).add
    (Real'.sum _ _ fun c _ => (hw 2 o c).mul (real_next hh c t))).add (hb o) |>.mul real_ofBits_half)
omit hcb in
theorem real_less {r h : Row 256} (hr : RealRow r) (hh : RealRow h) : RealRow (less r h) := fun c t => (hr c t).sub (hh c t)

theorem real_quant {n : ℕ} {Wd : Fin 256 → Fin n → EReal} {Wu : Fin n → Fin 256 → EReal} (hu : ∀ i j, Real' (Wu i j))
    (r : Row 256) : RealRow (quant cb Wd Wu r) := real_resample hu (real_code hcb _)

/-! ### The four stages of one batch row -/

/-- The weights of three resamplings to fewer times and of three back. -/
structure Weights where
  d1 : Fin 256 → Fin 32 → EReal
  d2 : Fin 256 → Fin 64 → EReal
  d3 : Fin 256 → Fin 128 → EReal
  u1 : Fin 32 → Fin 256 → EReal
  u2 : Fin 64 → Fin 256 → EReal
  u3 : Fin 128 → Fin 256 → EReal

section Stages
variable (cb : Fin 1024 → Fin 256 → EReal) (W : Weights) (w : Fin 4 → Fin 3 → Fin 256 → Fin 256 → EReal)
  (b : Fin 4 → Fin 256 → EReal) (x : Row 256)

/-- What the first stage adds. -/
def h1 : Row 256 := phi (w 0) (b 0) (quant cb W.d1 W.u1 x)
/-- What is left after the first stage. -/
def r1 : Row 256 := less x (h1 cb W w b x)
/-- What the second stage adds. -/
def h2 : Row 256 := phi (w 1) (b 1) (quant cb W.d2 W.u2 (r1 cb W w b x))
/-- What is left after the second stage. -/
def r2 : Row 256 := less (r1 cb W w b x) (h2 cb W w b x)
/-- What the third stage adds. -/
def h3 : Row 256 := phi (w 2) (b 2) (quant cb W.d3 W.u3 (r2 cb W w b x))
/-- What is left after the third stage. -/
def r3 : Row 256 := less (r2 cb W w b x) (h3 cb W w b x)
/-- What the last stage adds, at full length. -/
def h4 : Row 256 := phi (w 3) (b 3) (code cb (r3 cb W w b x))
/-- The sum of the four. -/
def total : Row 256 := plus (plus (plus (plus (fun _ _ => 0) (h1 cb W w b x)) (h2 cb W w b x)) (h3 cb W w b x)) (h4 cb W w b x)
end Stages

end Cert.Proof.Vq
-- ==== Proof.Ops.lean ====
/- The kernel's body on the lane axis: eight batch rows laid end to end as one array of 256 channels. Each step of a stage is
   named here once, at any number of times per row, and read at one lane; `rowOf` cuts a batch row out, and every step on
   the whole array is the model's step on each row. -/
module

public import proofs.«01_k».proof.Proof.Model
public import Idealize.ShloMosaic.Lib.MatmulPlain
public import Idealize.ShloMosaic.Lib.Pipeline.Value
public import Idealize.ShloMosaic.PureOps.Reduce

@[expose] public section

noncomputable section

namespace Cert.Proof.Vq

open Idealize.ShloMosaic Idealize.ShloMosaic.ValueIdx
open scoped BigOperators

/-- The shape of a matrix. -/
abbrev Mat (a b : ℕ) : Shape := ⟨2, ![a, b]⟩

/-! ### Two products -/

/-- The dimension numbers of `[K, m]ᵀ × [n, K]ᵀ`. -/
def dims01 (K m n : ℕ) (wf : DotDims.WF (Mat K m) (Mat n K) (Mat m n) [0] [1] [1] [0] [] []) :
    DotDims (Mat K m) (Mat n K) (Mat m n) where
  lhsContracting := [0]
  rhsContracting := [1]
  lhsNonContracting := [1]
  rhsNonContracting := [0]
  lhsBatch := []
  rhsBatch := []
  wf := wf

/-- `[K, m]ᵀ × [n, K]ᵀ` read at (i, j). -/
theorem matmul01_apply {K m n : ℕ} {φ₁ φ₂ : FTy} (wf : DotDims.WF (Mat K m) (Mat n K) (Mat m n) [0] [1] [1] [0] [] []) (prec : Option ContractPrecision) (lhs : FVec Ideal (Mat K m) φ₁)
    (rhs : FVec Ideal (Mat n K) φ₂) (acc : FVec Ideal (Mat m n) .f32) (i : Fin m) (j : Fin n) :
    FloatOps.matmul (dims01 K m n wf) prec lhs rhs acc (ix2 i j)
      = acc (ix2 i j) + ∑ k : Fin K, lhs (ix2 k i) * rhs (ix2 j k) := by
  have hr : (dims01 K m n wf).contr.rank = 1 := rfl
  have hs : (dims01 K m n wf).contr.size ⟨0, by rw [hr]; exact Nat.one_pos⟩ = K := rfl
  rw [Ideal.matmul_apply, ← Equiv.sum_comp (contrEquiv1 _ K hr hs).symm]
  refine congrArg (acc (ix2 i j) + ·) (Finset.sum_congr rfl fun k _ => ?_)
  have hk := contrEquiv1_symm_val _ K hr hs k
  have el : (dims01 K m n wf).lhsIdx (ix2 i j) ((contrEquiv1 _ K hr hs).symm k) = ix2 k i := by
    funext a; apply Fin.ext
    match a with
    | ⟨0, _⟩ => exact hk
    | ⟨1, _⟩ => rfl
  have er : (dims01 K m n wf).rhsIdx (ix2 i j) ((contrEquiv1 _ K hr hs).symm k) = ix2 j k := by
    funext a; apply Fin.ext
    match a with
    | ⟨0, _⟩ => rfl
    | ⟨1, _⟩ => exact hk
  rw [el, er]

/-! ### The nearest code -/

/-- Twice the products with the codes less their squared lengths. -/
def scoreV {m : ℕ} (wf : DotDims.WF (Mat 256 m) (Mat 1024 256) (Mat m 1024) [0] [1] [1] [0] [] [])
    (hb : (Mat 1 1024).Broadcasts (Mat m 1024)) (z : FVec Ideal (Mat 256 m) .f32)
    (cb : FVec Ideal (Mat 1024 256) .bf16) (q : FVec Ideal (Mat 1 1024) .f32) : FVec Ideal (Mat m 1024) .f32 :=
  subf (mulf (broadcast (Mat m 1024) (Scalar.ofBits .f32 0x40000000#32))
    (matmul (dims01 256 m 1024 wf) none (truncf .bf16 z (by decide)) cb (constant (Mat m 1024) .f32 0x00000000#32)))
    (broadcastTo (Mat m 1024) q hb)

theorem scoreV_apply {m : ℕ} (wf : DotDims.WF (Mat 256 m) (Mat 1024 256) (Mat m 1024) [0] [1] [1] [0] [] [])
    (hb : (Mat 1 1024).Broadcasts (Mat m 1024)) (z : FVec Ideal (Mat 256 m) .f32)
    (cb : FVec Ideal (Mat 1024 256) .bf16) (q : FVec Ideal (Mat 1 1024) .f32) (j : Fin m) (k : Fin 1024) :
    scoreV wf hb z cb q (ix2 j k) = two * (∑ c : Fin 256, z (ix2 c j) * cb (ix2 k c)) - q (ix2 0 k) := by
  unfold scoreV matmul
  rw [subf_apply, mulf_apply, matmul01_apply, broadcastTo_apply q hb (ix2 j k) (ix2 0 k)
    (by intro a; match a with
        | ⟨0, _⟩ => rfl
        | ⟨1, _⟩ => rfl)]
  rw [constant_apply, Ideal.ofBits_zero_f32, zero_add]
  rfl

/-- The one-hot rows of the first greatest score. -/
def hotV {m : ℕ} (hr : (Mat m 1024).Reduces [1] ⟨1, ![m]⟩) (hc : Shape.ShapeCasts ⟨1, ![m]⟩ (Mat m 1))
    (hb : (Mat m 1).Broadcasts (Mat m 1024)) (hi : (Mat m 1024).Iotas .tc 32 [1]) (v : FVec Ideal (Mat m 1024) .f32) :
    FVec Ideal (Mat m 1024) .bf16 :=
  truncf .bf16 (sitofp .f32 (extui 32 (cmpi .eq (iota .tc (Mat m 1024) 32 [1] hi) (broadcastTo (Mat m 1024)
    (shapeCast (Mat m 1) (multiReductionI .minsi [1] ⟨1, ![m]⟩
      (select (cmpf .oeq v (broadcastTo (Mat m 1024)
          (shapeCast (Mat m 1) (multiReduction .maximumf [1] ⟨1, ![m]⟩ v 0xFF800000#32 hr (.inl rfl) rfl) hc) hb))
        (iota .tc (Mat m 1024) 32 [1] hi) (broadcast (Mat m 1024) 1024#32))
      2147483647#32 hr rfl) hc) hb)) (by decide))) (by decide)

theorem column_apply {α : Type} {m : ℕ} (hc : Shape.ShapeCasts ⟨1, ![m]⟩ (Mat m 1)) (hb : (Mat m 1).Broadcasts (Mat m 1024))
    (x : (⟨1, ![m]⟩ : Shape).Idx → α) (j : Fin m) (k : Fin 1024) :
    broadcastTo (Mat m 1024) (shapeCast (Mat m 1) x hc) hb (ix2 j k) = x (ix1 j) := by
  rw [broadcastTo_apply _ hb (ix2 j k) (ix2 j 0)
    (by intro a; match a with
        | ⟨0, _⟩ => show j.val = if m = 1 then 0 else j.val
                    split
                    · have := j.isLt; omega
                    · rfl
        | ⟨1, _⟩ => rfl)]
  refine shapeCast_apply x hc (ix2 j 0) (ix1 j) ?_
  show (Shape.rowMajorPi ![m] (ix1 j)).val = (Shape.rowMajorPi ![m, 1] (ix2 j 0)).val
  rw [Shape.rowMajorPi_succ_val, Shape.rowMajorPi_succ_val, Shape.rowMajorPi_succ_val, Shape.rowMajorPi_zero,
    Shape.rowMajorPi_zero]
  simp [ix1, ix2]

theorem fold_max_eq (v : Fin 1024 → EReal) :
    (Finset.univ : Finset (Fin 1024)).fold max (⊥ : EReal) v = v (first v) := by
  apply le_antisymm
  · rw [Finset.fold_max_le]
    exact ⟨bot_le, fun k _ => (first_spec v).1 k⟩
  · rw [Finset.le_fold_max]
    exact Or.inr ⟨first v, Finset.mem_univ _, le_rfl⟩

/-- The least of signed words is no greater than each, and one of them. -/
theorem fold_minsi {ι : Type*} [DecidableEq ι] (s : Finset ι) (a : BitVec 32) (w : ι → BitVec 32) :
    (∀ i ∈ s, (s.fold IntOp.minsi a w).toInt ≤ (w i).toInt) ∧
      (s.fold IntOp.minsi a w = a ∨ ∃ i ∈ s, s.fold IntOp.minsi a w = w i) := by
  induction s using Finset.induction_on with
  | empty => exact ⟨by simp, Or.inl rfl⟩
  | insert i s hi ih =>
    rw [Finset.fold_insert hi]
    generalize s.fold IntOp.minsi a w = f at ih ⊢
    unfold IntOp.minsi
    rw [BitVec.slt_eq_decide]
    by_cases h : (w i).toInt < f.toInt
    · simp only [h, decide_true, if_true]
      refine ⟨fun k hk => ?_, Or.inr ⟨i, Finset.mem_insert_self _ _, rfl⟩⟩
      rcases Finset.mem_insert.1 hk with rfl | hk
      · exact le_rfl
      · exact h.le.trans (ih.1 k hk)
    · simp only [h, decide_false]
      refine ⟨fun k hk => ?_, ?_⟩
      · rcases Finset.mem_insert.1 hk with rfl | hk
        · exact not_lt.1 h
        · exact ih.1 k hk
      · rcases ih.2 with h2 | ⟨k, hk, h2⟩
        · exact Or.inl h2
        · exact Or.inr ⟨k, Finset.mem_insert_of_mem hk, h2⟩

theorem toInt_word {k : ℕ} (hk : k ≤ 1024) : (BitVec.ofNat 32 k).toInt = (k : Int) := by
  rw [BitVec.toInt_ofNat']
  exact Int.bmod_eq_of_le (by omega) (by omega)

/-- The least number among the places of the greatest value is the first one's. -/
theorem fold_place (v : Fin 1024 → EReal) :
    (Finset.univ : Finset (Fin 1024)).fold IntOp.minsi 2147483647#32
      (fun k => if v k = v (first v) then BitVec.ofNat 32 k.val else 1024#32) = BitVec.ofNat 32 (first v).val := by
  obtain ⟨h1, h2⟩ := fold_minsi Finset.univ 2147483647#32
    (fun k : Fin 1024 => if v k = v (first v) then BitVec.ofNat 32 k.val else 1024#32)
  have hf := h1 (first v) (Finset.mem_univ _)
  rw [if_pos rfl, toInt_word (by have := (first v).isLt; omega)] at hf
  rcases h2 with h2 | ⟨k, -, h2⟩
  · rw [h2] at hf
    have : (2147483647#32).toInt = 2147483647 := by decide
    rw [this] at hf; have := (first v).isLt; omega
  · rw [h2] at hf ⊢
    by_cases hk : v k = v (first v)
    · rw [if_pos hk, toInt_word (by have := k.isLt; omega)] at hf
      rw [if_pos hk]
      have : first v ≤ k := by
        by_contra hlt
        exact absurd hk ((first_spec v).2 k (not_le.1 hlt)).ne
      have : k.val = (first v).val := by have := Fin.le_def.1 this; omega
      rw [this]
    · rw [if_neg hk] at hf
      have : (1024#32).toInt = 1024 := by decide
      rw [this] at hf; have := (first v).isLt; omega

theorem word_eq_iff (a b : Fin 1024) : (BitVec.ofNat 32 a.val = BitVec.ofNat 32 b.val) ↔ a = b := by
  refine ⟨fun h => ?_, fun h => by rw [h]⟩
  have := congrArg BitVec.toNat h
  simp only [BitVec.toNat_ofNat] at this
  exact Fin.ext (by have := a.isLt; have := b.isLt; omega)

theorem bot_f32 : Ideal.ofBits .f32 0xFF800000#32 = ⊥ := by simp [Ideal.ofBits, Ideal.ieee]

theorem ofNat_iota (k : Fin 1024) (m : ℕ) (hi : (Mat m 1024).Iotas .tc 32 [1]) (j : Fin m) :
    iota .tc (Mat m 1024) 32 [1] hi (ix2 j k) = BitVec.ofNat 32 k.val := by
  show BitVec.ofNat 32 (0 * 1024 + k.val) = _
  rw [Nat.zero_mul, Nat.zero_add]

theorem word_one : FloatOps.sitofp (F := Ideal) .f32 (BitVec.setWidth 32 (BitVec.ofBool true)) = (1 : EReal) := by
  simp [FloatOps.sitofp]

theorem word_zero : FloatOps.sitofp (F := Ideal) .f32 (BitVec.setWidth 32 (BitVec.ofBool false)) = (0 : EReal) := by
  simp [FloatOps.sitofp]

theorem place_apply {m : ℕ} (hi : (Mat m 1024).Iotas .tc 32 [1]) (v M : FVec Ideal (Mat m 1024) .f32) (j : Fin m)
    (k : Fin 1024) (y : EReal) (hM : M (ix2 j k) = y) :
    select (cmpf .oeq v M) (iota .tc (Mat m 1024) 32 [1] hi) (broadcast (Mat m 1024) 1024#32) (ix2 j k)
      = if v (ix2 j k) = y then BitVec.ofNat 32 k.val else 1024#32 := by
  rw [select_apply, cmpf_apply, hM, ofNat_iota, broadcast_apply]
  show Scalar.select (BitVec.ofBool (decide (v (ix2 j k) = y))) _ _ = _
  by_cases h : v (ix2 j k) = y <;> simp [h, Scalar.select]

theorem hotV_apply {m : ℕ} (hr : (Mat m 1024).Reduces [1] ⟨1, ![m]⟩) (hc : Shape.ShapeCasts ⟨1, ![m]⟩ (Mat m 1))
    (hb : (Mat m 1).Broadcasts (Mat m 1024)) (hi : (Mat m 1024).Iotas .tc 32 [1]) (v : FVec Ideal (Mat m 1024) .f32) (j : Fin m) (k : Fin 1024) :
    hotV hr hc hb hi v (ix2 j k) = if k = first (fun k => v (ix2 j k)) then 1 else 0 := by
  have hl : ∀ k : Fin 1024, hr.lift (ix1 j) k = ix2 j k := fun k => by
    funext a; apply Fin.ext
    match a with
    | ⟨0, _⟩ => rfl
    | ⟨1, _⟩ => rfl
  have hm : multiReduction .maximumf [1] ⟨1, ![m]⟩ v 0xFF800000#32 hr (.inl rfl) rfl (ix1 j)
      = v (ix2 j (first fun k => v (ix2 j k))) := by
    refine (Ideal.multiReduction_maximumf_single _ _ _ _ _ _).trans (Eq.trans ?_ (fold_max_eq fun k => v (ix2 j k)))
    show Finset.fold max (Ideal.ofBits .f32 0xFF800000#32) _ _ = _
    rw [bot_f32]
    exact Finset.fold_congr fun k _ => congrArg v (hl k)
  have hn : multiReductionI .minsi [1] ⟨1, ![m]⟩ (select (cmpf .oeq v (broadcastTo (Mat m 1024)
          (shapeCast (Mat m 1) (multiReduction .maximumf [1] ⟨1, ![m]⟩ v 0xFF800000#32 hr (.inl rfl) rfl) hc) hb))
        (iota .tc (Mat m 1024) 32 [1] hi) (broadcast (Mat m 1024) 1024#32)) 2147483647#32 hr rfl (ix1 j)
      = BitVec.ofNat 32 (first fun k => v (ix2 j k)).val := by
    refine (multiReductionI_eq_fold _ _ _ _ _ _).trans ((hr.fold_filter_drop_single _ _ _ _).trans
      (Eq.trans ?_ (fold_place fun k => v (ix2 j k))))
    refine Finset.fold_congr fun (k : Fin 1024) _ => ?_
    refine (congrArg (select _ _ _) (hl k)).trans (place_apply hi v _ j k _ ?_)
    exact (column_apply hc hb _ j k).trans hm
  unfold hotV
  rw [truncf_apply, sitofp_apply, extui_apply]
  show FloatOps.sitofp .f32 (BitVec.setWidth 32 (IntOp.cmpi .eq (iota .tc (Mat m 1024) 32 [1] hi (ix2 j k)) _)) = _
  rw [column_apply, hn, ofNat_iota]
  rw [show IntOp.cmpi .eq (BitVec.ofNat 32 k.val) (BitVec.ofNat 32 (first fun k => v (ix2 j k)).val)
    = BitVec.ofBool (decide (k = first fun k => v (ix2 j k))) from congrArg BitVec.ofBool
      (Bool.eq_iff_iff.2 (by rw [beq_iff_eq, decide_eq_true_iff]; exact word_eq_iff _ _))]
  by_cases h : k = first (fun k => v (ix2 j k))
  · rw [if_pos h, decide_eq_true h]
    exact word_one
  · rw [if_neg h, decide_eq_false h]
    exact word_zero

/-- The codes the one-hot rows choose, as the sum of three parts of the codebook. -/
def codeV {m : ℕ} (wf : DotDims.WF (Mat 1024 256) (Mat m 1024) (Mat 256 m) [0] [1] [1] [0] [] [])
    (c1 c2 c3 : FVec Ideal (Mat 1024 256) .bf16) (o : FVec Ideal (Mat m 1024) .bf16) :
    FVec Ideal (Mat 256 m) .f32 :=
  addf (addf (matmul (dims01 1024 256 m wf) none c1 o (constant (Mat 256 m) .f32 0x00000000#32))
    (matmul (dims01 1024 256 m wf) none c2 o (constant (Mat 256 m) .f32 0x00000000#32)))
    (matmul (dims01 1024 256 m wf) none c3 o (constant (Mat 256 m) .f32 0x00000000#32))

theorem codeV_apply {m : ℕ} (wf : DotDims.WF (Mat 1024 256) (Mat m 1024) (Mat 256 m) [0] [1] [1] [0] [] [])
    (c1 c2 c3 : FVec Ideal (Mat 1024 256) .bf16) (h2 : ∀ i, c2 i = (0 : EReal))
    (h3 : ∀ i, c3 i = (0 : EReal)) (o : FVec Ideal (Mat m 1024) .bf16) (j : Fin m) (f : Fin 1024)
    (ho : ∀ k, o (ix2 j k) = if k = f then (1 : EReal) else 0) (c : Fin 256) :
    codeV wf c1 c2 c3 o (ix2 c j) = c1 (ix2 f c) := by
  unfold codeV matmul
  rw [addf_apply, addf_apply, matmul01_apply, matmul01_apply, matmul01_apply, constant_apply, Ideal.ofBits_zero_f32]
  simp only [h2, h3, ho, zero_mul, Finset.sum_const_zero, add_zero, zero_add]
  rw [Finset.sum_eq_single f (fun k _ hk => by rw [if_neg hk, mul_zero]) (fun h => absurd (Finset.mem_univ _) h)]
  rw [if_pos rfl, mul_one]

end Cert.Proof.Vq
-- ==== Proof.Weights.lean ====
/- The matrix of weights of linear resampling, as both programs compute it, and that its entries are real. -/
module

public import proofs.«01_k».proof.Proof.Ops
public import Idealize.ShloMosaic.Lib.IdealHost
public import Idealize.ShloMosaic.Lib.Pointwise

@[expose] public section

noncomputable section

namespace Cert.Proof.Vq

open Idealize.ShloMosaic Idealize.ShloMosaic.ValueIdx

/-- The shape of one number. -/
abbrev Dot : Shape := ⟨0, ![]⟩
/-- The shape of a list. -/
abbrev Line (n : ℕ) : Shape := ⟨1, ![n]⟩

/-- What the operations on matrices of `a` rows and `b` columns ask of the shapes. -/
structure Lattice (a b : ℕ) : Prop where
  dotLine : Dot.BroadcastsInDim (Line b) ![]
  lineRow : (Line b).BroadcastsInDim (Mat 1 b) ![1]
  lineCol : (Line a).BroadcastsInDim (Mat a 1) ![0]
  rowMat : (Mat 1 b).BroadcastsInDim (Mat a b) ![0, 1]
  colMat : (Mat a 1).BroadcastsInDim (Mat a b) ![0, 1]
  dotMat : Dot.BroadcastsInDim (Mat a b) ![]
  dotRow : Dot.BroadcastsInDim (Mat 1 b) ![]
  sums : (Mat a b).ReducesTo [0] (Line b)
  pos : 0 < Dot.numel

section
variable {a b : ℕ} (L : Lattice a b) (scale last : BitVec 32)

/-- One constant everywhere on a list. -/
def onLine (x : BitVec 32) : FVec Ideal (Line b) .f32 := broadcastInDim (Line b) ![] L.dotLine (constant Dot .f32 x)
/-- One constant everywhere on a matrix. -/
def onMat (x : BitVec 32) : FVec Ideal (Mat a b) .f32 := broadcastInDim (Mat a b) ![] L.dotMat (constant Dot .f32 x)
/-- One constant everywhere on a row. -/
def onRow (x : BitVec 32) : FVec Ideal (Mat 1 b) .f32 := broadcastInDim (Mat 1 b) ![] L.dotRow (constant Dot .f32 x)

/-- The places of the new samples on the old grid. -/
def places : FVec Ideal (Line b) .f32 :=
  subf (subf (mulf (addf (sitofp .f32 (iotaInDim (Line b) 32 0)) (onLine L 0x3F000000#32)) (onLine L scale))
    (onLine L 0x00000000#32)) (onLine L 0x3F000000#32)

/-- The distance of each old sample to each new place. -/
def distances : FVec Ideal (Mat a b) .f32 :=
  Host.absf (subf (broadcastInDim (Mat a b) ![0, 1] L.rowMat (broadcastInDim (Mat 1 b) ![1] L.lineRow (places L scale)))
    (broadcastInDim (Mat a b) ![0, 1] L.colMat (broadcastInDim (Mat a 1) ![0] L.lineCol (sitofp .f32 (iotaInDim (Line a) 32 0)))))

/-- The triangle kernel at those distances. -/
def hats : FVec Ideal (Mat a b) .f32 :=
  maximumf (onMat L 0x00000000#32) (subf (onMat L 0x3F800000#32) (Host.absf (Host.divf (distances L scale)
    (broadcastInDim (Mat a b) ![] L.dotMat (maximumf (constant Dot .f32 scale) (constant Dot .f32 0x3F800000#32))))))

/-- The sum of each column of the kernel. -/
def mass : FVec Ideal (Mat 1 b) .f32 :=
  broadcastInDim (Mat 1 b) ![1] L.lineRow (Host.reduceAdd (hats L scale) (constant Dot .f32 0x00000000#32) L.sums L.pos)

/-- The same sum, a one in place of a zero. -/
def divisor : FVec Ideal (Mat 1 b) .f32 :=
  select (cmpf .une (mass L scale) (onRow L 0x00000000#32)) (mass L scale)
    (broadcastInDim (Mat 1 b) ![] L.dotRow (sitofp .f32 (constantI Dot 32 1#32)))

/-- A matrix kept in the columns a condition holds, zero in the others. -/
def keepCols (p : IVec (Mat 1 b) 1) (x : FVec Ideal (Mat a b) .f32) : FVec Ideal (Mat a b) .f32 :=
  select (broadcastInDim (Mat a b) ![0, 1] L.rowMat p) x (broadcastInDim (Mat a b) ![] L.dotMat (sitofp .f32 (constantI Dot 32 0#32)))

/-- The weights: the kernel over its sums where the sum is not near zero, for the places within the grid. -/
def weightV : FVec Ideal (Mat a b) .f32 :=
  keepCols L (broadcastInDim (Mat 1 b) ![1] L.lineRow (andi (cmpf .oge (places L scale) (onLine L 0xBF000000#32))
      (cmpf .ole (places L scale) (onLine L last))))
    (keepCols L (cmpf .ogt (Host.absf (mass L scale)) (onRow L 0x38FA0000#32))
      (Host.divf (hats L scale) (broadcastInDim (Mat a b) ![0, 1] L.rowMat (divisor L scale))))

/-- A vector of real numbers. -/
def RealV {s : Shape} (x : s.Idx → EReal) : Prop := ∀ i, Real' (x i)

theorem RealV.broadcast {s t : Shape} {x : s.Idx → EReal} (hx : RealV x) (d : Fin s.rank → Fin t.rank) (h : s.BroadcastsInDim t d) :
    RealV (broadcastInDim t d h x) := fun j => by unfold broadcastInDim; exact hx _

theorem Real'.abs {x : EReal} (hx : Real' x) : Real' (max x (-x)) := hx.maximum hx.neg

theorem Real'.div {x y : EReal} (hx : Real' x) (hy : Real' y) (h0 : y ≠ 0) : Real' (Ideal.div x y) := by
  obtain ⟨r, rfl⟩ := hx
  obtain ⟨q, rfl⟩ := hy
  refine ⟨r * q⁻¹, ?_⟩
  rw [Ideal.div, if_neg h0, EReal.coe_mul, EReal.coe_inv]

theorem real_iota (n : ℕ) : RealV (sitofp .f32 (iotaInDim (Line n) 32 0) : FVec Ideal (Line n) .f32) := fun _ => ⟨_, rfl⟩
theorem real_num (n : BitVec 32) : RealV (sitofp .f32 (constantI Dot 32 n) : FVec Ideal Dot .f32) := fun _ => ⟨_, rfl⟩

theorem real_const {x : BitVec 32} (hx : Real' (Ideal.ofBits .f32 x)) : RealV (constant Dot .f32 x : FVec Ideal Dot .f32) := fun _ => hx

theorem real_half : Real' (Ideal.ofBits .f32 0x3F000000#32) := ⟨_, by simp [Ideal.ofBits, Ideal.ieee]; rfl⟩
theorem real_one : Real' (Ideal.ofBits .f32 0x3F800000#32) := ⟨_, by simp [Ideal.ofBits, Ideal.ieee]; rfl⟩
theorem real_zero : Real' (Ideal.ofBits .f32 0x00000000#32) := ⟨0, by rw [Ideal.ofBits_zero_f32]; rfl⟩

variable {scale} (hs : Real' (Ideal.ofBits .f32 scale))

theorem real_onLine {x : BitVec 32} (hx : Real' (Ideal.ofBits .f32 x)) : RealV (onLine L x) := (real_const hx).broadcast _ _
theorem real_onMat {x : BitVec 32} (hx : Real' (Ideal.ofBits .f32 x)) : RealV (onMat L x) := (real_const hx).broadcast _ _

include hs

theorem real_places : RealV (places L scale) := fun i =>
  ((((real_iota b i).add (real_onLine L real_half i)).mul (real_onLine L hs i)).sub (real_onLine L real_zero i)).sub
    (real_onLine L real_half i)

theorem real_distances : RealV (distances L scale) := fun i =>
  Real'.abs ((((real_places L hs).broadcast _ _).broadcast _ _ i).sub (((real_iota a).broadcast _ _).broadcast _ _ i))

theorem real_hats : RealV (hats L scale) := fun i => by
  refine (real_onMat L real_zero i).maximum ((real_onMat L real_one i).sub (Real'.abs (Real'.div (real_distances L hs i) ?_ ?_)))
  · exact RealV.broadcast (x := (maximumf (constant Dot .f32 scale) (constant Dot .f32 0x3F800000#32) : FVec Ideal Dot .f32))
      (fun _ => hs.maximum real_one) _ _ i
  · unfold broadcastInDim
    show max (Ideal.ofBits .f32 scale) (Ideal.ofBits .f32 0x3F800000#32) ≠ 0
    rw [Ideal.ofBits_one_f32]
    exact (lt_of_lt_of_le zero_lt_one (le_max_right _ _)).ne'

theorem real_mass : RealV (mass L scale) := by
  refine RealV.broadcast (fun j => ?_) _ _
  refine (real_zero.add ?_ : Real' (Ideal.ofBits .f32 0x00000000#32 + _))
  exact Real'.sum _ _ fun _ _ => real_hats L hs _

theorem real_divisor (i : (Mat 1 b).Idx) : Real' (divisor L scale i) ∧ divisor L scale i ≠ 0 := by
  have key : divisor L scale i = if mass L scale i ≠ 0 then mass L scale i else 1 := by
    show (if Ideal.cmp .une (mass L scale i) (Ideal.ofBits .f32 0x00000000#32) = 1 then mass L scale i
      else (((1#32 : BitVec 32).toInt : ℝ) : EReal)) = _
    rw [Ideal.ofBits_zero_f32]
    by_cases h : mass L scale i = 0 <;> simp [Ideal.cmp, h]
  rw [key]
  split
  · exact ⟨real_mass L hs i, by assumption⟩
  · exact ⟨Real'.one, one_ne_zero⟩

omit hs in
theorem real_keepCols (p : IVec (Mat 1 b) 1) {x : FVec Ideal (Mat a b) .f32} (hx : RealV x) : RealV (keepCols L p x) := fun i => by
  show Real' (Scalar.select _ (x i) _)
  unfold Scalar.select
  split
  · exact hx i
  · exact (real_num 0#32).broadcast _ _ i

/-- Every weight is a real number. -/
theorem real_weightV : RealV (weightV L scale last) := by
  refine real_keepCols L _ (real_keepCols L _ fun i => Real'.div (real_hats L hs i) ?_ ?_)
  · unfold broadcastInDim; exact (real_divisor L hs _).1
  · unfold broadcastInDim; exact (real_divisor L hs _).2

end

end Cert.Proof.Vq
-- ==== Proof.Least.lean ====
/- The place of the least entry of every row of a matrix, and the rows of a table at given places, as the reference has them. -/
module

public import proofs.«01_k».proof.ReferenceIdeal
public import proofs.«01_k».proof.Proof.Weights

@[expose] public section

noncomputable section

namespace Cert.Proof.Vq

open Idealize.ShloMosaic hiding ix0 ix1 ix2 ix3 ix4
open Idealize.ShloMosaic.ValueIdx
open scoped BigOperators

/-! ### The least value with the least place -/

/-- A value with its place. -/
abbrev Pair := EReal × BitVec 32

/-- The one pair comes no later than the other: a smaller value, or the same value at a place no greater. -/
def NoLater (p q : Pair) : Prop := p.1 < q.1 ∨ (p.1 = q.1 ∧ p.2.toInt ≤ q.2.toInt)

theorem NoLater.refl (p : Pair) : NoLater p p := Or.inr ⟨rfl, le_rfl⟩

theorem NoLater.trans {p q r : Pair} (h : NoLater p q) (h' : NoLater q r) : NoLater p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- The earlier of two pairs. -/
def pick (a b : Pair) : Pair := Cert.ReferenceIdeal.reducer_argmin_f32_i32 (F := Ideal) a b

theorem pick_eq (a b : Pair) [Decidable (a.1 < b.1 ∨ a.1 = b.1 ∧ a.2.toInt < b.2.toInt)] :
    pick a b = if a.1 < b.1 ∨ a.1 = b.1 ∧ a.2.toInt < b.2.toInt then a else b := by
  obtain ⟨x, i⟩ := a
  obtain ⟨y, j⟩ := b
  show (Scalar.select (IntOp.ori (BitVec.ofBool (decide (x < y))) (BitVec.ofBool (decide (x ≠ x)))) x y,
    Scalar.select (IntOp.ori (IntOp.ori (BitVec.ofBool (decide (x < y))) (BitVec.ofBool (decide (x ≠ x))))
      (IntOp.andi (BitVec.ofBool (decide (x = y))) (BitVec.ofBool (i.slt j)))) i j) = _
  have hs : i.slt j = decide (i.toInt < j.toInt) := rfl
  rw [hs]
  rcases lt_trichotomy x y with h | h | h
  · simp [h, h.ne, Scalar.select, IntOp.ori, IntOp.andi]
  · subst h
    by_cases hi : i.toInt < j.toInt <;> simp [hi, Scalar.select, IntOp.ori, IntOp.andi]
  · simp [h.not_gt, h.ne', Scalar.select, IntOp.ori, IntOp.andi]

theorem pick_spec (a b : Pair) : (pick a b = a ∨ pick a b = b) ∧ NoLater (pick a b) a ∧ NoLater (pick a b) b := by
  classical
  rw [pick_eq]
  split
  · rename_i h
    refine ⟨Or.inl rfl, NoLater.refl _, ?_⟩
    rcases h with h | ⟨h, hi⟩
    · exact Or.inl h
    · exact Or.inr ⟨h, hi.le⟩
  · rename_i h
    refine ⟨Or.inr rfl, ?_, NoLater.refl _⟩
    rw [not_or, not_lt, not_and, not_lt] at h
    rcases h.1.lt_or_eq with h' | h'
    · exact Or.inl h'
    · exact Or.inr ⟨h', h.2 h'.symm⟩

theorem foldl_pick (L : List Pair) (a : Pair) :
    (L.foldl pick a = a ∨ L.foldl pick a ∈ L) ∧ NoLater (L.foldl pick a) a ∧ ∀ q ∈ L, NoLater (L.foldl pick a) q := by
  induction L generalizing a with
  | nil => exact ⟨Or.inl rfl, NoLater.refl _, fun q hq => absurd hq List.not_mem_nil⟩
  | cons b L ih =>
    obtain ⟨h1, h2, h3⟩ := ih (pick a b)
    obtain ⟨p1, p2, p3⟩ := pick_spec a b
    show (L.foldl pick (pick a b) = a ∨ _) ∧ _
    refine ⟨?_, h2.trans p2, ?_⟩
    · rcases h1 with h1 | h1
      · rcases p1 with p1 | p1
        · exact Or.inl (h1.trans p1)
        · exact Or.inr (List.mem_cons.2 (Or.inl (h1.trans p1)))
      · exact Or.inr (List.mem_cons_of_mem _ h1)
    · intro q hq
      rcases List.mem_cons.1 hq with rfl | hq
      · exact h2.trans p3
      · exact h3 q hq

theorem top_f32 : Ideal.ofBits .f32 0x7F800000#32 = ⊤ := by simp [Ideal.ofBits, Ideal.ieee]

theorem place_toInt (k : Fin 1024) : (BitVec.ofNat 32 k.val).toInt = k.val := by
  have := k.isLt
  rw [BitVec.toInt_eq_toNat_of_lt (by rw [BitVec.toNat_ofNat]; omega), BitVec.toNat_ofNat]
  omega

/-- The places of the least entries of a matrix's rows. -/
def leastV {R : ℕ} (h : (Mat R 1024).ReducesTo [1] (Line R)) (hp : 0 < Dot.numel) (x : FVec Ideal (Mat R 1024) .f32) : IVec (Line R) 32 :=
  fun j => (Host.argReduce (F := Ideal) Cert.ReferenceIdeal.reducer_argmin_f32_i32 x (iotaInDim (Mat R 1024) 32 1)
    (constant Dot .f32 0x7F800000#32) (constantI Dot 32 0#32) h hp j).2

theorem leastV_spec {R : ℕ} (h : (Mat R 1024).ReducesTo [1] (Line R)) (hp : 0 < Dot.numel) (x : FVec Ideal (Mat R 1024) .f32)
    (r : Fin R) : ∃ k : Fin 1024, leastV h hp x (ix1 r) = BitVec.ofNat 32 k.val ∧ (∀ j, x (ix2 r k) ≤ x (ix2 r j)) ∧
      ∀ j < k, x (ix2 r k) < x (ix2 r j) := by
  have e : Host.argReduce (F := Ideal) Cert.ReferenceIdeal.reducer_argmin_f32_i32 x (iotaInDim (Mat R 1024) 32 1)
      (constant Dot .f32 0x7F800000#32) (constantI Dot 32 0#32) h hp (ix1 r)
      = (Host.argReduceFiber x (iotaInDim (Mat R 1024) 32 1) h (ix1 r)).foldl pick ((⊤ : EReal), 0#32) := by
    rw [Ideal.argReduce_eq_reduce2, Host.reduce2_eq_foldl_fiber]
    show List.foldl pick (Ideal.ofBits .f32 0x7F800000#32, 0#32) _ = _
    rw [top_f32]
  have mem : ∀ p : Pair, p ∈ Host.argReduceFiber x (iotaInDim (Mat R 1024) 32 1) h (ix1 r)
      ↔ ∃ k : Fin 1024, p = (x (ix2 r k), BitVec.ofNat 32 k.val) := by
    intro p
    unfold Host.argReduceFiber
    rw [List.mem_map]
    constructor
    · rintro ⟨n, hn, rfl⟩
      have hd := of_decide_eq_true (List.mem_filter.1 hn).2
      obtain ⟨k, hk⟩ := (h.fiber_r2_a1 (ix1 r) _).1 hd
      refine ⟨k, ?_⟩
      rw [← hk]
      rfl
    · rintro ⟨k, rfl⟩
      refine ⟨(Mat R 1024).rowMajor (ix2 r k), List.mem_filter.2 ⟨List.mem_finRange _, decide_eq_true ?_⟩, ?_⟩
      · rw [Equiv.symm_apply_apply]
        exact (h.fiber_r2_a1 (ix1 r) _).2 ⟨k, rfl⟩
      · rw [Equiv.symm_apply_apply]
        rfl
  unfold leastV
  rw [e]
  obtain ⟨h1, h2, h3⟩ := foldl_pick (Host.argReduceFiber x (iotaInDim (Mat R 1024) 32 1) h (ix1 r)) ((⊤ : EReal), 0#32)
  generalize List.foldl pick ((⊤ : EReal), 0#32) (Host.argReduceFiber x (iotaInDim (Mat R 1024) 32 1) h (ix1 r)) = p at h1 h2 h3
  have h4 : ∀ j : Fin 1024, NoLater p (x (ix2 r j), BitVec.ofNat 32 j.val) := fun j => h3 _ ((mem _).2 ⟨j, rfl⟩)
  rcases h1 with rfl | h1
  · have all : ∀ j : Fin 1024, x (ix2 r j) = ⊤ := fun j => by
      rcases h4 j with h | ⟨h, -⟩
      · exact absurd h not_top_lt
      · exact h.symm
    exact ⟨0, rfl, fun j => by rw [all, all], fun j hj => absurd hj (Fin.not_lt_zero j)⟩
  · obtain ⟨k, rfl⟩ := (mem _).1 h1
    refine ⟨k, rfl, fun j => ?_, fun j hj => ?_⟩
    · rcases h4 j with h | ⟨h, -⟩
      · exact h.le
      · exact h.le
    · rcases h4 j with h | ⟨-, h⟩
      · exact h
      · rw [place_toInt, place_toInt] at h
        have := Fin.lt_def.1 hj
        omega

/-! ### The rows of the table at given places -/

/-- How the rows at given places are gathered. -/
abbrev rowDims (R : ℕ) (wf : GatherDims.WF (Mat 1024 256) (Mat R 1) (Mat R 256) [1] [0] [] [0] [] 1 ![1, 256]) :
    GatherDims (Mat 1024 256) (Mat R 1) (Mat R 256) where
  offsetDims := [1]
  collapsedSliceDims := [0]
  operandBatchingDims := []
  startIndicesBatchingDims := []
  startIndexMap := [0]
  indexVectorDim := 1
  sliceSizes := ![1, 256]
  wf := wf

theorem gather_rowDims {R : ℕ} (wf : GatherDims.WF (Mat 1024 256) (Mat R 1) (Mat R 256) [1] [0] [] [0] [] 1 ![1, 256])
    (x : FVec Ideal (Mat 1024 256) .f32) (i : IVec (Mat R 1) 32) (r : Fin R) (c : Fin 256) :
    Host.gather (rowDims R wf) x i (ix2 r c) = x (ix2 ⟨min (i (ix2 r 0)).toInt.toNat 1023, by omega⟩ c) := by
  unfold Host.gather
  congr 1
  funext a
  refine Fin.ext ?_
  show (rowDims R wf).start (ix2 r c) i a + (rowDims R wf).batchCoord (ix2 r c) a + (rowDims R wf).offCoord (ix2 r c) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).1 h).1 (List.mem_singleton.2 rfl)), Nat.add_zero]
    unfold GatherDims.start
    rw [dif_pos (show (0 : Fin 2) ∈ (rowDims R wf).startIndexMap from List.mem_singleton.2 rfl)]
    have e : (rowDims R wf).siIdx (ix2 r c) ⟨List.idxOf (0 : Fin 2) (rowDims R wf).startIndexMap,
        List.idxOf_lt_length_iff.2 (List.mem_singleton.2 rfl)⟩ = ix2 r 0 := by
      funext b; refine Fin.ext ?_
      match b with
      | ⟨0, _⟩ => rfl
      | ⟨1, _⟩ => rfl
    rw [e]
    rfl
  · unfold GatherDims.start GatherDims.offCoord
    rw [dif_neg (show (1 : Fin 2) ∉ (rowDims R wf).startIndexMap from fun h => absurd (List.mem_singleton.1 h) (by decide)), Nat.zero_add]
    rfl

/-- What taking the rows at given places asks of the shapes. -/
structure Take (R : ℕ) : Prop where
  ints : Dot.BroadcastsInDim (Line R) ![]
  col : (Line R).BroadcastsInDim (Mat R 1) ![0]
  one : Dot.BroadcastsInDim (Mat R 1) ![]
  unit : (Line 1).BroadcastsInDim (Mat 1 1) ![1]
  units : (Mat 1 1).BroadcastsInDim (Mat R 1) ![0, 1]
  all : (Mat R 1).ReducesTo [1] (Line R)
  pos : 0 < Dot.numel
  rows : GatherDims.WF (Mat 1024 256) (Mat R 1) (Mat R 256) [1] [0] [] [0] [] 1 ![1, 256]
  wide : (Line R).BroadcastsInDim (Mat R 256) ![0]
  fill : Dot.BroadcastsInDim (Mat R 256) ![]

section
variable {R : ℕ} (T : Take R) (cb : FVec Ideal (Mat 1024 256) .f32) (i : IVec (Line R) 32)

/-- The places as a column, a negative one counted from the end. -/
def wrapV : IVec (Mat R 1) 32 :=
  broadcastInDim (Mat R 1) ![0] T.col (select (cmpi .slt i (broadcastInDim (Line R) ![] T.ints (constantI Dot 32 0#32)))
    (addi i (broadcastInDim (Line R) ![] T.ints (constantI Dot 32 1024#32))) i)

/-- Whether each place is one of the table. -/
def withinV : IVec (Line R) 1 :=
  Host.reduce IntOp.andi (andi (cmpi .sge (wrapV T i) (broadcastInDim (Mat R 1) ![] T.one (constantI Dot 32 0#32)))
    (cmpi .sle (wrapV T i) (broadcastInDim (Mat R 1) ![0, 1] T.units (broadcastInDim (Mat 1 1) ![1] T.unit (constantI (Line 1) 32 1023#32)))))
    (constantI Dot 1 1#1) T.all T.pos

/-- The rows of the table at the places. -/
def takeV : FVec Ideal (Mat R 256) .f32 :=
  select (broadcastInDim (Mat R 256) ![0] T.wide (withinV T i)) (Host.gather (rowDims R T.rows) cb (wrapV T i))
    (broadcastInDim (Mat R 256) ![] T.fill (constant Dot .f32 0x7FC00000#32))

variable {k : Fin R → Fin 1024} (hk : ∀ r, i (ix1 r) = BitVec.ofNat 32 (k r).val)
include hk

theorem wrapV_apply (r : Fin R) (u : Fin 1) : wrapV T i (ix2 r u) = BitVec.ofNat 32 (k r).val := by
  unfold wrapV
  rw [broadcastInDim_apply _ _ _ (ix2 r u) (ix1 r) (by
    intro a
    match a with
    | ⟨0, _⟩ =>
      show r.val = if R = 1 then 0 else r.val
      split
      · have := r.isLt; omega
      · rfl)]
  show Scalar.select (IntOp.cmpi .slt (i (ix1 r)) 0#32) _ (i (ix1 r)) = _
  rw [hk]
  have e : IntOp.cmpi .slt (BitVec.ofNat 32 (k r).val) 0#32 = 0#1 := by
    show BitVec.ofBool (decide ((BitVec.ofNat 32 (k r).val).toInt < (0#32).toInt)) = 0#1
    rw [place_toInt, decide_eq_false (by simp)]
    rfl
  rw [e]
  rfl

theorem withinV_apply (r : Fin R) : withinV T i (ix1 r) = 1#1 := by
  unfold withinV
  rw [Host.reduce_eq_foldl]
  generalize List.filter _ _ = L
  have step : ∀ j : (Mat R 1).Idx, andi (cmpi .sge (wrapV T i) (broadcastInDim (Mat R 1) ![] T.one (constantI Dot 32 0#32)))
      (cmpi .sle (wrapV T i) (broadcastInDim (Mat R 1) ![0, 1] T.units (broadcastInDim (Mat 1 1) ![1] T.unit (constantI (Line 1) 32 1023#32)))) j = 1#1 := by
    intro j
    obtain ⟨r, u, rfl⟩ : ∃ r u, j = ix2 r u := ⟨_, _, ValueIdx.eq_ix2 j⟩
    show IntOp.andi (IntOp.cmpi .sge (wrapV T i (ix2 r u)) 0#32) (IntOp.cmpi .sle (wrapV T i (ix2 r u)) 1023#32) = 1#1
    rw [wrapV_apply T i hk]
    have h1 : IntOp.cmpi .sge (BitVec.ofNat 32 (k r).val) 0#32 = 1#1 := by
      show BitVec.ofBool (decide ((0#32).toInt ≤ (BitVec.ofNat 32 (k r).val).toInt)) = 1#1
      rw [place_toInt, decide_eq_true (by simp)]
      rfl
    have h2 : IntOp.cmpi .sle (BitVec.ofNat 32 (k r).val) 1023#32 = 1#1 := by
      show BitVec.ofBool (decide ((BitVec.ofNat 32 (k r).val).toInt ≤ (1023#32).toInt)) = 1#1
      rw [place_toInt, decide_eq_true (by have := (k r).isLt; show ((k r).val : ℤ) ≤ 1023; omega)]
      rfl
    rw [h1, h2]
    rfl
  show List.foldl _ (1#1) L = 1#1
  induction L with
  | nil => rfl
  | cons j L ih =>
    rw [List.foldl_cons, step j]
    exact ih

theorem takeV_apply (r : Fin R) (c : Fin 256) : takeV T cb i (ix2 r c) = cb (ix2 (k r) c) := by
  unfold takeV
  rw [select_apply, broadcastInDim_apply _ T.wide _ (ix2 r c) (ix1 r) (by
    intro a
    match a with
    | ⟨0, _⟩ =>
      show r.val = if R = 1 then 0 else r.val
      split
      · have := r.isLt; omega
      · rfl), withinV_apply T i hk, gather_rowDims]
  show cb _ = cb _
  refine congrArg (fun q => cb (ix2 q c)) (Fin.ext ?_)
  show min (wrapV T i (ix2 r 0)).toInt.toNat 1023 = (k r).val
  rw [wrapV_apply T i hk, place_toInt]
  have := (k r).isLt
  omega

end

end Cert.Proof.Vq
-- ==== Proof.Nearest.lean ====
/- The reference's nearest codes of every time of every batch row, and its resampling along time. -/
module

public import proofs.«01_k».proof.Proof.Least

@[expose] public section

noncomputable section

namespace Cert.Proof.Vq

open Idealize.ShloMosaic hiding ix0 ix1 ix2 ix3 ix4
open Idealize.ShloMosaic.ValueIdx
open scoped BigOperators

/-- The shape of a stack of matrices. -/
abbrev Cube (a b c : ℕ) : Shape := ⟨3, ![a, b, c]⟩

/-- One batch row of a stack. -/
def rowAt {n : ℕ} (z : FVec Ideal (Cube 32 256 n) .f32) (b : Fin 32) : Row n := fun c t => z (ix3 b c t)

/-- The table of codes, code by code. -/
def tableOf (cb : FVec Ideal (Mat 1024 256) .f32) (k : Fin 1024) (c : Fin 256) : EReal := cb (ix2 k c)

/-! ### Two products -/

/-- The dimension numbers of `[m, K] × [K, n]`. -/
abbrev dims10 (m K n : ℕ) (wf : DotDims.WF (Mat m K) (Mat K n) (Mat m n) [1] [0] [0] [1] [] []) : DotDims (Mat m K) (Mat K n) (Mat m n) where
  lhsContracting := [1]
  rhsContracting := [0]
  lhsNonContracting := [0]
  rhsNonContracting := [1]
  lhsBatch := []
  rhsBatch := []
  wf := wf

theorem dot10_apply {m K n : ℕ} (wf : DotDims.WF (Mat m K) (Mat K n) (Mat m n) [1] [0] [0] [1] [] []) (prec : Option ContractPrecision)
    (x : FVec Ideal (Mat m K) .f32) (y : FVec Ideal (Mat K n) .f32) (i : Fin m) (j : Fin n) :
    Host.dotGeneral (dims10 m K n wf) prec x y (ix2 i j) = ∑ k : Fin K, x (ix2 i k) * y (ix2 k j) := by
  show FloatOps.dotGeneral _ prec _ x y (ix2 i j) = _
  have hr : (dims10 m K n wf).contr.rank = 1 := rfl
  have hs : (dims10 m K n wf).contr.size ⟨0, by rw [hr]; exact Nat.one_pos⟩ = K := rfl
  rw [Ideal.dotGeneral_apply, ← Equiv.sum_comp (contrEquiv1 _ K hr hs).symm]
  refine Finset.sum_congr rfl fun k _ => ?_
  have hk := contrEquiv1_symm_val _ K hr hs k
  have el : (dims10 m K n wf).lhsIdx (ix2 i j) ((contrEquiv1 _ K hr hs).symm k) = ix2 i k := by
    funext a; apply Fin.ext
    match a with
    | ⟨0, _⟩ => rfl
    | ⟨1, _⟩ => exact hk
  have er : (dims10 m K n wf).rhsIdx (ix2 i j) ((contrEquiv1 _ K hr hs).symm k) = ix2 k j := by
    funext a; apply Fin.ext
    match a with
    | ⟨0, _⟩ => exact hk
    | ⟨1, _⟩ => rfl
  rw [el, er]

/-- The dimension numbers of a stack times a matrix. -/
abbrev dims20 (n m : ℕ) (wf : DotDims.WF (Cube 32 256 n) (Mat n m) (Cube 32 256 m) [2] [0] [0, 1] [1] [] []) :
    DotDims (Cube 32 256 n) (Mat n m) (Cube 32 256 m) where
  lhsContracting := [2]
  rhsContracting := [0]
  lhsNonContracting := [0, 1]
  rhsNonContracting := [1]
  lhsBatch := []
  rhsBatch := []
  wf := wf

/-- The reference's resampling along time. -/
def resampleR {n m : ℕ} (wf : DotDims.WF (Cube 32 256 n) (Mat n m) (Cube 32 256 m) [2] [0] [0, 1] [1] [] [])
    (x : FVec Ideal (Cube 32 256 n) .f32) (W : FVec Ideal (Mat n m) .f32) : FVec Ideal (Cube 32 256 m) .f32 :=
  Host.dotGeneral (dims20 n m wf) (some .fp32) x W

theorem resampleR_apply {n m : ℕ} (wf : DotDims.WF (Cube 32 256 n) (Mat n m) (Cube 32 256 m) [2] [0] [0, 1] [1] [] [])
    (x : FVec Ideal (Cube 32 256 n) .f32) (W : FVec Ideal (Mat n m) .f32) (b : Fin 32) :
    rowAt (resampleR wf x W) b = resample (fun t j => W (ix2 t j)) (rowAt x b) := by
  funext c j
  show FloatOps.dotGeneral (dims20 n m wf) (some .fp32) _ x W (ix3 b c j) = _
  have hr : (dims20 n m wf).contr.rank = 1 := rfl
  have hs : (dims20 n m wf).contr.size ⟨0, by rw [hr]; exact Nat.one_pos⟩ = n := rfl
  rw [Ideal.dotGeneral_apply, ← Equiv.sum_comp (contrEquiv1 _ n hr hs).symm]
  refine Finset.sum_congr rfl fun k _ => ?_
  have hk := contrEquiv1_symm_val _ n hr hs k
  have el : (dims20 n m wf).lhsIdx (ix3 b c j) ((contrEquiv1 _ n hr hs).symm k) = ix3 b c k := by
    funext a; apply Fin.ext
    match a with
    | ⟨0, _⟩ => rfl
    | ⟨1, _⟩ => rfl
    | ⟨2, _⟩ => exact hk
  have er : (dims20 n m wf).rhsIdx (ix3 b c j) ((contrEquiv1 _ n hr hs).symm k) = ix2 k j := by
    funext a; apply Fin.ext
    match a with
    | ⟨0, _⟩ => exact hk
    | ⟨1, _⟩ => rfl
  rw [el, er]
  rfl

/-! ### The distances -/

/-- What the distances of `R` vectors to the codes ask of the shapes. -/
structure Gaps (R : ℕ) : Prop where
  lens : (Mat R 256).ReducesTo [1] (Line R)
  pos : 0 < Dot.numel
  col : (Line R).BroadcastsInDim (Mat R 1) ![0]
  turn : (Mat 1024 256).Transposes [1, 0] (Mat 256 1024)
  dot : DotDims.WF (Mat R 256) (Mat 256 1024) (Mat R 1024) [1] [0] [0] [1] [] []
  dotMat : Dot.BroadcastsInDim (Mat R 1024) ![]
  cols : (Mat R 1).BroadcastsInDim (Mat R 1024) ![0, 1]
  row : (Line 1024).BroadcastsInDim (Mat 1 1024) ![1]
  rows : (Mat 1 1024).BroadcastsInDim (Mat R 1024) ![0, 1]

/-- The sums of the squares of a matrix's rows. -/
def squaresV {R : ℕ} (h : (Mat R 256).ReducesTo [1] (Line R)) (hp : 0 < Dot.numel) (z : FVec Ideal (Mat R 256) .f32) :
    FVec Ideal (Line R) .f32 := Host.reduceAdd (mulf z z) (constant Dot .f32 0x00000000#32) h hp

theorem squaresV_apply {R : ℕ} (h : (Mat R 256).ReducesTo [1] (Line R)) (hp : 0 < Dot.numel) (z : FVec Ideal (Mat R 256) .f32) (r : Fin R) :
    squaresV h hp z (ix1 r) = ∑ c : Fin 256, z (ix2 r c) * z (ix2 r c) := by
  unfold squaresV
  rw [hostReduceAdd_apply, Ideal.hostReduceAdd_r2_a1, constant_apply, Ideal.ofBits_zero_f32, zero_add]
  rfl

section
variable {R : ℕ} (G : Gaps R) (z : FVec Ideal (Mat R 256) .f32) (cb : FVec Ideal (Mat 1024 256) .f32) (q : FVec Ideal (Line 1024) .f32)

/-- The squared distances. -/
def gapV : FVec Ideal (Mat R 1024) .f32 :=
  addf (subf (broadcastInDim (Mat R 1024) ![0, 1] G.cols (broadcastInDim (Mat R 1) ![0] G.col (squaresV G.lens G.pos z)))
      (mulf (broadcastInDim (Mat R 1024) ![] G.dotMat (constant Dot .f32 0x40000000#32))
        (Host.dotGeneral (dims10 R 256 1024 G.dot) none z (transpose (Mat 256 1024) [1, 0] cb G.turn))))
    (broadcastInDim (Mat R 1024) ![0, 1] G.rows (broadcastInDim (Mat 1 1024) ![1] G.row q))

theorem gapV_apply (r : Fin R) (k : Fin 1024) :
    gapV G z cb q (ix2 r k) = (∑ c : Fin 256, z (ix2 r c) * z (ix2 r c)) - two * (∑ c : Fin 256, z (ix2 r c) * cb (ix2 k c)) + q (ix1 k) := by
  unfold gapV
  rw [addf_apply, subf_apply, mulf_apply, dot10_apply]
  rw [broadcastInDim_apply _ G.cols _ (ix2 r k) (ix2 r 0) (by
      intro a
      match a with
      | ⟨0, _⟩ =>
        show r.val = if R = 1 then 0 else r.val
        split
        · have := r.isLt; omega
        · rfl
      | ⟨1, _⟩ => rfl),
    broadcastInDim_apply _ G.col _ (ix2 r 0) (ix1 r) (by
      intro a
      match a with
      | ⟨0, _⟩ =>
        show r.val = if R = 1 then 0 else r.val
        split
        · have := r.isLt; omega
        · rfl),
    broadcastInDim_apply _ G.rows _ (ix2 r k) (ix2 0 k) (by
      intro a
      match a with
      | ⟨0, _⟩ => rfl
      | ⟨1, _⟩ => rfl),
    broadcastInDim_apply _ G.row _ (ix2 0 k) (ix1 k) (by
      intro a
      match a with
      | ⟨0, _⟩ => rfl),
    squaresV_apply]
  have e : ∀ c : Fin 256, transpose (Mat 256 1024) [1, 0] cb G.turn (ix2 c k) = cb (ix2 k c) := fun c =>
    transpose_apply _ _ _ _ (ix2 k c) fun a => by
      match a with
      | ⟨0, _⟩ => rfl
      | ⟨1, _⟩ => rfl
  simp only [e]
  rfl

/-- The place of the nearest code. -/
theorem leastV_gapV (h : (Mat R 1024).ReducesTo [1] (Line R)) (hp : 0 < Dot.numel)
    (hz : ∀ r c, Real' (z (ix2 r c))) (hcb : ∀ k c, Real' (cb (ix2 k c))) (hq : ∀ k, q (ix1 k) = sq (tableOf cb) k) (r : Fin R) :
    leastV h hp (gapV G z cb q) (ix1 r)
      = BitVec.ofNat 32 (first fun k => two * (∑ c : Fin 256, z (ix2 r c) * cb (ix2 k c)) - sq (tableOf cb) k).val := by
  obtain ⟨k, hk, h1, h2⟩ := leastV_spec h hp (gapV G z cb q) r
  rw [hk]
  simp only [gapV_apply, hq] at h1 h2
  exact congrArg (fun k : Fin 1024 => BitVec.ofNat 32 k.val) (isFirst_of_least (Real'.sum _ _ fun c _ => (hz r c).mul (hz r c))
    (fun k => real_ofBits_two.mul (Real'.sum _ _ fun c _ => (hz r c).mul (hcb k c)))
    (fun k => Real'.sum _ _ fun c _ => (hcb k c).mul (hcb k c)) h1 h2).eq_first

end

/-! ### The nearest codes -/

/-- What the nearest codes of `n` times of each batch row ask of the shapes; the `R` vectors are all times of all rows. -/
structure Table (n R : ℕ) : Prop where
  count : R = 32 * n
  swap : (Cube 32 256 n).Transposes [0, 2, 1] (Cube 32 n 256)
  flat : (Cube 32 n 256).ShapeCasts (Mat R 256)
  gaps : Gaps R
  least : (Mat R 1024).ReducesTo [1] (Line R)
  take : Take R
  box : (Mat R 256).ShapeCasts (Cube 32 n 256)
  back : (Cube 32 n 256).Transposes [0, 2, 1] (Cube 32 256 n)

section
variable {n R : ℕ} (T : Table n R) (z : FVec Ideal (Cube 32 256 n) .f32) (cb : FVec Ideal (Mat 1024 256) .f32) (q : FVec Ideal (Line 1024) .f32)

/-- All times of all batch rows, one vector each. -/
def flatV : FVec Ideal (Mat R 256) .f32 := shapeCast (Mat R 256) (transpose (Cube 32 n 256) [0, 2, 1] z T.swap) T.flat

/-- The codes put back in their batch rows. -/
def boxV (y : FVec Ideal (Mat R 256) .f32) : FVec Ideal (Cube 32 256 n) .f32 :=
  transpose (Cube 32 256 n) [0, 2, 1] (shapeCast (Cube 32 n 256) y T.box) T.back

/-- The nearest codes. -/
def nearestV : FVec Ideal (Cube 32 256 n) .f32 :=
  boxV T (takeV T.take cb (leastV T.least T.gaps.pos (gapV T.gaps (flatV T z) cb q)))

/-- The vector of time `j` of row `b`. -/
def spot (b : Fin 32) (j : Fin n) : Fin R := ⟨b.val * n + j.val, by
  have := b.isLt; have := j.isLt; have := T.count
  have h : b.val * n + n ≤ 32 * n := by
    have : (b.val + 1) * n ≤ 32 * n := Nat.mul_le_mul_right _ (by omega)
    rwa [Nat.add_mul, Nat.one_mul] at this
  omega⟩

theorem spot_surj (r : Fin R) : ∃ b j, r = spot T b j := by
  have hr : r.val < 32 * n := T.count ▸ r.isLt
  have hn : 0 < n := by
    rcases Nat.eq_zero_or_pos n with h | h
    · rw [h] at hr; omega
    · exact h
  refine ⟨⟨r.val / n, Nat.div_lt_of_lt_mul (by rwa [Nat.mul_comm])⟩, ⟨r.val % n, Nat.mod_lt _ hn⟩, Fin.ext ?_⟩
  show r.val = r.val / n * n + r.val % n
  rw [Nat.mul_comm]
  exact (Nat.div_add_mod _ _).symm

theorem spot_rowMajor (b : Fin 32) (j : Fin n) (c : Fin 256) :
    ((Cube 32 n 256).rowMajor (ix3 b j c)).val = ((Mat R 256).rowMajor (ix2 (spot T b j) c)).val := by
  show (Shape.rowMajorPi ![32, n, 256] (ix3 b j c)).val = (Shape.rowMajorPi ![R, 256] (ix2 (spot T b j) c)).val
  simp only [Shape.rowMajorPi_succ_val, Shape.rowMajorPi_zero]
  simp [ix2, ix3, Fin.prod_univ_succ, spot]
  ring

theorem flatV_apply (b : Fin 32) (j : Fin n) (c : Fin 256) : flatV T z (ix2 (spot T b j) c) = z (ix3 b c j) := by
  unfold flatV
  rw [shapeCast_apply _ _ _ (ix3 b j c) (spot_rowMajor T b j c)]
  exact transpose_apply _ _ _ _ (ix3 b c j) fun a => by
    match a with
    | ⟨0, _⟩ => rfl
    | ⟨1, _⟩ => rfl
    | ⟨2, _⟩ => rfl

theorem boxV_apply (y : FVec Ideal (Mat R 256) .f32) (b : Fin 32) (c : Fin 256) (j : Fin n) :
    boxV T y (ix3 b c j) = y (ix2 (spot T b j) c) := by
  unfold boxV
  rw [transpose_apply _ _ _ _ (ix3 b j c) fun a => by
    match a with
    | ⟨0, _⟩ => rfl
    | ⟨1, _⟩ => rfl
    | ⟨2, _⟩ => rfl]
  exact shapeCast_apply _ _ _ _ (spot_rowMajor T b j c).symm

theorem nearestV_apply (hz : ∀ b, RealRow (rowAt z b)) (hcb : ∀ k c, Real' (cb (ix2 k c))) (hq : ∀ k, q (ix1 k) = sq (tableOf cb) k)
    (b : Fin 32) : rowAt (nearestV T z cb q) b = code (tableOf cb) (rowAt z b) := by
  funext c j
  have hf : ∀ r c, Real' (flatV T z (ix2 r c)) := fun r c => by
    obtain ⟨b, j, rfl⟩ := spot_surj T r
    rw [flatV_apply]
    exact hz b c j
  show nearestV T z cb q (ix3 b c j) = _
  unfold nearestV
  rw [boxV_apply, takeV_apply T.take cb _ (leastV_gapV T.gaps (flatV T z) cb q T.least T.gaps.pos hf hcb hq)]
  simp only [flatV_apply]
  rfl

end

end Cert.Proof.Vq
-- ==== Proof.Blend.lean ====
/- The reference's convolution of three taps along time, and its half blend with the row. -/
module

public import proofs.«01_k».proof.Proof.Nearest
public import Idealize.ShloMosaic.Lib.KernelVsHost

@[expose] public section

noncomputable section

namespace Cert.Proof.Vq

open Idealize.ShloMosaic hiding ix0 ix1 ix2 ix3 ix4
open Idealize.ShloMosaic.ValueIdx
open scoped BigOperators

/-- The shape of the taps of several stages. -/
abbrev TapStack (s : ℕ) : Shape := ⟨4, ![s, 256, 256, 3]⟩

/-- What stage `s`'s convolution and blend ask of the shapes. -/
structure Blend (s : ℕ) : Prop where
  lt : s < 4
  dotCube : Dot.BroadcastsInDim (Cube 32 256 256) ![]
  stage : (TapStack 4).Slices ![s, 0, 0, 0] (TapStack 1)
  cut : (TapStack 1).ShapeCasts (Cube 256 256 3)
  biasRow : (Mat 4 256).Slices ![s, 0] (Mat 1 256)
  bias : (Mat 1 256).ShapeCasts (Line 256)
  pads : (Cube 32 256 256).Pads ![0, 0, 1] ![0, 0, 1] ![0, 0, 0] (Cube 32 256 258)
  pos : 0 < Dot.numel
  tap : ∀ k < 3, (Cube 256 256 3).Slices ![0, 0, k] (Cube 256 256 1)
  tapMat : (Cube 256 256 1).ShapeCasts (Mat 256 256)
  window : ∀ k < 3, (Cube 32 256 258).Slices ![0, 0, k] (Cube 32 256 256)
  dot : DotDims.WF (Cube 32 256 256) (Mat 256 256) (Cube 32 256 256) [1] [1] [0, 2] [0] [] []
  swap : (Cube 32 256 256).Transposes [0, 2, 1] (Cube 32 256 256)
  biasCol : (Line 256).BroadcastsInDim (Cube 1 256 1) ![1]
  biasCube : (Cube 1 256 1).BroadcastsInDim (Cube 32 256 256) ![0, 1, 2]

/-- The dimension numbers of the product over a stack's middle axis. -/
abbrev dims11 (wf : DotDims.WF (Cube 32 256 256) (Mat 256 256) (Cube 32 256 256) [1] [1] [0, 2] [0] [] []) :
    DotDims (Cube 32 256 256) (Mat 256 256) (Cube 32 256 256) where
  lhsContracting := [1]
  rhsContracting := [1]
  lhsNonContracting := [0, 2]
  rhsNonContracting := [0]
  lhsBatch := []
  rhsBatch := []
  wf := wf

theorem dot11_apply (wf : DotDims.WF (Cube 32 256 256) (Mat 256 256) (Cube 32 256 256) [1] [1] [0, 2] [0] [] [])
    (x : FVec Ideal (Cube 32 256 256) .f32) (y : FVec Ideal (Mat 256 256) .f32) (b : Fin 32) (t o : Fin 256) :
    Host.dotGeneral (dims11 wf) none x y (ix3 b t o) = ∑ i : Fin 256, x (ix3 b i t) * y (ix2 o i) := by
  show FloatOps.dotGeneral _ none _ x y (ix3 b t o) = _
  have hr : (dims11 wf).contr.rank = 1 := rfl
  have hs : (dims11 wf).contr.size ⟨0, by rw [hr]; exact Nat.one_pos⟩ = 256 := rfl
  rw [Ideal.dotGeneral_apply, ← Equiv.sum_comp (contrEquiv1 _ 256 hr hs).symm]
  refine Finset.sum_congr rfl fun k _ => ?_
  have hk := contrEquiv1_symm_val _ 256 hr hs k
  have el : (dims11 wf).lhsIdx (ix3 b t o) ((contrEquiv1 _ 256 hr hs).symm k) = ix3 b k t := by
    funext a; apply Fin.ext
    match a with
    | ⟨0, _⟩ => rfl
    | ⟨1, _⟩ => exact hk
    | ⟨2, _⟩ => rfl
  have er : (dims11 wf).rhsIdx (ix3 b t o) ((contrEquiv1 _ 256 hr hs).symm k) = ix2 o k := by
    funext a; apply Fin.ext
    match a with
    | ⟨0, _⟩ => rfl
    | ⟨1, _⟩ => exact hk
  rw [el, er]

section
variable {s : ℕ} (B : Blend s) (h : FVec Ideal (Cube 32 256 256) .f32) (w : FVec Ideal (TapStack 4) .f32) (b : FVec Ideal (Mat 4 256) .f32)

/-- The stack with one zero before and one after every row. -/
def paddedR : FVec Ideal (Cube 32 256 258) .f32 :=
  pad (Cube 32 256 258) ![0, 0, 1] ![0, 0, 1] ![0, 0, 0] h (sitofp .f32 (constantI Dot 32 0#32) : FVec Ideal Dot .f32) B.pads B.pos

/-- One tap of the convolution. -/
def tapR (k : ℕ) (hk : k < 3) : FVec Ideal (Cube 32 256 256) .f32 :=
  transpose (Cube 32 256 256) [0, 2, 1] (Host.dotGeneral (dims11 B.dot) none
    (extractStridedSlice (Cube 32 256 256) ![0, 0, k] (paddedR B h) (B.window k hk))
    (shapeCast (Mat 256 256) (extractStridedSlice (Cube 256 256 1) ![0, 0, k]
      (shapeCast (Cube 256 256 3) (extractStridedSlice (TapStack 1) ![s, 0, 0, 0] w B.stage) B.cut) (B.tap k hk)) B.tapMat)) B.swap

/-- The bias of every channel. -/
def biasR : FVec Ideal (Cube 32 256 256) .f32 :=
  broadcastInDim (Cube 32 256 256) ![0, 1, 2] B.biasCube (broadcastInDim (Cube 1 256 1) ![1] B.biasCol
    (shapeCast (Line 256) (extractStridedSlice (Mat 1 256) ![s, 0] b B.biasRow) B.bias))

/-- One number everywhere on the stack. -/
def onCube (x : BitVec 32) : FVec Ideal (Cube 32 256 256) .f32 := broadcastInDim (Cube 32 256 256) ![] B.dotCube (constant Dot .f32 x)

/-- Half the stack and half its convolution. -/
def blendR : FVec Ideal (Cube 32 256 256) .f32 :=
  addf (mulf h (onCube B 0x3F000000#32)) (mulf (addf (addf (addf (tapR B h w 0 (by decide)) (tapR B h w 1 (by decide)))
    (tapR B h w 2 (by decide))) (biasR B b)) (onCube B 0x3F000000#32))

theorem biasR_apply (n : Fin 32) (o t : Fin 256) : biasR B b (ix3 n o t) = b (ix2 ⟨s, B.lt⟩ o) := by
  unfold biasR
  rw [broadcastInDim_apply _ _ _ (ix3 n o t) (ix3 0 o 0) (by
      intro a
      match a with
      | ⟨0, _⟩ => rfl
      | ⟨1, _⟩ => rfl
      | ⟨2, _⟩ => rfl),
    broadcastInDim_apply _ _ _ (ix3 0 o 0) (ix1 o) (by
      intro a
      match a with
      | ⟨0, _⟩ => rfl),
    shapeCast_apply _ _ _ (ix2 0 o) (by
      show (Shape.rowMajorPi ![1, 256] (ix2 0 o)).val = (Shape.rowMajorPi ![256] (ix1 o)).val
      simp [Shape.rowMajorPi_succ_val, Shape.rowMajorPi_zero, ix1, ix2, Fin.prod_univ_succ]),
    extractStridedSlice_apply _ _ _ _ (ix2 ⟨s, B.lt⟩ o) (by
      intro a
      match a with
      | ⟨0, _⟩ => rfl
      | ⟨1, _⟩ => exact (Nat.zero_add _).symm)]

theorem tapMat_apply (k : ℕ) (hk : k < 3) (o i : Fin 256) :
    shapeCast (Mat 256 256) (extractStridedSlice (Cube 256 256 1) ![0, 0, k]
      (shapeCast (Cube 256 256 3) (extractStridedSlice (TapStack 1) ![s, 0, 0, 0] w B.stage) B.cut) (B.tap k hk)) B.tapMat (ix2 o i)
      = w (ix4 ⟨s, B.lt⟩ o i ⟨k, hk⟩) := by
  rw [shapeCast_apply _ _ _ (ix3 o i 0) (by
      show (Shape.rowMajorPi ![256, 256, 1] (ix3 o i 0)).val = (Shape.rowMajorPi ![256, 256] (ix2 o i)).val
      simp [Shape.rowMajorPi_succ_val, Shape.rowMajorPi_zero, ix3, ix2, Fin.prod_univ_succ]),
    extractStridedSlice_apply _ _ _ _ (ix3 o i ⟨k, hk⟩) (by
      intro a
      match a with
      | ⟨0, _⟩ => exact (Nat.zero_add _).symm
      | ⟨1, _⟩ => exact (Nat.zero_add _).symm
      | ⟨2, _⟩ => rfl),
    shapeCast_apply _ _ _ (ix4 0 o i ⟨k, hk⟩) (by
      show (Shape.rowMajorPi ![1, 256, 256, 3] (ix4 0 o i ⟨k, hk⟩)).val = (Shape.rowMajorPi ![256, 256, 3] (ix3 o i ⟨k, hk⟩)).val
      simp [Shape.rowMajorPi_succ_val, Shape.rowMajorPi_zero, ix4, ix3, Fin.prod_univ_succ]),
    extractStridedSlice_apply _ _ _ _ (ix4 ⟨s, B.lt⟩ o i ⟨k, hk⟩) (by
      intro a
      match a with
      | ⟨0, _⟩ => rfl
      | ⟨1, _⟩ => exact (Nat.zero_add _).symm
      | ⟨2, _⟩ => exact (Nat.zero_add _).symm
      | ⟨3, _⟩ => exact (Nat.zero_add _).symm)]

theorem paddedR_inside (n : Fin 32) (i t : Fin 256) (p : Fin 258) (hp : p.val = 1 + t.val) :
    paddedR B h (ix3 n i p) = h (ix3 n i t) := by
  unfold paddedR
  exact pad_apply_of_inside _ _ _ _ _ _ _ _ (ix3 n i t) fun a => by
    match a with
    | ⟨0, _⟩ => show n.val = 0 + n.val * (0 + 1); omega
    | ⟨1, _⟩ => show i.val = 0 + i.val * (0 + 1); omega
    | ⟨2, _⟩ => show p.val = 1 + t.val * (0 + 1); omega

theorem paddedR_outside (n : Fin 32) (i : Fin 256) (p : Fin 258) (hp : p.val = 0 ∨ p.val = 257) :
    paddedR B h (ix3 n i p) = 0 := by
  unfold paddedR
  refine (pad_apply_of_not_inside _ _ _ _ _ _ _ _ ⟨2, by decide⟩ fun hin => ?_).trans ?_
  · have h1 : 1 ≤ p.val := hin.1
    have h2 : (p.val - 1) / (0 + 1) < 256 := hin.2.2
    omega
  · show (((0#32).toInt : ℝ) : EReal) = 0
    simp

theorem tapR_apply (k : ℕ) (hk : k < 3) (n : Fin 32) (o t : Fin 256) :
    tapR B h w k hk (ix3 n o t) = ∑ i : Fin 256, paddedR B h (ix3 n i ⟨k + t.val, by omega⟩) * w (ix4 ⟨s, B.lt⟩ o i ⟨k, hk⟩) := by
  unfold tapR
  rw [transpose_apply _ _ _ _ (ix3 n t o) (fun a => by
    match a with
    | ⟨0, _⟩ => rfl
    | ⟨1, _⟩ => rfl
    | ⟨2, _⟩ => rfl), dot11_apply]
  refine Finset.sum_congr rfl fun i _ => ?_
  rw [tapMat_apply B, extractStridedSlice_apply _ _ _ _ (ix3 n i ⟨k + t.val, by omega⟩) (by
      intro a
      match a with
      | ⟨0, _⟩ => exact (Nat.zero_add _).symm
      | ⟨1, _⟩ => exact (Nat.zero_add _).symm
      | ⟨2, _⟩ => rfl)]

theorem blendR_apply (n : Fin 32) :
    rowAt (blendR B h w b) n = phi (fun k o i => w (ix4 ⟨s, B.lt⟩ o i k)) (fun o => b (ix2 ⟨s, B.lt⟩ o)) (rowAt h n) := by
  funext o t
  have h0 : ∀ i, paddedR B h (ix3 n i ⟨0 + t.val, by omega⟩) = prev (rowAt h n) i t := fun i => by
    unfold prev
    split
    · rename_i ht
      exact paddedR_outside B h n i _ (Or.inl (by show 0 + t.val = 0; omega))
    · exact paddedR_inside B h n i ⟨t.val - 1, by omega⟩ _ (by show 0 + t.val = 1 + (t.val - 1); omega)
  have h1 : ∀ i, paddedR B h (ix3 n i ⟨1 + t.val, by omega⟩) = rowAt h n i t := fun i => paddedR_inside B h n i t _ rfl
  have h2 : ∀ i, paddedR B h (ix3 n i ⟨2 + t.val, by omega⟩) = next (rowAt h n) i t := fun i => by
    unfold next
    split
    · rename_i ht
      exact paddedR_outside B h n i _ (Or.inr (by show 2 + t.val = 257; omega))
    · exact paddedR_inside B h n i ⟨t.val + 1, by omega⟩ _ (by show 2 + t.val = 1 + (t.val + 1); omega)
  show blendR B h w b (ix3 n o t) = _
  unfold blendR
  rw [addf_apply, mulf_apply, mulf_apply, addf_apply, addf_apply, addf_apply, tapR_apply, tapR_apply, tapR_apply, biasR_apply]
  simp only [h0, h1, h2]
  unfold phi conv
  simp only [mul_comm (w _)]
  rfl

end

end Cert.Proof.Vq
-- ==== Proof.Lanes.lean ====
/- The steps of a stage read on one batch row: resampling, the nearest codes, and the convolution of three taps, whose
   shifted copies are cut at the seams between batch rows by two masks. -/
module

public import proofs.«01_k».proof.Proof.Ops

@[expose] public section

noncomputable section

namespace Cert.Proof.Vq

open Idealize.ShloMosaic Idealize.ShloMosaic.ValueIdx
open scoped BigOperators

/-- The place of batch row `g`'s time `j` on the lane axis. -/
def lane {n N : ℕ} (hN : N = 8 * n) (g : Fin 8) (j : Fin n) : Fin N :=
  ⟨g.val * n + j.val, by
    have h := g.isLt; have hj := j.isLt
    calc g.val * n + j.val < g.val * n + n := by omega
      _ = (g.val + 1) * n := by ring
      _ ≤ 8 * n := Nat.mul_le_mul_right n h
      _ = N := hN.symm⟩

/-- Batch row `g` of the array whose lanes hold eight rows. -/
def rowOf {n N : ℕ} (hN : N = 8 * n) (V : FVec Ideal (Mat 256 N) .f32) (g : Fin 8) : Row n :=
  fun c j => V (ix2 c (lane hN g j))

/-- Eight pieces of `n` lanes side by side. -/
def cat8 {n N : ℕ} (p : Fin 8 → FVec Ideal (Mat 256 n) .f32)
    (h : Shape.Concatenates [Mat 256 n, Mat 256 n, Mat 256 n, Mat 256 n, Mat 256 n, Mat 256 n, Mat 256 n, Mat 256 n]
      (Mat 256 N) 1) : FVec Ideal (Mat 256 N) .f32 :=
  concatenate (Mat 256 N) 1 [⟨Mat 256 n, p 0⟩, ⟨Mat 256 n, p 1⟩, ⟨Mat 256 n, p 2⟩, ⟨Mat 256 n, p 3⟩, ⟨Mat 256 n, p 4⟩,
    ⟨Mat 256 n, p 5⟩, ⟨Mat 256 n, p 6⟩, ⟨Mat 256 n, p 7⟩] h

theorem cat8_apply {n N : ℕ} (hN : N = 8 * n) (p : Fin 8 → FVec Ideal (Mat 256 n) .f32)
    (h : Shape.Concatenates [Mat 256 n, Mat 256 n, Mat 256 n, Mat 256 n, Mat 256 n, Mat 256 n, Mat 256 n, Mat 256 n]
      (Mat 256 N) 1) (c : Fin 256) (g : Fin 8) (j : Fin n) :
    cat8 p h (ix2 c (lane hN g j)) = p g (ix2 c j) := by
  have hn : 0 < n := Nat.zero_lt_of_lt j.isLt
  refine concatenate_ofFn_apply (t := Mat 256 N) (s₁ := Mat 256 n) 1 p h rfl n rfl (ix2 c (lane hN g j)) g ?_ (ix2 c j) ?_ ?_
  · show (g.val * n + j.val) / n = g.val
    rw [Nat.mul_comm, Nat.mul_add_div hn, Nat.div_eq_of_lt j.isLt, Nat.add_zero]
  · show j.val = (g.val * n + j.val) % n
    rw [Nat.mul_comm, Nat.mul_add_mod, Nat.mod_eq_of_lt j.isLt]
  · intro b hb
    match b with
    | ⟨0, _⟩ => rfl
    | ⟨1, _⟩ => exact absurd rfl hb

/-- A piece times a matrix of weights. -/
def mulW {n m : ℕ} (wf : DotDims.WF (Mat 256 n) (Mat n m) (Mat 256 m) [1] [0] [0] [1] [] [])
    (hc : (Mat n m).ShapeCasts (Mat n m)) (a : FVec Ideal (Mat 256 n) .f32) (W : FVec Ideal (Mat n m) .f32) :
    FVec Ideal (Mat 256 m) .f32 :=
  matmul { DotDims.plain 256 n m with wf := wf } (some .fp32) a (shapeCast (Mat n m) W hc) (constant (Mat 256 m) .f32 0x00000000#32)

theorem mulW_apply {n m : ℕ} (wf : DotDims.WF (Mat 256 n) (Mat n m) (Mat 256 m) [1] [0] [0] [1] [] [])
    (hc : (Mat n m).ShapeCasts (Mat n m)) (a : FVec Ideal (Mat 256 n) .f32) (W : FVec Ideal (Mat n m) .f32) (c : Fin 256)
    (j : Fin m) : mulW wf hc a W (ix2 c j) = ∑ t : Fin n, a (ix2 c t) * W (ix2 t j) := by
  unfold mulW matmul
  rw [shapeCast_self]
  refine (Ideal.matmul_plain_apply _ _ _ _ _ _).trans ?_
  rw [constant_apply, Ideal.ofBits_zero_f32, zero_add]

/-- Every batch row of `V` times the weights. -/
def resampleV {n m N M : ℕ} (wf : DotDims.WF (Mat 256 n) (Mat n m) (Mat 256 m) [1] [0] [0] [1] [] [])
    (hc : (Mat n m).ShapeCasts (Mat n m)) (hs : ∀ g : Fin 8, (Mat 256 N).Slices ![0, g.val * n] (Mat 256 n))
    (V : FVec Ideal (Mat 256 N) .f32) (W : FVec Ideal (Mat n m) .f32)
    (h : Shape.Concatenates [Mat 256 m, Mat 256 m, Mat 256 m, Mat 256 m, Mat 256 m, Mat 256 m, Mat 256 m, Mat 256 m]
      (Mat 256 M) 1) : FVec Ideal (Mat 256 M) .f32 :=
  cat8 (fun g => mulW wf hc (extractStridedSlice (Mat 256 n) ![0, g.val * n] V (hs g)) W) h

theorem rowOf_resampleV {n m N M : ℕ} (hN : N = 8 * n) (hM : M = 8 * m)
    (wf : DotDims.WF (Mat 256 n) (Mat n m) (Mat 256 m) [1] [0] [0] [1] [] [])
    (hc : (Mat n m).ShapeCasts (Mat n m)) (hs : ∀ g : Fin 8, (Mat 256 N).Slices ![0, g.val * n] (Mat 256 n))
    (V : FVec Ideal (Mat 256 N) .f32) (W : FVec Ideal (Mat n m) .f32)
    (h : Shape.Concatenates [Mat 256 m, Mat 256 m, Mat 256 m, Mat 256 m, Mat 256 m, Mat 256 m, Mat 256 m, Mat 256 m]
      (Mat 256 M) 1) (g : Fin 8) :
    rowOf hM (resampleV wf hc hs V W h) g = resample (fun t j => W (ix2 t j)) (rowOf hN V g) := by
  funext c j
  unfold rowOf resampleV resample
  rw [cat8_apply hM, mulW_apply]
  refine Finset.sum_congr rfl fun t _ => congrArg (· * W (ix2 t j)) ?_
  refine extractStridedSlice_apply _ V (hs g) (ix2 c t) (ix2 c (lane hN g t)) ?_
  intro a
  match a with
  | ⟨0, _⟩ => exact (Nat.zero_add _).symm
  | ⟨1, _⟩ => rfl

/-- The nearest codes of every lane. -/
def nearV {m : ℕ} (wf : DotDims.WF (Mat 256 m) (Mat 1024 256) (Mat m 1024) [0] [1] [1] [0] [] [])
    (hq : (Mat 1 1024).Broadcasts (Mat m 1024)) (hr : (Mat m 1024).Reduces [1] ⟨1, ![m]⟩)
    (hc : Shape.ShapeCasts ⟨1, ![m]⟩ (Mat m 1)) (hb : (Mat m 1).Broadcasts (Mat m 1024))
    (hi : (Mat m 1024).Iotas .tc 32 [1]) (wf' : DotDims.WF (Mat 1024 256) (Mat m 1024) (Mat 256 m) [0] [1] [1] [0] [] [])
    (c1 c2 c3 : FVec Ideal (Mat 1024 256) .bf16) (q : FVec Ideal (Mat 1 1024) .f32) (z : FVec Ideal (Mat 256 m) .f32) :
    FVec Ideal (Mat 256 m) .f32 :=
  codeV wf' c1 c2 c3 (hotV hr hc hb hi (scoreV wf hq z c1 q))

/-- The codebook and its squares as the body holds them, and the parts of the codebook that vanish. -/
structure Book (cb : Fin 1024 → Fin 256 → EReal) (c1 c2 c3 : FVec Ideal (Mat 1024 256) .bf16)
    (q : FVec Ideal (Mat 1 1024) .f32) : Prop where
  hi : ∀ k c, c1 (ix2 k c) = cb k c
  md : ∀ i, c2 i = (0 : EReal)
  lo : ∀ i, c3 i = (0 : EReal)
  sq : ∀ k, q (ix2 0 k) = sq cb k

theorem rowOf_nearV {n m : ℕ} (hm : m = 8 * n) (wf : DotDims.WF (Mat 256 m) (Mat 1024 256) (Mat m 1024) [0] [1] [1] [0] [] [])
    (hq : (Mat 1 1024).Broadcasts (Mat m 1024)) (hr : (Mat m 1024).Reduces [1] ⟨1, ![m]⟩)
    (hc : Shape.ShapeCasts ⟨1, ![m]⟩ (Mat m 1)) (hb : (Mat m 1).Broadcasts (Mat m 1024))
    (hi : (Mat m 1024).Iotas .tc 32 [1]) (wf' : DotDims.WF (Mat 1024 256) (Mat m 1024) (Mat 256 m) [0] [1] [1] [0] [] [])
    {c1 c2 c3 : FVec Ideal (Mat 1024 256) .bf16} {q : FVec Ideal (Mat 1 1024) .f32} (z : FVec Ideal (Mat 256 m) .f32)
    {cb : Fin 1024 → Fin 256 → EReal} (B : Book cb c1 c2 c3 q) (g : Fin 8) :
    rowOf hm (nearV wf hq hr hc hb hi wf' c1 c2 c3 q z) g = code cb (rowOf hm z g) := by
  funext c j
  have hsc : (fun k => scoreV wf hq z c1 q (ix2 (lane hm g j) k)) = score cb (rowOf hm z g) j := by
    funext k
    rw [scoreV_apply, B.sq]
    simp only [B.hi]
    rfl
  refine (codeV_apply wf' c1 c2 c3 B.md B.lo _ (lane hm g j) (first (score cb (rowOf hm z g) j)) (fun k => ?_) c).trans
    (B.hi _ _)
  rw [hotV_apply, hsc]

/-! ### The convolution -/

/-- The column of zeros at the ends. -/
def zeroCol : FVec Ideal (Mat 256 1) .f32 := broadcast (Mat 256 1) (Scalar.ofBits .f32 0x00000000#32)

/-- Every lane's left neighbour, cut by a mask. -/
def prevV (hs : (Mat 256 2048).Slices ![0, 0] (Mat 256 2047)) (hk : Shape.Concatenates [Mat 256 1, Mat 256 2047] (Mat 256 2048) 1)
    (hb : (Mat 1 2048).Broadcasts (Mat 256 2048)) (h : FVec Ideal (Mat 256 2048) .f32) (m : FVec Ideal (Mat 1 2048) .f32) :
    FVec Ideal (Mat 256 2048) .f32 :=
  mulf (concatenate (Mat 256 2048) 1 [⟨Mat 256 1, zeroCol⟩, ⟨Mat 256 2047, extractStridedSlice (Mat 256 2047) ![0, 0] h hs⟩] hk)
    (broadcastTo (Mat 256 2048) m hb)

/-- Every lane's right neighbour, cut by a mask. -/
def nextV (hs : (Mat 256 2048).Slices ![0, 1] (Mat 256 2047)) (hk : Shape.Concatenates [Mat 256 2047, Mat 256 1] (Mat 256 2048) 1)
    (hb : (Mat 1 2048).Broadcasts (Mat 256 2048)) (h : FVec Ideal (Mat 256 2048) .f32) (m : FVec Ideal (Mat 1 2048) .f32) :
    FVec Ideal (Mat 256 2048) .f32 :=
  mulf (concatenate (Mat 256 2048) 1 [⟨Mat 256 2047, extractStridedSlice (Mat 256 2047) ![0, 1] h hs⟩, ⟨Mat 256 1, zeroCol⟩] hk)
    (broadcastTo (Mat 256 2048) m hb)

/-- The two masks: zero at a row's first, at a row's last time, one elsewhere. -/
structure Masks (m0 m2 : FVec Ideal (Mat 1 2048) .f32) : Prop where
  start : ∀ (g : Fin 8) (t : Fin 256), m0 (ix2 0 (lane rfl g t)) = if t.val = 0 then (0 : EReal) else 1
  stop : ∀ (g : Fin 8) (t : Fin 256), m2 (ix2 0 (lane rfl g t)) = if t.val = 255 then (0 : EReal) else 1

theorem mask_apply (hb : (Mat 1 2048).Broadcasts (Mat 256 2048)) (m : FVec Ideal (Mat 1 2048) .f32) (c : Fin 256) (l : Fin 2048) :
    broadcastTo (Mat 256 2048) m hb (ix2 c l) = m (ix2 0 l) :=
  broadcastTo_apply m hb (ix2 c l) (ix2 0 l) (by
    intro a
    match a with
    | ⟨0, _⟩ => rfl
    | ⟨1, _⟩ => rfl)

theorem rowOf_prevV (hs : (Mat 256 2048).Slices ![0, 0] (Mat 256 2047))
    (hk : Shape.Concatenates [Mat 256 1, Mat 256 2047] (Mat 256 2048) 1)
    (hb : (Mat 1 2048).Broadcasts (Mat 256 2048)) (h : FVec Ideal (Mat 256 2048) .f32) {m m' : FVec Ideal (Mat 1 2048) .f32}
    (hm : Masks m m') (g : Fin 8) : rowOf rfl (prevV hs hk hb h m) g = prev (rowOf rfl h g) := by
  funext c t
  show prevV hs hk hb h m (ix2 c (lane rfl g t)) = _
  unfold prevV prev
  rw [mulf_apply, mask_apply, hm.start]
  by_cases ht : t.val = 0
  · rw [if_pos ht, dif_pos ht, mul_zero]
  · rw [if_neg ht, dif_neg ht, mul_one]
    have hl : (lane (n := 256) (N := 2048) rfl g t).val = g.val * 256 + t.val := rfl
    have h1 := g.isLt; have h2 := t.isLt
    refine (concatenate_pair_apply_right (t := Mat 256 2048) (s₁ := Mat 256 1) (s₂ := Mat 256 2047) 1 _ _ hk _ rfl rfl
      (ix2 c ⟨g.val * 256 + t.val - 1, by omega⟩) ?_ ?_).trans ?_
    · intro b hb'
      match b with
      | ⟨0, _⟩ => rfl
      | ⟨1, _⟩ => exact absurd rfl hb'
    · show g.val * 256 + t.val - 1 + 1 = g.val * 256 + t.val
      omega
    · refine extractStridedSlice_apply _ h hs _ (ix2 c (lane rfl g ⟨t.val - 1, by omega⟩)) ?_
      intro a
      match a with
      | ⟨0, _⟩ => exact (Nat.zero_add _).symm
      | ⟨1, _⟩ => show g.val * 256 + (t.val - 1) = 0 + (g.val * 256 + t.val - 1)
                  omega

theorem rowOf_nextV (hs : (Mat 256 2048).Slices ![0, 1] (Mat 256 2047))
    (hk : Shape.Concatenates [Mat 256 2047, Mat 256 1] (Mat 256 2048) 1)
    (hb : (Mat 1 2048).Broadcasts (Mat 256 2048)) (h : FVec Ideal (Mat 256 2048) .f32) {m m' : FVec Ideal (Mat 1 2048) .f32}
    (hm : Masks m' m) (g : Fin 8) : rowOf rfl (nextV hs hk hb h m) g = next (rowOf rfl h g) := by
  funext c t
  show nextV hs hk hb h m (ix2 c (lane rfl g t)) = _
  unfold nextV next
  rw [mulf_apply, mask_apply, hm.stop]
  by_cases ht : t.val = 255
  · rw [if_pos ht, dif_pos ht, mul_zero]
  · rw [if_neg ht, dif_neg ht, mul_one]
    have hl : (lane (n := 256) (N := 2048) rfl g t).val = g.val * 256 + t.val := rfl
    have h1 := g.isLt; have h2 := t.isLt
    refine (concatenate_pair_apply_left (t := Mat 256 2048) (s₁ := Mat 256 2047) (s₂ := Mat 256 1) 1 _ _ hk _ rfl
      (ix2 c ⟨g.val * 256 + t.val, by omega⟩) ?_).trans ?_
    · intro b
      match b with
      | ⟨0, _⟩ => rfl
      | ⟨1, _⟩ => rfl
    · refine extractStridedSlice_apply _ h hs _ (ix2 c (lane rfl g ⟨t.val + 1, by omega⟩)) ?_
      intro a
      match a with
      | ⟨0, _⟩ => exact (Nat.zero_add _).symm
      | ⟨1, _⟩ => show g.val * 256 + (t.val + 1) = 1 + (g.val * 256 + t.val)
                  omega

/-- One tap: a matrix of weights times the lanes. -/
def tapV (wf : DotDims.WF (Mat 256 256) (Mat 256 2048) (Mat 256 2048) [1] [0] [0] [1] [] [])
    (hc : Shape.ShapeCasts ⟨4, ![1, 1, 256, 256]⟩ (Mat 256 256)) (w : FVec Ideal ⟨4, ![1, 1, 256, 256]⟩ .f32)
    (h : FVec Ideal (Mat 256 2048) .f32) : FVec Ideal (Mat 256 2048) .f32 :=
  matmul { DotDims.plain 256 256 2048 with wf := wf } none
    (truncf .bf16 (shapeCast (Mat 256 256) w hc) (by decide) : FVec Ideal (Mat 256 256) .bf16) (truncf .bf16 h (by decide))
    (constant (Mat 256 2048) .f32 0x00000000#32)

theorem tapV_apply (wf : DotDims.WF (Mat 256 256) (Mat 256 2048) (Mat 256 2048) [1] [0] [0] [1] [] [])
    (hc : Shape.ShapeCasts ⟨4, ![1, 1, 256, 256]⟩ (Mat 256 256)) (w : FVec Ideal ⟨4, ![1, 1, 256, 256]⟩ .f32)
    (h : FVec Ideal (Mat 256 2048) .f32) (o : Fin 256) (l : Fin 2048) :
    tapV wf hc w h (ix2 o l) = ∑ c : Fin 256, w (ix4 0 0 o c) * h (ix2 c l) := by
  unfold tapV matmul
  refine (Ideal.matmul_plain_apply _ _ _ _ _ _).trans ?_
  rw [constant_apply, Ideal.ofBits_zero_f32, zero_add]
  refine Finset.sum_congr rfl fun c _ => ?_
  rw [truncf_apply, truncf_apply]
  refine congrArg (· * h (ix2 c l)) (shapeCast_apply w hc (ix2 o c) (ix4 0 0 o c) ?_)
  show (Shape.rowMajorPi ![1, 1, 256, 256] (ix4 0 0 o c)).val = (Shape.rowMajorPi ![256, 256] (ix2 o c)).val
  simp [Shape.rowMajorPi_succ_val, Shape.rowMajorPi_zero, ix4, ix2, Fin.prod_univ_succ]

/-- Half the lanes and half their convolution. -/
def phiV (wf : DotDims.WF (Mat 256 256) (Mat 256 2048) (Mat 256 2048) [1] [0] [0] [1] [] [])
    (hc : Shape.ShapeCasts ⟨4, ![1, 1, 256, 256]⟩ (Mat 256 256))
    (hs0 : (Mat 256 2048).Slices ![0, 0] (Mat 256 2047)) (hk0 : Shape.Concatenates [Mat 256 1, Mat 256 2047] (Mat 256 2048) 1)
    (hs2 : (Mat 256 2048).Slices ![0, 1] (Mat 256 2047)) (hk2 : Shape.Concatenates [Mat 256 2047, Mat 256 1] (Mat 256 2048) 1)
    (hb : (Mat 1 2048).Broadcasts (Mat 256 2048)) (hb1 : Shape.ShapeCasts (Mat 1 256) ⟨1, ![256]⟩)
    (hb2 : Shape.ShapeCasts ⟨1, ![256]⟩ (Mat 256 1)) (hb3 : (Mat 256 1).Broadcasts (Mat 256 2048))
    (m0 m2 : FVec Ideal (Mat 1 2048) .f32) (w0 w1 w2 : FVec Ideal ⟨4, ![1, 1, 256, 256]⟩ .f32)
    (b : FVec Ideal (Mat 1 256) .f32) (h : FVec Ideal (Mat 256 2048) .f32) : FVec Ideal (Mat 256 2048) .f32 :=
  addf (mulf h (broadcast (Mat 256 2048) (Scalar.ofBits .f32 0x3F000000#32)))
    (mulf (addf (addf (addf (tapV wf hc w0 (prevV hs0 hk0 hb h m0)) (tapV wf hc w1 h)) (tapV wf hc w2 (nextV hs2 hk2 hb h m2)))
      (broadcastTo (Mat 256 2048) (shapeCast (Mat 256 1) (shapeCast ⟨1, ![256]⟩ b hb1) hb2) hb3))
      (broadcast (Mat 256 2048) (Scalar.ofBits .f32 0x3F000000#32)))

theorem bias_apply (hb1 : Shape.ShapeCasts (Mat 1 256) ⟨1, ![256]⟩)
    (hb2 : Shape.ShapeCasts ⟨1, ![256]⟩ (Mat 256 1)) (hb3 : (Mat 256 1).Broadcasts (Mat 256 2048))
    (b : FVec Ideal (Mat 1 256) .f32) (o : Fin 256) (l : Fin 2048) :
    broadcastTo (Mat 256 2048) (shapeCast (Mat 256 1) (shapeCast ⟨1, ![256]⟩ b hb1) hb2) hb3 (ix2 o l) = b (ix2 0 o) := by
  refine (broadcastTo_apply _ hb3 (ix2 o l) (ix2 o 0) ?_).trans ((shapeCast_apply _ hb2 (ix2 o 0) (ix1 o) ?_).trans
    (shapeCast_apply _ hb1 (ix1 o) (ix2 0 o) ?_))
  · intro a
    match a with
    | ⟨0, _⟩ => rfl
    | ⟨1, _⟩ => rfl
  · show (Shape.rowMajorPi ![256] (ix1 o)).val = (Shape.rowMajorPi ![256, 1] (ix2 o 0)).val
    simp [Shape.rowMajorPi_succ_val, Shape.rowMajorPi_zero, ix1, ix2]
  · show (Shape.rowMajorPi ![1, 256] (ix2 0 o)).val = (Shape.rowMajorPi ![256] (ix1 o)).val
    simp [Shape.rowMajorPi_succ_val, Shape.rowMajorPi_zero, ix1, ix2]

/-- The taps and the bias as the body holds them. -/
structure Taps (w : Fin 3 → Fin 256 → Fin 256 → EReal) (b : Fin 256 → EReal)
    (w0 w1 w2 : FVec Ideal ⟨4, ![1, 1, 256, 256]⟩ .f32) (bV : FVec Ideal (Mat 1 256) .f32) : Prop where
  t0 : ∀ o c, w0 (ix4 0 0 o c) = w 0 o c
  t1 : ∀ o c, w1 (ix4 0 0 o c) = w 1 o c
  t2 : ∀ o c, w2 (ix4 0 0 o c) = w 2 o c
  bias : ∀ o, bV (ix2 0 o) = b o

theorem rowOf_phiV (wf : DotDims.WF (Mat 256 256) (Mat 256 2048) (Mat 256 2048) [1] [0] [0] [1] [] [])
    (hc : Shape.ShapeCasts ⟨4, ![1, 1, 256, 256]⟩ (Mat 256 256))
    (hs0 : (Mat 256 2048).Slices ![0, 0] (Mat 256 2047)) (hk0 : Shape.Concatenates [Mat 256 1, Mat 256 2047] (Mat 256 2048) 1)
    (hs2 : (Mat 256 2048).Slices ![0, 1] (Mat 256 2047)) (hk2 : Shape.Concatenates [Mat 256 2047, Mat 256 1] (Mat 256 2048) 1)
    (hb : (Mat 1 2048).Broadcasts (Mat 256 2048)) (hb1 : Shape.ShapeCasts (Mat 1 256) ⟨1, ![256]⟩)
    (hb2 : Shape.ShapeCasts ⟨1, ![256]⟩ (Mat 256 1)) (hb3 : (Mat 256 1).Broadcasts (Mat 256 2048))
    {m0 m2 : FVec Ideal (Mat 1 2048) .f32} {w0 w1 w2 : FVec Ideal ⟨4, ![1, 1, 256, 256]⟩ .f32}
    {bV : FVec Ideal (Mat 1 256) .f32} (h : FVec Ideal (Mat 256 2048) .f32) (hm : Masks m0 m2)
    {w : Fin 3 → Fin 256 → Fin 256 → EReal} {b : Fin 256 → EReal} (T : Taps w b w0 w1 w2 bV) (g : Fin 8) :
    rowOf rfl (phiV wf hc hs0 hk0 hs2 hk2 hb hb1 hb2 hb3 m0 m2 w0 w1 w2 bV h) g = phi w b (rowOf rfl h g) := by
  funext o t
  have hp : ∀ c, prevV hs0 hk0 hb h m0 (ix2 c (lane rfl g t)) = prev (rowOf rfl h g) c t :=
    fun c => congrFun (congrFun (rowOf_prevV hs0 hk0 hb h hm g) c) t
  have hn : ∀ c, nextV hs2 hk2 hb h m2 (ix2 c (lane rfl g t)) = next (rowOf rfl h g) c t :=
    fun c => congrFun (congrFun (rowOf_nextV hs2 hk2 hb h hm g) c) t
  show phiV wf hc hs0 hk0 hs2 hk2 hb hb1 hb2 hb3 m0 m2 w0 w1 w2 bV h (ix2 o (lane rfl g t)) = _
  unfold phiV phi conv
  rw [addf_apply, mulf_apply, mulf_apply, addf_apply, addf_apply, addf_apply, tapV_apply, tapV_apply, tapV_apply, bias_apply,
    T.bias]
  simp only [T.t0, T.t1, T.t2, hp, hn]
  rfl

theorem rowOf_subf {n N : ℕ} (hN : N = 8 * n) (r h : FVec Ideal (Mat 256 N) .f32) (g : Fin 8) :
    rowOf hN (subf r h) g = fun c j => rowOf hN r g c j - rowOf hN h g c j := rfl

theorem rowOf_addf {n N : ℕ} (hN : N = 8 * n) (r h : FVec Ideal (Mat 256 N) .f32) (g : Fin 8) :
    rowOf hN (addf r h) g = fun c j => rowOf hN r g c j + rowOf hN h g c j := rfl

end Cert.Proof.Vq
-- ==== Proof.Stage.lean ====
/- A whole stage on the lane axis, its shape facts bundled, and its reading on one batch row. -/
module

public import proofs.«01_k».proof.Proof.Lanes

@[expose] public section

noncomputable section

namespace Cert.Proof.Vq

open Idealize.ShloMosaic Idealize.ShloMosaic.ValueIdx
open scoped BigOperators

/-- The shape facts of the nearest codes at `m` lanes. -/
structure Near (m : ℕ) : Prop where
  wf : DotDims.WF (Mat 256 m) (Mat 1024 256) (Mat m 1024) [0] [1] [1] [0] [] []
  hq : (Mat 1 1024).Broadcasts (Mat m 1024)
  hr : (Mat m 1024).Reduces [1] ⟨1, ![m]⟩
  hc : Shape.ShapeCasts ⟨1, ![m]⟩ (Mat m 1)
  hb : (Mat m 1).Broadcasts (Mat m 1024)
  hi : (Mat m 1024).Iotas .tc 32 [1]
  wf' : DotDims.WF (Mat 1024 256) (Mat m 1024) (Mat 256 m) [0] [1] [1] [0] [] []

/-- The shape facts of the resamplings between 256 and `n` times, eight rows side by side. -/
structure Fits (n m : ℕ) : Prop where
  wd : DotDims.WF (Mat 256 256) (Mat 256 n) (Mat 256 n) [1] [0] [0] [1] [] []
  cd : (Mat 256 n).ShapeCasts (Mat 256 n)
  sd : ∀ g : Fin 8, (Mat 256 2048).Slices ![0, g.val * 256] (Mat 256 256)
  kd : Shape.Concatenates [Mat 256 n, Mat 256 n, Mat 256 n, Mat 256 n, Mat 256 n, Mat 256 n, Mat 256 n, Mat 256 n] (Mat 256 m) 1
  wu : DotDims.WF (Mat 256 n) (Mat n 256) (Mat 256 256) [1] [0] [0] [1] [] []
  cu : (Mat n 256).ShapeCasts (Mat n 256)
  su : ∀ g : Fin 8, (Mat 256 m).Slices ![0, g.val * n] (Mat 256 n)
  ku : Shape.Concatenates [Mat 256 256, Mat 256 256, Mat 256 256, Mat 256 256, Mat 256 256, Mat 256 256, Mat 256 256, Mat 256 256]
    (Mat 256 2048) 1

/-- The shape facts of the convolution. -/
structure Seams : Prop where
  wf : DotDims.WF (Mat 256 256) (Mat 256 2048) (Mat 256 2048) [1] [0] [0] [1] [] []
  hc : Shape.ShapeCasts ⟨4, ![1, 1, 256, 256]⟩ (Mat 256 256)
  hs0 : (Mat 256 2048).Slices ![0, 0] (Mat 256 2047)
  hk0 : Shape.Concatenates [Mat 256 1, Mat 256 2047] (Mat 256 2048) 1
  hs2 : (Mat 256 2048).Slices ![0, 1] (Mat 256 2047)
  hk2 : Shape.Concatenates [Mat 256 2047, Mat 256 1] (Mat 256 2048) 1
  hb : (Mat 1 2048).Broadcasts (Mat 256 2048)
  hb1 : Shape.ShapeCasts (Mat 1 256) ⟨1, ![256]⟩
  hb2 : Shape.ShapeCasts ⟨1, ![256]⟩ (Mat 256 1)
  hb3 : (Mat 256 1).Broadcasts (Mat 256 2048)

theorem near256 : Near 256 := ⟨by decide, by decide, by decide, by decide, by decide, by decide, by decide⟩
theorem near512 : Near 512 := ⟨by decide, by decide, by decide, by decide, by decide, by decide, by decide⟩
theorem near1024 : Near 1024 := ⟨by decide, by decide, by decide, by decide, by decide, by decide, by decide⟩
theorem near2048 : Near 2048 := ⟨by decide, by decide, by decide, by decide, by decide, by decide, by decide⟩
theorem fits32 : Fits 32 256 := ⟨by decide, by decide, by decide, by decide, by decide, by decide, by decide, by decide⟩
theorem fits64 : Fits 64 512 := ⟨by decide, by decide, by decide, by decide, by decide, by decide, by decide, by decide⟩
theorem fits128 : Fits 128 1024 := ⟨by decide, by decide, by decide, by decide, by decide, by decide, by decide, by decide⟩
theorem seams : Seams :=
  ⟨by decide, by decide, by decide, by decide, by decide, by decide, by decide, by decide, by decide, by decide⟩

/-- The nearest codes of every lane. -/
def nearL {m : ℕ} (h : Near m) (c1 c2 c3 : FVec Ideal (Mat 1024 256) .bf16) (q : FVec Ideal (Mat 1 1024) .f32)
    (z : FVec Ideal (Mat 256 m) .f32) : FVec Ideal (Mat 256 m) .f32 :=
  nearV h.wf h.hq h.hr h.hc h.hb h.hi h.wf' c1 c2 c3 q z
/-- Each row at fewer times. -/
def downL {n m : ℕ} (h : Fits n m) (r : FVec Ideal (Mat 256 2048) .f32) (W : FVec Ideal (Mat 256 n) .f32) :
    FVec Ideal (Mat 256 m) .f32 := resampleV h.wd h.cd h.sd r W h.kd
/-- Each row back at 256 times. -/
def upL {n m : ℕ} (h : Fits n m) (z : FVec Ideal (Mat 256 m) .f32) (W : FVec Ideal (Mat n 256) .f32) :
    FVec Ideal (Mat 256 2048) .f32 := resampleV h.wu h.cu h.su z W h.ku
/-- Half the lanes and half their convolution. -/
def phiL (m0 m2 : FVec Ideal (Mat 1 2048) .f32) (w0 w1 w2 : FVec Ideal ⟨4, ![1, 1, 256, 256]⟩ .f32)
    (b : FVec Ideal (Mat 1 256) .f32) (h : FVec Ideal (Mat 256 2048) .f32) : FVec Ideal (Mat 256 2048) .f32 :=
  phiV seams.wf seams.hc seams.hs0 seams.hk0 seams.hs2 seams.hk2 seams.hb seams.hb1 seams.hb2 seams.hb3 m0 m2 w0 w1 w2 b h

section
variable {cb : Fin 1024 → Fin 256 → EReal} {c1 c2 c3 : FVec Ideal (Mat 1024 256) .bf16} {q : FVec Ideal (Mat 1 1024) .f32}

theorem rowOf_nearL {n m : ℕ} (hm : m = 8 * n) (h : Near m) (B : Book cb c1 c2 c3 q) (z : FVec Ideal (Mat 256 m) .f32) (g : Fin 8) :
    rowOf hm (nearL h c1 c2 c3 q z) g = code cb (rowOf hm z g) := rowOf_nearV hm _ _ _ _ _ _ _ z B g

/-- A row through the codes at `n` times. -/
theorem rowOf_quantL {n m : ℕ} (hm : m = 8 * n) (h : Near m) (f : Fits n m) (B : Book cb c1 c2 c3 q)
    (r : FVec Ideal (Mat 256 2048) .f32) (Wd : FVec Ideal (Mat 256 n) .f32) (Wu : FVec Ideal (Mat n 256) .f32) (g : Fin 8) :
    rowOf rfl (upL f (nearL h c1 c2 c3 q (downL f r Wd)) Wu) g
      = quant cb (fun t j => Wd (ix2 t j)) (fun t j => Wu (ix2 t j)) (rowOf rfl r g) := by
  unfold upL quant
  rw [rowOf_resampleV hm rfl, rowOf_nearL hm h B]
  unfold downL
  rw [rowOf_resampleV rfl hm]

theorem rowOf_phiL {m0 m2 : FVec Ideal (Mat 1 2048) .f32} {w0 w1 w2 : FVec Ideal ⟨4, ![1, 1, 256, 256]⟩ .f32}
    {bV : FVec Ideal (Mat 1 256) .f32} (hm : Masks m0 m2) {w : Fin 3 → Fin 256 → Fin 256 → EReal} {b : Fin 256 → EReal}
    (T : Taps w b w0 w1 w2 bV) (h : FVec Ideal (Mat 256 2048) .f32) (g : Fin 8) :
    rowOf rfl (phiL m0 m2 w0 w1 w2 bV h) g = phi w b (rowOf rfl h g) := rowOf_phiV _ _ _ _ _ _ _ _ _ _ h hm T g

end

end Cert.Proof.Vq
-- ==== Proof.Chain.lean ====
/- The body's named values, stage by stage: each is the whole stage's step on the values before it. -/
module

public import proofs.«01_k».proof.Proof.Stage
public import proofs.«01_k».proof.Proof.Gen.KernelIdeal.Frame

@[expose] public section

noncomputable section

namespace Cert.Proof.Vq

open Idealize.ShloMosaic Idealize.ShloMosaic.ValueIdx
open Cert.KernelIdeal Cert.KernelIdeal.Gen

variable (x0 : Vec Ideal S8x256x256 .f32) (x1 : Vec Ideal S1024x256 .f32) (x2 : Vec Ideal S1x1024 .f32)
  (x3 : Vec Ideal S4x3x256x256 .f32) (x4 : Vec Ideal S4x256 .f32) (x5 : Vec Ideal S256x32 .f32) (x6 : Vec Ideal S256x64 .f32)
  (x7 : Vec Ideal S256x128 .f32) (x8 : Vec Ideal S32x256 .f32) (x9 : Vec Ideal S64x256 .f32) (x10 : Vec Ideal S128x256 .f32)
  (x11 : Vec Ideal S1x2048 .f32) (x12 : Vec Ideal S1x2048 .f32)

/-! Stage one. -/

theorem pay106_eq : k0_pay106 x0 x1 x2 x3 x4 x5 x6 x7 x8 x9 x10 x11 x12 = nearL near256 (k0_pay83 x0 x1 x2 x3 x4 x5 x6 x7 x8 x9 x10 x11 x12) (k0_pay84 x0 x1 x2 x3 x4 x5 x6 x7 x8 x9 x10 x11 x12) (k0_pay85 x0 x1 x2 x3 x4 x5 x6 x7 x8 x9 x10 x11 x12) (k0_pay86 x0 x1 x2 x3 x4 x5 x6 x7 x8 x9 x10 x11 x12) (downL fits32 (k0_pay96 x0 x1 x2 x3 x4 x5 x6 x7 x8 x9 x10 x11 x12) (View.ld x5 r0_11)) := rfl

theorem pay111_eq : k0_pay111 x0 x1 x2 x3 x4 x5 x6 x7 x8 x9 x10 x11 x12 = upL fits32 (k0_pay106 x0 x1 x2 x3 x4 x5 x6 x7 x8 x9 x10 x11 x12) (View.ld x8 r0_12) := rfl

theorem pay115_eq : k0_pay115 x0 x1 x2 x3 x4 x5 x6 x7 x8 x9 x10 x11 x12 = subf (k0_pay96 x0 x1 x2 x3 x4 x5 x6 x7 x8 x9 x10 x11 x12) (phiL (k0_pay87 x0 x1 x2 x3 x4 x5 x6 x7 x8 x9 x10 x11 x12) (k0_pay88 x0 x1 x2 x3 x4 x5 x6 x7 x8 x9 x10 x11 x12) (View.ld x3 r0_13) (View.ld x3 r0_14) (View.ld x3 r0_15) (View.ld x4 r0_16) (k0_pay111 x0 x1 x2 x3 x4 x5 x6 x7 x8 x9 x10 x11 x12)) := rfl

/-! Stage two. -/

theorem pay121_eq : k0_pay121 x0 x1 x2 x3 x4 x5 x6 x7 x8 x9 x10 x11 x12
    = upL fits64 (nearL near512 (k0_pay83 x0 x1 x2 x3 x4 x5 x6 x7 x8 x9 x10 x11 x12) (k0_pay84 x0 x1 x2 x3 x4 x5 x6 x7 x8 x9 x10 x11 x12) (k0_pay85 x0 x1 x2 x3 x4 x5 x6 x7 x8 x9 x10 x11 x12) (k0_pay86 x0 x1 x2 x3 x4 x5 x6 x7 x8 x9 x10 x11 x12) (downL fits64 (k0_pay115 x0 x1 x2 x3 x4 x5 x6 x7 x8 x9 x10 x11 x12) (View.ld x6 r0_17))) (View.ld x9 r0_18) := rfl

theorem pay123_eq : k0_pay123 x0 x1 x2 x3 x4 x5 x6 x7 x8 x9 x10 x11 x12 = subf (k0_pay115 x0 x1 x2 x3 x4 x5 x6 x7 x8 x9 x10 x11 x12) (phiL (k0_pay87 x0 x1 x2 x3 x4 x5 x6 x7 x8 x9 x10 x11 x12) (k0_pay88 x0 x1 x2 x3 x4 x5 x6 x7 x8 x9 x10 x11 x12) (View.ld x3 r0_19) (View.ld x3 r0_20) (View.ld x3 r0_21) (View.ld x4 r0_22) (k0_pay121 x0 x1 x2 x3 x4 x5 x6 x7 x8 x9 x10 x11 x12)) := rfl

/-! Stage three. -/

theorem pay127_eq : k0_pay127 x0 x1 x2 x3 x4 x5 x6 x7 x8 x9 x10 x11 x12 = nearL near1024 (k0_pay83 x0 x1 x2 x3 x4 x5 x6 x7 x8 x9 x10 x11 x12) (k0_pay84 x0 x1 x2 x3 x4 x5 x6 x7 x8 x9 x10 x11 x12) (k0_pay85 x0 x1 x2 x3 x4 x5 x6 x7 x8 x9 x10 x11 x12) (k0_pay86 x0 x1 x2 x3 x4 x5 x6 x7 x8 x9 x10 x11 x12) (downL fits128 (k0_pay123 x0 x1 x2 x3 x4 x5 x6 x7 x8 x9 x10 x11 x12) (View.ld x7 r0_23)) := rfl

theorem pay134_eq : k0_pay134 x0 x1 x2 x3 x4 x5 x6 x7 x8 x9 x10 x11 x12 = upL fits128 (k0_pay127 x0 x1 x2 x3 x4 x5 x6 x7 x8 x9 x10 x11 x12) (View.ld x10 r0_24) := rfl

/-! Stage four, and the sum. -/

theorem pay140_eq : k0_pay140 x0 x1 x2 x3 x4 x5 x6 x7 x8 x9 x10 x11 x12 = nearL near2048 (k0_pay83 x0 x1 x2 x3 x4 x5 x6 x7 x8 x9 x10 x11 x12) (k0_pay84 x0 x1 x2 x3 x4 x5 x6 x7 x8 x9 x10 x11 x12) (k0_pay85 x0 x1 x2 x3 x4 x5 x6 x7 x8 x9 x10 x11 x12) (k0_pay86 x0 x1 x2 x3 x4 x5 x6 x7 x8 x9 x10 x11 x12) (subf (k0_pay123 x0 x1 x2 x3 x4 x5 x6 x7 x8 x9 x10 x11 x12) (phiL (k0_pay87 x0 x1 x2 x3 x4 x5 x6 x7 x8 x9 x10 x11 x12) (k0_pay88 x0 x1 x2 x3 x4 x5 x6 x7 x8 x9 x10 x11 x12) (View.ld x3 r0_25) (View.ld x3 r0_26) (View.ld x3 r0_27) (View.ld x4 r0_28) (k0_pay134 x0 x1 x2 x3 x4 x5 x6 x7 x8 x9 x10 x11 x12))) := rfl

theorem pay143_eq : k0_pay143 x0 x1 x2 x3 x4 x5 x6 x7 x8 x9 x10 x11 x12
    = addf (addf (addf (addf (k0_pay17 (F := Ideal)) (phiL (k0_pay87 x0 x1 x2 x3 x4 x5 x6 x7 x8 x9 x10 x11 x12) (k0_pay88 x0 x1 x2 x3 x4 x5 x6 x7 x8 x9 x10 x11 x12) (View.ld x3 r0_13) (View.ld x3 r0_14) (View.ld x3 r0_15) (View.ld x4 r0_16) (k0_pay111 x0 x1 x2 x3 x4 x5 x6 x7 x8 x9 x10 x11 x12))) (phiL (k0_pay87 x0 x1 x2 x3 x4 x5 x6 x7 x8 x9 x10 x11 x12) (k0_pay88 x0 x1 x2 x3 x4 x5 x6 x7 x8 x9 x10 x11 x12) (View.ld x3 r0_19) (View.ld x3 r0_20) (View.ld x3 r0_21) (View.ld x4 r0_22) (k0_pay121 x0 x1 x2 x3 x4 x5 x6 x7 x8 x9 x10 x11 x12))) (phiL (k0_pay87 x0 x1 x2 x3 x4 x5 x6 x7 x8 x9 x10 x11 x12) (k0_pay88 x0 x1 x2 x3 x4 x5 x6 x7 x8 x9 x10 x11 x12) (View.ld x3 r0_25) (View.ld x3 r0_26) (View.ld x3 r0_27) (View.ld x4 r0_28) (k0_pay134 x0 x1 x2 x3 x4 x5 x6 x7 x8 x9 x10 x11 x12))) (phiL (k0_pay87 x0 x1 x2 x3 x4 x5 x6 x7 x8 x9 x10 x11 x12) (k0_pay88 x0 x1 x2 x3 x4 x5 x6 x7 x8 x9 x10 x11 x12) (View.ld x3 r0_29) (View.ld x3 r0_30) (View.ld x3 r0_31) (View.ld x4 r0_32) (k0_pay140 x0 x1 x2 x3 x4 x5 x6 x7 x8 x9 x10 x11 x12)) := rfl

end Cert.Proof.Vq
-- ==== Proof.Block.lean ====
/- What one grid point's body leaves: of each of its eight batch rows, the sum of the model's four stages. -/
module

public import proofs.«01_k».proof.Proof.Chain
public import Idealize.ShloMosaic.Lib.Pipeline.ValueKit.Basic
public import Idealize.ShloMosaic.Lib.Pipeline.ValueKit.Tiles

@[expose] public section

noncomputable section

namespace Cert.Proof.Vq

open Idealize.ShloMosaic Idealize.ShloMosaic.ValueIdx
open Cert.KernelIdeal Cert.KernelIdeal.Gen

/-- The taps of convolution `s`. -/
def tapOf (x3 : Vec Ideal S4x3x256x256 .f32) (s : Fin 4) : Fin 3 → Fin 256 → Fin 256 → EReal := fun k o c => x3 (ix4 s k o c)
/-- The bias of convolution `s`. -/
def biasOf (x4 : Vec Ideal S4x256 .f32) (s : Fin 4) : Fin 256 → EReal := fun o => x4 (ix2 s o)
/-- The codes. -/
def bookOf (x1 : Vec Ideal S1024x256 .f32) : Fin 1024 → Fin 256 → EReal := fun k c => x1 (ix2 k c)
/-- A batch row of a block of eight. -/
def rowOf8 (x0 : Vec Ideal S8x256x256 .f32) (g : Fin 8) : Row 256 := fun c t => x0 (ix3 g c t)

variable (x0 : Vec Ideal S8x256x256 .f32) (x1 : Vec Ideal S1024x256 .f32) (x2 : Vec Ideal S1x1024 .f32)
  (x3 : Vec Ideal S4x3x256x256 .f32) (x4 : Vec Ideal S4x256 .f32) (x5 : Vec Ideal S256x32 .f32) (x6 : Vec Ideal S256x64 .f32)
  (x7 : Vec Ideal S256x128 .f32) (x8 : Vec Ideal S32x256 .f32) (x9 : Vec Ideal S64x256 .f32) (x10 : Vec Ideal S128x256 .f32)
  (x11 : Vec Ideal S1x2048 .f32) (x12 : Vec Ideal S1x2048 .f32)

/-- The weights the block holds. -/
def weightsOf : Weights where
  d1 := fun t j => x5 (ix2 t j)
  d2 := fun t j => x6 (ix2 t j)
  d3 := fun t j => x7 (ix2 t j)
  u1 := fun t j => x8 (ix2 t j)
  u2 := fun t j => x9 (ix2 t j)
  u3 := fun t j => x10 (ix2 t j)

section Loads

theorem taps_0 : Taps (tapOf x3 0) (biasOf x4 0) (View.ld x3 r0_13) (View.ld x3 r0_14) (View.ld x3 r0_15) (View.ld x4 r0_16) where
  t0 o c := congrArg x3 (by funext a; apply Fin.ext; fin_cases a <;> simp [Rect.idx_unit_val, ix4])
  t1 o c := congrArg x3 (by funext a; apply Fin.ext; fin_cases a <;> simp [Rect.idx_unit_val, ix4])
  t2 o c := congrArg x3 (by funext a; apply Fin.ext; fin_cases a <;> simp [Rect.idx_unit_val, ix4])
  bias o := congrArg x4 (by funext a; apply Fin.ext; fin_cases a <;> simp [Rect.idx_unit_val, ix2])

theorem taps_1 : Taps (tapOf x3 1) (biasOf x4 1) (View.ld x3 r0_19) (View.ld x3 r0_20) (View.ld x3 r0_21) (View.ld x4 r0_22) where
  t0 o c := congrArg x3 (by funext a; apply Fin.ext; fin_cases a <;> simp [Rect.idx_unit_val, ix4])
  t1 o c := congrArg x3 (by funext a; apply Fin.ext; fin_cases a <;> simp [Rect.idx_unit_val, ix4])
  t2 o c := congrArg x3 (by funext a; apply Fin.ext; fin_cases a <;> simp [Rect.idx_unit_val, ix4])
  bias o := congrArg x4 (by funext a; apply Fin.ext; fin_cases a <;> simp [Rect.idx_unit_val, ix2])

theorem taps_2 : Taps (tapOf x3 2) (biasOf x4 2) (View.ld x3 r0_25) (View.ld x3 r0_26) (View.ld x3 r0_27) (View.ld x4 r0_28) where
  t0 o c := congrArg x3 (by funext a; apply Fin.ext; fin_cases a <;> simp [Rect.idx_unit_val, ix4])
  t1 o c := congrArg x3 (by funext a; apply Fin.ext; fin_cases a <;> simp [Rect.idx_unit_val, ix4])
  t2 o c := congrArg x3 (by funext a; apply Fin.ext; fin_cases a <;> simp [Rect.idx_unit_val, ix4])
  bias o := congrArg x4 (by funext a; apply Fin.ext; fin_cases a <;> simp [Rect.idx_unit_val, ix2])

theorem taps_3 : Taps (tapOf x3 3) (biasOf x4 3) (View.ld x3 r0_29) (View.ld x3 r0_30) (View.ld x3 r0_31) (View.ld x4 r0_32) where
  t0 o c := congrArg x3 (by funext a; apply Fin.ext; fin_cases a <;> simp [Rect.idx_unit_val, ix4])
  t1 o c := congrArg x3 (by funext a; apply Fin.ext; fin_cases a <;> simp [Rect.idx_unit_val, ix4])
  t2 o c := congrArg x3 (by funext a; apply Fin.ext; fin_cases a <;> simp [Rect.idx_unit_val, ix4])
  bias o := congrArg x4 (by funext a; apply Fin.ext; fin_cases a <;> simp [Rect.idx_unit_val, ix2])

theorem ld5 : View.ld x5 r0_11 = x5 := View.ld_unit_lit _ x5 (by decide)
theorem ld6 : View.ld x6 r0_17 = x6 := View.ld_unit_lit _ x6 (by decide)
theorem ld7 : View.ld x7 r0_23 = x7 := View.ld_unit_lit _ x7 (by decide)
theorem ld8 : View.ld x8 r0_12 = x8 := View.ld_unit_lit _ x8 (by decide)
theorem ld9 : View.ld x9 r0_18 = x9 := View.ld_unit_lit _ x9 (by decide)
theorem ld10 : View.ld x10 r0_24 = x10 := View.ld_unit_lit _ x10 (by decide)

theorem pay86_eq : k0_pay86 x0 x1 x2 x3 x4 x5 x6 x7 x8 x9 x10 x11 x12 = x2 :=
  (shapeCast_self _ _).trans (View.ld_unit_lit _ x2 (by decide))
theorem pay87_eq : k0_pay87 x0 x1 x2 x3 x4 x5 x6 x7 x8 x9 x10 x11 x12 = x11 :=
  (shapeCast_self _ _).trans (View.ld_unit_lit _ x11 (by decide))
theorem pay88_eq : k0_pay88 x0 x1 x2 x3 x4 x5 x6 x7 x8 x9 x10 x11 x12 = x12 :=
  (shapeCast_self _ _).trans (View.ld_unit_lit _ x12 (by decide))

theorem book (hx1 : ∀ i, Real' (x1 i)) (hx2 : ∀ k, x2 (ix2 0 k) = sq (bookOf x1) k) :
    Book (bookOf x1) (k0_pay83 x0 x1 x2 x3 x4 x5 x6 x7 x8 x9 x10 x11 x12) (k0_pay84 x0 x1 x2 x3 x4 x5 x6 x7 x8 x9 x10 x11 x12) (k0_pay85 x0 x1 x2 x3 x4 x5 x6 x7 x8 x9 x10 x11 x12) (k0_pay86 x0 x1 x2 x3 x4 x5 x6 x7 x8 x9 x10 x11 x12) where
  hi k c := congrFun (View.ld_unit_lit _ x1 (by decide)) (ix2 k c)
  md i := (hx1 _).sub_self
  lo i := by
    show (x1 _ - x1 _) - (x1 _ - x1 _) = (0 : EReal)
    rw [(hx1 _).sub_self, sub_zero]
  sq k := by rw [pay86_eq]; exact hx2 k

/-- One row of the block, as the body loads it. -/
theorem piece_in (off : Fin 3 → ℕ) (inb) (g : Fin 8) (ho : off = ![g.val, 0, 0]) (hc : S1x256x256.ShapeCasts S256x256)
    (c t : Fin 256) :
    shapeCast S256x256 (View.ld x0 (Rect.unit (s := S8x256x256) off S1x256x256.size inb)) hc (ix2 c t) = x0 (ix3 g c t) := by
  subst ho
  refine (shapeCast_apply _ hc (ix2 c t) (ix3 0 c t) ?_).trans (congrArg x0 ?_)
  · show (Shape.rowMajorPi ![1, 256, 256] (ix3 0 c t)).val = (Shape.rowMajorPi ![256, 256] (ix2 c t)).val
    simp [Shape.rowMajorPi_succ_val, Shape.rowMajorPi_zero, ix3, ix2, Fin.prod_univ_succ]
  · funext a; apply Fin.ext; fin_cases a <;> simp [Rect.idx_unit_val, ix3]

theorem rowOf_pay96 (g : Fin 8) : rowOf rfl (k0_pay96 x0 x1 x2 x3 x4 x5 x6 x7 x8 x9 x10 x11 x12) g = rowOf8 x0 g := by
  have key : (k0_pay96 x0 x1 x2 x3 x4 x5 x6 x7 x8 x9 x10 x11 x12) = cat8 (fun g => ![(k0_pay89 x0 x1 x2 x3 x4 x5 x6 x7 x8 x9 x10 x11 x12), (k0_pay90 x0 x1 x2 x3 x4 x5 x6 x7 x8 x9 x10 x11 x12), (k0_pay91 x0 x1 x2 x3 x4 x5 x6 x7 x8 x9 x10 x11 x12), (k0_pay92 x0 x1 x2 x3 x4 x5 x6 x7 x8 x9 x10 x11 x12), (k0_pay93 x0 x1 x2 x3 x4 x5 x6 x7 x8 x9 x10 x11 x12), (k0_pay94 x0 x1 x2 x3 x4 x5 x6 x7 x8 x9 x10 x11 x12), (k0_pay95 x0 x1 x2 x3 x4 x5 x6 x7 x8 x9 x10 x11 x12),
      shapeCast S256x256 (View.ld x0 r0_10) shapeCasts_S1x256x256_S256x256] g) (by decide) := rfl
  funext c t
  unfold rowOf
  rw [key, cat8_apply rfl]
  fin_cases g
  · exact piece_in x0 _ _ 0 rfl _ c t
  · exact piece_in x0 _ _ 1 rfl _ c t
  · exact piece_in x0 _ _ 2 rfl _ c t
  · exact piece_in x0 _ _ 3 rfl _ c t
  · exact piece_in x0 _ _ 4 rfl _ c t
  · exact piece_in x0 _ _ 5 rfl _ c t
  · exact piece_in x0 _ _ 6 rfl _ c t
  · exact piece_in x0 _ _ 7 rfl _ c t

/-- One row of the lanes, as the body stores it. -/
theorem piece_out (V : FVec Ideal S256x2048 .f32) (off : Fin 2 → ℕ) (g : Fin 8) (ho : off = ![0, g.val * 256])
    (hs : S256x2048.Slices off S256x256) (hc : S256x256.ShapeCasts S1x256x256) (x : S1x256x256.Idx) :
    shapeCast S1x256x256 (extractStridedSlice S256x256 off V hs) hc x = rowOf rfl V g (x 1) (x 2) := by
  subst ho
  have hx : x = ix3 0 (x 1) (x 2) := by
    funext a
    match a with
    | ⟨0, _⟩ => exact Fin.ext (by have h : (x 0).val < 1 := (x 0).isLt; show (x 0).val = 0; omega)
    | ⟨1, _⟩ => rfl
    | ⟨2, _⟩ => rfl
  refine (shapeCast_apply _ hc x (ix2 (x 1) (x 2)) ?_).trans (extractStridedSlice_apply _ V hs _
    (ix2 (x 1) (lane rfl g (x 2))) ?_)
  · rw [hx]
    show (Shape.rowMajorPi ![256, 256] (ix2 (x 1) (x 2))).val = (Shape.rowMajorPi ![1, 256, 256] (ix3 0 (x 1) (x 2))).val
    simp [Shape.rowMajorPi_succ_val, Shape.rowMajorPi_zero, ix3, ix2, Fin.prod_univ_succ]
  · intro a
    match a with
    | ⟨0, _⟩ => exact (Nat.zero_add _).symm
    | ⟨1, _⟩ => rfl

end Loads

/-- The lanes' final sum, one batch row. -/
theorem rowOf_pay143 (hx1 : ∀ i, Real' (x1 i)) (hx2 : ∀ k, x2 (ix2 0 k) = sq (bookOf x1) k) (hm : Masks x11 x12) (g : Fin 8) :
    rowOf rfl (k0_pay143 x0 x1 x2 x3 x4 x5 x6 x7 x8 x9 x10 x11 x12) g
      = total (bookOf x1) (weightsOf x5 x6 x7 x8 x9 x10) (tapOf x3) (biasOf x4) (rowOf8 x0 g) := by
  have B := book x0 x1 x2 x3 x4 x5 x6 x7 x8 x9 x10 x11 x12 hx1 hx2
  have hm' : Masks (k0_pay87 x0 x1 x2 x3 x4 x5 x6 x7 x8 x9 x10 x11 x12) (k0_pay88 x0 x1 x2 x3 x4 x5 x6 x7 x8 x9 x10 x11 x12) := by rw [pay87_eq, pay88_eq]; exact hm
  have e0 := rowOf_pay96 x0 x1 x2 x3 x4 x5 x6 x7 x8 x9 x10 x11 x12 g
  have e1 : rowOf rfl (k0_pay111 x0 x1 x2 x3 x4 x5 x6 x7 x8 x9 x10 x11 x12) g = quant (bookOf x1) (fun t j => x5 (ix2 t j)) (fun t j => x8 (ix2 t j)) (rowOf8 x0 g) := by
    rw [pay111_eq, pay106_eq, rowOf_quantL rfl near256 fits32 B, e0, ld5, ld8]
  have e2 : rowOf rfl (k0_pay115 x0 x1 x2 x3 x4 x5 x6 x7 x8 x9 x10 x11 x12) g
      = r1 (bookOf x1) (weightsOf x5 x6 x7 x8 x9 x10) (tapOf x3) (biasOf x4) (rowOf8 x0 g) := by
    rw [pay115_eq, rowOf_subf, rowOf_phiL hm' (taps_0 x3 x4), e0, e1]
    rfl
  have e3 : rowOf rfl (k0_pay121 x0 x1 x2 x3 x4 x5 x6 x7 x8 x9 x10 x11 x12) g = quant (bookOf x1) (fun t j => x6 (ix2 t j)) (fun t j => x9 (ix2 t j))
      (r1 (bookOf x1) (weightsOf x5 x6 x7 x8 x9 x10) (tapOf x3) (biasOf x4) (rowOf8 x0 g)) := by
    rw [pay121_eq, rowOf_quantL rfl near512 fits64 B, e2, ld6, ld9]
  have e4 : rowOf rfl (k0_pay123 x0 x1 x2 x3 x4 x5 x6 x7 x8 x9 x10 x11 x12) g
      = r2 (bookOf x1) (weightsOf x5 x6 x7 x8 x9 x10) (tapOf x3) (biasOf x4) (rowOf8 x0 g) := by
    rw [pay123_eq, rowOf_subf, rowOf_phiL hm' (taps_1 x3 x4), e2, e3]
    rfl
  have e5 : rowOf rfl (k0_pay134 x0 x1 x2 x3 x4 x5 x6 x7 x8 x9 x10 x11 x12) g = quant (bookOf x1) (fun t j => x7 (ix2 t j)) (fun t j => x10 (ix2 t j))
      (r2 (bookOf x1) (weightsOf x5 x6 x7 x8 x9 x10) (tapOf x3) (biasOf x4) (rowOf8 x0 g)) := by
    rw [pay134_eq, pay127_eq, rowOf_quantL rfl near1024 fits128 B, e4, ld7, ld10]
  have e6 : rowOf rfl (k0_pay140 x0 x1 x2 x3 x4 x5 x6 x7 x8 x9 x10 x11 x12) g = code (bookOf x1)
      (r3 (bookOf x1) (weightsOf x5 x6 x7 x8 x9 x10) (tapOf x3) (biasOf x4) (rowOf8 x0 g)) := by
    rw [pay140_eq, rowOf_nearL rfl near2048 B, rowOf_subf, rowOf_phiL hm' (taps_2 x3 x4), e4, e5]
    rfl
  have e7 : rowOf (n := 256) (N := 2048) rfl (k0_pay17 (F := Ideal)) g = fun _ _ => (0 : EReal) := by
    funext c t
    show Ideal.ofBits .f32 0x00000000#32 = 0
    exact Ideal.ofBits_zero_f32
  rw [pay143_eq, rowOf_addf, rowOf_addf, rowOf_addf, rowOf_addf, rowOf_phiL hm' (taps_0 x3 x4), rowOf_phiL hm' (taps_1 x3 x4),
    rowOf_phiL hm' (taps_2 x3 x4), rowOf_phiL hm' (taps_3 x3 x4), e1, e3, e5, e6, e7]
  rfl

theorem row_at (V : FVec Ideal S256x2048 .f32) (g : Fin 8) (off : Fin 3 → ℕ) (inb) (ho : off = ![g.val, 0, 0])
    (x : (Rect.unit (s := S8x256x256) off S1x256x256.size inb).shape.Idx) :
    rowOf (n := 256) (N := 2048) rfl V g (x 1) (x 2) = rowOf (n := 256) (N := 2048) rfl V
      ((Rect.unit (s := S8x256x256) off S1x256x256.size inb).emb x 0)
      ((Rect.unit (s := S8x256x256) off S1x256x256.size inb).emb x 1)
      ((Rect.unit (s := S8x256x256) off S1x256x256.size inb).emb x 2) := by
  subst ho
  have e0 : (Rect.unit (s := S8x256x256) ![g.val, 0, 0] S1x256x256.size inb).emb x 0 = g := Fin.ext (by
    have h : (x 0).val < 1 := (x 0).isLt
    show g.val + 1 * (x 0).val = g.val
    omega)
  have e1 : (Rect.unit (s := S8x256x256) ![g.val, 0, 0] S1x256x256.size inb).emb x 1 = x 1 := Fin.ext (by
    show 0 + 1 * (x 1).val = (x 1).val
    omega)
  have e2 : (Rect.unit (s := S8x256x256) ![g.val, 0, 0] S1x256x256.size inb).emb x 2 = x 2 := Fin.ext (by
    show 0 + 1 * (x 2).val = (x 2).val
    omega)
  rw [e0, e1, e2]

/-- The lanes as a block of eight rows. -/
def asBlock (V : FVec Ideal S256x2048 .f32) : Vec Ideal S8x256x256 .f32 :=
  fun y => rowOf (n := 256) (N := 2048) rfl V (y 0) (y 1) (y 2)

theorem piece_eq (V : FVec Ideal S256x2048 .f32) (g : Fin 8) (off : Fin 2 → ℕ) (off' : Fin 3 → ℕ) (ho : off = ![0, g.val * 256])
    (ho' : off' = ![g.val, 0, 0]) (hs : S256x2048.Slices off S256x256) (hc : S256x256.ShapeCasts S1x256x256)
    (inb : ∀ a, off' a + S1x256x256.size a ≤ S8x256x256.size a) (x : S1x256x256.Idx) :
    shapeCast S1x256x256 (extractStridedSlice S256x256 off V hs) hc x
      = asBlock V ((Rect.unit (s := S8x256x256) off' S1x256x256.size inb).emb x) :=
  (piece_out V off g ho hs hc x).trans (row_at V g off' inb ho' x)

/-- The block the body leaves. -/
theorem out_apply (hx1 : ∀ i, Real' (x1 i)) (hx2 : ∀ k, x2 (ix2 0 k) = sq (bookOf x1) k) (hm : Masks x11 x12) (g : Fin 8)
    (c t : Fin 256) : out0_13 x0 x1 x2 x3 x4 x5 x6 x7 x8 x9 x10 x11 x12 (ix3 g c t)
      = total (bookOf x1) (weightsOf x5 x6 x7 x8 x9 x10) (tapOf x3) (biasOf x4) (rowOf8 x0 g) c t := by
  refine Eq.trans ?_ (congrFun (congrFun (rowOf_pay143 x0 x1 x2 x3 x4 x5 x6 x7 x8 x9 x10 x11 x12 hx1 hx2 hm g) c) t)
  refine View.canon_apply_of_pieces (asBlock (k0_pay143 x0 x1 x2 x3 x4 x5 x6 x7 x8 x9 x10 x11 x12)) _ ?_
    (ix3 g c t) ?_
  · intro p hp x
    simp only [List.mem_cons, List.not_mem_nil, or_false] at hp
    rcases hp with rfl | rfl | rfl | rfl | rfl | rfl | rfl | rfl
    · exact piece_eq (k0_pay143 x0 x1 x2 x3 x4 x5 x6 x7 x8 x9 x10 x11 x12) 7 ![0, 1792] ![7, 0, 0] rfl rfl (by decide) (by decide) (by decide) x
    · exact piece_eq (k0_pay143 x0 x1 x2 x3 x4 x5 x6 x7 x8 x9 x10 x11 x12) 6 ![0, 1536] ![6, 0, 0] rfl rfl (by decide) (by decide) (by decide) x
    · exact piece_eq (k0_pay143 x0 x1 x2 x3 x4 x5 x6 x7 x8 x9 x10 x11 x12) 5 ![0, 1280] ![5, 0, 0] rfl rfl (by decide) (by decide) (by decide) x
    · exact piece_eq (k0_pay143 x0 x1 x2 x3 x4 x5 x6 x7 x8 x9 x10 x11 x12) 4 ![0, 1024] ![4, 0, 0] rfl rfl (by decide) (by decide) (by decide) x
    · exact piece_eq (k0_pay143 x0 x1 x2 x3 x4 x5 x6 x7 x8 x9 x10 x11 x12) 3 ![0, 768] ![3, 0, 0] rfl rfl (by decide) (by decide) (by decide) x
    · exact piece_eq (k0_pay143 x0 x1 x2 x3 x4 x5 x6 x7 x8 x9 x10 x11 x12) 2 ![0, 512] ![2, 0, 0] rfl rfl (by decide) (by decide) (by decide) x
    · exact piece_eq (k0_pay143 x0 x1 x2 x3 x4 x5 x6 x7 x8 x9 x10 x11 x12) 1 ![0, 256] ![1, 0, 0] rfl rfl (by decide) (by decide) (by decide) x
    · exact piece_eq (k0_pay143 x0 x1 x2 x3 x4 x5 x6 x7 x8 x9 x10 x11 x12) 0 ![0, 0] ![0, 0, 0] rfl rfl (by decide) (by decide) (by decide) x
  · exact cover0_13 _ _ _ _ _ _ _ _ _

end Cert.Proof.Vq
-- ==== Proof.Host.lean ====
/- What the host operations before the kernel leave: the weights, the squares of the codes, the taps, the masks. -/
module

public import proofs.«01_k».proof.Proof.Weights
public import proofs.«01_k».proof.Proof.Lanes
public import proofs.«01_k».proof.Proof.Gen.KernelIdeal.Frame
public import Idealize.ShloMosaic.Lib.StableHlo.RunRead

@[expose] public section

noncomputable section

namespace Cert.Proof.Vq

open Idealize.ShloMosaic hiding ix0 ix1 ix2 ix3 ix4
open Idealize.ShloMosaic.ValueIdx Idealize.SL.Sem
open Cert.KernelIdeal Cert.KernelIdeal.Gen

theorem lattice_256_32 : Lattice 256 32 := ⟨by decide, by decide, by decide, by decide, by decide, by decide, by decide, by decide, by decide⟩
theorem lattice_256_64 : Lattice 256 64 := ⟨by decide, by decide, by decide, by decide, by decide, by decide, by decide, by decide, by decide⟩
theorem lattice_256_128 : Lattice 256 128 := ⟨by decide, by decide, by decide, by decide, by decide, by decide, by decide, by decide, by decide⟩
theorem lattice_32_256 : Lattice 32 256 := ⟨by decide, by decide, by decide, by decide, by decide, by decide, by decide, by decide, by decide⟩
theorem lattice_64_256 : Lattice 64 256 := ⟨by decide, by decide, by decide, by decide, by decide, by decide, by decide, by decide, by decide⟩
theorem lattice_128_256 : Lattice 128 256 := ⟨by decide, by decide, by decide, by decide, by decide, by decide, by decide, by decide, by decide⟩

variable (m : (ℓ : Loc nD τ sig) → Buf (Elt Ideal) ℓ) (c : Dev nD)

theorem V_weight_256_32 : V m c main_v45 = weightV lattice_256_32 0x41000000#32 0x437F8000#32 := by
  show StableHlo.after _ _ (Proc.devRef .tc main_v45) = _
  simp only [List.flatten, List.append_eq, List.cons_append, List.nil_append]
  after_reads_simp
  rfl

theorem V_weight_256_64 : V m c main_v88 = weightV lattice_256_64 0x40800000#32 0x437F8000#32 := by
  show StableHlo.after _ _ (Proc.devRef .tc main_v88) = _
  simp only [List.flatten, List.append_eq, List.cons_append, List.nil_append]
  after_reads_simp
  rfl

theorem V_weight_256_128 : V m c main_v131 = weightV lattice_256_128 0x40000000#32 0x437F8000#32 := by
  show StableHlo.after _ _ (Proc.devRef .tc main_v131) = _
  simp only [List.flatten, List.append_eq, List.cons_append, List.nil_append]
  after_reads_simp
  rfl

theorem V_weight_32_256 : V m c main_v174 = weightV lattice_32_256 0x3E000000#32 0x41FC0000#32 := by
  show StableHlo.after _ _ (Proc.devRef .tc main_v174) = _
  simp only [List.flatten, List.append_eq, List.cons_append, List.nil_append]
  after_reads_simp
  rfl

theorem V_weight_64_256 : V m c main_v217 = weightV lattice_64_256 0x3E800000#32 0x427E0000#32 := by
  show StableHlo.after _ _ (Proc.devRef .tc main_v217) = _
  simp only [List.flatten, List.append_eq, List.cons_append, List.nil_append]
  after_reads_simp
  rfl

theorem V_weight_128_256 : V m c main_v260 = weightV lattice_128_256 0x3F000000#32 0x42FF0000#32 := by
  show StableHlo.after _ _ (Proc.devRef .tc main_v260) = _
  simp only [List.flatten, List.append_eq, List.cons_append, List.nil_append]
  after_reads_simp
  rfl

theorem V_squares (k : Fin 1024) : V m c main_v2 (ix2 0 k) = sq (fun k c' => V m c main_arg1 (ix2 k c')) k := by
  have e : V m c main_v2 = broadcastInDim (Mat 1 1024) ![1] bcast_S1024_S1x1024_1
      (Host.reduceAdd (mulf (V m c main_arg1) (V m c main_arg1) : FVec Ideal (Mat 1024 256) .f32)
        (constant Dot .f32 0x00000000#32) reducesTo_S1024x256_S1024_d1 h_S_) := by
    rw [V_main_arg1]
    show StableHlo.after _ _ (Proc.devRef .tc main_v2) = _
    simp only [List.flatten, List.append_eq, List.cons_append, List.nil_append]
    after_reads_simp
  rw [e]
  refine (broadcastInDim_apply _ _ _ _ (ix1 k) fun a => ?_).trans ?_
  · match a with
    | ⟨0, _⟩ => rfl
  · rw [hostReduceAdd_apply, Ideal.hostReduceAdd_r2_a1]
    show Ideal.ofBits .f32 0x00000000#32 + _ = _
    rw [Ideal.ofBits_zero_f32, zero_add]
    rfl

theorem V_taps (s : Fin 4) (k : Fin 3) (o i : Fin 256) : V m c main_v261 (ix4 s k o i) = V m c main_arg2 (ix4 s o i k) := by
  have e : V m c main_v261 = transpose S4x3x256x256 [0, 3, 1, 2] (V m c main_arg2) transposes_S4x256x256x3_S4x3x256x256_0_3_1_2 := by
    rw [V_main_arg2]
    show StableHlo.after _ _ (Proc.devRef .tc main_v261) = _
    simp only [List.flatten, List.append_eq, List.cons_append, List.nil_append]
    after_reads_simp
  rw [e]
  refine transpose_apply _ _ _ (ix4 s k o i) (ix4 s o i k) fun a => ?_
  match a with
  | ⟨0, _⟩ => rfl
  | ⟨1, _⟩ => rfl
  | ⟨2, _⟩ => rfl
  | ⟨3, _⟩ => rfl

/-- One number everywhere on the lanes. -/
def spread {w : ℕ} (x : IVec Dot w) : IVec (Line 2048) w := broadcastInDim (Line 2048) ![] bcast_S_S2048 x

/-- The remainder's divisor: 256. -/
def width : IVec Dot 32 :=
  select (cmpi .eq (constantI Dot 32 256#32) (constantI Dot 32 0#32)) (constantI Dot 32 1#32) (constantI Dot 32 256#32)

/-- The remainder of each lane's number by 256, before the sign is mended. -/
def rough : IVec (Line 2048) 32 := Host.remsi (iotaInDim (Line 2048) 32 0) (spread width)

/-- The remainder of each lane's number by 256. -/
def within : IVec (Line 2048) 32 :=
  select (andi (cmpi .ne (cmpi .slt rough (spread (constantI Dot 32 0#32))) (spread (cmpi .slt width (constantI Dot 32 0#32))))
    (cmpi .ne rough (spread (constantI Dot 32 0#32)))) (addi rough (spread width)) rough

/-- The lanes whose number within the row is not `x`. -/
def lanesOff (x : BitVec 32) : FVec Ideal (Mat 1 2048) .f32 :=
  broadcastInDim (Mat 1 2048) ![1] bcast_S2048_S1x2048_1 (uitofp .f32 (cmpi .ne within (spread (constantI Dot 32 x))))

/-- The same remainder of one word. -/
def remainderOf (x : BitVec 32) : BitVec 32 :=
  let d := Scalar.select (IntOp.cmpi .eq 256#32 0#32) 1#32 256#32
  let q := IntOp.remsi .host x d
  Scalar.select (IntOp.andi (IntOp.cmpi .ne (IntOp.cmpi .slt q 0#32) (IntOp.cmpi .slt d 0#32)) (IntOp.cmpi .ne q 0#32)) (IntOp.addi q d) q

theorem remainderOf_eq (g : Fin 8) (t : Fin 256) : remainderOf (BitVec.ofNat 32 (g.val * 256 + t.val)) = BitVec.ofNat 32 t.val := by
  revert g t
  decide +kernel

theorem lanesOff_apply (x : BitVec 32) (g : Fin 8) (t : Fin 256) :
    lanesOff x (ix2 0 (lane rfl g t)) = if BitVec.ofNat 32 t.val = x then 0 else 1 := by
  refine (broadcastInDim_apply _ _ _ _ (ix1 (lane rfl g t)) fun a => ?_).trans ?_
  · match a with
    | ⟨0, _⟩ => rfl
  · have e : within (ix1 (lane rfl g t)) = BitVec.ofNat 32 t.val := remainderOf_eq g t
    show (((IntOp.cmpi .ne (within (ix1 (lane rfl g t))) x).toNat : ℝ) : EReal) = _
    rw [e]
    by_cases h : BitVec.ofNat 32 t.val = x <;> simp [IntOp.cmpi, h]

theorem V_start : V m c main_v267 = lanesOff 0#32 := by
  show StableHlo.after _ _ (Proc.devRef .tc main_v267) = _
  simp only [List.flatten, List.append_eq, List.cons_append, List.nil_append]
  after_reads_simp
  rfl

theorem V_stop : V m c main_v271 = lanesOff 255#32 := by
  show StableHlo.after _ _ (Proc.devRef .tc main_v271) = _
  simp only [List.flatten, List.append_eq, List.cons_append, List.nil_append]
  after_reads_simp
  rfl

theorem place_eq_iff (t : Fin 256) (n : ℕ) (hn : n < 256) : BitVec.ofNat 32 t.val = BitVec.ofNat 32 n ↔ t.val = n := by
  rw [← BitVec.toNat_inj, BitVec.toNat_ofNat, BitVec.toNat_ofNat, Nat.mod_eq_of_lt (by omega), Nat.mod_eq_of_lt (by omega)]

theorem V_masks : Masks (V m c main_v267) (V m c main_v271) where
  start g t := by
    rw [V_start, lanesOff_apply]
    exact if_congr (place_eq_iff t 0 (by decide)) rfl rfl
  stop g t := by
    rw [V_stop, lanesOff_apply]
    exact if_congr (place_eq_iff t 255 (by decide)) rfl rfl

end Cert.Proof.Vq
-- ==== Proof.Final.lean ====
/- The kernel's result array: of each batch row, the sum of the model's four stages. -/
module

public import proofs.«01_k».proof.Proof.Block
public import proofs.«01_k».proof.Proof.Host
public import Idealize.ShloMosaic.Lib.Pipeline.ValueKit

@[expose] public section

noncomputable section

namespace Cert.Proof.Vq

open Idealize.ShloMosaic hiding ix0 ix1 ix2 ix3 ix4
open Idealize.ShloMosaic.ValueIdx Idealize.SL.Sem
open Cert.KernelIdeal Cert.KernelIdeal.Gen

/-- The weights of the six changes of length. -/
def weights : Weights where
  d1 := fun t j => weightV lattice_256_32 0x41000000#32 0x437F8000#32 (ix2 t j)
  d2 := fun t j => weightV lattice_256_64 0x40800000#32 0x437F8000#32 (ix2 t j)
  d3 := fun t j => weightV lattice_256_128 0x40000000#32 0x437F8000#32 (ix2 t j)
  u1 := fun t j => weightV lattice_32_256 0x3E000000#32 0x41FC0000#32 (ix2 t j)
  u2 := fun t j => weightV lattice_64_256 0x3E800000#32 0x427E0000#32 (ix2 t j)
  u3 := fun t j => weightV lattice_128_256 0x3F000000#32 0x42FF0000#32 (ix2 t j)

/-- What both programs compute of arguments `x`, `cb`, `w`, `b`. -/
def answer (x : Vec Ideal S32x256x256 .f32) (cb : Vec Ideal S1024x256 .f32) (w : Vec Ideal S4x256x256x3 .f32) (b : Vec Ideal S4x256 .f32)
    (n : Fin 32) : Row 256 :=
  total (bookOf cb) weights (fun s k o i => w (ix4 s o i k)) (biasOf b) (fun c t => x (ix3 n c t))

variable (m : (ℓ : Loc nD τ sig) → Buf (Elt Ideal) ℓ) (c : Dev nD)

theorem index_0 (t : Fin cfg0.N) : win0_0.index t 0 = t.val ∧ win0_0.index t 1 = 0 ∧ win0_0.index t 2 = 0 := by
  rcases fin_N0 t with rfl | rfl | rfl | rfl <;> decide +kernel

theorem index_13 (t : Fin cfg0.N) : win0_13.index t 0 = t.val ∧ win0_13.index t 1 = 0 ∧ win0_13.index t 2 = 0 := by
  rcases fin_N0 t with rfl | rfl | rfl | rfl <;> decide +kernel

/-- The batch row of block `t` and place `g` in it. -/
def batchOf (t : Fin cfg0.N) (g : Fin 8) : Fin 32 := ⟨t.val * 8 + g.val, by have := t.isLt; have : cfg0.N = 4 := N_0; omega⟩

theorem iblk_0 (t : Fin cfg0.N) (g : Fin 8) (c' j : Fin 256) :
    (iblk m c 0 t : Vec Ideal S8x256x256 .f32) (ix3 g c' j) = V m c main_arg0 (ix3 (batchOf t g) c' j) := by
  obtain ⟨h0, h1, h2⟩ := index_0 t
  unfold iblk
  rw [View.read_apply]
  refine congrArg (V m c main_arg0) (funext fun a => Fin.ext ?_)
  match a with
  | ⟨0, _⟩ => show win0_0.index t 0 * 8 + 1 * g.val = t.val * 8 + g.val; rw [h0]; omega
  | ⟨1, _⟩ => show win0_0.index t 1 * 256 + 1 * c'.val = c'.val; rw [h1]; omega
  | ⟨2, _⟩ => show win0_0.index t 2 * 256 + 1 * j.val = j.val; rw [h2]; omega

theorem iblk_1 (t : Fin cfg0.N) : (iblk m c 1 t : Vec Ideal S1024x256 .f32) = V m c main_arg1 := by
  have e : ∀ a, win0_1.index t a = 0 := by rcases fin_N0 t with rfl | rfl | rfl | rfl <;> decide +kernel
  have z : (fun a => win0_1.index t a * main_arg1.ty.shape.size a) = fun _ => 0 := funext fun a => by rw [e a]; exact Nat.zero_mul _
  exact Memref.read_access_unit_zero (Elt Ideal) main_arg1 z (fun a => by rw [congrFun z a]; simp) (V m c main_arg1)

theorem iblk_2 (t : Fin cfg0.N) : (iblk m c 2 t : Vec Ideal S1x1024 .f32) = V m c main_v2 := by
  have e : ∀ a, win0_2.index t a = 0 := by rcases fin_N0 t with rfl | rfl | rfl | rfl <;> decide +kernel
  have z : (fun a => win0_2.index t a * main_v2.ty.shape.size a) = fun _ => 0 := funext fun a => by rw [e a]; exact Nat.zero_mul _
  exact Memref.read_access_unit_zero (Elt Ideal) main_v2 z (fun a => by rw [congrFun z a]; simp) (V m c main_v2)

theorem iblk_3 (t : Fin cfg0.N) : (iblk m c 3 t : Vec Ideal S4x3x256x256 .f32) = V m c main_v261 := by
  have e : ∀ a, win0_3.index t a = 0 := by rcases fin_N0 t with rfl | rfl | rfl | rfl <;> decide +kernel
  have z : (fun a => win0_3.index t a * main_v261.ty.shape.size a) = fun _ => 0 := funext fun a => by rw [e a]; exact Nat.zero_mul _
  exact Memref.read_access_unit_zero (Elt Ideal) main_v261 z (fun a => by rw [congrFun z a]; simp) (V m c main_v261)

theorem iblk_4 (t : Fin cfg0.N) : (iblk m c 4 t : Vec Ideal S4x256 .f32) = V m c main_arg3 := by
  have e : ∀ a, win0_4.index t a = 0 := by rcases fin_N0 t with rfl | rfl | rfl | rfl <;> decide +kernel
  have z : (fun a => win0_4.index t a * main_arg3.ty.shape.size a) = fun _ => 0 := funext fun a => by rw [e a]; exact Nat.zero_mul _
  exact Memref.read_access_unit_zero (Elt Ideal) main_arg3 z (fun a => by rw [congrFun z a]; simp) (V m c main_arg3)

theorem iblk_5 (t : Fin cfg0.N) : (iblk m c 5 t : Vec Ideal S256x32 .f32) = V m c main_v45 := by
  have e : ∀ a, win0_5.index t a = 0 := by rcases fin_N0 t with rfl | rfl | rfl | rfl <;> decide +kernel
  have z : (fun a => win0_5.index t a * main_v45.ty.shape.size a) = fun _ => 0 := funext fun a => by rw [e a]; exact Nat.zero_mul _
  exact Memref.read_access_unit_zero (Elt Ideal) main_v45 z (fun a => by rw [congrFun z a]; simp) (V m c main_v45)

theorem iblk_6 (t : Fin cfg0.N) : (iblk m c 6 t : Vec Ideal S256x64 .f32) = V m c main_v88 := by
  have e : ∀ a, win0_6.index t a = 0 := by rcases fin_N0 t with rfl | rfl | rfl | rfl <;> decide +kernel
  have z : (fun a => win0_6.index t a * main_v88.ty.shape.size a) = fun _ => 0 := funext fun a => by rw [e a]; exact Nat.zero_mul _
  exact Memref.read_access_unit_zero (Elt Ideal) main_v88 z (fun a => by rw [congrFun z a]; simp) (V m c main_v88)

theorem iblk_7 (t : Fin cfg0.N) : (iblk m c 7 t : Vec Ideal S256x128 .f32) = V m c main_v131 := by
  have e : ∀ a, win0_7.index t a = 0 := by rcases fin_N0 t with rfl | rfl | rfl | rfl <;> decide +kernel
  have z : (fun a => win0_7.index t a * main_v131.ty.shape.size a) = fun _ => 0 := funext fun a => by rw [e a]; exact Nat.zero_mul _
  exact Memref.read_access_unit_zero (Elt Ideal) main_v131 z (fun a => by rw [congrFun z a]; simp) (V m c main_v131)

theorem iblk_8 (t : Fin cfg0.N) : (iblk m c 8 t : Vec Ideal S32x256 .f32) = V m c main_v174 := by
  have e : ∀ a, win0_8.index t a = 0 := by rcases fin_N0 t with rfl | rfl | rfl | rfl <;> decide +kernel
  have z : (fun a => win0_8.index t a * main_v174.ty.shape.size a) = fun _ => 0 := funext fun a => by rw [e a]; exact Nat.zero_mul _
  exact Memref.read_access_unit_zero (Elt Ideal) main_v174 z (fun a => by rw [congrFun z a]; simp) (V m c main_v174)

theorem iblk_9 (t : Fin cfg0.N) : (iblk m c 9 t : Vec Ideal S64x256 .f32) = V m c main_v217 := by
  have e : ∀ a, win0_9.index t a = 0 := by rcases fin_N0 t with rfl | rfl | rfl | rfl <;> decide +kernel
  have z : (fun a => win0_9.index t a * main_v217.ty.shape.size a) = fun _ => 0 := funext fun a => by rw [e a]; exact Nat.zero_mul _
  exact Memref.read_access_unit_zero (Elt Ideal) main_v217 z (fun a => by rw [congrFun z a]; simp) (V m c main_v217)

theorem iblk_10 (t : Fin cfg0.N) : (iblk m c 10 t : Vec Ideal S128x256 .f32) = V m c main_v260 := by
  have e : ∀ a, win0_10.index t a = 0 := by rcases fin_N0 t with rfl | rfl | rfl | rfl <;> decide +kernel
  have z : (fun a => win0_10.index t a * main_v260.ty.shape.size a) = fun _ => 0 := funext fun a => by rw [e a]; exact Nat.zero_mul _
  exact Memref.read_access_unit_zero (Elt Ideal) main_v260 z (fun a => by rw [congrFun z a]; simp) (V m c main_v260)

theorem iblk_11 (t : Fin cfg0.N) : (iblk m c 11 t : Vec Ideal S1x2048 .f32) = V m c main_v267 := by
  have e : ∀ a, win0_11.index t a = 0 := by rcases fin_N0 t with rfl | rfl | rfl | rfl <;> decide +kernel
  have z : (fun a => win0_11.index t a * main_v267.ty.shape.size a) = fun _ => 0 := funext fun a => by rw [e a]; exact Nat.zero_mul _
  exact Memref.read_access_unit_zero (Elt Ideal) main_v267 z (fun a => by rw [congrFun z a]; simp) (V m c main_v267)

theorem iblk_12 (t : Fin cfg0.N) : (iblk m c 12 t : Vec Ideal S1x2048 .f32) = V m c main_v271 := by
  have e : ∀ a, win0_12.index t a = 0 := by rcases fin_N0 t with rfl | rfl | rfl | rfl <;> decide +kernel
  have z : (fun a => win0_12.index t a * main_v271.ty.shape.size a) = fun _ => 0 := funext fun a => by rw [e a]; exact Nat.zero_mul _
  exact Memref.read_access_unit_zero (Elt Ideal) main_v271 z (fun a => by rw [congrFun z a]; simp) (V m c main_v271)

/-- The block of blocks that hold what the host left. -/
theorem block_answer (x0 : Vec Ideal S8x256x256 .f32) (x1 : Vec Ideal S1024x256 .f32) (x2 : Vec Ideal S1x1024 .f32)
    (x3 : Vec Ideal S4x3x256x256 .f32) (x4 : Vec Ideal S4x256 .f32) (x5 : Vec Ideal S256x32 .f32) (x6 : Vec Ideal S256x64 .f32)
    (x7 : Vec Ideal S256x128 .f32) (x8 : Vec Ideal S32x256 .f32) (x9 : Vec Ideal S64x256 .f32) (x10 : Vec Ideal S128x256 .f32)
    (x11 : Vec Ideal S1x2048 .f32) (x12 : Vec Ideal S1x2048 .f32)
    (x : Vec Ideal S32x256x256 .f32) (w : Vec Ideal S4x256x256x3 .f32) (n : Fin 32) (g : Fin 8)
    (h0 : ∀ c' j, x0 (ix3 g c' j) = x (ix3 n c' j)) (h1 : ∀ i, Real' (x1 i)) (h2 : ∀ k, x2 (ix2 0 k) = sq (bookOf x1) k)
    (h3 : ∀ s k o i, x3 (ix4 s k o i) = w (ix4 s o i k))
    (h5 : x5 = weightV lattice_256_32 0x41000000#32 0x437F8000#32) (h6 : x6 = weightV lattice_256_64 0x40800000#32 0x437F8000#32)
    (h7 : x7 = weightV lattice_256_128 0x40000000#32 0x437F8000#32) (h8 : x8 = weightV lattice_32_256 0x3E000000#32 0x41FC0000#32)
    (h9 : x9 = weightV lattice_64_256 0x3E800000#32 0x427E0000#32) (h10 : x10 = weightV lattice_128_256 0x3F000000#32 0x42FF0000#32)
    (hm : Masks x11 x12) (c' j : Fin 256) :
    out0_13 x0 x1 x2 x3 x4 x5 x6 x7 x8 x9 x10 x11 x12 (ix3 g c' j) = answer x x1 w x4 n c' j := by
  refine (out_apply _ _ _ _ _ _ _ _ _ _ _ _ _ h1 h2 hm g c' j).trans ?_
  subst h5 h6 h7 h8 h9 h10
  have hw : tapOf x3 = fun s k o i => w (ix4 s o i k) := by
    funext s k o i; exact h3 s k o i
  have hx : rowOf8 x0 g = fun c t' => x (ix3 n c t') := by
    funext c' j; exact h0 c' j
  rw [hw, hx]
  rfl

theorem after_apply (hcb : ∀ i, Real' (V m c main_arg1 i)) (t : Fin cfg0.N) (g : Fin 8) (c' j : Fin 256) :
    ((dats m 0 c).after 13 t : Vec Ideal S8x256x256 .f32) (ix3 g c' j)
      = answer (V m c main_arg0) (V m c main_arg1) (V m c main_arg2) (V m c main_arg3) (batchOf t g) c' j := by
  rw [after0_13, iblk_1, iblk_4]
  exact block_answer _ _ _ _ _ _ _ _ _ _ _ _ _ _ _ _ g (iblk_0 m c t g) hcb
    (fun k => by rw [iblk_2]; exact V_squares m c k) (fun s k o i => by rw [iblk_3]; exact V_taps m c s k o i)
    ((iblk_5 m c t).trans (V_weight_256_32 m c)) ((iblk_6 m c t).trans (V_weight_256_64 m c))
    ((iblk_7 m c t).trans (V_weight_256_128 m c)) ((iblk_8 m c t).trans (V_weight_32_256 m c))
    ((iblk_9 m c t).trans (V_weight_64_256 m c)) ((iblk_10 m c t).trans (V_weight_128_256 m c))
    (by rw [iblk_11, iblk_12]; exact V_masks m c) c' j

/-- The result array's contents. -/
def resultOf : Buf (Elt Ideal) ((c.tc : Thread nD τ).loc main_v272) :=
  fun i : S32x256x256.Idx => answer (m ((c.tc : Thread nD τ).loc main_arg0)) (m ((c.tc : Thread nD τ).loc main_arg1))
    (m ((c.tc : Thread nD τ).loc main_arg2)) (m ((c.tc : Thread nD τ).loc main_arg3)) (i 0) (i 1) (i 2)

theorem final (hcb : ∀ i, Real' (m ((c.tc : Thread nD τ).loc main_arg1) i)) : (dats m 0 c).arrAt 13 cfg0.N = resultOf m c := by
  refine (dats m 0 c).arrAt_eq_of_covers 13 _ (by decide +kernel) fun t _ y => ?_
  obtain ⟨h0, h1, h2⟩ := index_13 t
  have e : ((cfg0.win 13).blk t).view.emb y = (ix3 (batchOf t (y 0)) (y 1) (y 2) : S32x256x256.Idx) := by
    funext a
    apply Fin.ext
    match a with
    | ⟨0, _⟩ => show win0_13.index t 0 * 8 + 1 * (y 0).val = t.val * 8 + (y 0).val; rw [h0]; omega
    | ⟨1, _⟩ => show win0_13.index t 1 * 256 + 1 * (y 1).val = (y 1).val; rw [h1]; omega
    | ⟨2, _⟩ => show win0_13.index t 2 * 256 + 1 * (y 2).val = (y 2).val; rw [h2]; omega
  rw [e]
  have hcb' : ∀ i, Real' (V m c main_arg1 i) := by rw [V_main_arg1]; exact hcb
  have e' : (y : S8x256x256.Idx) = ix3 (y 0) (y 1) (y 2) := by
    funext a; match a with | ⟨0, _⟩ => rfl | ⟨1, _⟩ => rfl | ⟨2, _⟩ => rfl
  refine Eq.trans ?_ ((after_apply m c hcb' t (y 0) (y 1) (y 2)).trans ?_)
  · exact congrArg ((dats m 0 c).after 13 t : Vec Ideal S8x256x256 .f32) e'
  · rw [V_main_arg0, V_main_arg1, V_main_arg2, V_main_arg3]; rfl

/-- The kernel's run: the result array at the model's answer, the arguments unchanged. -/
theorem kernel_run (ρ : Dev nD → PrngReg) (hcb : ∀ (c : Dev nD) i, Real' (m ((c.tc : Thread nD τ).loc main_arg1) i)) :
    θ_run defs (onTc (τ := τ) (main (F := Ideal))) ⟨m, fun _ => 0, ρ⟩ fun r => ∀ c : Dev nD,
      r.2.mem ((c.tc : Thread nD τ).loc main_v272) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h.1.out_eq c 13).trans (final m c (hcb c)), h.2 c⟩)
    (θ_run_and (run_main m ρ) (unchanged m ρ))

end Cert.Proof.Vq

end
-- ==== Proof.Total.lean ====
/- What the reference computes: four stages on the whole stack, and that each batch row is the model's sum. -/
module

public import proofs.«01_k».proof.Proof.Blend
public import proofs.«01_k».proof.Proof.Final

@[expose] public section

noncomputable section

namespace Cert.Proof.Vq

open Idealize.ShloMosaic hiding ix0 ix1 ix2 ix3 ix4
open Idealize.ShloMosaic.ValueIdx
open scoped BigOperators

theorem gaps_1024 : Gaps 1024 := ⟨by decide, by decide, by decide, by decide, by decide, by decide, by decide, by decide, by decide⟩
theorem gaps_2048 : Gaps 2048 := ⟨by decide, by decide, by decide, by decide, by decide, by decide, by decide, by decide, by decide⟩
theorem gaps_4096 : Gaps 4096 := ⟨by decide, by decide, by decide, by decide, by decide, by decide, by decide, by decide, by decide⟩
theorem gaps_8192 : Gaps 8192 := ⟨by decide, by decide, by decide, by decide, by decide, by decide, by decide, by decide, by decide⟩

theorem take_1024 : Take 1024 := ⟨by decide, by decide, by decide, by decide, by decide, by decide, by decide, by decide, by decide, by decide⟩
theorem take_2048 : Take 2048 := ⟨by decide, by decide, by decide, by decide, by decide, by decide, by decide, by decide, by decide, by decide⟩
theorem take_4096 : Take 4096 := ⟨by decide, by decide, by decide, by decide, by decide, by decide, by decide, by decide, by decide, by decide⟩
theorem take_8192 : Take 8192 := ⟨by decide, by decide, by decide, by decide, by decide, by decide, by decide, by decide, by decide, by decide⟩

theorem table_32 : Table 32 1024 := ⟨rfl, by decide, by decide, gaps_1024, by decide, take_1024, by decide, by decide⟩
theorem table_64 : Table 64 2048 := ⟨rfl, by decide, by decide, gaps_2048, by decide, take_2048, by decide, by decide⟩
theorem table_128 : Table 128 4096 := ⟨rfl, by decide, by decide, gaps_4096, by decide, take_4096, by decide, by decide⟩
theorem table_256 : Table 256 8192 := ⟨rfl, by decide, by decide, gaps_8192, by decide, take_8192, by decide, by decide⟩

theorem blend_0 : Blend 0 := ⟨by decide, by decide, by decide, by decide, by decide, by decide, by decide, by decide, by decide, by decide, by decide, by decide, by decide, by decide, by decide⟩
theorem blend_1 : Blend 1 := ⟨by decide, by decide, by decide, by decide, by decide, by decide, by decide, by decide, by decide, by decide, by decide, by decide, by decide, by decide, by decide⟩
theorem blend_2 : Blend 2 := ⟨by decide, by decide, by decide, by decide, by decide, by decide, by decide, by decide, by decide, by decide, by decide, by decide, by decide, by decide, by decide⟩
theorem blend_3 : Blend 3 := ⟨by decide, by decide, by decide, by decide, by decide, by decide, by decide, by decide, by decide, by decide, by decide, by decide, by decide, by decide, by decide⟩

theorem real_256_32 : RealV (weightV lattice_256_32 0x41000000#32 0x437F8000#32) :=
  real_weightV _ _ ⟨_, by simp [Ideal.ofBits, Ideal.ieee]; rfl⟩
theorem real_256_64 : RealV (weightV lattice_256_64 0x40800000#32 0x437F8000#32) :=
  real_weightV _ _ ⟨_, by simp [Ideal.ofBits, Ideal.ieee]; rfl⟩
theorem real_256_128 : RealV (weightV lattice_256_128 0x40000000#32 0x437F8000#32) :=
  real_weightV _ _ ⟨_, by simp [Ideal.ofBits, Ideal.ieee]; rfl⟩
theorem real_32_256 : RealV (weightV lattice_32_256 0x3E000000#32 0x41FC0000#32) :=
  real_weightV _ _ ⟨_, by simp [Ideal.ofBits, Ideal.ieee]; rfl⟩
theorem real_64_256 : RealV (weightV lattice_64_256 0x3E800000#32 0x427E0000#32) :=
  real_weightV _ _ ⟨_, by simp [Ideal.ofBits, Ideal.ieee]; rfl⟩
theorem real_128_256 : RealV (weightV lattice_128_256 0x3F000000#32 0x42FF0000#32) :=
  real_weightV _ _ ⟨_, by simp [Ideal.ofBits, Ideal.ieee]; rfl⟩

/-- What one resampling product asks of the shapes. -/
abbrev Scale (n m : ℕ) : Prop := DotDims.WF (Cube 32 256 n) (Mat n m) (Cube 32 256 m) [2] [0] [0, 1] [1] [] []

theorem scale_256_32 : Scale 256 32 := by decide
theorem scale_256_64 : Scale 256 64 := by decide
theorem scale_256_128 : Scale 256 128 := by decide
theorem scale_32_256 : Scale 32 256 := by decide
theorem scale_64_256 : Scale 64 256 := by decide
theorem scale_128_256 : Scale 128 256 := by decide

/-- The stack quantized at `n` times and brought back. -/
def quantR {n R : ℕ} (T : Table n R) (hd : Scale 256 n) (hu : Scale n 256) (r : FVec Ideal (Cube 32 256 256) .f32)
    (cb : FVec Ideal (Mat 1024 256) .f32) (q : FVec Ideal (Line 1024) .f32) (Wd : FVec Ideal (Mat 256 n) .f32)
    (Wu : FVec Ideal (Mat n 256) .f32) : FVec Ideal (Cube 32 256 256) .f32 :=
  resampleR hu (nearestV T (resampleR hd r Wd) cb q) Wu

theorem quantR_apply {n R : ℕ} (T : Table n R) (hd : Scale 256 n) (hu : Scale n 256) (r : FVec Ideal (Cube 32 256 256) .f32)
    (cb : FVec Ideal (Mat 1024 256) .f32) (q : FVec Ideal (Line 1024) .f32) (Wd : FVec Ideal (Mat 256 n) .f32)
    (Wu : FVec Ideal (Mat n 256) .f32) (hr : ∀ b, RealRow (rowAt r b)) (hW : RealV Wd) (hcb : ∀ k c, Real' (cb (ix2 k c)))
    (hq : ∀ k, q (ix1 k) = sq (tableOf cb) k) (b : Fin 32) :
    rowAt (quantR T hd hu r cb q Wd Wu) b = quant (tableOf cb) (fun t j => Wd (ix2 t j)) (fun t j => Wu (ix2 t j)) (rowAt r b) := by
  unfold quantR quant
  rw [resampleR_apply, nearestV_apply T _ cb q (fun b => by
    rw [resampleR_apply]
    exact real_resample (fun i j => hW _) (hr b)) hcb hq, resampleR_apply]

section
variable (x : FVec Ideal (Cube 32 256 256) .f32) (cb : FVec Ideal (Mat 1024 256) .f32) (w : FVec Ideal (TapStack 4) .f32) (b : FVec Ideal (Mat 4 256) .f32)

/-- The squared lengths of the codes. -/
def lensR : FVec Ideal (Line 1024) .f32 := squaresV gaps_1024.lens gaps_1024.pos cb

/-- What the first stage adds. -/
def h1R (r : FVec Ideal (Cube 32 256 256) .f32) : FVec Ideal (Cube 32 256 256) .f32 :=
  blendR blend_0 (quantR table_32 scale_256_32 scale_32_256 r cb (lensR cb) (weightV lattice_256_32 0x41000000#32 0x437F8000#32)
    (weightV lattice_32_256 0x3E000000#32 0x41FC0000#32)) w b
/-- What the second stage adds. -/
def h2R (r : FVec Ideal (Cube 32 256 256) .f32) : FVec Ideal (Cube 32 256 256) .f32 :=
  blendR blend_1 (quantR table_64 scale_256_64 scale_64_256 r cb (lensR cb) (weightV lattice_256_64 0x40800000#32 0x437F8000#32)
    (weightV lattice_64_256 0x3E800000#32 0x427E0000#32)) w b
/-- What the third stage adds. -/
def h3R (r : FVec Ideal (Cube 32 256 256) .f32) : FVec Ideal (Cube 32 256 256) .f32 :=
  blendR blend_2 (quantR table_128 scale_256_128 scale_128_256 r cb (lensR cb) (weightV lattice_256_128 0x40000000#32 0x437F8000#32)
    (weightV lattice_128_256 0x3F000000#32 0x42FF0000#32)) w b
/-- What the last stage adds. -/
def h4R (r : FVec Ideal (Cube 32 256 256) .f32) : FVec Ideal (Cube 32 256 256) .f32 :=
  blendR blend_3 (nearestV table_256 r cb (lensR cb)) w b

/-- What is left after the first stage. -/
def r1R : FVec Ideal (Cube 32 256 256) .f32 := subf x (h1R cb w b x)
/-- What is left after the second stage. -/
def r2R : FVec Ideal (Cube 32 256 256) .f32 := subf (r1R x cb w b) (h2R cb w b (r1R x cb w b))
/-- What is left after the third stage. -/
def r3R : FVec Ideal (Cube 32 256 256) .f32 := subf (r2R x cb w b) (h3R cb w b (r2R x cb w b))

/-- The sum of the four. -/
def totalR : FVec Ideal (Cube 32 256 256) .f32 :=
  addf (addf (addf (addf (onCube blend_0 0x00000000#32) (h1R cb w b x)) (h2R cb w b (r1R x cb w b))) (h3R cb w b (r2R x cb w b)))
    (h4R cb w b (r3R x cb w b))

variable (hx : RealV x) (hcb : RealV cb) (hw : RealV w) (hb : RealV b)

/-- A stage's taps. -/
abbrev tapsOf (s : Fin 4) (k : Fin 3) (o i : Fin 256) : EReal := w (ix4 s o i k)
/-- A stage's biases. -/
abbrev biasesOf (s : Fin 4) (o : Fin 256) : EReal := b (ix2 s o)

theorem lensR_apply (k : Fin 1024) : lensR cb (ix1 k) = sq (tableOf cb) k := squaresV_apply _ _ cb k

theorem rowAt_subf (y z : FVec Ideal (Cube 32 256 256) .f32) (n : Fin 32) : rowAt (subf y z) n = less (rowAt y n) (rowAt z n) := rfl
theorem rowAt_addf (y z : FVec Ideal (Cube 32 256 256) .f32) (n : Fin 32) : rowAt (addf y z) n = plus (rowAt y n) (rowAt z n) := rfl

include hcb

theorem h1R_apply (r : FVec Ideal (Cube 32 256 256) .f32) (hr : ∀ n, RealRow (rowAt r n)) (n : Fin 32) :
    rowAt (h1R cb w b r) n = phi (tapsOf w 0) (biasesOf b 0) (quant (tableOf cb) weights.d1 weights.u1 (rowAt r n)) := by
  unfold h1R
  rw [blendR_apply, quantR_apply _ _ _ _ _ _ _ _ hr real_256_32 (fun k c => hcb _) (lensR_apply cb)]
  rfl

theorem h2R_apply (r : FVec Ideal (Cube 32 256 256) .f32) (hr : ∀ n, RealRow (rowAt r n)) (n : Fin 32) :
    rowAt (h2R cb w b r) n = phi (tapsOf w 1) (biasesOf b 1) (quant (tableOf cb) weights.d2 weights.u2 (rowAt r n)) := by
  unfold h2R
  rw [blendR_apply, quantR_apply _ _ _ _ _ _ _ _ hr real_256_64 (fun k c => hcb _) (lensR_apply cb)]
  rfl

theorem h3R_apply (r : FVec Ideal (Cube 32 256 256) .f32) (hr : ∀ n, RealRow (rowAt r n)) (n : Fin 32) :
    rowAt (h3R cb w b r) n = phi (tapsOf w 2) (biasesOf b 2) (quant (tableOf cb) weights.d3 weights.u3 (rowAt r n)) := by
  unfold h3R
  rw [blendR_apply, quantR_apply _ _ _ _ _ _ _ _ hr real_256_128 (fun k c => hcb _) (lensR_apply cb)]
  rfl

theorem h4R_apply (r : FVec Ideal (Cube 32 256 256) .f32) (hr : ∀ n, RealRow (rowAt r n)) (n : Fin 32) :
    rowAt (h4R cb w b r) n = phi (tapsOf w 3) (biasesOf b 3) (code (tableOf cb) (rowAt r n)) := by
  unfold h4R
  rw [blendR_apply, nearestV_apply _ _ _ _ hr (fun k c => hcb _) (lensR_apply cb)]
  rfl

include hw hb

/-- A stage's result is finite. -/
theorem real_stage (s : Fin 4) {m : ℕ} {Wd : Fin 256 → Fin m → EReal} {Wu : Fin m → Fin 256 → EReal} (hu : ∀ i j, Real' (Wu i j)) (r : Row 256) :
    RealRow (phi (tapsOf w s) (biasesOf b s) (quant (tableOf cb) Wd Wu r)) :=
  real_phi (fun k o c => hw _) (fun o => hb _) (real_quant (fun k c => hcb _) hu r)

include hx

theorem totalR_apply (n : Fin 32) : rowAt (totalR x cb w b) n = answer x cb w b n := by
  have k1 := h1R_apply cb w b hcb x (fun n c t => hx _)
  have e1 : ∀ n, RealRow (rowAt (r1R x cb w b) n) := fun n => by
    unfold r1R
    rw [rowAt_subf, k1]
    exact real_less (fun c t => hx _) (real_stage cb w b hcb hw hb 0 (fun i j => real_32_256 _) _)
  have k2 := h2R_apply cb w b hcb (r1R x cb w b) e1
  have e2 : ∀ n, RealRow (rowAt (r2R x cb w b) n) := fun n => by
    unfold r2R
    rw [rowAt_subf, k2]
    exact real_less (e1 n) (real_stage cb w b hcb hw hb 1 (fun i j => real_64_256 _) _)
  have k3 := h3R_apply cb w b hcb (r2R x cb w b) e2
  have e3 : ∀ n, RealRow (rowAt (r3R x cb w b) n) := fun n => by
    unfold r3R
    rw [rowAt_subf, k3]
    exact real_less (e2 n) (real_stage cb w b hcb hw hb 2 (fun i j => real_128_256 _) _)
  have k4 := h4R_apply cb w b hcb (r3R x cb w b) e3
  have z : rowAt (onCube blend_0 0x00000000#32) n = fun _ _ => 0 := funext fun c => funext fun t => Ideal.ofBits_zero_f32
  have f1 : rowAt (r1R x cb w b) n = r1 (tableOf cb) weights (tapsOf w) (biasesOf b) (rowAt x n) := by
    unfold r1R
    rw [rowAt_subf, k1]
    rfl
  have f2 : rowAt (r2R x cb w b) n = r2 (tableOf cb) weights (tapsOf w) (biasesOf b) (rowAt x n) := by
    unfold r2R
    rw [rowAt_subf, k2, f1]
    rfl
  have f3 : rowAt (r3R x cb w b) n = r3 (tableOf cb) weights (tapsOf w) (biasesOf b) (rowAt x n) := by
    unfold r3R
    rw [rowAt_subf, k3, f2]
    rfl
  unfold totalR
  rw [rowAt_addf, rowAt_addf, rowAt_addf, rowAt_addf, z, k1, k2, k3, k4, f1, f2, f3]
  rfl

end

end Cert.Proof.Vq
-- ==== Proof.Finite.lean ====
/- What the precondition says: every entry whose magnitude is below infinity is a real number. -/
module

public import proofs.«01_k».proof.Proof.Total

@[expose] public section

noncomputable section

namespace Cert.Proof.Vq

open Idealize.ShloMosaic hiding ix0 ix1 ix2 ix3 ix4
open Idealize.ShloMosaic.ValueIdx

/-- An array that compares below infinity in magnitude, entry by entry, is an array of real numbers. -/
theorem real_of_below {s d : Shape} (dims : Fin d.rank → Fin s.rank) (h : d.BroadcastsInDim s dims) (x : FVec Ideal s .f32)
    (e : cmpf .olt (Host.absf x) (broadcastInDim s dims h (constant (F := Ideal) d .f32 0x7F800000#32)) = fun _ => 1#1) : RealV x := by
  intro i
  apply Real'.of_max_neg_lt
  have k : BitVec.ofBool (decide (max (x i) (-(x i)) < Ideal.ofBits .f32 0x7F800000#32)) = 1#1 := congrFun e i
  rw [top_f32] at k
  by_contra hn
  rw [decide_eq_false hn] at k
  exact absurd k (by decide)

/-- On real arguments the reference's whole array is the model's answer. -/
theorem total_eq (x : FVec Ideal (Cube 32 256 256) .f32) (cb w b) (hx : RealV x) (hcb : RealV cb) (hw : RealV w) (hb : RealV b) :
    totalR x cb w b = fun i => answer x cb w b (i 0) (i 1) (i 2) := by
  funext i
  have k := congrFun (congrFun (totalR_apply x cb w b hx hcb hw hb (i 0)) (i 1)) (i 2)
  refine Eq.trans ?_ k
  exact congrArg (totalR x cb w b) (ix3_eta i).symm

end Cert.Proof.Vq

end
-- ==== Proof.RefOps1.lean ====
/- The operations of the reference, first stage. -/
module

public import proofs.«01_k».proof.ReferenceIdeal
public import Idealize.ShloMosaic.PureOps.Ideal
public import Idealize.ShloMosaic.Lib.StableHlo.RunRead
public import Idealize.ShloMosaic.Lib.StableHlo.RunHlo

@[expose] public section

set_option synthInstance.maxSize 4096

noncomputable section

namespace Cert.Proof.Ref

open Idealize.ShloMosaic Idealize.SL.Sem
open Cert.ReferenceIdeal Cert.ReferenceIdeal.Facts₀ Cert.ReferenceIdeal.Facts

variable {F : FTy → Type} [FloatOps F] [Cert.ReferenceIdeal.Facts]

/-- Operations: the sum that nothing has been added to yet, and the squared lengths of the codes. -/
abbrev start : List (HloOp τ sig (Elt F)) :=
  [ StableHlo.nullary main_cst (constant S_ .f32 0x00000000#32),
    StableHlo.unary main_cst main_v0 (broadcastInDim S32x256x256 ![] bcast_S_S32x256x256 : (⟨S_, .f32⟩ : BufTy).Contents (Elt F) → (⟨S32x256x256, .f32⟩ : BufTy).Contents (Elt F)),
    StableHlo.binary main_arg1 main_arg1 main_v1 (mulf : (⟨S1024x256, .f32⟩ : BufTy).Contents (Elt F) → (⟨S1024x256, .f32⟩ : BufTy).Contents (Elt F) → (⟨S1024x256, .f32⟩ : BufTy).Contents (Elt F)),
    StableHlo.nullary main_cst_0 (constant S_ .f32 0x00000000#32),
    StableHlo.binary main_v1 main_cst_0 main_v2 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)) ]

theorem start_sub : (start : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub ..⟩

theorem start_fresh : (start : List (HloOp τ sig (Elt F))).Forall fun op => op.fresh = ∅ :=
  ⟨rfl, rfl, rfl, rfl, rfl⟩

/-- Operations: the change to the shorter length. -/
abbrev down1 : List (HloOp τ sig (Elt F)) :=
  [ StableHlo.TRef.nullary (.of main_call0_cst : StableHlo.TRef sig ⟨S_, .f32⟩) (constant S_ .f32 0x41000000#32),
    StableHlo.TRef.nullary (.of main_call0_cst_0 : StableHlo.TRef sig ⟨S_, .f32⟩) (constant S_ .f32 0x3F800000#32),
    StableHlo.TRef.binary (.of main_call0_cst : StableHlo.TRef sig ⟨S_, .f32⟩) (.of main_call0_cst_0 : StableHlo.TRef sig ⟨S_, .f32⟩) (.of main_call0_v0 : StableHlo.TRef sig ⟨S_, .f32⟩) maximumf,
    StableHlo.TRef.nullary (.of main_call0_v1 : StableHlo.TRef sig ⟨S32, .f32⟩) (sitofp .f32 (iotaInDim S32 32 0)),
    StableHlo.TRef.nullary (.of main_call0_cst_1 : StableHlo.TRef sig ⟨S_, .f32⟩) (constant S_ .f32 0x3F000000#32),
    StableHlo.TRef.unary (.of main_call0_cst_1 : StableHlo.TRef sig ⟨S_, .f32⟩) (.of main_call0_v2 : StableHlo.TRef sig ⟨S32, .f32⟩) (broadcastInDim S32 ![] bcast_S_S32),
    StableHlo.TRef.binary (.of main_call0_v1 : StableHlo.TRef sig ⟨S32, .f32⟩) (.of main_call0_v2 : StableHlo.TRef sig ⟨S32, .f32⟩) (.of main_call0_v3 : StableHlo.TRef sig ⟨S32, .f32⟩) addf,
    StableHlo.TRef.nullary (.of main_call0_cst_2 : StableHlo.TRef sig ⟨S_, .f32⟩) (constant S_ .f32 0x41000000#32),
    StableHlo.TRef.unary (.of main_call0_cst_2 : StableHlo.TRef sig ⟨S_, .f32⟩) (.of main_call0_v4 : StableHlo.TRef sig ⟨S32, .f32⟩) (broadcastInDim S32 ![] bcast_S_S32),
    StableHlo.TRef.binary (.of main_call0_v3 : StableHlo.TRef sig ⟨S32, .f32⟩) (.of main_call0_v4 : StableHlo.TRef sig ⟨S32, .f32⟩) (.of main_call0_v5 : StableHlo.TRef sig ⟨S32, .f32⟩) mulf,
    StableHlo.TRef.nullary (.of main_call0_cst_3 : StableHlo.TRef sig ⟨S_, .f32⟩) (constant S_ .f32 0x00000000#32),
    StableHlo.TRef.unary (.of main_call0_cst_3 : StableHlo.TRef sig ⟨S_, .f32⟩) (.of main_call0_v6 : StableHlo.TRef sig ⟨S32, .f32⟩) (broadcastInDim S32 ![] bcast_S_S32),
    StableHlo.TRef.binary (.of main_call0_v5 : StableHlo.TRef sig ⟨S32, .f32⟩) (.of main_call0_v6 : StableHlo.TRef sig ⟨S32, .f32⟩) (.of main_call0_v7 : StableHlo.TRef sig ⟨S32, .f32⟩) subf,
    StableHlo.TRef.nullary (.of main_call0_cst_4 : StableHlo.TRef sig ⟨S_, .f32⟩) (constant S_ .f32 0x3F000000#32),
    StableHlo.TRef.unary (.of main_call0_cst_4 : StableHlo.TRef sig ⟨S_, .f32⟩) (.of main_call0_v8 : StableHlo.TRef sig ⟨S32, .f32⟩) (broadcastInDim S32 ![] bcast_S_S32),
    StableHlo.TRef.binary (.of main_call0_v7 : StableHlo.TRef sig ⟨S32, .f32⟩) (.of main_call0_v8 : StableHlo.TRef sig ⟨S32, .f32⟩) (.of main_call0_v9 : StableHlo.TRef sig ⟨S32, .f32⟩) subf,
    StableHlo.TRef.nullary (.of main_call0_v10 : StableHlo.TRef sig ⟨S256, .f32⟩) (sitofp .f32 (iotaInDim S256 32 0)),
    StableHlo.TRef.unary (.of main_call0_v9 : StableHlo.TRef sig ⟨S32, .f32⟩) (.of main_call0_v11 : StableHlo.TRef sig ⟨S1x32, .f32⟩) (broadcastInDim S1x32 ![1] bcast_S32_S1x32_1),
    StableHlo.TRef.unary (.of main_call0_v10 : StableHlo.TRef sig ⟨S256, .f32⟩) (.of main_call0_v12 : StableHlo.TRef sig ⟨S256x1, .f32⟩) (broadcastInDim S256x1 ![0] bcast_S256_S256x1_0),
    StableHlo.TRef.unary (.of main_call0_v11 : StableHlo.TRef sig ⟨S1x32, .f32⟩) (.of main_call0_v13 : StableHlo.TRef sig ⟨S256x32, .f32⟩) (broadcastInDim S256x32 ![0, 1] bcast_S1x32_S256x32_0_1),
    StableHlo.TRef.unary (.of main_call0_v12 : StableHlo.TRef sig ⟨S256x1, .f32⟩) (.of main_call0_v14 : StableHlo.TRef sig ⟨S256x32, .f32⟩) (broadcastInDim S256x32 ![0, 1] bcast_S256x1_S256x32_0_1),
    StableHlo.TRef.binary (.of main_call0_v13 : StableHlo.TRef sig ⟨S256x32, .f32⟩) (.of main_call0_v14 : StableHlo.TRef sig ⟨S256x32, .f32⟩) (.of main_call0_v15 : StableHlo.TRef sig ⟨S256x32, .f32⟩) subf,
    StableHlo.TRef.unary (.of main_call0_v15 : StableHlo.TRef sig ⟨S256x32, .f32⟩) (.of main_call0_v16 : StableHlo.TRef sig ⟨S256x32, .f32⟩) Host.absf,
    StableHlo.TRef.unary (.of main_call0_v0 : StableHlo.TRef sig ⟨S_, .f32⟩) (.of main_call0_v17 : StableHlo.TRef sig ⟨S_, .f32⟩) id,
    StableHlo.TRef.unary (.of main_call0_v17 : StableHlo.TRef sig ⟨S_, .f32⟩) (.of main_call0_v18 : StableHlo.TRef sig ⟨S256x32, .f32⟩) (broadcastInDim S256x32 ![] bcast_S_S256x32),
    StableHlo.TRef.binary (.of main_call0_v16 : StableHlo.TRef sig ⟨S256x32, .f32⟩) (.of main_call0_v18 : StableHlo.TRef sig ⟨S256x32, .f32⟩) (.of main_call0_v19 : StableHlo.TRef sig ⟨S256x32, .f32⟩) Host.divf,
    StableHlo.TRef.unary (.of main_call0_v19 : StableHlo.TRef sig ⟨S256x32, .f32⟩) (.of main_call0_v20 : StableHlo.TRef sig ⟨S256x32, .f32⟩) Host.absf,
    StableHlo.TRef.nullary (.of main_call0_cst_5 : StableHlo.TRef sig ⟨S_, .f32⟩) (constant S_ .f32 0x3F800000#32),
    StableHlo.TRef.unary (.of main_call0_cst_5 : StableHlo.TRef sig ⟨S_, .f32⟩) (.of main_call0_v21 : StableHlo.TRef sig ⟨S256x32, .f32⟩) (broadcastInDim S256x32 ![] bcast_S_S256x32),
    StableHlo.TRef.binary (.of main_call0_v21 : StableHlo.TRef sig ⟨S256x32, .f32⟩) (.of main_call0_v20 : StableHlo.TRef sig ⟨S256x32, .f32⟩) (.of main_call0_v22 : StableHlo.TRef sig ⟨S256x32, .f32⟩) subf,
    StableHlo.TRef.nullary (.of main_call0_cst_6 : StableHlo.TRef sig ⟨S_, .f32⟩) (constant S_ .f32 0x00000000#32),
    StableHlo.TRef.unary (.of main_call0_cst_6 : StableHlo.TRef sig ⟨S_, .f32⟩) (.of main_call0_v23 : StableHlo.TRef sig ⟨S256x32, .f32⟩) (broadcastInDim S256x32 ![] bcast_S_S256x32),
    StableHlo.TRef.binary (.of main_call0_v23 : StableHlo.TRef sig ⟨S256x32, .f32⟩) (.of main_call0_v22 : StableHlo.TRef sig ⟨S256x32, .f32⟩) (.of main_call0_v24 : StableHlo.TRef sig ⟨S256x32, .f32⟩) maximumf,
    StableHlo.TRef.nullary (.of main_call0_cst_7 : StableHlo.TRef sig ⟨S_, .f32⟩) (constant S_ .f32 0x00000000#32),
    StableHlo.TRef.binary (.of main_call0_v24 : StableHlo.TRef sig ⟨S256x32, .f32⟩) (.of main_call0_cst_7 : StableHlo.TRef sig ⟨S_, .f32⟩) (.of main_call0_v25 : StableHlo.TRef sig ⟨S32, .f32⟩) (fun x v => Host.reduceAdd x v reducesTo_S256x32_S32_d0 h_S_),
    StableHlo.TRef.unary (.of main_call0_v25 : StableHlo.TRef sig ⟨S32, .f32⟩) (.of main_call0_v26 : StableHlo.TRef sig ⟨S1x32, .f32⟩) (broadcastInDim S1x32 ![1] bcast_S32_S1x32_1),
    StableHlo.TRef.unary (.of main_call0_v26 : StableHlo.TRef sig ⟨S1x32, .f32⟩) (.of main_call0_v27 : StableHlo.TRef sig ⟨S1x32, .f32⟩) Host.absf,
    StableHlo.TRef.nullary (.of main_call0_cst_8 : StableHlo.TRef sig ⟨S_, .f32⟩) (constant S_ .f32 0x38FA0000#32),
    StableHlo.TRef.unary (.of main_call0_cst_8 : StableHlo.TRef sig ⟨S_, .f32⟩) (.of main_call0_v28 : StableHlo.TRef sig ⟨S1x32, .f32⟩) (broadcastInDim S1x32 ![] bcast_S_S1x32),
    StableHlo.TRef.binary (.of main_call0_v27 : StableHlo.TRef sig ⟨S1x32, .f32⟩) (.of main_call0_v28 : StableHlo.TRef sig ⟨S1x32, .f32⟩) (.of main_call0_v29 : StableHlo.TRef sig ⟨S1x32, .i1⟩) (cmpf .ogt),
    StableHlo.TRef.nullary (.of main_call0_cst_9 : StableHlo.TRef sig ⟨S_, .f32⟩) (constant S_ .f32 0x00000000#32),
    StableHlo.TRef.unary (.of main_call0_cst_9 : StableHlo.TRef sig ⟨S_, .f32⟩) (.of main_call0_v30 : StableHlo.TRef sig ⟨S1x32, .f32⟩) (broadcastInDim S1x32 ![] bcast_S_S1x32),
    StableHlo.TRef.binary (.of main_call0_v26 : StableHlo.TRef sig ⟨S1x32, .f32⟩) (.of main_call0_v30 : StableHlo.TRef sig ⟨S1x32, .f32⟩) (.of main_call0_v31 : StableHlo.TRef sig ⟨S1x32, .i1⟩) (cmpf .une),
    StableHlo.TRef.nullary (.of main_call0_c : StableHlo.TRef sig ⟨S_, .i32⟩) (constantI S_ 32 1#32),
    StableHlo.TRef.unary (.of main_call0_c : StableHlo.TRef sig ⟨S_, .i32⟩) (.of main_call0_call0_v0 : StableHlo.TRef sig ⟨S_, .f32⟩) (sitofp .f32),
    StableHlo.TRef.unary (.of main_call0_call0_v0 : StableHlo.TRef sig ⟨S_, .f32⟩) (.of main_call0_call0_v1 : StableHlo.TRef sig ⟨S1x32, .f32⟩) (broadcastInDim S1x32 ![] bcast_S_S1x32),
    StableHlo.TRef.ternary (.of main_call0_v31 : StableHlo.TRef sig ⟨S1x32, .i1⟩) (.of main_call0_v26 : StableHlo.TRef sig ⟨S1x32, .f32⟩) (.of main_call0_call0_v1 : StableHlo.TRef sig ⟨S1x32, .f32⟩) (.of main_call0_v32 : StableHlo.TRef sig ⟨S1x32, .f32⟩) select,
    StableHlo.TRef.unary (.of main_call0_v32 : StableHlo.TRef sig ⟨S1x32, .f32⟩) (.of main_call0_v33 : StableHlo.TRef sig ⟨S256x32, .f32⟩) (broadcastInDim S256x32 ![0, 1] bcast_S1x32_S256x32_0_1),
    StableHlo.TRef.binary (.of main_call0_v24 : StableHlo.TRef sig ⟨S256x32, .f32⟩) (.of main_call0_v33 : StableHlo.TRef sig ⟨S256x32, .f32⟩) (.of main_call0_v34 : StableHlo.TRef sig ⟨S256x32, .f32⟩) Host.divf,
    StableHlo.TRef.nullary (.of main_call0_c_10 : StableHlo.TRef sig ⟨S_, .i32⟩) (constantI S_ 32 0#32),
    StableHlo.TRef.unary (.of main_call0_c_10 : StableHlo.TRef sig ⟨S_, .i32⟩) (.of main_call0_call1_v0 : StableHlo.TRef sig ⟨S_, .f32⟩) (sitofp .f32),
    StableHlo.TRef.unary (.of main_call0_v29 : StableHlo.TRef sig ⟨S1x32, .i1⟩) (.of main_call0_call1_v1 : StableHlo.TRef sig ⟨S256x32, .i1⟩) (broadcastInDim S256x32 ![0, 1] bcast_S1x32_S256x32_0_1),
    StableHlo.TRef.unary (.of main_call0_call1_v0 : StableHlo.TRef sig ⟨S_, .f32⟩) (.of main_call0_call1_v2 : StableHlo.TRef sig ⟨S256x32, .f32⟩) (broadcastInDim S256x32 ![] bcast_S_S256x32),
    StableHlo.TRef.ternary (.of main_call0_call1_v1 : StableHlo.TRef sig ⟨S256x32, .i1⟩) (.of main_call0_v34 : StableHlo.TRef sig ⟨S256x32, .f32⟩) (.of main_call0_call1_v2 : StableHlo.TRef sig ⟨S256x32, .f32⟩) (.of main_call0_v35 : StableHlo.TRef sig ⟨S256x32, .f32⟩) select,
    StableHlo.TRef.nullary (.of main_call0_cst_11 : StableHlo.TRef sig ⟨S_, .f32⟩) (constant S_ .f32 0xBF000000#32),
    StableHlo.TRef.unary (.of main_call0_cst_11 : StableHlo.TRef sig ⟨S_, .f32⟩) (.of main_call0_v36 : StableHlo.TRef sig ⟨S32, .f32⟩) (broadcastInDim S32 ![] bcast_S_S32),
    StableHlo.TRef.binary (.of main_call0_v9 : StableHlo.TRef sig ⟨S32, .f32⟩) (.of main_call0_v36 : StableHlo.TRef sig ⟨S32, .f32⟩) (.of main_call0_v37 : StableHlo.TRef sig ⟨S32, .i1⟩) (cmpf .oge),
    StableHlo.TRef.nullary (.of main_call0_cst_12 : StableHlo.TRef sig ⟨S_, .f32⟩) (constant S_ .f32 0x437F8000#32),
    StableHlo.TRef.unary (.of main_call0_cst_12 : StableHlo.TRef sig ⟨S_, .f32⟩) (.of main_call0_v38 : StableHlo.TRef sig ⟨S32, .f32⟩) (broadcastInDim S32 ![] bcast_S_S32),
    StableHlo.TRef.binary (.of main_call0_v9 : StableHlo.TRef sig ⟨S32, .f32⟩) (.of main_call0_v38 : StableHlo.TRef sig ⟨S32, .f32⟩) (.of main_call0_v39 : StableHlo.TRef sig ⟨S32, .i1⟩) (cmpf .ole),
    StableHlo.TRef.binary (.of main_call0_v37 : StableHlo.TRef sig ⟨S32, .i1⟩) (.of main_call0_v39 : StableHlo.TRef sig ⟨S32, .i1⟩) (.of main_call0_v40 : StableHlo.TRef sig ⟨S32, .i1⟩) andi,
    StableHlo.TRef.unary (.of main_call0_v40 : StableHlo.TRef sig ⟨S32, .i1⟩) (.of main_call0_v41 : StableHlo.TRef sig ⟨S1x32, .i1⟩) (broadcastInDim S1x32 ![1] bcast_S32_S1x32_1),
    StableHlo.TRef.nullary (.of main_call0_c_13 : StableHlo.TRef sig ⟨S_, .i32⟩) (constantI S_ 32 0#32),
    StableHlo.TRef.unary (.of main_call0_c_13 : StableHlo.TRef sig ⟨S_, .i32⟩) (.of main_call0_call2_v0 : StableHlo.TRef sig ⟨S_, .f32⟩) (sitofp .f32),
    StableHlo.TRef.unary (.of main_call0_v41 : StableHlo.TRef sig ⟨S1x32, .i1⟩) (.of main_call0_call2_v1 : StableHlo.TRef sig ⟨S256x32, .i1⟩) (broadcastInDim S256x32 ![0, 1] bcast_S1x32_S256x32_0_1),
    StableHlo.TRef.unary (.of main_call0_call2_v0 : StableHlo.TRef sig ⟨S_, .f32⟩) (.of main_call0_call2_v2 : StableHlo.TRef sig ⟨S256x32, .f32⟩) (broadcastInDim S256x32 ![] bcast_S_S256x32),
    StableHlo.TRef.ternary (.of main_call0_call2_v1 : StableHlo.TRef sig ⟨S256x32, .i1⟩) (.of main_call0_v35 : StableHlo.TRef sig ⟨S256x32, .f32⟩) (.of main_call0_call2_v2 : StableHlo.TRef sig ⟨S256x32, .f32⟩) (.of main_call0_v42 : StableHlo.TRef sig ⟨S256x32, .f32⟩) select,
    StableHlo.TRef.binary (.of main_arg0 : StableHlo.TRef sig ⟨S32x256x256, .f32⟩) (.of main_call0_v42 : StableHlo.TRef sig ⟨S256x32, .f32⟩) (.of main_v3 : StableHlo.TRef sig ⟨S32x256x32, .f32⟩) (fun l r => Host.dotGeneral dot_S32x256x256_S256x32_S32x256x32_2_0_01_1_n_n (some .fp32) l r) ]

theorem down1_sub : (down1 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub ..⟩

theorem down1_fresh : (down1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations: the distances to the codes. -/
abbrev gap1 : List (HloOp τ sig (Elt F)) :=
  [ StableHlo.unary main_v3 main_v4 ((transpose S32x32x256 [0, 2, 1] · transposes_S32x256x32_S32x32x256_0_2_1) : (⟨S32x256x32, .f32⟩ : BufTy).Contents (Elt F) → (⟨S32x32x256, .f32⟩ : BufTy).Contents (Elt F)),
    StableHlo.reshape main_v4 main_v5 (rfl : (.f32 : EltTy) = .f32) shapeCasts_S32x32x256_S1024x256,
    StableHlo.binary main_v5 main_v5 main_v6 (mulf : (⟨S1024x256, .f32⟩ : BufTy).Contents (Elt F) → (⟨S1024x256, .f32⟩ : BufTy).Contents (Elt F) → (⟨S1024x256, .f32⟩ : BufTy).Contents (Elt F)),
    StableHlo.nullary main_cst_1 (constant S_ .f32 0x00000000#32),
    StableHlo.binary main_v6 main_cst_1 main_v7 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    StableHlo.unary main_v7 main_v8 (broadcastInDim S1024x1 ![0] bcast_S1024_S1024x1_0 : (⟨S1024, .f32⟩ : BufTy).Contents (Elt F) → (⟨S1024x1, .f32⟩ : BufTy).Contents (Elt F)),
    StableHlo.unary main_arg1 main_v9 ((transpose S256x1024 [1, 0] · transposes_S1024x256_S256x1024_1_0) : (⟨S1024x256, .f32⟩ : BufTy).Contents (Elt F) → (⟨S256x1024, .f32⟩ : BufTy).Contents (Elt F)),
    StableHlo.binary main_v5 main_v9 main_v10 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
    StableHlo.nullary main_cst_2 (constant S_ .f32 0x40000000#32),
    StableHlo.unary main_cst_2 main_v11 (broadcastInDim S1024x1024 ![] bcast_S_S1024x1024 : (⟨S_, .f32⟩ : BufTy).Contents (Elt F) → (⟨S1024x1024, .f32⟩ : BufTy).Contents (Elt F)),
    StableHlo.binary main_v11 main_v10 main_v12 (mulf : (⟨S1024x1024, .f32⟩ : BufTy).Contents (Elt F) → (⟨S1024x1024, .f32⟩ : BufTy).Contents (Elt F) → (⟨S1024x1024, .f32⟩ : BufTy).Contents (Elt F)),
    StableHlo.unary main_v8 main_v13 (broadcastInDim S1024x1024 ![0, 1] bcast_S1024x1_S1024x1024_0_1 : (⟨S1024x1, .f32⟩ : BufTy).Contents (Elt F) → (⟨S1024x1024, .f32⟩ : BufTy).Contents (Elt F)),
    StableHlo.binary main_v13 main_v12 main_v14 (subf : (⟨S1024x1024, .f32⟩ : BufTy).Contents (Elt F) → (⟨S1024x1024, .f32⟩ : BufTy).Contents (Elt F) → (⟨S1024x1024, .f32⟩ : BufTy).Contents (Elt F)),
    StableHlo.unary main_v2 main_v15 (broadcastInDim S1x1024 ![1] bcast_S1024_S1x1024_1 : (⟨S1024, .f32⟩ : BufTy).Contents (Elt F) → (⟨S1x1024, .f32⟩ : BufTy).Contents (Elt F)),
    StableHlo.unary main_v15 main_v16 (broadcastInDim S1024x1024 ![0, 1] bcast_S1x1024_S1024x1024_0_1 : (⟨S1x1024, .f32⟩ : BufTy).Contents (Elt F) → (⟨S1024x1024, .f32⟩ : BufTy).Contents (Elt F)),
    StableHlo.binary main_v14 main_v16 main_v17 (addf : (⟨S1024x1024, .f32⟩ : BufTy).Contents (Elt F) → (⟨S1024x1024, .f32⟩ : BufTy).Contents (Elt F) → (⟨S1024x1024, .f32⟩ : BufTy).Contents (Elt F)) ]

theorem gap1_sub : (gap1 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

theorem gap1_fresh : (gap1 : List (HloOp τ sig (Elt F))).Forall fun op => op.fresh = ∅ :=
  ⟨rfl, rfl, rfl, rfl, rfl, rfl, rfl, rfl, rfl, rfl, rfl, rfl, rfl, rfl, rfl, rfl⟩

/-- Operations: the place of the nearest code. -/
abbrev least1 : List (HloOp τ sig (Elt F)) :=
  [ StableHlo.TRef.nullary (.of main_call1_v0 : StableHlo.TRef sig ⟨S1024x1024, .i32⟩) (iotaInDim S1024x1024 32 1),
    StableHlo.TRef.nullary (.of main_call1_cst : StableHlo.TRef sig ⟨S_, .f32⟩) (constant S_ .f32 0x7F800000#32),
    StableHlo.TRef.nullary (.of main_call1_c : StableHlo.TRef sig ⟨S_, .i32⟩) (constantI S_ 32 0#32),
    StableHlo.TRef.quaternary (.of main_v17 : StableHlo.TRef sig ⟨S1024x1024, .f32⟩) (.of main_call1_v0 : StableHlo.TRef sig ⟨S1024x1024, .i32⟩) (.of main_call1_cst : StableHlo.TRef sig ⟨S_, .f32⟩) (.of main_call1_c : StableHlo.TRef sig ⟨S_, .i32⟩) (.of main_call1_v1_0 : StableHlo.TRef sig ⟨S1024, .f32⟩) (fun x y u v j => (Host.argReduce reducer_argmin_f32_i32 x y u v reducesTo_S1024x1024_S1024_d1 h_S_ j).1),
    StableHlo.TRef.quaternary (.of main_v17 : StableHlo.TRef sig ⟨S1024x1024, .f32⟩) (.of main_call1_v0 : StableHlo.TRef sig ⟨S1024x1024, .i32⟩) (.of main_call1_cst : StableHlo.TRef sig ⟨S_, .f32⟩) (.of main_call1_c : StableHlo.TRef sig ⟨S_, .i32⟩) (.of main_v18 : StableHlo.TRef sig ⟨S1024, .i32⟩) (fun x y u v j => (Host.argReduce reducer_argmin_f32_i32 x y u v reducesTo_S1024x1024_S1024_d1 h_S_ j).2) ]

theorem least1_sub : (least1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem least1_fresh : (least1 : List (HloOp τ sig (Elt F))).Forall fun op => op.fresh = ∅ :=
  ⟨rfl, rfl, rfl, rfl, rfl⟩

/-- Operations: the nearest code. -/
abbrev take1 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S1024, .i32⟩) (broadcastInDim S1024 ![] bcast_S_S1024),
    StableHlo.TRef.binary (.of main_v18 : StableHlo.TRef sig ⟨S1024, .i32⟩) (.of main_call2_v0 : StableHlo.TRef sig ⟨S1024, .i32⟩) (.of main_call2_v1 : StableHlo.TRef sig ⟨S1024, .i1⟩) (cmpi .slt),
    StableHlo.TRef.nullary (.of main_call2_c_0 : StableHlo.TRef sig ⟨S_, .i32⟩) (constantI S_ 32 1024#32),
    StableHlo.TRef.unary (.of main_call2_c_0 : StableHlo.TRef sig ⟨S_, .i32⟩) (.of main_call2_v2 : StableHlo.TRef sig ⟨S1024, .i32⟩) (broadcastInDim S1024 ![] bcast_S_S1024),
    StableHlo.TRef.binary (.of main_v18 : StableHlo.TRef sig ⟨S1024, .i32⟩) (.of main_call2_v2 : StableHlo.TRef sig ⟨S1024, .i32⟩) (.of main_call2_v3 : StableHlo.TRef sig ⟨S1024, .i32⟩) addi,
    StableHlo.TRef.ternary (.of main_call2_v1 : StableHlo.TRef sig ⟨S1024, .i1⟩) (.of main_call2_v3 : StableHlo.TRef sig ⟨S1024, .i32⟩) (.of main_v18 : StableHlo.TRef sig ⟨S1024, .i32⟩) (.of main_call2_v4 : StableHlo.TRef sig ⟨S1024, .i32⟩) select,
    StableHlo.TRef.unary (.of main_call2_v4 : StableHlo.TRef sig ⟨S1024, .i32⟩) (.of main_call2_v5 : StableHlo.TRef sig ⟨S1024x1, .i32⟩) (broadcastInDim S1024x1 ![0] bcast_S1024_S1024x1_0),
    StableHlo.TRef.nullary (.of main_call2_c_1 : StableHlo.TRef sig ⟨S1, .i32⟩) (constantI S1 32 1023#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S1024x1, .i32⟩) (broadcastInDim S1024x1 ![] bcast_S_S1024x1),
    StableHlo.TRef.binary (.of main_call2_v5 : StableHlo.TRef sig ⟨S1024x1, .i32⟩) (.of main_call2_v6 : StableHlo.TRef sig ⟨S1024x1, .i32⟩) (.of main_call2_v7 : StableHlo.TRef sig ⟨S1024x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S1024x1, .i32⟩) (broadcastInDim S1024x1 ![0, 1] bcast_S1x1_S1024x1_0_1),
    StableHlo.TRef.binary (.of main_call2_v5 : StableHlo.TRef sig ⟨S1024x1, .i32⟩) (.of main_call2_v9 : StableHlo.TRef sig ⟨S1024x1, .i32⟩) (.of main_call2_v10 : StableHlo.TRef sig ⟨S1024x1, .i1⟩) (cmpi .sle),
    StableHlo.TRef.binary (.of main_call2_v7 : StableHlo.TRef sig ⟨S1024x1, .i1⟩) (.of main_call2_v10 : StableHlo.TRef sig ⟨S1024x1, .i1⟩) (.of main_call2_v11 : StableHlo.TRef sig ⟨S1024x1, .i1⟩) andi,
    StableHlo.TRef.nullary (.of main_call2_c_3 : StableHlo.TRef sig ⟨S_, .i1⟩) (constantI S_ 1 1#1),
    StableHlo.TRef.binary (.of main_call2_v11 : StableHlo.TRef sig ⟨S1024x1, .i1⟩) (.of main_call2_c_3 : StableHlo.TRef sig ⟨S_, .i1⟩) (.of main_call2_v12 : StableHlo.TRef sig ⟨S1024, .i1⟩) (fun x v => Host.reduce IntOp.andi x v reducesTo_S1024x1_S1024_d1 h_S_),
    StableHlo.TRef.binary (.of main_arg1 : StableHlo.TRef sig ⟨S1024x256, .f32⟩) (.of main_call2_v5 : StableHlo.TRef sig ⟨S1024x1, .i32⟩) (.of main_call2_v13 : StableHlo.TRef sig ⟨S1024x256, .f32⟩) (fun x i => Host.gather gather_S1024x256_S1024x1_S1024x256_1_0_n_n_0_1_1256 x i),
    StableHlo.TRef.unary (.of main_call2_v12 : StableHlo.TRef sig ⟨S1024, .i1⟩) (.of main_call2_v14 : StableHlo.TRef sig ⟨S1024x256, .i1⟩) (broadcastInDim S1024x256 ![0] bcast_S1024_S1024x256_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S1024x256, .f32⟩) (broadcastInDim S1024x256 ![] bcast_S_S1024x256),
    StableHlo.TRef.ternary (.of main_call2_v14 : StableHlo.TRef sig ⟨S1024x256, .i1⟩) (.of main_call2_v13 : StableHlo.TRef sig ⟨S1024x256, .f32⟩) (.of main_call2_v15 : StableHlo.TRef sig ⟨S1024x256, .f32⟩) (.of main_v19 : StableHlo.TRef sig ⟨S1024x256, .f32⟩) select ]

theorem take1_sub : (take1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem take1_fresh : (take1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations: the codes back as a stack. -/
abbrev box1 : List (HloOp τ sig (Elt F)) :=
  [ StableHlo.reshape main_v19 main_v20 (rfl : (.f32 : EltTy) = .f32) shapeCasts_S1024x256_S32x32x256,
    StableHlo.unary main_v20 main_v21 ((transpose S32x256x32 [0, 2, 1] · transposes_S32x32x256_S32x256x32_0_2_1) : (⟨S32x32x256, .f32⟩ : BufTy).Contents (Elt F) → (⟨S32x256x32, .f32⟩ : BufTy).Contents (Elt F)) ]

theorem box1_sub : (box1 : List (HloOp τ sig (Elt F))).Forall fun op => op.bufs ⊆ StableHlo.tcRefs τ sig :=
  ⟨StableHlo.reshape_bufs_sub .., StableHlo.unary_bufs_sub ..⟩

theorem box1_fresh : (box1 : List (HloOp τ sig (Elt F))).Forall fun op => op.fresh = ∅ :=
  ⟨rfl, rfl⟩

/-- Operations: the change back to the full length. -/
abbrev up1 : List (HloOp τ sig (Elt F)) :=
  [ StableHlo.TRef.nullary (.of main_call3_cst : StableHlo.TRef sig ⟨S_, .f32⟩) (constant S_ .f32 0x3E000000#32),
    StableHlo.TRef.nullary (.of main_call3_cst_0 : StableHlo.TRef sig ⟨S_, .f32⟩) (constant S_ .f32 0x3F800000#32),
    StableHlo.TRef.binary (.of main_call3_cst : StableHlo.TRef sig ⟨S_, .f32⟩) (.of main_call3_cst_0 : StableHlo.TRef sig ⟨S_, .f32⟩) (.of main_call3_v0 : StableHlo.TRef sig ⟨S_, .f32⟩) maximumf,
    StableHlo.TRef.nullary (.of main_call3_v1 : StableHlo.TRef sig ⟨S256, .f32⟩) (sitofp .f32 (iotaInDim S256 32 0)),
    StableHlo.TRef.nullary (.of main_call3_cst_1 : StableHlo.TRef sig ⟨S_, .f32⟩) (constant S_ .f32 0x3F000000#32),
    StableHlo.TRef.unary (.of main_call3_cst_1 : StableHlo.TRef sig ⟨S_, .f32⟩) (.of main_call3_v2 : StableHlo.TRef sig ⟨S256, .f32⟩) (broadcastInDim S256 ![] bcast_S_S256),
    StableHlo.TRef.binary (.of main_call3_v1 : StableHlo.TRef sig ⟨S256, .f32⟩) (.of main_call3_v2 : StableHlo.TRef sig ⟨S256, .f32⟩) (.of main_call3_v3 : StableHlo.TRef sig ⟨S256, .f32⟩) addf,
    StableHlo.TRef.nullary (.of main_call3_cst_2 : StableHlo.TRef sig ⟨S_, .f32⟩) (constant S_ .f32 0x3E000000#32),
    StableHlo.TRef.unary (.of main_call3_cst_2 : StableHlo.TRef sig ⟨S_, .f32⟩) (.of main_call3_v4 : StableHlo.TRef sig ⟨S256, .f32⟩) (broadcastInDim S256 ![] bcast_S_S256),
    StableHlo.TRef.binary (.of main_call3_v3 : StableHlo.TRef sig ⟨S256, .f32⟩) (.of main_call3_v4 : StableHlo.TRef sig ⟨S256, .f32⟩) (.of main_call3_v5 : StableHlo.TRef sig ⟨S256, .f32⟩) mulf,
    StableHlo.TRef.nullary (.of main_call3_cst_3 : StableHlo.TRef sig ⟨S_, .f32⟩) (constant S_ .f32 0x00000000#32),
    StableHlo.TRef.unary (.of main_call3_cst_3 : StableHlo.TRef sig ⟨S_, .f32⟩) (.of main_call3_v6 : StableHlo.TRef sig ⟨S256, .f32⟩) (broadcastInDim S256 ![] bcast_S_S256),
    StableHlo.TRef.binary (.of main_call3_v5 : StableHlo.TRef sig ⟨S256, .f32⟩) (.of main_call3_v6 : StableHlo.TRef sig ⟨S256, .f32⟩) (.of main_call3_v7 : StableHlo.TRef sig ⟨S256, .f32⟩) subf,
    StableHlo.TRef.nullary (.of main_call3_cst_4 : StableHlo.TRef sig ⟨S_, .f32⟩) (constant S_ .f32 0x3F000000#32),
    StableHlo.TRef.unary (.of main_call3_cst_4 : StableHlo.TRef sig ⟨S_, .f32⟩) (.of main_call3_v8 : StableHlo.TRef sig ⟨S256, .f32⟩) (broadcastInDim S256 ![] bcast_S_S256),
    StableHlo.TRef.binary (.of main_call3_v7 : StableHlo.TRef sig ⟨S256, .f32⟩) (.of main_call3_v8 : StableHlo.TRef sig ⟨S256, .f32⟩) (.of main_call3_v9 : StableHlo.TRef sig ⟨S256, .f32⟩) subf,
    StableHlo.TRef.nullary (.of main_call3_v10 : StableHlo.TRef sig ⟨S32, .f32⟩) (sitofp .f32 (iotaInDim S32 32 0)),
    StableHlo.TRef.unary (.of main_call3_v9 : StableHlo.TRef sig ⟨S256, .f32⟩) (.of main_call3_v11 : StableHlo.TRef sig ⟨S1x256, .f32⟩) (broadcastInDim S1x256 ![1] bcast_S256_S1x256_1),
    StableHlo.TRef.unary (.of main_call3_v10 : StableHlo.TRef sig ⟨S32, .f32⟩) (.of main_call3_v12 : StableHlo.TRef sig ⟨S32x1, .f32⟩) (broadcastInDim S32x1 ![0] bcast_S32_S32x1_0),
    StableHlo.TRef.unary (.of main_call3_v11 : StableHlo.TRef sig ⟨S1x256, .f32⟩) (.of main_call3_v13 : StableHlo.TRef sig ⟨S32x256, .f32⟩) (broadcastInDim S32x256 ![0, 1] bcast_S1x256_S32x256_0_1),
    StableHlo.TRef.unary (.of main_call3_v12 : StableHlo.TRef sig ⟨S32x1, .f32⟩) (.of main_call3_v14 : StableHlo.TRef sig ⟨S32x256, .f32⟩) (broadcastInDim S32x256 ![0, 1] bcast_S32x1_S32x256_0_1),
    StableHlo.TRef.binary (.of main_call3_v13 : StableHlo.TRef sig ⟨S32x256, .f32⟩) (.of main_call3_v14 : StableHlo.TRef sig ⟨S32x256, .f32⟩) (.of main_call3_v15 : StableHlo.TRef sig ⟨S32x256, .f32⟩) subf,
    StableHlo.TRef.unary (.of main_call3_v15 : StableHlo.TRef sig ⟨S32x256, .f32⟩) (.of main_call3_v16 : StableHlo.TRef sig ⟨S32x256, .f32⟩) Host.absf,
    StableHlo.TRef.unary (.of main_call3_v0 : StableHlo.TRef sig ⟨S_, .f32⟩) (.of main_call3_v17 : StableHlo.TRef sig ⟨S_, .f32⟩) id,
    StableHlo.TRef.unary (.of main_call3_v17 : StableHlo.TRef sig ⟨S_, .f32⟩) (.of main_call3_v18 : StableHlo.TRef sig ⟨S32x256, .f32⟩) (broadcastInDim S32x256 ![] bcast_S_S32x256),
    StableHlo.TRef.binary (.of main_call3_v16 : StableHlo.TRef sig ⟨S32x256, .f32⟩) (.of main_call3_v18 : StableHlo.TRef sig ⟨S32x256, .f32⟩) (.of main_call3_v19 : StableHlo.TRef sig ⟨S32x256, .f32⟩) Host.divf,
    StableHlo.TRef.unary (.of main_call3_v19 : StableHlo.TRef sig ⟨S32x256, .f32⟩) (.of main_call3_v20 : StableHlo.TRef sig ⟨S32x256, .f32⟩) Host.absf,
    StableHlo.TRef.nullary (.of main_call3_cst_5 : StableHlo.TRef sig ⟨S_, .f32⟩) (constant S_ .f32 0x3F800000#32),
    StableHlo.TRef.unary (.of main_call3_cst_5 : StableHlo.TRef sig ⟨S_, .f32⟩) (.of main_call3_v21 : StableHlo.TRef sig ⟨S32x256, .f32⟩) (broadcastInDim S32x256 ![] bcast_S_S32x256),
    StableHlo.TRef.binary (.of main_call3_v21 : StableHlo.TRef sig ⟨S32x256, .f32⟩) (.of main_call3_v20 : StableHlo.TRef sig ⟨S32x256, .f32⟩) (.of main_call3_v22 : StableHlo.TRef sig ⟨S32x256, .f32⟩) subf,
    StableHlo.TRef.nullary (.of main_call3_cst_6 : StableHlo.TRef sig ⟨S_, .f32⟩) (constant S_ .f32 0x00000000#32),
    StableHlo.TRef.unary (.of main_call3_cst_6 : StableHlo.TRef sig ⟨S_, .f32⟩) (.of main_call3_v23 : StableHlo.TRef sig ⟨S32x256, .f32⟩) (broadcastInDim S32x256 ![] bcast_S_S32x256),
    StableHlo.TRef.binary (.of main_call3_v23 : StableHlo.TRef sig ⟨S32x256, .f32⟩) (.of main_call3_v22 : StableHlo.TRef sig ⟨S32x256, .f32⟩) (.of main_call3_v24 : StableHlo.TRef sig ⟨S32x256, .f32⟩) maximumf,
    StableHlo.TRef.nullary (.of main_call3_cst_7 : StableHlo.TRef sig ⟨S_, .f32⟩) (constant S_ .f32 0x00000000#32),
    StableHlo.TRef.binary (.of main_call3_v24 : StableHlo.TRef sig ⟨S32x256, .f32⟩) (.of main_call3_cst_7 : StableHlo.TRef sig ⟨S_, .f32⟩) (.of main_call3_v25 : StableHlo.TRef sig ⟨S256, .f32⟩) (fun x v => Host.reduceAdd x v reducesTo_S32x256_S256_d0 h_S_),
    StableHlo.TRef.unary (.of main_call3_v25 : StableHlo.TRef sig ⟨S256, .f32⟩) (.of main_call3_v26 : StableHlo.TRef sig ⟨S1x256, .f32⟩) (broadcastInDim S1x256 ![1] bcast_S256_S1x256_1),
    StableHlo.TRef.unary (.of main_call3_v26 : StableHlo.TRef sig ⟨S1x256, .f32⟩) (.of main_call3_v27 : StableHlo.TRef sig ⟨S1x256, .f32⟩) Host.absf,
    StableHlo.TRef.nullary (.of main_call3_cst_8 : StableHlo.TRef sig ⟨S_, .f32⟩) (constant S_ .f32 0x38FA0000#32),
    StableHlo.TRef.unary (.of main_call3_cst_8 : StableHlo.TRef sig ⟨S_, .f32⟩) (.of main_call3_v28 : StableHlo.TRef sig ⟨S1x256, .f32⟩) (broadcastInDim S1x256 ![] bcast_S_S1x256),
    StableHlo.TRef.binary (.of main_call3_v27 : StableHlo.TRef sig ⟨S1x256, .f32⟩) (.of main_call3_v28 : StableHlo.TRef sig ⟨S1x256, .f32⟩) (.of main_call3_v29 : StableHlo.TRef sig ⟨S1x256, .i1⟩) (cmpf .ogt),
    StableHlo.TRef.nullary (.of main_call3_cst_9 : StableHlo.TRef sig ⟨S_, .f32⟩) (constant S_ .f32 0x00000000#32),
    StableHlo.TRef.unary (.of main_call3_cst_9 : StableHlo.TRef sig ⟨S_, .f32⟩) (.of main_call3_v30 : StableHlo.TRef sig ⟨S1x256, .f32⟩) (broadcastInDim S1x256 ![] bcast_S_S1x256),
    StableHlo.TRef.binary (.of main_call3_v26 : StableHlo.TRef sig ⟨S1x256, .f32⟩) (.of main_call3_v30 : StableHlo.TRef sig ⟨S1x256, .f32⟩) (.of main_call3_v31 : StableHlo.TRef sig ⟨S1x256, .i1⟩) (cmpf .une),
    StableHlo.TRef.nullary (.of main_call3_c : StableHlo.TRef sig ⟨S_, .i32⟩) (constantI S_ 32 1#32),
    StableHlo.TRef.unary (.of main_call3_c : StableHlo.TRef sig ⟨S_, .i32⟩) (.of main_call3_call0_v0 : StableHlo.TRef sig ⟨S_, .f32⟩) (sitofp .f32),
    StableHlo.TRef.unary (.of main_call3_call0_v0 : StableHlo.TRef sig ⟨S_, .f32⟩) (.of main_call3_call0_v1 : StableHlo.TRef sig ⟨S1x256, .f32⟩) (broadcastInDim S1x256 ![] bcast_S_S1x256),
    StableHlo.TRef.ternary (.of main_call3_v31 : StableHlo.TRef sig ⟨S1x256, .i1⟩) (.of main_call3_v26 : StableHlo.TRef sig ⟨S1x256, .f32⟩) (.of main_call3_call0_v1 : StableHlo.TRef sig ⟨S1x256, .f32⟩) (.of main_call3_v32 : StableHlo.TRef sig ⟨S1x256, .f32⟩) select,
    StableHlo.TRef.unary (.of main_call3_v32 : StableHlo.TRef sig ⟨S1x256, .f32⟩) (.of main_call3_v33 : StableHlo.TRef sig ⟨S32x256, .f32⟩) (broadcastInDim S32x256 ![0, 1] bcast_S1x256_S32x256_0_1),
    StableHlo.TRef.binary (.of main_call3_v24 : StableHlo.TRef sig ⟨S32x256, .f32⟩) (.of main_call3_v33 : StableHlo.TRef sig ⟨S32x256, .f32⟩) (.of main_call3_v34 : StableHlo.TRef sig ⟨S32x256, .f32⟩) Host.divf,
    StableHlo.TRef.nullary (.of main_call3_c_10 : StableHlo.TRef sig ⟨S_, .i32⟩) (constantI S_ 32 0#32),
    StableHlo.TRef.unary (.of main_call3_c_10 : StableHlo.TRef sig ⟨S_, .i32⟩) (.of main_call3_call1_v0 : StableHlo.TRef sig ⟨S_, .f32⟩) (sitofp .f32),
    StableHlo.TRef.unary (.of main_call3_v29 : StableHlo.TRef sig ⟨S1x256, .i1⟩) (.of main_call3_call1_v1 : StableHlo.TRef sig ⟨S32x256, .i1⟩) (broadcastInDim S32x256 ![0, 1] bcast_S1x256_S32x256_0_1),
    StableHlo.TRef.unary (.of main_call3_call1_v0 : StableHlo.TRef sig ⟨S_, .f32⟩) (.of main_call3_call1_v2 : StableHlo.TRef sig ⟨S32x256, .f32⟩) (broadcastInDim S32x256 ![] bcast_S_S32x256),
    StableHlo.TRef.ternary (.of main_call3_call1_v1 : StableHlo.TRef sig ⟨S32x256, .i1⟩) (.of main_call3_v34 : StableHlo.TRef sig ⟨S32x256, .f32⟩) (.of main_call3_call1_v2 : StableHlo.TRef sig ⟨S32x256, .f32⟩) (.of main_call3_v35 : StableHlo.TRef sig ⟨S32x256, .f32⟩) select,
    StableHlo.TRef.nullary (.of main_call3_cst_11 : StableHlo.TRef sig ⟨S_, .f32⟩) (constant S_ .f32 0xBF000000#32),
    StableHlo.TRef.unary (.of main_call3_cst_11 : StableHlo.TRef sig ⟨S_, .f32⟩) (.of main_call3_v36 : StableHlo.TRef sig ⟨S256, .f32⟩) (broadcastInDim S256 ![] bcast_S_S256),
    StableHlo.TRef.binary (.of main_call3_v9 : StableHlo.TRef sig ⟨S256, .f32⟩) (.of main_call3_v36 : StableHlo.TRef sig ⟨S256, .f32⟩) (.of main_call3_v37 : StableHlo.TRef sig ⟨S256, .i1⟩) (cmpf .oge),
    StableHlo.TRef.nullary (.of main_call3_cst_12 : StableHlo.TRef sig ⟨S_, .f32⟩) (constant S_ .f32 0x41FC0000#32),
    StableHlo.TRef.unary (.of main_call3_cst_12 : StableHlo.TRef sig ⟨S_, .f32⟩) (.of main_call3_v38 : StableHlo.TRef sig ⟨S256, .f32⟩) (broadcastInDim S256 ![] bcast_S_S256),
    StableHlo.TRef.binary (.of main_call3_v9 : StableHlo.TRef sig ⟨S256, .f32⟩) (.of main_call3_v38 : StableHlo.TRef sig ⟨S256, .f32⟩) (.of main_call3_v39 : StableHlo.TRef sig ⟨S256, .i1⟩) (cmpf .ole),
    StableHlo.TRef.binary (.of main_call3_v37 : StableHlo.TRef sig ⟨S256, .i1⟩) (.of main_call3_v39 : StableHlo.TRef sig ⟨S256, .i1⟩) (.of main_call3_v40 : StableHlo.TRef sig ⟨S256, .i1⟩) andi,
    StableHlo.TRef.unary (.of main_call3_v40 : StableHlo.TRef sig ⟨S256, .i1⟩) (.of main_call3_v41 : StableHlo.TRef sig ⟨S1x256, .i1⟩) (broadcastInDim S1x256 ![1] bcast_S256_S1x256_1),
    StableHlo.TRef.nullary (.of main_call3_c_13 : StableHlo.TRef sig ⟨S_, .i32⟩) (constantI S_ 32 0#32),
    StableHlo.TRef.unary (.of main_call3_c_13 : StableHlo.TRef sig ⟨S_, .i32⟩) (.of main_call3_call2_v0 : StableHlo.TRef sig ⟨S_, .f32⟩) (sitofp .f32),
    StableHlo.TRef.unary (.of main_call3_v41 : StableHlo.TRef sig ⟨S1x256, .i1⟩) (.of main_call3_call2_v1 : StableHlo.TRef sig ⟨S32x256, .i1⟩) (broadcastInDim S32x256 ![0, 1] bcast_S1x256_S32x256_0_1),
    StableHlo.TRef.unary (.of main_call3_call2_v0 : StableHlo.TRef sig ⟨S_, .f32⟩) (.of main_call3_call2_v2 : StableHlo.TRef sig ⟨S32x256, .f32⟩) (broadcastInDim S32x256 ![] bcast_S_S32x256),
    StableHlo.TRef.ternary (.of main_call3_call2_v1 : StableHlo.TRef sig ⟨S32x256, .i1⟩) (.of main_call3_v35 : StableHlo.TRef sig ⟨S32x256, .f32⟩) (.of main_call3_call2_v2 : StableHlo.TRef sig ⟨S32x256, .f32⟩) (.of main_call3_v42 : StableHlo.TRef sig ⟨S32x256, .f32⟩) select,
    StableHlo.TRef.binary (.of main_v21 : StableHlo.TRef sig ⟨S32x256x32, .f32⟩) (.of main_call3_v42 : StableHlo.TRef sig ⟨S32x256, .f32⟩) (.of main_v22 : StableHlo.TRef sig ⟨S32x256x256, .f32⟩) (fun l r => Host.dotGeneral dot_S32x256x32_S32x256_S32x256x256_2_0_01_1_n_n (some .fp32) l r) ]

theorem up1_sub : (up1 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub ..⟩

theorem up1_fresh : (up1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations: what the stage's filter needs. -/
abbrev prep1 : List (HloOp τ sig (Elt F)) :=
  [ StableHlo.nullary main_cst_3 (constant S_ .f32 0x3F000000#32),
    StableHlo.unary main_cst_3 main_v23 (broadcastInDim S32x256x256 ![] bcast_S_S32x256x256 : (⟨S_, .f32⟩ : BufTy).Contents (Elt F) → (⟨S32x256x256, .f32⟩ : BufTy).Contents (Elt F)),
    StableHlo.binary main_v22 main_v23 main_v24 (mulf : (⟨S32x256x256, .f32⟩ : BufTy).Contents (Elt F) → (⟨S32x256x256, .f32⟩ : BufTy).Contents (Elt F) → (⟨S32x256x256, .f32⟩ : BufTy).Contents (Elt F)),
    StableHlo.unary main_arg2 main_v25 ((extractStridedSlice S1x256x256x3 ![0, 0, 0, 0] · slices_S4x256x256x3_S1x256x256x3_0_0_0_0) : (⟨S4x256x256x3, .f32⟩ : BufTy).Contents (Elt F) → (⟨S1x256x256x3, .f32⟩ : BufTy).Contents (Elt F)),
    StableHlo.reshape main_v25 main_v26 (rfl : (.f32 : EltTy) = .f32) shapeCasts_S1x256x256x3_S256x256x3,
    StableHlo.unary main_arg3 main_v27 ((extractStridedSlice S1x256 ![0, 0] · slices_S4x256_S1x256_0_0) : (⟨S4x256, .f32⟩ : BufTy).Contents (Elt F) → (⟨S1x256, .f32⟩ : BufTy).Contents (Elt F)),
    StableHlo.reshape main_v27 main_v28 (rfl : (.f32 : EltTy) = .f32) shapeCasts_S1x256_S256,
    StableHlo.nullary main_c (constantI S_ 32 0#32) ]

theorem prep1_sub : (prep1 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub ..⟩

theorem prep1_fresh : (prep1 : List (HloOp τ sig (Elt F))).Forall fun op => op.fresh = ∅ :=
  ⟨rfl, rfl, rfl, rfl, rfl, rfl, rfl, rfl⟩

/-- Operations: the zeros on both sides. -/
abbrev pad1 : List (HloOp τ sig (Elt F)) :=
  [ StableHlo.TRef.unary (.of main_c : StableHlo.TRef sig ⟨S_, .i32⟩) (.of main_call4_v0 : StableHlo.TRef sig ⟨S_, .f32⟩) (sitofp .f32),
    StableHlo.TRef.binary (.of main_v22 : StableHlo.TRef sig ⟨S32x256x256, .f32⟩) (.of main_call4_v0 : StableHlo.TRef sig ⟨S_, .f32⟩) (.of main_v29 : StableHlo.TRef sig ⟨S32x256x258, .f32⟩) (fun x v => pad S32x256x258 ![0, 0, 1] ![0, 0, 1] ![0, 0, 0] x v pads_S32x256x256_S32x256x258_000_000_110 h_S_) ]

theorem pad1_sub : (pad1 : List (HloOp τ sig (Elt F))).Forall fun op => op.bufs ⊆ StableHlo.tcRefs τ sig :=
  ⟨StableHlo.unary_bufs_sub .., StableHlo.binary_bufs_sub ..⟩

theorem pad1_fresh : (pad1 : List (HloOp τ sig (Elt F))).Forall fun op => op.fresh = ∅ :=
  ⟨rfl, rfl⟩

/-- Operations: the filter, the sum and the remainder. -/
abbrev mix1a : List (HloOp τ sig (Elt F)) :=
  [ StableHlo.unary main_v26 main_v30 ((extractStridedSlice S256x256x1 ![0, 0, 0] · slices_S256x256x3_S256x256x1_0_0_0) : (⟨S256x256x3, .f32⟩ : BufTy).Contents (Elt F) → (⟨S256x256x1, .f32⟩ : BufTy).Contents (Elt F)),
    StableHlo.reshape main_v30 main_v31 (rfl : (.f32 : EltTy) = .f32) shapeCasts_S256x256x1_S256x256,
    StableHlo.unary main_v29 main_v32 ((extractStridedSlice S32x256x256 ![0, 0, 0] · slices_S32x256x258_S32x256x256_0_0_0) : (⟨S32x256x258, .f32⟩ : BufTy).Contents (Elt F) → (⟨S32x256x256, .f32⟩ : BufTy).Contents (Elt F)),
    StableHlo.binary main_v32 main_v31 main_v33 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v33 main_v34 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v26 main_v35 ((extractStridedSlice S256x256x1 ![0, 0, 1] · slices_S256x256x3_S256x256x1_0_0_1) : (⟨S256x256x3, .f32⟩ : BufTy).Contents (Elt F) → (⟨S256x256x1, .f32⟩ : BufTy).Contents (Elt F)),
    StableHlo.reshape main_v35 main_v36 (rfl : (.f32 : EltTy) = .f32) shapeCasts_S256x256x1_S256x256,
    StableHlo.unary main_v29 main_v37 ((extractStridedSlice S32x256x256 ![0, 0, 1] · slices_S32x256x258_S32x256x256_0_0_1) : (⟨S32x256x258, .f32⟩ : BufTy).Contents (Elt F) → (⟨S32x256x256, .f32⟩ : BufTy).Contents (Elt F)),
    StableHlo.binary main_v37 main_v36 main_v38 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v38 main_v39 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v26 main_v40 ((extractStridedSlice S256x256x1 ![0, 0, 2] · slices_S256x256x3_S256x256x1_0_0_2) : (⟨S256x256x3, .f32⟩ : BufTy).Contents (Elt F) → (⟨S256x256x1, .f32⟩ : BufTy).Contents (Elt F)),
    StableHlo.reshape main_v40 main_v41 (rfl : (.f32 : EltTy) = .f32) shapeCasts_S256x256x1_S256x256,
    StableHlo.unary main_v29 main_v42 ((extractStridedSlice S32x256x256 ![0, 0, 2] · slices_S32x256x258_S32x256x256_0_0_2) : (⟨S32x256x258, .f32⟩ : BufTy).Contents (Elt F) → (⟨S32x256x256, .f32⟩ : BufTy).Contents (Elt F)),
    StableHlo.binary main_v42 main_v41 main_v43 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v43 main_v44 ((transpose S32x256x256 [0, 2, 1] · transposes_S32x256x256_S32x256x256_0_2_1) : (⟨S32x256x256, .f32⟩ : BufTy).Contents (Elt F) → (⟨S32x256x256, .f32⟩ : BufTy).Contents (Elt F)),
    StableHlo.binary main_v34 main_v39 main_v45 (addf : (⟨S32x256x256, .f32⟩ : BufTy).Contents (Elt F) → (⟨S32x256x256, .f32⟩ : BufTy).Contents (Elt F) → (⟨S32x256x256, .f32⟩ : BufTy).Contents (Elt F)),
    StableHlo.binary main_v45 main_v44 main_v46 (addf : (⟨S32x256x256, .f32⟩ : BufTy).Contents (Elt F) → (⟨S32x256x256, .f32⟩ : BufTy).Contents (Elt F) → (⟨S32x256x256, .f32⟩ : BufTy).Contents (Elt F)),
    StableHlo.unary main_v28 main_v47 (broadcastInDim S1x256x1 ![1] bcast_S256_S1x256x1_1 : (⟨S256, .f32⟩ : BufTy).Contents (Elt F) → (⟨S1x256x1, .f32⟩ : BufTy).Contents (Elt F)),
    StableHlo.unary main_v47 main_v48 (broadcastInDim S32x256x256 ![0, 1, 2] bcast_S1x256x1_S32x256x256_0_1_2 : (⟨S1x256x1, .f32⟩ : BufTy).Contents (Elt F) → (⟨S32x256x256, .f32⟩ : BufTy).Contents (Elt F)),
    StableHlo.binary main_v46 main_v48 main_v49 (addf : (⟨S32x256x256, .f32⟩ : BufTy).Contents (Elt F) → (⟨S32x256x256, .f32⟩ : BufTy).Contents (Elt F) → (⟨S32x256x256, .f32⟩ : BufTy).Contents (Elt F)),
    StableHlo.nullary main_cst_4 (constant S_ .f32 0x3F000000#32),
    StableHlo.unary main_cst_4 main_v50 (broadcastInDim S32x256x256 ![] bcast_S_S32x256x256 : (⟨S_, .f32⟩ : BufTy).Contents (Elt F) → (⟨S32x256x256, .f32⟩ : BufTy).Contents (Elt F)),
    StableHlo.binary main_v49 main_v50 main_v51 (mulf : (⟨S32x256x256, .f32⟩ : BufTy).Contents (Elt F) → (⟨S32x256x256, .f32⟩ : BufTy).Contents (Elt F) → (⟨S32x256x256, .f32⟩ : BufTy).Contents (Elt F)),
    StableHlo.binary main_v24 main_v51 main_v52 (addf : (⟨S32x256x256, .f32⟩ : BufTy).Contents (Elt F) → (⟨S32x256x256, .f32⟩ : BufTy).Contents (Elt F) → (⟨S32x256x256, .f32⟩ : BufTy).Contents (Elt F)) ]

theorem mix1a_sub : (mix1a : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub ..⟩

theorem mix1a_fresh : (mix1a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Operations: the filter, the sum and the remainder. -/
abbrev mix1b : List (HloOp τ sig (Elt F)) :=
  [ StableHlo.binary main_v0 main_v52 main_v53 (addf : (⟨S32x256x256, .f32⟩ : BufTy).Contents (Elt F) → (⟨S32x256x256, .f32⟩ : BufTy).Contents (Elt F) → (⟨S32x256x256, .f32⟩ : BufTy).Contents (Elt F)),
    StableHlo.binary main_arg0 main_v52 main_v54 (subf : (⟨S32x256x256, .f32⟩ : BufTy).Contents (Elt F) → (⟨S32x256x256, .f32⟩ : BufTy).Contents (Elt F) → (⟨S32x256x256, .f32⟩ : BufTy).Contents (Elt F)) ]

theorem mix1b_sub : (mix1b : List (HloOp τ sig (Elt F))).Forall fun op => op.bufs ⊆ StableHlo.tcRefs τ sig :=
  ⟨StableHlo.binary_bufs_sub .., StableHlo.binary_bufs_sub ..⟩

theorem mix1b_fresh : (mix1b : List (HloOp τ sig (Elt F))).Forall fun op => op.fresh = ∅ :=
  ⟨rfl, rfl⟩

end Cert.Proof.Ref
-- ==== Proof.RefOps2.lean ====
/- The operations of the reference, second stage. -/
module

public import proofs.«01_k».proof.ReferenceIdeal
public import Idealize.ShloMosaic.PureOps.Ideal
public import Idealize.ShloMosaic.Lib.StableHlo.RunRead
public import Idealize.ShloMosaic.Lib.StableHlo.RunHlo

@[expose] public section

set_option synthInstance.maxSize 4096

noncomputable section

namespace Cert.Proof.Ref

open Idealize.ShloMosaic Idealize.SL.Sem
open Cert.ReferenceIdeal Cert.ReferenceIdeal.Facts₀ Cert.ReferenceIdeal.Facts

variable {F : FTy → Type} [FloatOps F] [Cert.ReferenceIdeal.Facts]

/-- Operations: the change to the shorter length. -/
abbrev down2 : List (HloOp τ sig (Elt F)) :=
  [ StableHlo.TRef.nullary (.of main_call5_cst : StableHlo.TRef sig ⟨S_, .f32⟩) (constant S_ .f32 0x40800000#32),
    StableHlo.TRef.nullary (.of main_call5_cst_0 : StableHlo.TRef sig ⟨S_, .f32⟩) (constant S_ .f32 0x3F800000#32),
    StableHlo.TRef.binary (.of main_call5_cst : StableHlo.TRef sig ⟨S_, .f32⟩) (.of main_call5_cst_0 : StableHlo.TRef sig ⟨S_, .f32⟩) (.of main_call5_v0 : StableHlo.TRef sig ⟨S_, .f32⟩) maximumf,
    StableHlo.TRef.nullary (.of main_call5_v1 : StableHlo.TRef sig ⟨S64, .f32⟩) (sitofp .f32 (iotaInDim S64 32 0)),
    StableHlo.TRef.nullary (.of main_call5_cst_1 : StableHlo.TRef sig ⟨S_, .f32⟩) (constant S_ .f32 0x3F000000#32),
    StableHlo.TRef.unary (.of main_call5_cst_1 : StableHlo.TRef sig ⟨S_, .f32⟩) (.of main_call5_v2 : StableHlo.TRef sig ⟨S64, .f32⟩) (broadcastInDim S64 ![] bcast_S_S64),
    StableHlo.TRef.binary (.of main_call5_v1 : StableHlo.TRef sig ⟨S64, .f32⟩) (.of main_call5_v2 : StableHlo.TRef sig ⟨S64, .f32⟩) (.of main_call5_v3 : StableHlo.TRef sig ⟨S64, .f32⟩) addf,
    StableHlo.TRef.nullary (.of main_call5_cst_2 : StableHlo.TRef sig ⟨S_, .f32⟩) (constant S_ .f32 0x40800000#32),
    StableHlo.TRef.unary (.of main_call5_cst_2 : StableHlo.TRef sig ⟨S_, .f32⟩) (.of main_call5_v4 : StableHlo.TRef sig ⟨S64, .f32⟩) (broadcastInDim S64 ![] bcast_S_S64),
    StableHlo.TRef.binary (.of main_call5_v3 : StableHlo.TRef sig ⟨S64, .f32⟩) (.of main_call5_v4 : StableHlo.TRef sig ⟨S64, .f32⟩) (.of main_call5_v5 : StableHlo.TRef sig ⟨S64, .f32⟩) mulf,
    StableHlo.TRef.nullary (.of main_call5_cst_3 : StableHlo.TRef sig ⟨S_, .f32⟩) (constant S_ .f32 0x00000000#32),
    StableHlo.TRef.unary (.of main_call5_cst_3 : StableHlo.TRef sig ⟨S_, .f32⟩) (.of main_call5_v6 : StableHlo.TRef sig ⟨S64, .f32⟩) (broadcastInDim S64 ![] bcast_S_S64),
    StableHlo.TRef.binary (.of main_call5_v5 : StableHlo.TRef sig ⟨S64, .f32⟩) (.of main_call5_v6 : StableHlo.TRef sig ⟨S64, .f32⟩) (.of main_call5_v7 : StableHlo.TRef sig ⟨S64, .f32⟩) subf,
    StableHlo.TRef.nullary (.of main_call5_cst_4 : StableHlo.TRef sig ⟨S_, .f32⟩) (constant S_ .f32 0x3F000000#32),
    StableHlo.TRef.unary (.of main_call5_cst_4 : StableHlo.TRef sig ⟨S_, .f32⟩) (.of main_call5_v8 : StableHlo.TRef sig ⟨S64, .f32⟩) (broadcastInDim S64 ![] bcast_S_S64),
    StableHlo.TRef.binary (.of main_call5_v7 : StableHlo.TRef sig ⟨S64, .f32⟩) (.of main_call5_v8 : StableHlo.TRef sig ⟨S64, .f32⟩) (.of main_call5_v9 : StableHlo.TRef sig ⟨S64, .f32⟩) subf,
    StableHlo.TRef.nullary (.of main_call5_v10 : StableHlo.TRef sig ⟨S256, .f32⟩) (sitofp .f32 (iotaInDim S256 32 0)),
    StableHlo.TRef.unary (.of main_call5_v9 : StableHlo.TRef sig ⟨S64, .f32⟩) (.of main_call5_v11 : StableHlo.TRef sig ⟨S1x64, .f32⟩) (broadcastInDim S1x64 ![1] bcast_S64_S1x64_1),
    StableHlo.TRef.unary (.of main_call5_v10 : StableHlo.TRef sig ⟨S256, .f32⟩) (.of main_call5_v12 : StableHlo.TRef sig ⟨S256x1, .f32⟩) (broadcastInDim S256x1 ![0] bcast_S256_S256x1_0),
    StableHlo.TRef.unary (.of main_call5_v11 : StableHlo.TRef sig ⟨S1x64, .f32⟩) (.of main_call5_v13 : StableHlo.TRef sig ⟨S256x64, .f32⟩) (broadcastInDim S256x64 ![0, 1] bcast_S1x64_S256x64_0_1),
    StableHlo.TRef.unary (.of main_call5_v12 : StableHlo.TRef sig ⟨S256x1, .f32⟩) (.of main_call5_v14 : StableHlo.TRef sig ⟨S256x64, .f32⟩) (broadcastInDim S256x64 ![0, 1] bcast_S256x1_S256x64_0_1),
    StableHlo.TRef.binary (.of main_call5_v13 : StableHlo.TRef sig ⟨S256x64, .f32⟩) (.of main_call5_v14 : StableHlo.TRef sig ⟨S256x64, .f32⟩) (.of main_call5_v15 : StableHlo.TRef sig ⟨S256x64, .f32⟩) subf,
    StableHlo.TRef.unary (.of main_call5_v15 : StableHlo.TRef sig ⟨S256x64, .f32⟩) (.of main_call5_v16 : StableHlo.TRef sig ⟨S256x64, .f32⟩) Host.absf,
    StableHlo.TRef.unary (.of main_call5_v0 : StableHlo.TRef sig ⟨S_, .f32⟩) (.of main_call5_v17 : StableHlo.TRef sig ⟨S_, .f32⟩) id,
    StableHlo.TRef.unary (.of main_call5_v17 : StableHlo.TRef sig ⟨S_, .f32⟩) (.of main_call5_v18 : StableHlo.TRef sig ⟨S256x64, .f32⟩) (broadcastInDim S256x64 ![] bcast_S_S256x64),
    StableHlo.TRef.binary (.of main_call5_v16 : StableHlo.TRef sig ⟨S256x64, .f32⟩) (.of main_call5_v18 : StableHlo.TRef sig ⟨S256x64, .f32⟩) (.of main_call5_v19 : StableHlo.TRef sig ⟨S256x64, .f32⟩) Host.divf,
    StableHlo.TRef.unary (.of main_call5_v19 : StableHlo.TRef sig ⟨S256x64, .f32⟩) (.of main_call5_v20 : StableHlo.TRef sig ⟨S256x64, .f32⟩) Host.absf,
    StableHlo.TRef.nullary (.of main_call5_cst_5 : StableHlo.TRef sig ⟨S_, .f32⟩) (constant S_ .f32 0x3F800000#32),
    StableHlo.TRef.unary (.of main_call5_cst_5 : StableHlo.TRef sig ⟨S_, .f32⟩) (.of main_call5_v21 : StableHlo.TRef sig ⟨S256x64, .f32⟩) (broadcastInDim S256x64 ![] bcast_S_S256x64),
    StableHlo.TRef.binary (.of main_call5_v21 : StableHlo.TRef sig ⟨S256x64, .f32⟩) (.of main_call5_v20 : StableHlo.TRef sig ⟨S256x64, .f32⟩) (.of main_call5_v22 : StableHlo.TRef sig ⟨S256x64, .f32⟩) subf,
    StableHlo.TRef.nullary (.of main_call5_cst_6 : StableHlo.TRef sig ⟨S_, .f32⟩) (constant S_ .f32 0x00000000#32),
    StableHlo.TRef.unary (.of main_call5_cst_6 : StableHlo.TRef sig ⟨S_, .f32⟩) (.of main_call5_v23 : StableHlo.TRef sig ⟨S256x64, .f32⟩) (broadcastInDim S256x64 ![] bcast_S_S256x64),
    StableHlo.TRef.binary (.of main_call5_v23 : StableHlo.TRef sig ⟨S256x64, .f32⟩) (.of main_call5_v22 : StableHlo.TRef sig ⟨S256x64, .f32⟩) (.of main_call5_v24 : StableHlo.TRef sig ⟨S256x64, .f32⟩) maximumf,
    StableHlo.TRef.nullary (.of main_call5_cst_7 : StableHlo.TRef sig ⟨S_, .f32⟩) (constant S_ .f32 0x00000000#32),
    StableHlo.TRef.binary (.of main_call5_v24 : StableHlo.TRef sig ⟨S256x64, .f32⟩) (.of main_call5_cst_7 : StableHlo.TRef sig ⟨S_, .f32⟩) (.of main_call5_v25 : StableHlo.TRef sig ⟨S64, .f32⟩) (fun x v => Host.reduceAdd x v reducesTo_S256x64_S64_d0 h_S_),
    StableHlo.TRef.unary (.of main_call5_v25 : StableHlo.TRef sig ⟨S64, .f32⟩) (.of main_call5_v26 : StableHlo.TRef sig ⟨S1x64, .f32⟩) (broadcastInDim S1x64 ![1] bcast_S64_S1x64_1),
    StableHlo.TRef.unary (.of main_call5_v26 : StableHlo.TRef sig ⟨S1x64, .f32⟩) (.of main_call5_v27 : StableHlo.TRef sig ⟨S1x64, .f32⟩) Host.absf,
    StableHlo.TRef.nullary (.of main_call5_cst_8 : StableHlo.TRef sig ⟨S_, .f32⟩) (constant S_ .f32 0x38FA0000#32),
    StableHlo.TRef.unary (.of main_call5_cst_8 : StableHlo.TRef sig ⟨S_, .f32⟩) (.of main_call5_v28 : StableHlo.TRef sig ⟨S1x64, .f32⟩) (broadcastInDim S1x64 ![] bcast_S_S1x64),
    StableHlo.TRef.binary (.of main_call5_v27 : StableHlo.TRef sig ⟨S1x64, .f32⟩) (.of main_call5_v28 : StableHlo.TRef sig ⟨S1x64, .f32⟩) (.of main_call5_v29 : StableHlo.TRef sig ⟨S1x64, .i1⟩) (cmpf .ogt),
    StableHlo.TRef.nullary (.of main_call5_cst_9 : StableHlo.TRef sig ⟨S_, .f32⟩) (constant S_ .f32 0x00000000#32),
    StableHlo.TRef.unary (.of main_call5_cst_9 : StableHlo.TRef sig ⟨S_, .f32⟩) (.of main_call5_v30 : StableHlo.TRef sig ⟨S1x64, .f32⟩) (broadcastInDim S1x64 ![] bcast_S_S1x64),
    StableHlo.TRef.binary (.of main_call5_v26 : StableHlo.TRef sig ⟨S1x64, .f32⟩) (.of main_call5_v30 : StableHlo.TRef sig ⟨S1x64, .f32⟩) (.of main_call5_v31 : StableHlo.TRef sig ⟨S1x64, .i1⟩) (cmpf .une),
    StableHlo.TRef.nullary (.of main_call5_c : StableHlo.TRef sig ⟨S_, .i32⟩) (constantI S_ 32 1#32),
    StableHlo.TRef.unary (.of main_call5_c : StableHlo.TRef sig ⟨S_, .i32⟩) (.of main_call5_call0_v0 : StableHlo.TRef sig ⟨S_, .f32⟩) (sitofp .f32),
    StableHlo.TRef.unary (.of main_call5_call0_v0 : StableHlo.TRef sig ⟨S_, .f32⟩) (.of main_call5_call0_v1 : StableHlo.TRef sig ⟨S1x64, .f32⟩) (broadcastInDim S1x64 ![] bcast_S_S1x64),
    StableHlo.TRef.ternary (.of main_call5_v31 : StableHlo.TRef sig ⟨S1x64, .i1⟩) (.of main_call5_v26 : StableHlo.TRef sig ⟨S1x64, .f32⟩) (.of main_call5_call0_v1 : StableHlo.TRef sig ⟨S1x64, .f32⟩) (.of main_call5_v32 : StableHlo.TRef sig ⟨S1x64, .f32⟩) select,
    StableHlo.TRef.unary (.of main_call5_v32 : StableHlo.TRef sig ⟨S1x64, .f32⟩) (.of main_call5_v33 : StableHlo.TRef sig ⟨S256x64, .f32⟩) (broadcastInDim S256x64 ![0, 1] bcast_S1x64_S256x64_0_1),
    StableHlo.TRef.binary (.of main_call5_v24 : StableHlo.TRef sig ⟨S256x64, .f32⟩) (.of main_call5_v33 : StableHlo.TRef sig ⟨S256x64, .f32⟩) (.of main_call5_v34 : StableHlo.TRef sig ⟨S256x64, .f32⟩) Host.divf,
    StableHlo.TRef.nullary (.of main_call5_c_10 : StableHlo.TRef sig ⟨S_, .i32⟩) (constantI S_ 32 0#32),
    StableHlo.TRef.unary (.of main_call5_c_10 : StableHlo.TRef sig ⟨S_, .i32⟩) (.of main_call5_call1_v0 : StableHlo.TRef sig ⟨S_, .f32⟩) (sitofp .f32),
    StableHlo.TRef.unary (.of main_call5_v29 : StableHlo.TRef sig ⟨S1x64, .i1⟩) (.of main_call5_call1_v1 : StableHlo.TRef sig ⟨S256x64, .i1⟩) (broadcastInDim S256x64 ![0, 1] bcast_S1x64_S256x64_0_1),
    StableHlo.TRef.unary (.of main_call5_call1_v0 : StableHlo.TRef sig ⟨S_, .f32⟩) (.of main_call5_call1_v2 : StableHlo.TRef sig ⟨S256x64, .f32⟩) (broadcastInDim S256x64 ![] bcast_S_S256x64),
    StableHlo.TRef.ternary (.of main_call5_call1_v1 : StableHlo.TRef sig ⟨S256x64, .i1⟩) (.of main_call5_v34 : StableHlo.TRef sig ⟨S256x64, .f32⟩) (.of main_call5_call1_v2 : StableHlo.TRef sig ⟨S256x64, .f32⟩) (.of main_call5_v35 : StableHlo.TRef sig ⟨S256x64, .f32⟩) select,
    StableHlo.TRef.nullary (.of main_call5_cst_11 : StableHlo.TRef sig ⟨S_, .f32⟩) (constant S_ .f32 0xBF000000#32),
    StableHlo.TRef.unary (.of main_call5_cst_11 : StableHlo.TRef sig ⟨S_, .f32⟩) (.of main_call5_v36 : StableHlo.TRef sig ⟨S64, .f32⟩) (broadcastInDim S64 ![] bcast_S_S64),
    StableHlo.TRef.binary (.of main_call5_v9 : StableHlo.TRef sig ⟨S64, .f32⟩) (.of main_call5_v36 : StableHlo.TRef sig ⟨S64, .f32⟩) (.of main_call5_v37 : StableHlo.TRef sig ⟨S64, .i1⟩) (cmpf .oge),
    StableHlo.TRef.nullary (.of main_call5_cst_12 : StableHlo.TRef sig ⟨S_, .f32⟩) (constant S_ .f32 0x437F8000#32),
    StableHlo.TRef.unary (.of main_call5_cst_12 : StableHlo.TRef sig ⟨S_, .f32⟩) (.of main_call5_v38 : StableHlo.TRef sig ⟨S64, .f32⟩) (broadcastInDim S64 ![] bcast_S_S64),
    StableHlo.TRef.binary (.of main_call5_v9 : StableHlo.TRef sig ⟨S64, .f32⟩) (.of main_call5_v38 : StableHlo.TRef sig ⟨S64, .f32⟩) (.of main_call5_v39 : StableHlo.TRef sig ⟨S64, .i1⟩) (cmpf .ole),
    StableHlo.TRef.binary (.of main_call5_v37 : StableHlo.TRef sig ⟨S64, .i1⟩) (.of main_call5_v39 : StableHlo.TRef sig ⟨S64, .i1⟩) (.of main_call5_v40 : StableHlo.TRef sig ⟨S64, .i1⟩) andi,
    StableHlo.TRef.unary (.of main_call5_v40 : StableHlo.TRef sig ⟨S64, .i1⟩) (.of main_call5_v41 : StableHlo.TRef sig ⟨S1x64, .i1⟩) (broadcastInDim S1x64 ![1] bcast_S64_S1x64_1),
    StableHlo.TRef.nullary (.of main_call5_c_13 : StableHlo.TRef sig ⟨S_, .i32⟩) (constantI S_ 32 0#32),
    StableHlo.TRef.unary (.of main_call5_c_13 : StableHlo.TRef sig ⟨S_, .i32⟩) (.of main_call5_call2_v0 : StableHlo.TRef sig ⟨S_, .f32⟩) (sitofp .f32),
    StableHlo.TRef.unary (.of main_call5_v41 : StableHlo.TRef sig ⟨S1x64, .i1⟩) (.of main_call5_call2_v1 : StableHlo.TRef sig ⟨S256x64, .i1⟩) (broadcastInDim S256x64 ![0, 1] bcast_S1x64_S256x64_0_1),
    StableHlo.TRef.unary (.of main_call5_call2_v0 : StableHlo.TRef sig ⟨S_, .f32⟩) (.of main_call5_call2_v2 : StableHlo.TRef sig ⟨S256x64, .f32⟩) (broadcastInDim S256x64 ![] bcast_S_S256x64),
    StableHlo.TRef.ternary (.of main_call5_call2_v1 : StableHlo.TRef sig ⟨S256x64, .i1⟩) (.of main_call5_v35 : StableHlo.TRef sig ⟨S256x64, .f32⟩) (.of main_call5_call2_v2 : StableHlo.TRef sig ⟨S256x64, .f32⟩) (.of main_call5_v42 : StableHlo.TRef sig ⟨S256x64, .f32⟩) select,
    StableHlo.TRef.binary (.of main_v54 : StableHlo.TRef sig ⟨S32x256x256, .f32⟩) (.of main_call5_v42 : StableHlo.TRef sig ⟨S256x64, .f32⟩) (.of main_v55 : StableHlo.TRef sig ⟨S32x256x64, .f32⟩) (fun l r => Host.dotGeneral dot_S32x256x256_S256x64_S32x256x64_2_0_01_1_n_n (some .fp32) l r) ]

theorem down2_sub : (down2 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub ..⟩

theorem down2_fresh : (down2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations: the distances to the codes. -/
abbrev gap2 : List (HloOp τ sig (Elt F)) :=
  [ StableHlo.unary main_v55 main_v56 ((transpose S32x64x256 [0, 2, 1] · transposes_S32x256x64_S32x64x256_0_2_1) : (⟨S32x256x64, .f32⟩ : BufTy).Contents (Elt F) → (⟨S32x64x256, .f32⟩ : BufTy).Contents (Elt F)),
    StableHlo.reshape main_v56 main_v57 (rfl : (.f32 : EltTy) = .f32) shapeCasts_S32x64x256_S2048x256,
    StableHlo.binary main_v57 main_v57 main_v58 (mulf : (⟨S2048x256, .f32⟩ : BufTy).Contents (Elt F) → (⟨S2048x256, .f32⟩ : BufTy).Contents (Elt F) → (⟨S2048x256, .f32⟩ : BufTy).Contents (Elt F)),
    StableHlo.nullary main_cst_5 (constant S_ .f32 0x00000000#32),
    StableHlo.binary main_v58 main_cst_5 main_v59 ((fun x v => Host.reduceAdd x v reducesTo_S2048x256_S2048_d1 h_S_) : (⟨S2048x256, .f32⟩ : BufTy).Contents (Elt F) → (⟨S_, .f32⟩ : BufTy).Contents (Elt F) → (⟨S2048, .f32⟩ : BufTy).Contents (Elt F)),
    StableHlo.unary main_v59 main_v60 (broadcastInDim S2048x1 ![0] bcast_S2048_S2048x1_0 : (⟨S2048, .f32⟩ : BufTy).Contents (Elt F) → (⟨S2048x1, .f32⟩ : BufTy).Contents (Elt F)),
    StableHlo.unary main_arg1 main_v61 ((transpose S256x1024 [1, 0] · transposes_S1024x256_S256x1024_1_0) : (⟨S1024x256, .f32⟩ : BufTy).Contents (Elt F) → (⟨S256x1024, .f32⟩ : BufTy).Contents (Elt F)),
    StableHlo.binary main_v57 main_v61 main_v62 ((fun l r => Host.dotGeneral dot_S2048x256_S256x1024_S2048x1024_1_0_0_1_n_n none l r) : (⟨S2048x256, .f32⟩ : BufTy).Contents (Elt F) → (⟨S256x1024, .f32⟩ : BufTy).Contents (Elt F) → (⟨S2048x1024, .f32⟩ : BufTy).Contents (Elt F)),
    StableHlo.nullary main_cst_6 (constant S_ .f32 0x40000000#32),
    StableHlo.unary main_cst_6 main_v63 (broadcastInDim S2048x1024 ![] bcast_S_S2048x1024 : (⟨S_, .f32⟩ : BufTy).Contents (Elt F) → (⟨S2048x1024, .f32⟩ : BufTy).Contents (Elt F)),
    StableHlo.binary main_v63 main_v62 main_v64 (mulf : (⟨S2048x1024, .f32⟩ : BufTy).Contents (Elt F) → (⟨S2048x1024, .f32⟩ : BufTy).Contents (Elt F) → (⟨S2048x1024, .f32⟩ : BufTy).Contents (Elt F)),
    StableHlo.unary main_v60 main_v65 (broadcastInDim S2048x1024 ![0, 1] bcast_S2048x1_S2048x1024_0_1 : (⟨S2048x1, .f32⟩ : BufTy).Contents (Elt F) → (⟨S2048x1024, .f32⟩ : BufTy).Contents (Elt F)),
    StableHlo.binary main_v65 main_v64 main_v66 (subf : (⟨S2048x1024, .f32⟩ : BufTy).Contents (Elt F) → (⟨S2048x1024, .f32⟩ : BufTy).Contents (Elt F) → (⟨S2048x1024, .f32⟩ : BufTy).Contents (Elt F)),
    StableHlo.unary main_v2 main_v67 (broadcastInDim S1x1024 ![1] bcast_S1024_S1x1024_1 : (⟨S1024, .f32⟩ : BufTy).Contents (Elt F) → (⟨S1x1024, .f32⟩ : BufTy).Contents (Elt F)),
    StableHlo.unary main_v67 main_v68 (broadcastInDim S2048x1024 ![0, 1] bcast_S1x1024_S2048x1024_0_1 : (⟨S1x1024, .f32⟩ : BufTy).Contents (Elt F) → (⟨S2048x1024, .f32⟩ : BufTy).Contents (Elt F)),
    StableHlo.binary main_v66 main_v68 main_v69 (addf : (⟨S2048x1024, .f32⟩ : BufTy).Contents (Elt F) → (⟨S2048x1024, .f32⟩ : BufTy).Contents (Elt F) → (⟨S2048x1024, .f32⟩ : BufTy).Contents (Elt F)) ]

theorem gap2_sub : (gap2 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

theorem gap2_fresh : (gap2 : List (HloOp τ sig (Elt F))).Forall fun op => op.fresh = ∅ :=
  ⟨rfl, rfl, rfl, rfl, rfl, rfl, rfl, rfl, rfl, rfl, rfl, rfl, rfl, rfl, rfl, rfl⟩

/-- Operations: the place of the nearest code. -/
abbrev least2 : List (HloOp τ sig (Elt F)) :=
  [ StableHlo.TRef.nullary (.of main_call6_v0 : StableHlo.TRef sig ⟨S2048x1024, .i32⟩) (iotaInDim S2048x1024 32 1),
    StableHlo.TRef.nullary (.of main_call6_cst : StableHlo.TRef sig ⟨S_, .f32⟩) (constant S_ .f32 0x7F800000#32),
    StableHlo.TRef.nullary (.of main_call6_c : StableHlo.TRef sig ⟨S_, .i32⟩) (constantI S_ 32 0#32),
    StableHlo.TRef.quaternary (.of main_v69 : StableHlo.TRef sig ⟨S2048x1024, .f32⟩) (.of main_call6_v0 : StableHlo.TRef sig ⟨S2048x1024, .i32⟩) (.of main_call6_cst : StableHlo.TRef sig ⟨S_, .f32⟩) (.of main_call6_c : StableHlo.TRef sig ⟨S_, .i32⟩) (.of main_call6_v1_0 : StableHlo.TRef sig ⟨S2048, .f32⟩) (fun x y u v j => (Host.argReduce reducer_argmin_f32_i32 x y u v reducesTo_S2048x1024_S2048_d1 h_S_ j).1),
    StableHlo.TRef.quaternary (.of main_v69 : StableHlo.TRef sig ⟨S2048x1024, .f32⟩) (.of main_call6_v0 : StableHlo.TRef sig ⟨S2048x1024, .i32⟩) (.of main_call6_cst : StableHlo.TRef sig ⟨S_, .f32⟩) (.of main_call6_c : StableHlo.TRef sig ⟨S_, .i32⟩) (.of main_v70 : StableHlo.TRef sig ⟨S2048, .i32⟩) (fun x y u v j => (Host.argReduce reducer_argmin_f32_i32 x y u v reducesTo_S2048x1024_S2048_d1 h_S_ j).2) ]

theorem least2_sub : (least2 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem least2_fresh : (least2 : List (HloOp τ sig (Elt F))).Forall fun op => op.fresh = ∅ :=
  ⟨rfl, rfl, rfl, rfl, rfl⟩

/-- Operations: the nearest code. -/
abbrev take2 : List (HloOp τ sig (Elt F)) :=
  [ StableHlo.TRef.nullary (.of main_call7_c : StableHlo.TRef sig ⟨S_, .i32⟩) (constantI S_ 32 0#32),
    StableHlo.TRef.unary (.of main_call7_c : StableHlo.TRef sig ⟨S_, .i32⟩) (.of main_call7_v0 : StableHlo.TRef sig ⟨S2048, .i32⟩) (broadcastInDim S2048 ![] bcast_S_S2048),
    StableHlo.TRef.binary (.of main_v70 : StableHlo.TRef sig ⟨S2048, .i32⟩) (.of main_call7_v0 : StableHlo.TRef sig ⟨S2048, .i32⟩) (.of main_call7_v1 : StableHlo.TRef sig ⟨S2048, .i1⟩) (cmpi .slt),
    StableHlo.TRef.nullary (.of main_call7_c_0 : StableHlo.TRef sig ⟨S_, .i32⟩) (constantI S_ 32 1024#32),
    StableHlo.TRef.unary (.of main_call7_c_0 : StableHlo.TRef sig ⟨S_, .i32⟩) (.of main_call7_v2 : StableHlo.TRef sig ⟨S2048, .i32⟩) (broadcastInDim S2048 ![] bcast_S_S2048),
    StableHlo.TRef.binary (.of main_v70 : StableHlo.TRef sig ⟨S2048, .i32⟩) (.of main_call7_v2 : StableHlo.TRef sig ⟨S2048, .i32⟩) (.of main_call7_v3 : StableHlo.TRef sig ⟨S2048, .i32⟩) addi,
    StableHlo.TRef.ternary (.of main_call7_v1 : StableHlo.TRef sig ⟨S2048, .i1⟩) (.of main_call7_v3 : StableHlo.TRef sig ⟨S2048, .i32⟩) (.of main_v70 : StableHlo.TRef sig ⟨S2048, .i32⟩) (.of main_call7_v4 : StableHlo.TRef sig ⟨S2048, .i32⟩) select,
    StableHlo.TRef.unary (.of main_call7_v4 : StableHlo.TRef sig ⟨S2048, .i32⟩) (.of main_call7_v5 : StableHlo.TRef sig ⟨S2048x1, .i32⟩) (broadcastInDim S2048x1 ![0] bcast_S2048_S2048x1_0),
    StableHlo.TRef.nullary (.of main_call7_c_1 : StableHlo.TRef sig ⟨S1, .i32⟩) (constantI S1 32 1023#32),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v6 : StableHlo.TRef sig ⟨S2048x1, .i32⟩) (broadcastInDim S2048x1 ![] bcast_S_S2048x1),
    StableHlo.TRef.binary (.of main_call7_v5 : StableHlo.TRef sig ⟨S2048x1, .i32⟩) (.of main_call7_v6 : StableHlo.TRef sig ⟨S2048x1, .i32⟩) (.of main_call7_v7 : StableHlo.TRef sig ⟨S2048x1, .i1⟩) (cmpi .sge),
    StableHlo.TRef.unary (.of main_call7_c_1 : StableHlo.TRef sig ⟨S1, .i32⟩) (.of main_call7_v8 : StableHlo.TRef sig ⟨S1x1, .i32⟩) (broadcastInDim S1x1 ![1] bcast_S1_S1x1_1),
    StableHlo.TRef.unary (.of main_call7_v8 : StableHlo.TRef sig ⟨S1x1, .i32⟩) (.of main_call7_v9 : StableHlo.TRef sig ⟨S2048x1, .i32⟩) (broadcastInDim S2048x1 ![0, 1] bcast_S1x1_S2048x1_0_1),
    StableHlo.TRef.binary (.of main_call7_v5 : StableHlo.TRef sig ⟨S2048x1, .i32⟩) (.of main_call7_v9 : StableHlo.TRef sig ⟨S2048x1, .i32⟩) (.of main_call7_v10 : StableHlo.TRef sig ⟨S2048x1, .i1⟩) (cmpi .sle),
    StableHlo.TRef.binary (.of main_call7_v7 : StableHlo.TRef sig ⟨S2048x1, .i1⟩) (.of main_call7_v10 : StableHlo.TRef sig ⟨S2048x1, .i1⟩) (.of main_call7_v11 : StableHlo.TRef sig ⟨S2048x1, .i1⟩) andi,
    StableHlo.TRef.nullary (.of main_call7_c_3 : StableHlo.TRef sig ⟨S_, .i1⟩) (constantI S_ 1 1#1),
    StableHlo.TRef.binary (.of main_call7_v11 : StableHlo.TRef sig ⟨S2048x1, .i1⟩) (.of main_call7_c_3 : StableHlo.TRef sig ⟨S_, .i1⟩) (.of main_call7_v12 : StableHlo.TRef sig ⟨S2048, .i1⟩) (fun x v => Host.reduce IntOp.andi x v reducesTo_S2048x1_S2048_d1 h_S_),
    StableHlo.TRef.binary (.of main_arg1 : StableHlo.TRef sig ⟨S1024x256, .f32⟩) (.of main_call7_v5 : StableHlo.TRef sig ⟨S2048x1, .i32⟩) (.of main_call7_v13 : StableHlo.TRef sig ⟨S2048x256, .f32⟩) (fun x i => Host.gather gather_S1024x256_S2048x1_S2048x256_1_0_n_n_0_1_1256 x i),
    StableHlo.TRef.unary (.of main_call7_v12 : StableHlo.TRef sig ⟨S2048, .i1⟩) (.of main_call7_v14 : StableHlo.TRef sig ⟨S2048x256, .i1⟩) (broadcastInDim S2048x256 ![0] bcast_S2048_S2048x256_0),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v15 : StableHlo.TRef sig ⟨S2048x256, .f32⟩) (broadcastInDim S2048x256 ![] bcast_S_S2048x256),
    StableHlo.TRef.ternary (.of main_call7_v14 : StableHlo.TRef sig ⟨S2048x256, .i1⟩) (.of main_call7_v13 : StableHlo.TRef sig ⟨S2048x256, .f32⟩) (.of main_call7_v15 : StableHlo.TRef sig ⟨S2048x256, .f32⟩) (.of main_v71 : StableHlo.TRef sig ⟨S2048x256, .f32⟩) select ]

theorem take2_sub : (take2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem take2_fresh : (take2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations: the codes back as a stack. -/
abbrev box2 : List (HloOp τ sig (Elt F)) :=
  [ StableHlo.reshape main_v71 main_v72 (rfl : (.f32 : EltTy) = .f32) shapeCasts_S2048x256_S32x64x256,
    StableHlo.unary main_v72 main_v73 ((transpose S32x256x64 [0, 2, 1] · transposes_S32x64x256_S32x256x64_0_2_1) : (⟨S32x64x256, .f32⟩ : BufTy).Contents (Elt F) → (⟨S32x256x64, .f32⟩ : BufTy).Contents (Elt F)) ]

theorem box2_sub : (box2 : List (HloOp τ sig (Elt F))).Forall fun op => op.bufs ⊆ StableHlo.tcRefs τ sig :=
  ⟨StableHlo.reshape_bufs_sub .., StableHlo.unary_bufs_sub ..⟩

theorem box2_fresh : (box2 : List (HloOp τ sig (Elt F))).Forall fun op => op.fresh = ∅ :=
  ⟨rfl, rfl⟩

/-- Operations: the change back to the full length. -/
abbrev up2 : List (HloOp τ sig (Elt F)) :=
  [ StableHlo.TRef.nullary (.of main_call8_cst : StableHlo.TRef sig ⟨S_, .f32⟩) (constant S_ .f32 0x3E800000#32),
    StableHlo.TRef.nullary (.of main_call8_cst_0 : StableHlo.TRef sig ⟨S_, .f32⟩) (constant S_ .f32 0x3F800000#32),
    StableHlo.TRef.binary (.of main_call8_cst : StableHlo.TRef sig ⟨S_, .f32⟩) (.of main_call8_cst_0 : StableHlo.TRef sig ⟨S_, .f32⟩) (.of main_call8_v0 : StableHlo.TRef sig ⟨S_, .f32⟩) maximumf,
    StableHlo.TRef.nullary (.of main_call8_v1 : StableHlo.TRef sig ⟨S256, .f32⟩) (sitofp .f32 (iotaInDim S256 32 0)),
    StableHlo.TRef.nullary (.of main_call8_cst_1 : StableHlo.TRef sig ⟨S_, .f32⟩) (constant S_ .f32 0x3F000000#32),
    StableHlo.TRef.unary (.of main_call8_cst_1 : StableHlo.TRef sig ⟨S_, .f32⟩) (.of main_call8_v2 : StableHlo.TRef sig ⟨S256, .f32⟩) (broadcastInDim S256 ![] bcast_S_S256),
    StableHlo.TRef.binary (.of main_call8_v1 : StableHlo.TRef sig ⟨S256, .f32⟩) (.of main_call8_v2 : StableHlo.TRef sig ⟨S256, .f32⟩) (.of main_call8_v3 : StableHlo.TRef sig ⟨S256, .f32⟩) addf,
    StableHlo.TRef.nullary (.of main_call8_cst_2 : StableHlo.TRef sig ⟨S_, .f32⟩) (constant S_ .f32 0x3E800000#32),
    StableHlo.TRef.unary (.of main_call8_cst_2 : StableHlo.TRef sig ⟨S_, .f32⟩) (.of main_call8_v4 : StableHlo.TRef sig ⟨S256, .f32⟩) (broadcastInDim S256 ![] bcast_S_S256),
    StableHlo.TRef.binary (.of main_call8_v3 : StableHlo.TRef sig ⟨S256, .f32⟩) (.of main_call8_v4 : StableHlo.TRef sig ⟨S256, .f32⟩) (.of main_call8_v5 : StableHlo.TRef sig ⟨S256, .f32⟩) mulf,
    StableHlo.TRef.nullary (.of main_call8_cst_3 : StableHlo.TRef sig ⟨S_, .f32⟩) (constant S_ .f32 0x00000000#32),
    StableHlo.TRef.unary (.of main_call8_cst_3 : StableHlo.TRef sig ⟨S_, .f32⟩) (.of main_call8_v6 : StableHlo.TRef sig ⟨S256, .f32⟩) (broadcastInDim S256 ![] bcast_S_S256),
    StableHlo.TRef.binary (.of main_call8_v5 : StableHlo.TRef sig ⟨S256, .f32⟩) (.of main_call8_v6 : StableHlo.TRef sig ⟨S256, .f32⟩) (.of main_call8_v7 : StableHlo.TRef sig ⟨S256, .f32⟩) subf,
    StableHlo.TRef.nullary (.of main_call8_cst_4 : StableHlo.TRef sig ⟨S_, .f32⟩) (constant S_ .f32 0x3F000000#32),
    StableHlo.TRef.unary (.of main_call8_cst_4 : StableHlo.TRef sig ⟨S_, .f32⟩) (.of main_call8_v8 : StableHlo.TRef sig ⟨S256, .f32⟩) (broadcastInDim S256 ![] bcast_S_S256),
    StableHlo.TRef.binary (.of main_call8_v7 : StableHlo.TRef sig ⟨S256, .f32⟩) (.of main_call8_v8 : StableHlo.TRef sig ⟨S256, .f32⟩) (.of main_call8_v9 : StableHlo.TRef sig ⟨S256, .f32⟩) subf,
    StableHlo.TRef.nullary (.of main_call8_v10 : StableHlo.TRef sig ⟨S64, .f32⟩) (sitofp .f32 (iotaInDim S64 32 0)),
    StableHlo.TRef.unary (.of main_call8_v9 : StableHlo.TRef sig ⟨S256, .f32⟩) (.of main_call8_v11 : StableHlo.TRef sig ⟨S1x256, .f32⟩) (broadcastInDim S1x256 ![1] bcast_S256_S1x256_1),
    StableHlo.TRef.unary (.of main_call8_v10 : StableHlo.TRef sig ⟨S64, .f32⟩) (.of main_call8_v12 : StableHlo.TRef sig ⟨S64x1, .f32⟩) (broadcastInDim S64x1 ![0] bcast_S64_S64x1_0),
    StableHlo.TRef.unary (.of main_call8_v11 : StableHlo.TRef sig ⟨S1x256, .f32⟩) (.of main_call8_v13 : StableHlo.TRef sig ⟨S64x256, .f32⟩) (broadcastInDim S64x256 ![0, 1] bcast_S1x256_S64x256_0_1),
    StableHlo.TRef.unary (.of main_call8_v12 : StableHlo.TRef sig ⟨S64x1, .f32⟩) (.of main_call8_v14 : StableHlo.TRef sig ⟨S64x256, .f32⟩) (broadcastInDim S64x256 ![0, 1] bcast_S64x1_S64x256_0_1),
    StableHlo.TRef.binary (.of main_call8_v13 : StableHlo.TRef sig ⟨S64x256, .f32⟩) (.of main_call8_v14 : StableHlo.TRef sig ⟨S64x256, .f32⟩) (.of main_call8_v15 : StableHlo.TRef sig ⟨S64x256, .f32⟩) subf,
    StableHlo.TRef.unary (.of main_call8_v15 : StableHlo.TRef sig ⟨S64x256, .f32⟩) (.of main_call8_v16 : StableHlo.TRef sig ⟨S64x256, .f32⟩) Host.absf,
    StableHlo.TRef.unary (.of main_call8_v0 : StableHlo.TRef sig ⟨S_, .f32⟩) (.of main_call8_v17 : StableHlo.TRef sig ⟨S_, .f32⟩) id,
    StableHlo.TRef.unary (.of main_call8_v17 : StableHlo.TRef sig ⟨S_, .f32⟩) (.of main_call8_v18 : StableHlo.TRef sig ⟨S64x256, .f32⟩) (broadcastInDim S64x256 ![] bcast_S_S64x256),
    StableHlo.TRef.binary (.of main_call8_v16 : StableHlo.TRef sig ⟨S64x256, .f32⟩) (.of main_call8_v18 : StableHlo.TRef sig ⟨S64x256, .f32⟩) (.of main_call8_v19 : StableHlo.TRef sig ⟨S64x256, .f32⟩) Host.divf,
    StableHlo.TRef.unary (.of main_call8_v19 : StableHlo.TRef sig ⟨S64x256, .f32⟩) (.of main_call8_v20 : StableHlo.TRef sig ⟨S64x256, .f32⟩) Host.absf,
    StableHlo.TRef.nullary (.of main_call8_cst_5 : StableHlo.TRef sig ⟨S_, .f32⟩) (constant S_ .f32 0x3F800000#32),
    StableHlo.TRef.unary (.of main_call8_cst_5 : StableHlo.TRef sig ⟨S_, .f32⟩) (.of main_call8_v21 : StableHlo.TRef sig ⟨S64x256, .f32⟩) (broadcastInDim S64x256 ![] bcast_S_S64x256),
    StableHlo.TRef.binary (.of main_call8_v21 : StableHlo.TRef sig ⟨S64x256, .f32⟩) (.of main_call8_v20 : StableHlo.TRef sig ⟨S64x256, .f32⟩) (.of main_call8_v22 : StableHlo.TRef sig ⟨S64x256, .f32⟩) subf,
    StableHlo.TRef.nullary (.of main_call8_cst_6 : StableHlo.TRef sig ⟨S_, .f32⟩) (constant S_ .f32 0x00000000#32),
    StableHlo.TRef.unary (.of main_call8_cst_6 : StableHlo.TRef sig ⟨S_, .f32⟩) (.of main_call8_v23 : StableHlo.TRef sig ⟨S64x256, .f32⟩) (broadcastInDim S64x256 ![] bcast_S_S64x256),
    StableHlo.TRef.binary (.of main_call8_v23 : StableHlo.TRef sig ⟨S64x256, .f32⟩) (.of main_call8_v22 : StableHlo.TRef sig ⟨S64x256, .f32⟩) (.of main_call8_v24 : StableHlo.TRef sig ⟨S64x256, .f32⟩) maximumf,
    StableHlo.TRef.nullary (.of main_call8_cst_7 : StableHlo.TRef sig ⟨S_, .f32⟩) (constant S_ .f32 0x00000000#32),
    StableHlo.TRef.binary (.of main_call8_v24 : StableHlo.TRef sig ⟨S64x256, .f32⟩) (.of main_call8_cst_7 : StableHlo.TRef sig ⟨S_, .f32⟩) (.of main_call8_v25 : StableHlo.TRef sig ⟨S256, .f32⟩) (fun x v => Host.reduceAdd x v reducesTo_S64x256_S256_d0 h_S_),
    StableHlo.TRef.unary (.of main_call8_v25 : StableHlo.TRef sig ⟨S256, .f32⟩) (.of main_call8_v26 : StableHlo.TRef sig ⟨S1x256, .f32⟩) (broadcastInDim S1x256 ![1] bcast_S256_S1x256_1),
    StableHlo.TRef.unary (.of main_call8_v26 : StableHlo.TRef sig ⟨S1x256, .f32⟩) (.of main_call8_v27 : StableHlo.TRef sig ⟨S1x256, .f32⟩) Host.absf,
    StableHlo.TRef.nullary (.of main_call8_cst_8 : StableHlo.TRef sig ⟨S_, .f32⟩) (constant S_ .f32 0x38FA0000#32),
    StableHlo.TRef.unary (.of main_call8_cst_8 : StableHlo.TRef sig ⟨S_, .f32⟩) (.of main_call8_v28 : StableHlo.TRef sig ⟨S1x256, .f32⟩) (broadcastInDim S1x256 ![] bcast_S_S1x256),
    StableHlo.TRef.binary (.of main_call8_v27 : StableHlo.TRef sig ⟨S1x256, .f32⟩) (.of main_call8_v28 : StableHlo.TRef sig ⟨S1x256, .f32⟩) (.of main_call8_v29 : StableHlo.TRef sig ⟨S1x256, .i1⟩) (cmpf .ogt),
    StableHlo.TRef.nullary (.of main_call8_cst_9 : StableHlo.TRef sig ⟨S_, .f32⟩) (constant S_ .f32 0x00000000#32),
    StableHlo.TRef.unary (.of main_call8_cst_9 : StableHlo.TRef sig ⟨S_, .f32⟩) (.of main_call8_v30 : StableHlo.TRef sig ⟨S1x256, .f32⟩) (broadcastInDim S1x256 ![] bcast_S_S1x256),
    StableHlo.TRef.binary (.of main_call8_v26 : StableHlo.TRef sig ⟨S1x256, .f32⟩) (.of main_call8_v30 : StableHlo.TRef sig ⟨S1x256, .f32⟩) (.of main_call8_v31 : StableHlo.TRef sig ⟨S1x256, .i1⟩) (cmpf .une),
    StableHlo.TRef.nullary (.of main_call8_c : StableHlo.TRef sig ⟨S_, .i32⟩) (constantI S_ 32 1#32),
    StableHlo.TRef.unary (.of main_call8_c : StableHlo.TRef sig ⟨S_, .i32⟩) (.of main_call8_call0_v0 : StableHlo.TRef sig ⟨S_, .f32⟩) (sitofp .f32),
    StableHlo.TRef.unary (.of main_call8_call0_v0 : StableHlo.TRef sig ⟨S_, .f32⟩) (.of main_call8_call0_v1 : StableHlo.TRef sig ⟨S1x256, .f32⟩) (broadcastInDim S1x256 ![] bcast_S_S1x256),
    StableHlo.TRef.ternary (.of main_call8_v31 : StableHlo.TRef sig ⟨S1x256, .i1⟩) (.of main_call8_v26 : StableHlo.TRef sig ⟨S1x256, .f32⟩) (.of main_call8_call0_v1 : StableHlo.TRef sig ⟨S1x256, .f32⟩) (.of main_call8_v32 : StableHlo.TRef sig ⟨S1x256, .f32⟩) select,
    StableHlo.TRef.unary (.of main_call8_v32 : StableHlo.TRef sig ⟨S1x256, .f32⟩) (.of main_call8_v33 : StableHlo.TRef sig ⟨S64x256, .f32⟩) (broadcastInDim S64x256 ![0, 1] bcast_S1x256_S64x256_0_1),
    StableHlo.TRef.binary (.of main_call8_v24 : StableHlo.TRef sig ⟨S64x256, .f32⟩) (.of main_call8_v33 : StableHlo.TRef sig ⟨S64x256, .f32⟩) (.of main_call8_v34 : StableHlo.TRef sig ⟨S64x256, .f32⟩) Host.divf,
    StableHlo.TRef.nullary (.of main_call8_c_10 : StableHlo.TRef sig ⟨S_, .i32⟩) (constantI S_ 32 0#32),
    StableHlo.TRef.unary (.of main_call8_c_10 : StableHlo.TRef sig ⟨S_, .i32⟩) (.of main_call8_call1_v0 : StableHlo.TRef sig ⟨S_, .f32⟩) (sitofp .f32),
    StableHlo.TRef.unary (.of main_call8_v29 : StableHlo.TRef sig ⟨S1x256, .i1⟩) (.of main_call8_call1_v1 : StableHlo.TRef sig ⟨S64x256, .i1⟩) (broadcastInDim S64x256 ![0, 1] bcast_S1x256_S64x256_0_1),
    StableHlo.TRef.unary (.of main_call8_call1_v0 : StableHlo.TRef sig ⟨S_, .f32⟩) (.of main_call8_call1_v2 : StableHlo.TRef sig ⟨S64x256, .f32⟩) (broadcastInDim S64x256 ![] bcast_S_S64x256),
    StableHlo.TRef.ternary (.of main_call8_call1_v1 : StableHlo.TRef sig ⟨S64x256, .i1⟩) (.of main_call8_v34 : StableHlo.TRef sig ⟨S64x256, .f32⟩) (.of main_call8_call1_v2 : StableHlo.TRef sig ⟨S64x256, .f32⟩) (.of main_call8_v35 : StableHlo.TRef sig ⟨S64x256, .f32⟩) select,
    StableHlo.TRef.nullary (.of main_call8_cst_11 : StableHlo.TRef sig ⟨S_, .f32⟩) (constant S_ .f32 0xBF000000#32),
    StableHlo.TRef.unary (.of main_call8_cst_11 : StableHlo.TRef sig ⟨S_, .f32⟩) (.of main_call8_v36 : StableHlo.TRef sig ⟨S256, .f32⟩) (broadcastInDim S256 ![] bcast_S_S256),
    StableHlo.TRef.binary (.of main_call8_v9 : StableHlo.TRef sig ⟨S256, .f32⟩) (.of main_call8_v36 : StableHlo.TRef sig ⟨S256, .f32⟩) (.of main_call8_v37 : StableHlo.TRef sig ⟨S256, .i1⟩) (cmpf .oge),
    StableHlo.TRef.nullary (.of main_call8_cst_12 : StableHlo.TRef sig ⟨S_, .f32⟩) (constant S_ .f32 0x427E0000#32),
    StableHlo.TRef.unary (.of main_call8_cst_12 : StableHlo.TRef sig ⟨S_, .f32⟩) (.of main_call8_v38 : StableHlo.TRef sig ⟨S256, .f32⟩) (broadcastInDim S256 ![] bcast_S_S256),
    StableHlo.TRef.binary (.of main_call8_v9 : StableHlo.TRef sig ⟨S256, .f32⟩) (.of main_call8_v38 : StableHlo.TRef sig ⟨S256, .f32⟩) (.of main_call8_v39 : StableHlo.TRef sig ⟨S256, .i1⟩) (cmpf .ole),
    StableHlo.TRef.binary (.of main_call8_v37 : StableHlo.TRef sig ⟨S256, .i1⟩) (.of main_call8_v39 : StableHlo.TRef sig ⟨S256, .i1⟩) (.of main_call8_v40 : StableHlo.TRef sig ⟨S256, .i1⟩) andi,
    StableHlo.TRef.unary (.of main_call8_v40 : StableHlo.TRef sig ⟨S256, .i1⟩) (.of main_call8_v41 : StableHlo.TRef sig ⟨S1x256, .i1⟩) (broadcastInDim S1x256 ![1] bcast_S256_S1x256_1),
    StableHlo.TRef.nullary (.of main_call8_c_13 : StableHlo.TRef sig ⟨S_, .i32⟩) (constantI S_ 32 0#32),
    StableHlo.TRef.unary (.of main_call8_c_13 : StableHlo.TRef sig ⟨S_, .i32⟩) (.of main_call8_call2_v0 : StableHlo.TRef sig ⟨S_, .f32⟩) (sitofp .f32),
    StableHlo.TRef.unary (.of main_call8_v41 : StableHlo.TRef sig ⟨S1x256, .i1⟩) (.of main_call8_call2_v1 : StableHlo.TRef sig ⟨S64x256, .i1⟩) (broadcastInDim S64x256 ![0, 1] bcast_S1x256_S64x256_0_1),
    StableHlo.TRef.unary (.of main_call8_call2_v0 : StableHlo.TRef sig ⟨S_, .f32⟩) (.of main_call8_call2_v2 : StableHlo.TRef sig ⟨S64x256, .f32⟩) (broadcastInDim S64x256 ![] bcast_S_S64x256),
    StableHlo.TRef.ternary (.of main_call8_call2_v1 : StableHlo.TRef sig ⟨S64x256, .i1⟩) (.of main_call8_v35 : StableHlo.TRef sig ⟨S64x256, .f32⟩) (.of main_call8_call2_v2 : StableHlo.TRef sig ⟨S64x256, .f32⟩) (.of main_call8_v42 : StableHlo.TRef sig ⟨S64x256, .f32⟩) select,
    StableHlo.TRef.binary (.of main_v73 : StableHlo.TRef sig ⟨S32x256x64, .f32⟩) (.of main_call8_v42 : StableHlo.TRef sig ⟨S64x256, .f32⟩) (.of main_v74 : StableHlo.TRef sig ⟨S32x256x256, .f32⟩) (fun l r => Host.dotGeneral dot_S32x256x64_S64x256_S32x256x256_2_0_01_1_n_n (some .fp32) l r) ]

theorem up2_sub : (up2 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub ..⟩

theorem up2_fresh : (up2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations: what the stage's filter needs. -/
abbrev prep2 : List (HloOp τ sig (Elt F)) :=
  [ StableHlo.nullary main_cst_7 (constant S_ .f32 0x3F000000#32),
    StableHlo.unary main_cst_7 main_v75 (broadcastInDim S32x256x256 ![] bcast_S_S32x256x256 : (⟨S_, .f32⟩ : BufTy).Contents (Elt F) → (⟨S32x256x256, .f32⟩ : BufTy).Contents (Elt F)),
    StableHlo.binary main_v74 main_v75 main_v76 (mulf : (⟨S32x256x256, .f32⟩ : BufTy).Contents (Elt F) → (⟨S32x256x256, .f32⟩ : BufTy).Contents (Elt F) → (⟨S32x256x256, .f32⟩ : BufTy).Contents (Elt F)),
    StableHlo.unary main_arg2 main_v77 ((extractStridedSlice S1x256x256x3 ![1, 0, 0, 0] · slices_S4x256x256x3_S1x256x256x3_1_0_0_0) : (⟨S4x256x256x3, .f32⟩ : BufTy).Contents (Elt F) → (⟨S1x256x256x3, .f32⟩ : BufTy).Contents (Elt F)),
    StableHlo.reshape main_v77 main_v78 (rfl : (.f32 : EltTy) = .f32) shapeCasts_S1x256x256x3_S256x256x3,
    StableHlo.unary main_arg3 main_v79 ((extractStridedSlice S1x256 ![1, 0] · slices_S4x256_S1x256_1_0) : (⟨S4x256, .f32⟩ : BufTy).Contents (Elt F) → (⟨S1x256, .f32⟩ : BufTy).Contents (Elt F)),
    StableHlo.reshape main_v79 main_v80 (rfl : (.f32 : EltTy) = .f32) shapeCasts_S1x256_S256,
    StableHlo.nullary main_c_8 (constantI S_ 32 0#32) ]

theorem prep2_sub : (prep2 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub ..⟩

theorem prep2_fresh : (prep2 : List (HloOp τ sig (Elt F))).Forall fun op => op.fresh = ∅ :=
  ⟨rfl, rfl, rfl, rfl, rfl, rfl, rfl, rfl⟩

/-- Operations: the zeros on both sides. -/
abbrev pad2 : List (HloOp τ sig (Elt F)) :=
  [ StableHlo.TRef.unary (.of main_c_8 : StableHlo.TRef sig ⟨S_, .i32⟩) (.of main_call9_v0 : StableHlo.TRef sig ⟨S_, .f32⟩) (sitofp .f32),
    StableHlo.TRef.binary (.of main_v74 : StableHlo.TRef sig ⟨S32x256x256, .f32⟩) (.of main_call9_v0 : StableHlo.TRef sig ⟨S_, .f32⟩) (.of main_v81 : StableHlo.TRef sig ⟨S32x256x258, .f32⟩) (fun x v => pad S32x256x258 ![0, 0, 1] ![0, 0, 1] ![0, 0, 0] x v pads_S32x256x256_S32x256x258_000_000_110 h_S_) ]

theorem pad2_sub : (pad2 : List (HloOp τ sig (Elt F))).Forall fun op => op.bufs ⊆ StableHlo.tcRefs τ sig :=
  ⟨StableHlo.unary_bufs_sub .., StableHlo.binary_bufs_sub ..⟩

theorem pad2_fresh : (pad2 : List (HloOp τ sig (Elt F))).Forall fun op => op.fresh = ∅ :=
  ⟨rfl, rfl⟩

/-- Operations: the filter, the sum and the remainder. -/
abbrev mix2 : List (HloOp τ sig (Elt F)) :=
  [ StableHlo.unary main_v78 main_v82 ((extractStridedSlice S256x256x1 ![0, 0, 0] · slices_S256x256x3_S256x256x1_0_0_0) : (⟨S256x256x3, .f32⟩ : BufTy).Contents (Elt F) → (⟨S256x256x1, .f32⟩ : BufTy).Contents (Elt F)),
    StableHlo.reshape main_v82 main_v83 (rfl : (.f32 : EltTy) = .f32) shapeCasts_S256x256x1_S256x256,
    StableHlo.unary main_v81 main_v84 ((extractStridedSlice S32x256x256 ![0, 0, 0] · slices_S32x256x258_S32x256x256_0_0_0) : (⟨S32x256x258, .f32⟩ : BufTy).Contents (Elt F) → (⟨S32x256x256, .f32⟩ : BufTy).Contents (Elt F)),
    StableHlo.binary main_v84 main_v83 main_v85 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v85 main_v86 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v78 main_v87 ((extractStridedSlice S256x256x1 ![0, 0, 1] · slices_S256x256x3_S256x256x1_0_0_1) : (⟨S256x256x3, .f32⟩ : BufTy).Contents (Elt F) → (⟨S256x256x1, .f32⟩ : BufTy).Contents (Elt F)),
    StableHlo.reshape main_v87 main_v88 (rfl : (.f32 : EltTy) = .f32) shapeCasts_S256x256x1_S256x256,
    StableHlo.unary main_v81 main_v89 ((extractStridedSlice S32x256x256 ![0, 0, 1] · slices_S32x256x258_S32x256x256_0_0_1) : (⟨S32x256x258, .f32⟩ : BufTy).Contents (Elt F) → (⟨S32x256x256, .f32⟩ : BufTy).Contents (Elt F)),
    StableHlo.binary main_v89 main_v88 main_v90 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v90 main_v91 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v78 main_v92 ((extractStridedSlice S256x256x1 ![0, 0, 2] · slices_S256x256x3_S256x256x1_0_0_2) : (⟨S256x256x3, .f32⟩ : BufTy).Contents (Elt F) → (⟨S256x256x1, .f32⟩ : BufTy).Contents (Elt F)),
    StableHlo.reshape main_v92 main_v93 (rfl : (.f32 : EltTy) = .f32) shapeCasts_S256x256x1_S256x256,
    StableHlo.unary main_v81 main_v94 ((extractStridedSlice S32x256x256 ![0, 0, 2] · slices_S32x256x258_S32x256x256_0_0_2) : (⟨S32x256x258, .f32⟩ : BufTy).Contents (Elt F) → (⟨S32x256x256, .f32⟩ : BufTy).Contents (Elt F)),
    StableHlo.binary main_v94 main_v93 main_v95 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v95 main_v96 ((transpose S32x256x256 [0, 2, 1] · transposes_S32x256x256_S32x256x256_0_2_1) : (⟨S32x256x256, .f32⟩ : BufTy).Contents (Elt F) → (⟨S32x256x256, .f32⟩ : BufTy).Contents (Elt F)),
    StableHlo.binary main_v86 main_v91 main_v97 (addf : (⟨S32x256x256, .f32⟩ : BufTy).Contents (Elt F) → (⟨S32x256x256, .f32⟩ : BufTy).Contents (Elt F) → (⟨S32x256x256, .f32⟩ : BufTy).Contents (Elt F)),
    StableHlo.binary main_v97 main_v96 main_v98 (addf : (⟨S32x256x256, .f32⟩ : BufTy).Contents (Elt F) → (⟨S32x256x256, .f32⟩ : BufTy).Contents (Elt F) → (⟨S32x256x256, .f32⟩ : BufTy).Contents (Elt F)),
    StableHlo.unary main_v80 main_v99 (broadcastInDim S1x256x1 ![1] bcast_S256_S1x256x1_1 : (⟨S256, .f32⟩ : BufTy).Contents (Elt F) → (⟨S1x256x1, .f32⟩ : BufTy).Contents (Elt F)),
    StableHlo.unary main_v99 main_v100 (broadcastInDim S32x256x256 ![0, 1, 2] bcast_S1x256x1_S32x256x256_0_1_2 : (⟨S1x256x1, .f32⟩ : BufTy).Contents (Elt F) → (⟨S32x256x256, .f32⟩ : BufTy).Contents (Elt F)),
    StableHlo.binary main_v98 main_v100 main_v101 (addf : (⟨S32x256x256, .f32⟩ : BufTy).Contents (Elt F) → (⟨S32x256x256, .f32⟩ : BufTy).Contents (Elt F) → (⟨S32x256x256, .f32⟩ : BufTy).Contents (Elt F)),
    StableHlo.nullary main_cst_9 (constant S_ .f32 0x3F000000#32),
    StableHlo.unary main_cst_9 main_v102 (broadcastInDim S32x256x256 ![] bcast_S_S32x256x256 : (⟨S_, .f32⟩ : BufTy).Contents (Elt F) → (⟨S32x256x256, .f32⟩ : BufTy).Contents (Elt F)),
    StableHlo.binary main_v101 main_v102 main_v103 (mulf : (⟨S32x256x256, .f32⟩ : BufTy).Contents (Elt F) → (⟨S32x256x256, .f32⟩ : BufTy).Contents (Elt F) → (⟨S32x256x256, .f32⟩ : BufTy).Contents (Elt F)),
    StableHlo.binary main_v76 main_v103 main_v104 (addf : (⟨S32x256x256, .f32⟩ : BufTy).Contents (Elt F) → (⟨S32x256x256, .f32⟩ : BufTy).Contents (Elt F) → (⟨S32x256x256, .f32⟩ : BufTy).Contents (Elt F)),
    StableHlo.binary main_v53 main_v104 main_v105 (addf : (⟨S32x256x256, .f32⟩ : BufTy).Contents (Elt F) → (⟨S32x256x256, .f32⟩ : BufTy).Contents (Elt F) → (⟨S32x256x256, .f32⟩ : BufTy).Contents (Elt F)),
    StableHlo.binary main_v54 main_v104 main_v106 (subf : (⟨S32x256x256, .f32⟩ : BufTy).Contents (Elt F) → (⟨S32x256x256, .f32⟩ : BufTy).Contents (Elt F) → (⟨S32x256x256, .f32⟩ : BufTy).Contents (Elt F)) ]

theorem mix2_sub : (mix2 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩

theorem mix2_fresh : (mix2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

end Cert.Proof.Ref
-- ==== Proof.RefOps3.lean ====
/- The operations of the reference, third stage. -/
module

public import proofs.«01_k».proof.ReferenceIdeal
public import Idealize.ShloMosaic.PureOps.Ideal
public import Idealize.ShloMosaic.Lib.StableHlo.RunRead
public import Idealize.ShloMosaic.Lib.StableHlo.RunHlo

@[expose] public section

set_option synthInstance.maxSize 4096

noncomputable section

namespace Cert.Proof.Ref

open Idealize.ShloMosaic Idealize.SL.Sem
open Cert.ReferenceIdeal Cert.ReferenceIdeal.Facts₀ Cert.ReferenceIdeal.Facts

variable {F : FTy → Type} [FloatOps F] [Cert.ReferenceIdeal.Facts]

/-- Operations: the change to the shorter length. -/
abbrev down3 : List (HloOp τ sig (Elt F)) :=
  [ StableHlo.TRef.nullary (.of main_call10_cst : StableHlo.TRef sig ⟨S_, .f32⟩) (constant S_ .f32 0x40000000#32),
    StableHlo.TRef.nullary (.of main_call10_cst_0 : StableHlo.TRef sig ⟨S_, .f32⟩) (constant S_ .f32 0x3F800000#32),
    StableHlo.TRef.binary (.of main_call10_cst : StableHlo.TRef sig ⟨S_, .f32⟩) (.of main_call10_cst_0 : StableHlo.TRef sig ⟨S_, .f32⟩) (.of main_call10_v0 : StableHlo.TRef sig ⟨S_, .f32⟩) maximumf,
    StableHlo.TRef.nullary (.of main_call10_v1 : StableHlo.TRef sig ⟨S128, .f32⟩) (sitofp .f32 (iotaInDim S128 32 0)),
    StableHlo.TRef.nullary (.of main_call10_cst_1 : StableHlo.TRef sig ⟨S_, .f32⟩) (constant S_ .f32 0x3F000000#32),
    StableHlo.TRef.unary (.of main_call10_cst_1 : StableHlo.TRef sig ⟨S_, .f32⟩) (.of main_call10_v2 : StableHlo.TRef sig ⟨S128, .f32⟩) (broadcastInDim S128 ![] bcast_S_S128),
    StableHlo.TRef.binary (.of main_call10_v1 : StableHlo.TRef sig ⟨S128, .f32⟩) (.of main_call10_v2 : StableHlo.TRef sig ⟨S128, .f32⟩) (.of main_call10_v3 : StableHlo.TRef sig ⟨S128, .f32⟩) addf,
    StableHlo.TRef.nullary (.of main_call10_cst_2 : StableHlo.TRef sig ⟨S_, .f32⟩) (constant S_ .f32 0x40000000#32),
    StableHlo.TRef.unary (.of main_call10_cst_2 : StableHlo.TRef sig ⟨S_, .f32⟩) (.of main_call10_v4 : StableHlo.TRef sig ⟨S128, .f32⟩) (broadcastInDim S128 ![] bcast_S_S128),
    StableHlo.TRef.binary (.of main_call10_v3 : StableHlo.TRef sig ⟨S128, .f32⟩) (.of main_call10_v4 : StableHlo.TRef sig ⟨S128, .f32⟩) (.of main_call10_v5 : StableHlo.TRef sig ⟨S128, .f32⟩) mulf,
    StableHlo.TRef.nullary (.of main_call10_cst_3 : StableHlo.TRef sig ⟨S_, .f32⟩) (constant S_ .f32 0x00000000#32),
    StableHlo.TRef.unary (.of main_call10_cst_3 : StableHlo.TRef sig ⟨S_, .f32⟩) (.of main_call10_v6 : StableHlo.TRef sig ⟨S128, .f32⟩) (broadcastInDim S128 ![] bcast_S_S128),
    StableHlo.TRef.binary (.of main_call10_v5 : StableHlo.TRef sig ⟨S128, .f32⟩) (.of main_call10_v6 : StableHlo.TRef sig ⟨S128, .f32⟩) (.of main_call10_v7 : StableHlo.TRef sig ⟨S128, .f32⟩) subf,
    StableHlo.TRef.nullary (.of main_call10_cst_4 : StableHlo.TRef sig ⟨S_, .f32⟩) (constant S_ .f32 0x3F000000#32),
    StableHlo.TRef.unary (.of main_call10_cst_4 : StableHlo.TRef sig ⟨S_, .f32⟩) (.of main_call10_v8 : StableHlo.TRef sig ⟨S128, .f32⟩) (broadcastInDim S128 ![] bcast_S_S128),
    StableHlo.TRef.binary (.of main_call10_v7 : StableHlo.TRef sig ⟨S128, .f32⟩) (.of main_call10_v8 : StableHlo.TRef sig ⟨S128, .f32⟩) (.of main_call10_v9 : StableHlo.TRef sig ⟨S128, .f32⟩) subf,
    StableHlo.TRef.nullary (.of main_call10_v10 : StableHlo.TRef sig ⟨S256, .f32⟩) (sitofp .f32 (iotaInDim S256 32 0)),
    StableHlo.TRef.unary (.of main_call10_v9 : StableHlo.TRef sig ⟨S128, .f32⟩) (.of main_call10_v11 : StableHlo.TRef sig ⟨S1x128, .f32⟩) (broadcastInDim S1x128 ![1] bcast_S128_S1x128_1),
    StableHlo.TRef.unary (.of main_call10_v10 : StableHlo.TRef sig ⟨S256, .f32⟩) (.of main_call10_v12 : StableHlo.TRef sig ⟨S256x1, .f32⟩) (broadcastInDim S256x1 ![0] bcast_S256_S256x1_0),
    StableHlo.TRef.unary (.of main_call10_v11 : StableHlo.TRef sig ⟨S1x128, .f32⟩) (.of main_call10_v13 : StableHlo.TRef sig ⟨S256x128, .f32⟩) (broadcastInDim S256x128 ![0, 1] bcast_S1x128_S256x128_0_1),
    StableHlo.TRef.unary (.of main_call10_v12 : StableHlo.TRef sig ⟨S256x1, .f32⟩) (.of main_call10_v14 : StableHlo.TRef sig ⟨S256x128, .f32⟩) (broadcastInDim S256x128 ![0, 1] bcast_S256x1_S256x128_0_1),
    StableHlo.TRef.binary (.of main_call10_v13 : StableHlo.TRef sig ⟨S256x128, .f32⟩) (.of main_call10_v14 : StableHlo.TRef sig ⟨S256x128, .f32⟩) (.of main_call10_v15 : StableHlo.TRef sig ⟨S256x128, .f32⟩) subf,
    StableHlo.TRef.unary (.of main_call10_v15 : StableHlo.TRef sig ⟨S256x128, .f32⟩) (.of main_call10_v16 : StableHlo.TRef sig ⟨S256x128, .f32⟩) Host.absf,
    StableHlo.TRef.unary (.of main_call10_v0 : StableHlo.TRef sig ⟨S_, .f32⟩) (.of main_call10_v17 : StableHlo.TRef sig ⟨S_, .f32⟩) id,
    StableHlo.TRef.unary (.of main_call10_v17 : StableHlo.TRef sig ⟨S_, .f32⟩) (.of main_call10_v18 : StableHlo.TRef sig ⟨S256x128, .f32⟩) (broadcastInDim S256x128 ![] bcast_S_S256x128),
    StableHlo.TRef.binary (.of main_call10_v16 : StableHlo.TRef sig ⟨S256x128, .f32⟩) (.of main_call10_v18 : StableHlo.TRef sig ⟨S256x128, .f32⟩) (.of main_call10_v19 : StableHlo.TRef sig ⟨S256x128, .f32⟩) Host.divf,
    StableHlo.TRef.unary (.of main_call10_v19 : StableHlo.TRef sig ⟨S256x128, .f32⟩) (.of main_call10_v20 : StableHlo.TRef sig ⟨S256x128, .f32⟩) Host.absf,
    StableHlo.TRef.nullary (.of main_call10_cst_5 : StableHlo.TRef sig ⟨S_, .f32⟩) (constant S_ .f32 0x3F800000#32),
    StableHlo.TRef.unary (.of main_call10_cst_5 : StableHlo.TRef sig ⟨S_, .f32⟩) (.of main_call10_v21 : StableHlo.TRef sig ⟨S256x128, .f32⟩) (broadcastInDim S256x128 ![] bcast_S_S256x128),
    StableHlo.TRef.binary (.of main_call10_v21 : StableHlo.TRef sig ⟨S256x128, .f32⟩) (.of main_call10_v20 : StableHlo.TRef sig ⟨S256x128, .f32⟩) (.of main_call10_v22 : StableHlo.TRef sig ⟨S256x128, .f32⟩) subf,
    StableHlo.TRef.nullary (.of main_call10_cst_6 : StableHlo.TRef sig ⟨S_, .f32⟩) (constant S_ .f32 0x00000000#32),
    StableHlo.TRef.unary (.of main_call10_cst_6 : StableHlo.TRef sig ⟨S_, .f32⟩) (.of main_call10_v23 : StableHlo.TRef sig ⟨S256x128, .f32⟩) (broadcastInDim S256x128 ![] bcast_S_S256x128),
    StableHlo.TRef.binary (.of main_call10_v23 : StableHlo.TRef sig ⟨S256x128, .f32⟩) (.of main_call10_v22 : StableHlo.TRef sig ⟨S256x128, .f32⟩) (.of main_call10_v24 : StableHlo.TRef sig ⟨S256x128, .f32⟩) maximumf,
    StableHlo.TRef.nullary (.of main_call10_cst_7 : StableHlo.TRef sig ⟨S_, .f32⟩) (constant S_ .f32 0x00000000#32),
    StableHlo.TRef.binary (.of main_call10_v24 : StableHlo.TRef sig ⟨S256x128, .f32⟩) (.of main_call10_cst_7 : StableHlo.TRef sig ⟨S_, .f32⟩) (.of main_call10_v25 : StableHlo.TRef sig ⟨S128, .f32⟩) (fun x v => Host.reduceAdd x v reducesTo_S256x128_S128_d0 h_S_),
    StableHlo.TRef.unary (.of main_call10_v25 : StableHlo.TRef sig ⟨S128, .f32⟩) (.of main_call10_v26 : StableHlo.TRef sig ⟨S1x128, .f32⟩) (broadcastInDim S1x128 ![1] bcast_S128_S1x128_1),
    StableHlo.TRef.unary (.of main_call10_v26 : StableHlo.TRef sig ⟨S1x128, .f32⟩) (.of main_call10_v27 : StableHlo.TRef sig ⟨S1x128, .f32⟩) Host.absf,
    StableHlo.TRef.nullary (.of main_call10_cst_8 : StableHlo.TRef sig ⟨S_, .f32⟩) (constant S_ .f32 0x38FA0000#32),
    StableHlo.TRef.unary (.of main_call10_cst_8 : StableHlo.TRef sig ⟨S_, .f32⟩) (.of main_call10_v28 : StableHlo.TRef sig ⟨S1x128, .f32⟩) (broadcastInDim S1x128 ![] bcast_S_S1x128),
    StableHlo.TRef.binary (.of main_call10_v27 : StableHlo.TRef sig ⟨S1x128, .f32⟩) (.of main_call10_v28 : StableHlo.TRef sig ⟨S1x128, .f32⟩) (.of main_call10_v29 : StableHlo.TRef sig ⟨S1x128, .i1⟩) (cmpf .ogt),
    StableHlo.TRef.nullary (.of main_call10_cst_9 : StableHlo.TRef sig ⟨S_, .f32⟩) (constant S_ .f32 0x00000000#32),
    StableHlo.TRef.unary (.of main_call10_cst_9 : StableHlo.TRef sig ⟨S_, .f32⟩) (.of main_call10_v30 : StableHlo.TRef sig ⟨S1x128, .f32⟩) (broadcastInDim S1x128 ![] bcast_S_S1x128),
    StableHlo.TRef.binary (.of main_call10_v26 : StableHlo.TRef sig ⟨S1x128, .f32⟩) (.of main_call10_v30 : StableHlo.TRef sig ⟨S1x128, .f32⟩) (.of main_call10_v31 : StableHlo.TRef sig ⟨S1x128, .i1⟩) (cmpf .une),
    StableHlo.TRef.nullary (.of main_call10_c : StableHlo.TRef sig ⟨S_, .i32⟩) (constantI S_ 32 1#32),
    StableHlo.TRef.unary (.of main_call10_c : StableHlo.TRef sig ⟨S_, .i32⟩) (.of main_call10_call0_v0 : StableHlo.TRef sig ⟨S_, .f32⟩) (sitofp .f32),
    StableHlo.TRef.unary (.of main_call10_call0_v0 : StableHlo.TRef sig ⟨S_, .f32⟩) (.of main_call10_call0_v1 : StableHlo.TRef sig ⟨S1x128, .f32⟩) (broadcastInDim S1x128 ![] bcast_S_S1x128),
    StableHlo.TRef.ternary (.of main_call10_v31 : StableHlo.TRef sig ⟨S1x128, .i1⟩) (.of main_call10_v26 : StableHlo.TRef sig ⟨S1x128, .f32⟩) (.of main_call10_call0_v1 : StableHlo.TRef sig ⟨S1x128, .f32⟩) (.of main_call10_v32 : StableHlo.TRef sig ⟨S1x128, .f32⟩) select,
    StableHlo.TRef.unary (.of main_call10_v32 : StableHlo.TRef sig ⟨S1x128, .f32⟩) (.of main_call10_v33 : StableHlo.TRef sig ⟨S256x128, .f32⟩) (broadcastInDim S256x128 ![0, 1] bcast_S1x128_S256x128_0_1),
    StableHlo.TRef.binary (.of main_call10_v24 : StableHlo.TRef sig ⟨S256x128, .f32⟩) (.of main_call10_v33 : StableHlo.TRef sig ⟨S256x128, .f32⟩) (.of main_call10_v34 : StableHlo.TRef sig ⟨S256x128, .f32⟩) Host.divf,
    StableHlo.TRef.nullary (.of main_call10_c_10 : StableHlo.TRef sig ⟨S_, .i32⟩) (constantI S_ 32 0#32),
    StableHlo.TRef.unary (.of main_call10_c_10 : StableHlo.TRef sig ⟨S_, .i32⟩) (.of main_call10_call1_v0 : StableHlo.TRef sig ⟨S_, .f32⟩) (sitofp .f32),
    StableHlo.TRef.unary (.of main_call10_v29 : StableHlo.TRef sig ⟨S1x128, .i1⟩) (.of main_call10_call1_v1 : StableHlo.TRef sig ⟨S256x128, .i1⟩) (broadcastInDim S256x128 ![0, 1] bcast_S1x128_S256x128_0_1),
    StableHlo.TRef.unary (.of main_call10_call1_v0 : StableHlo.TRef sig ⟨S_, .f32⟩) (.of main_call10_call1_v2 : StableHlo.TRef sig ⟨S256x128, .f32⟩) (broadcastInDim S256x128 ![] bcast_S_S256x128),
    StableHlo.TRef.ternary (.of main_call10_call1_v1 : StableHlo.TRef sig ⟨S256x128, .i1⟩) (.of main_call10_v34 : StableHlo.TRef sig ⟨S256x128, .f32⟩) (.of main_call10_call1_v2 : StableHlo.TRef sig ⟨S256x128, .f32⟩) (.of main_call10_v35 : StableHlo.TRef sig ⟨S256x128, .f32⟩) select,
    StableHlo.TRef.nullary (.of main_call10_cst_11 : StableHlo.TRef sig ⟨S_, .f32⟩) (constant S_ .f32 0xBF000000#32),
    StableHlo.TRef.unary (.of main_call10_cst_11 : StableHlo.TRef sig ⟨S_, .f32⟩) (.of main_call10_v36 : StableHlo.TRef sig ⟨S128, .f32⟩) (broadcastInDim S128 ![] bcast_S_S128),
    StableHlo.TRef.binary (.of main_call10_v9 : StableHlo.TRef sig ⟨S128, .f32⟩) (.of main_call10_v36 : StableHlo.TRef sig ⟨S128, .f32⟩) (.of main_call10_v37 : StableHlo.TRef sig ⟨S128, .i1⟩) (cmpf .oge),
    StableHlo.TRef.nullary (.of main_call10_cst_12 : StableHlo.TRef sig ⟨S_, .f32⟩) (constant S_ .f32 0x437F8000#32),
    StableHlo.TRef.unary (.of main_call10_cst_12 : StableHlo.TRef sig ⟨S_, .f32⟩) (.of main_call10_v38 : StableHlo.TRef sig ⟨S128, .f32⟩) (broadcastInDim S128 ![] bcast_S_S128),
    StableHlo.TRef.binary (.of main_call10_v9 : StableHlo.TRef sig ⟨S128, .f32⟩) (.of main_call10_v38 : StableHlo.TRef sig ⟨S128, .f32⟩) (.of main_call10_v39 : StableHlo.TRef sig ⟨S128, .i1⟩) (cmpf .ole),
    StableHlo.TRef.binary (.of main_call10_v37 : StableHlo.TRef sig ⟨S128, .i1⟩) (.of main_call10_v39 : StableHlo.TRef sig ⟨S128, .i1⟩) (.of main_call10_v40 : StableHlo.TRef sig ⟨S128, .i1⟩) andi,
    StableHlo.TRef.unary (.of main_call10_v40 : StableHlo.TRef sig ⟨S128, .i1⟩) (.of main_call10_v41 : StableHlo.TRef sig ⟨S1x128, .i1⟩) (broadcastInDim S1x128 ![1] bcast_S128_S1x128_1),
    StableHlo.TRef.nullary (.of main_call10_c_13 : StableHlo.TRef sig ⟨S_, .i32⟩) (constantI S_ 32 0#32),
    StableHlo.TRef.unary (.of main_call10_c_13 : StableHlo.TRef sig ⟨S_, .i32⟩) (.of main_call10_call2_v0 : StableHlo.TRef sig ⟨S_, .f32⟩) (sitofp .f32),
    StableHlo.TRef.unary (.of main_call10_v41 : StableHlo.TRef sig ⟨S1x128, .i1⟩) (.of main_call10_call2_v1 : StableHlo.TRef sig ⟨S256x128, .i1⟩) (broadcastInDim S256x128 ![0, 1] bcast_S1x128_S256x128_0_1),
    StableHlo.TRef.unary (.of main_call10_call2_v0 : StableHlo.TRef sig ⟨S_, .f32⟩) (.of main_call10_call2_v2 : StableHlo.TRef sig ⟨S256x128, .f32⟩) (broadcastInDim S256x128 ![] bcast_S_S256x128),
    StableHlo.TRef.ternary (.of main_call10_call2_v1 : StableHlo.TRef sig ⟨S256x128, .i1⟩) (.of main_call10_v35 : StableHlo.TRef sig ⟨S256x128, .f32⟩) (.of main_call10_call2_v2 : StableHlo.TRef sig ⟨S256x128, .f32⟩) (.of main_call10_v42 : StableHlo.TRef sig ⟨S256x128, .f32⟩) select,
    StableHlo.TRef.binary (.of main_v106 : StableHlo.TRef sig ⟨S32x256x256, .f32⟩) (.of main_call10_v42 : StableHlo.TRef sig ⟨S256x128, .f32⟩) (.of main_v107 : StableHlo.TRef sig ⟨S32x256x128, .f32⟩) (fun l r => Host.dotGeneral dot_S32x256x256_S256x128_S32x256x128_2_0_01_1_n_n (some .fp32) l r) ]

theorem down3_sub : (down3 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub ..⟩

theorem down3_fresh : (down3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations: the distances to the codes. -/
abbrev gap3 : List (HloOp τ sig (Elt F)) :=
  [ StableHlo.unary main_v107 main_v108 ((transpose S32x128x256 [0, 2, 1] · transposes_S32x256x128_S32x128x256_0_2_1) : (⟨S32x256x128, .f32⟩ : BufTy).Contents (Elt F) → (⟨S32x128x256, .f32⟩ : BufTy).Contents (Elt F)),
    StableHlo.reshape main_v108 main_v109 (rfl : (.f32 : EltTy) = .f32) shapeCasts_S32x128x256_S4096x256,
    StableHlo.binary main_v109 main_v109 main_v110 (mulf : (⟨S4096x256, .f32⟩ : BufTy).Contents (Elt F) → (⟨S4096x256, .f32⟩ : BufTy).Contents (Elt F) → (⟨S4096x256, .f32⟩ : BufTy).Contents (Elt F)),
    StableHlo.nullary main_cst_10 (constant S_ .f32 0x00000000#32),
    StableHlo.binary main_v110 main_cst_10 main_v111 ((fun x v => Host.reduceAdd x v reducesTo_S4096x256_S4096_d1 h_S_) : (⟨S4096x256, .f32⟩ : BufTy).Contents (Elt F) → (⟨S_, .f32⟩ : BufTy).Contents (Elt F) → (⟨S4096, .f32⟩ : BufTy).Contents (Elt F)),
    StableHlo.unary main_v111 main_v112 (broadcastInDim S4096x1 ![0] bcast_S4096_S4096x1_0 : (⟨S4096, .f32⟩ : BufTy).Contents (Elt F) → (⟨S4096x1, .f32⟩ : BufTy).Contents (Elt F)),
    StableHlo.unary main_arg1 main_v113 ((transpose S256x1024 [1, 0] · transposes_S1024x256_S256x1024_1_0) : (⟨S1024x256, .f32⟩ : BufTy).Contents (Elt F) → (⟨S256x1024, .f32⟩ : BufTy).Contents (Elt F)),
    StableHlo.binary main_v109 main_v113 main_v114 ((fun l r => Host.dotGeneral dot_S4096x256_S256x1024_S4096x1024_1_0_0_1_n_n none l r) : (⟨S4096x256, .f32⟩ : BufTy).Contents (Elt F) → (⟨S256x1024, .f32⟩ : BufTy).Contents (Elt F) → (⟨S4096x1024, .f32⟩ : BufTy).Contents (Elt F)),
    StableHlo.nullary main_cst_11 (constant S_ .f32 0x40000000#32),
    StableHlo.unary main_cst_11 main_v115 (broadcastInDim S4096x1024 ![] bcast_S_S4096x1024 : (⟨S_, .f32⟩ : BufTy).Contents (Elt F) → (⟨S4096x1024, .f32⟩ : BufTy).Contents (Elt F)),
    StableHlo.binary main_v115 main_v114 main_v116 (mulf : (⟨S4096x1024, .f32⟩ : BufTy).Contents (Elt F) → (⟨S4096x1024, .f32⟩ : BufTy).Contents (Elt F) → (⟨S4096x1024, .f32⟩ : BufTy).Contents (Elt F)),
    StableHlo.unary main_v112 main_v117 (broadcastInDim S4096x1024 ![0, 1] bcast_S4096x1_S4096x1024_0_1 : (⟨S4096x1, .f32⟩ : BufTy).Contents (Elt F) → (⟨S4096x1024, .f32⟩ : BufTy).Contents (Elt F)),
    StableHlo.binary main_v117 main_v116 main_v118 (subf : (⟨S4096x1024, .f32⟩ : BufTy).Contents (Elt F) → (⟨S4096x1024, .f32⟩ : BufTy).Contents (Elt F) → (⟨S4096x1024, .f32⟩ : BufTy).Contents (Elt F)),
    StableHlo.unary main_v2 main_v119 (broadcastInDim S1x1024 ![1] bcast_S1024_S1x1024_1 : (⟨S1024, .f32⟩ : BufTy).Contents (Elt F) → (⟨S1x1024, .f32⟩ : BufTy).Contents (Elt F)),
    StableHlo.unary main_v119 main_v120 (broadcastInDim S4096x1024 ![0, 1] bcast_S1x1024_S4096x1024_0_1 : (⟨S1x1024, .f32⟩ : BufTy).Contents (Elt F) → (⟨S4096x1024, .f32⟩ : BufTy).Contents (Elt F)),
    StableHlo.binary main_v118 main_v120 main_v121 (addf : (⟨S4096x1024, .f32⟩ : BufTy).Contents (Elt F) → (⟨S4096x1024, .f32⟩ : BufTy).Contents (Elt F) → (⟨S4096x1024, .f32⟩ : BufTy).Contents (Elt F)) ]

theorem gap3_sub : (gap3 : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

theorem gap3_fresh : (gap3 : List (HloOp τ sig (Elt F))).Forall fun op => op.fresh = ∅ :=
  ⟨rfl, rfl, rfl, rfl, rfl, rfl, rfl, rfl, rfl, rfl, rfl, rfl, rfl, rfl, rfl, rfl⟩

/-- Operations: the place of the nearest code. -/
abbrev least3 : List (HloOp τ sig (Elt F)) :=
  [ StableHlo.TRef.nullary (.of main_call11_v0 : StableHlo.TRef sig ⟨S4096x1024, .i32⟩) (iotaInDim S4096x1024 32 1),
    StableHlo.TRef.nullary (.of main_call11_cst : StableHlo.TRef sig ⟨S_, .f32⟩) (constant S_ .f32 0x7F800000#32),
    StableHlo.TRef.nullary (.of main_call11_c : StableHlo.TRef sig ⟨S_, .i32⟩) (constantI S_ 32 0#32),
    StableHlo.TRef.quaternary (.of main_v121 : StableHlo.TRef sig ⟨S4096x1024, .f32⟩) (.of main_call11_v0 : StableHlo.TRef sig ⟨S4096x1024, .i32⟩) (.of main_call11_cst : StableHlo.TRef sig ⟨S_, .f32⟩) (.of main_call11_c : StableHlo.TRef sig ⟨S_, .i32⟩) (.of main_call11_v1_0 : StableHlo.TRef sig ⟨S4096, .f32⟩) (fun x y u v j => (Host.argReduce reducer_argmin_f32_i32 x y u v reducesTo_S4096x1024_S4096_d1 h_S_ j).1),
    StableHlo.TRef.quaternary (.of main_v121 : StableHlo.TRef sig ⟨S4096x1024, .f32⟩) (.of main_call11_v0 : StableHlo.TRef sig ⟨S4096x1024, .i32⟩) (.of main_call11_cst : StableHlo.TRef sig ⟨S_, .f32⟩) (.of main_call11_c : StableHlo.TRef sig ⟨S_, .i32⟩) (.of main_v122 : StableHlo.TRef sig ⟨S4096, .i32⟩) (fun x y u v j => (Host.argReduce reducer_argmin_f32_i32 x y u v reducesTo_S4096x1024_S4096_d1 h_S_ j).2) ]

theorem least3_sub : (least3 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem least3_fresh : (least3 : List (HloOp τ sig (Elt F))).Forall fun op => op.fresh = ∅ :=
  ⟨rfl, rfl, rfl, rfl, rfl⟩

/-- Operations: the nearest code. -/
abbrev take3 : List (HloOp τ sig (Elt F)) :=
  [ StableHlo.TRef.nullary (.of main_call12_c : StableHlo.TRef sig ⟨S_, .i32⟩) (constantI S_ 32 0#32),
    StableHlo.TRef.unary (.of main_call12_c : StableHlo.TRef sig ⟨S_, .i32⟩) (.of main_call12_v0 : StableHlo.TRef sig ⟨S4096, .i32⟩) (broadcastInDim S4096 ![] bcast_S_S4096),
    StableHlo.TRef.binary (.of main_v122 : StableHlo.TRef sig ⟨S4096, .i32⟩) (.of main_call12_v0 : StableHlo.TRef sig ⟨S4096, .i32⟩) (.of main_call12_v1 : StableHlo.TRef sig ⟨S4096, .i1⟩) (cmpi .slt),
    StableHlo.TRef.nullary (.of main_call12_c_0 : StableHlo.TRef sig ⟨S_, .i32⟩) (constantI S_ 32 1024#32),
    StableHlo.TRef.unary (.of main_call12_c_0 : StableHlo.TRef sig ⟨S_, .i32⟩) (.of main_call12_v2 : StableHlo.TRef sig ⟨S4096, .i32⟩) (broadcastInDim S4096 ![] bcast_S_S4096),
    StableHlo.TRef.binary (.of main_v122 : StableHlo.TRef sig ⟨S4096, .i32⟩) (.of main_call12_v2 : StableHlo.TRef sig ⟨S4096, .i32⟩) (.of main_call12_v3 : StableHlo.TRef sig ⟨S4096, .i32⟩) addi,
    StableHlo.TRef.ternary (.of main_call12_v1 : StableHlo.TRef sig ⟨S4096, .i1⟩) (.of main_call12_v3 : StableHlo.TRef sig ⟨S4096, .i32⟩) (.of main_v122 : StableHlo.TRef sig ⟨S4096, .i32⟩) (.of main_call12_v4 : StableHlo.TRef sig ⟨S4096, .i32⟩) select,
    StableHlo.TRef.unary (.of main_call12_v4 : StableHlo.TRef sig ⟨S4096, .i32⟩) (.of main_call12_v5 : StableHlo.TRef sig ⟨S4096x1, .i32⟩) (broadcastInDim S4096x1 ![0] bcast_S4096_S4096x1_0),
    StableHlo.TRef.nullary (.of main_call12_c_1 : StableHlo.TRef sig ⟨S1, .i32⟩) (constantI S1 32 1023#32),
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v6 : StableHlo.TRef sig ⟨S4096x1, .i32⟩) (broadcastInDim S4096x1 ![] bcast_S_S4096x1),
    StableHlo.TRef.binary (.of main_call12_v5 : StableHlo.TRef sig ⟨S4096x1, .i32⟩) (.of main_call12_v6 : StableHlo.TRef sig ⟨S4096x1, .i32⟩) (.of main_call12_v7 : StableHlo.TRef sig ⟨S4096x1, .i1⟩) (cmpi .sge),
    StableHlo.TRef.unary (.of main_call12_c_1 : StableHlo.TRef sig ⟨S1, .i32⟩) (.of main_call12_v8 : StableHlo.TRef sig ⟨S1x1, .i32⟩) (broadcastInDim S1x1 ![1] bcast_S1_S1x1_1),
    StableHlo.TRef.unary (.of main_call12_v8 : StableHlo.TRef sig ⟨S1x1, .i32⟩) (.of main_call12_v9 : StableHlo.TRef sig ⟨S4096x1, .i32⟩) (broadcastInDim S4096x1 ![0, 1] bcast_S1x1_S4096x1_0_1),
    StableHlo.TRef.binary (.of main_call12_v5 : StableHlo.TRef sig ⟨S4096x1, .i32⟩) (.of main_call12_v9 : StableHlo.TRef sig ⟨S4096x1, .i32⟩) (.of main_call12_v10 : StableHlo.TRef sig ⟨S4096x1, .i1⟩) (cmpi .sle),
    StableHlo.TRef.binary (.of main_call12_v7 : StableHlo.TRef sig ⟨S4096x1, .i1⟩) (.of main_call12_v10 : StableHlo.TRef sig ⟨S4096x1, .i1⟩) (.of main_call12_v11 : StableHlo.TRef sig ⟨S4096x1, .i1⟩) andi,
    StableHlo.TRef.nullary (.of main_call12_c_3 : StableHlo.TRef sig ⟨S_, .i1⟩) (constantI S_ 1 1#1),
    StableHlo.TRef.binary (.of main_call12_v11 : StableHlo.TRef sig ⟨S4096x1, .i1⟩) (.of main_call12_c_3 : StableHlo.TRef sig ⟨S_, .i1⟩) (.of main_call12_v12 : StableHlo.TRef sig ⟨S4096, .i1⟩) (fun x v => Host.reduce IntOp.andi x v reducesTo_S4096x1_S4096_d1 h_S_),
    StableHlo.TRef.binary (.of main_arg1 : StableHlo.TRef sig ⟨S1024x256, .f32⟩) (.of main_call12_v5 : StableHlo.TRef sig ⟨S4096x1, .i32⟩) (.of main_call12_v13 : StableHlo.TRef sig ⟨S4096x256, .f32⟩) (fun x i => Host.gather gather_S1024x256_S4096x1_S4096x256_1_0_n_n_0_1_1256 x i),
    StableHlo.TRef.unary (.of main_call12_v12 : StableHlo.TRef sig ⟨S4096, .i1⟩) (.of main_call12_v14 : StableHlo.TRef sig ⟨S4096x256, .i1⟩) (broadcastInDim S4096x256 ![0] bcast_S4096_S4096x256_0),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v15 : StableHlo.TRef sig ⟨S4096x256, .f32⟩) (broadcastInDim S4096x256 ![] bcast_S_S4096x256),
    StableHlo.TRef.ternary (.of main_call12_v14 : StableHlo.TRef sig ⟨S4096x256, .i1⟩) (.of main_call12_v13 : StableHlo.TRef sig ⟨S4096x256, .f32⟩) (.of main_call12_v15 : StableHlo.TRef sig ⟨S4096x256, .f32⟩) (.of main_v123 : StableHlo.TRef sig ⟨S4096x256, .f32⟩) select ]

theorem take3_sub : (take3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem take3_fresh : (take3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations: the codes back as a stack. -/
abbrev box3 : List (HloOp τ sig (Elt F)) :=
  [ StableHlo.reshape main_v123 main_v124 (rfl : (.f32 : EltTy) = .f32) shapeCasts_S4096x256_S32x128x256,
    StableHlo.unary main_v124 main_v125 ((transpose S32x256x128 [0, 2, 1] · transposes_S32x128x256_S32x256x128_0_2_1) : (⟨S32x128x256, .f32⟩ : BufTy).Contents (Elt F) → (⟨S32x256x128, .f32⟩ : BufTy).Contents (Elt F)) ]

theorem box3_sub : (box3 : List (HloOp τ sig (Elt F))).Forall fun op => op.bufs ⊆ StableHlo.tcRefs τ sig :=
  ⟨StableHlo.reshape_bufs_sub .., StableHlo.unary_bufs_sub ..⟩

theorem box3_fresh : (box3 : List (HloOp τ sig (Elt F))).Forall fun op => op.fresh = ∅ :=
  ⟨rfl, rfl⟩

/-- Operations: the change back to the full length. -/
abbrev up3 : List (HloOp τ sig (Elt F)) :=
  [ StableHlo.TRef.nullary (.of main_call13_cst : StableHlo.TRef sig ⟨S_, .f32⟩) (constant S_ .f32 0x3F000000#32),
    StableHlo.TRef.nullary (.of main_call13_cst_0 : StableHlo.TRef sig ⟨S_, .f32⟩) (constant S_ .f32 0x3F800000#32),
    StableHlo.TRef.binary (.of main_call13_cst : StableHlo.TRef sig ⟨S_, .f32⟩) (.of main_call13_cst_0 : StableHlo.TRef sig ⟨S_, .f32⟩) (.of main_call13_v0 : StableHlo.TRef sig ⟨S_, .f32⟩) maximumf,
    StableHlo.TRef.nullary (.of main_call13_v1 : StableHlo.TRef sig ⟨S256, .f32⟩) (sitofp .f32 (iotaInDim S256 32 0)),
    StableHlo.TRef.nullary (.of main_call13_cst_1 : StableHlo.TRef sig ⟨S_, .f32⟩) (constant S_ .f32 0x3F000000#32),
    StableHlo.TRef.unary (.of main_call13_cst_1 : StableHlo.TRef sig ⟨S_, .f32⟩) (.of main_call13_v2 : StableHlo.TRef sig ⟨S256, .f32⟩) (broadcastInDim S256 ![] bcast_S_S256),
    StableHlo.TRef.binary (.of main_call13_v1 : StableHlo.TRef sig ⟨S256, .f32⟩) (.of main_call13_v2 : StableHlo.TRef sig ⟨S256, .f32⟩) (.of main_call13_v3 : StableHlo.TRef sig ⟨S256, .f32⟩) addf,
    StableHlo.TRef.nullary (.of main_call13_cst_2 : StableHlo.TRef sig ⟨S_, .f32⟩) (constant S_ .f32 0x3F000000#32),
    StableHlo.TRef.unary (.of main_call13_cst_2 : StableHlo.TRef sig ⟨S_, .f32⟩) (.of main_call13_v4 : StableHlo.TRef sig ⟨S256, .f32⟩) (broadcastInDim S256 ![] bcast_S_S256),
    StableHlo.TRef.binary (.of main_call13_v3 : StableHlo.TRef sig ⟨S256, .f32⟩) (.of main_call13_v4 : StableHlo.TRef sig ⟨S256, .f32⟩) (.of main_call13_v5 : StableHlo.TRef sig ⟨S256, .f32⟩) mulf,
    StableHlo.TRef.nullary (.of main_call13_cst_3 : StableHlo.TRef sig ⟨S_, .f32⟩) (constant S_ .f32 0x00000000#32),
    StableHlo.TRef.unary (.of main_call13_cst_3 : StableHlo.TRef sig ⟨S_, .f32⟩) (.of main_call13_v6 : StableHlo.TRef sig ⟨S256, .f32⟩) (broadcastInDim S256 ![] bcast_S_S256),
    StableHlo.TRef.binary (.of main_call13_v5 : StableHlo.TRef sig ⟨S256, .f32⟩) (.of main_call13_v6 : StableHlo.TRef sig ⟨S256, .f32⟩) (.of main_call13_v7 : StableHlo.TRef sig ⟨S256, .f32⟩) subf,
    StableHlo.TRef.nullary (.of main_call13_cst_4 : StableHlo.TRef sig ⟨S_, .f32⟩) (constant S_ .f32 0x3F000000#32),
    StableHlo.TRef.unary (.of main_call13_cst_4 : StableHlo.TRef sig ⟨S_, .f32⟩) (.of main_call13_v8 : StableHlo.TRef sig ⟨S256, .f32⟩) (broadcastInDim S256 ![] bcast_S_S256),
    StableHlo.TRef.binary (.of main_call13_v7 : StableHlo.TRef sig ⟨S256, .f32⟩) (.of main_call13_v8 : StableHlo.TRef sig ⟨S256, .f32⟩) (.of main_call13_v9 : StableHlo.TRef sig ⟨S256, .f32⟩) subf,
    StableHlo.TRef.nullary (.of main_call13_v10 : StableHlo.TRef sig ⟨S128, .f32⟩) (sitofp .f32 (iotaInDim S128 32 0)),
    StableHlo.TRef.unary (.of main_call13_v9 : StableHlo.TRef sig ⟨S256, .f32⟩) (.of main_call13_v11 : StableHlo.TRef sig ⟨S1x256, .f32⟩) (broadcastInDim S1x256 ![1] bcast_S256_S1x256_1),
    StableHlo.TRef.unary (.of main_call13_v10 : StableHlo.TRef sig ⟨S128, .f32⟩) (.of main_call13_v12 : StableHlo.TRef sig ⟨S128x1, .f32⟩) (broadcastInDim S128x1 ![0] bcast_S128_S128x1_0),
    StableHlo.TRef.unary (.of main_call13_v11 : StableHlo.TRef sig ⟨S1x256, .f32⟩) (.of main_call13_v13 : StableHlo.TRef sig ⟨S128x256, .f32⟩) (broadcastInDim S128x256 ![0, 1] bcast_S1x256_S128x256_0_1),
    StableHlo.TRef.unary (.of main_call13_v12 : StableHlo.TRef sig ⟨S128x1, .f32⟩) (.of main_call13_v14 : StableHlo.TRef sig ⟨S128x256, .f32⟩) (broadcastInDim S128x256 ![0, 1] bcast_S128x1_S128x256_0_1),
    StableHlo.TRef.binary (.of main_call13_v13 : StableHlo.TRef sig ⟨S128x256, .f32⟩) (.of main_call13_v14 : StableHlo.TRef sig ⟨S128x256, .f32⟩) (.of main_call13_v15 : StableHlo.TRef sig ⟨S128x256, .f32⟩) subf,
    StableHlo.TRef.unary (.of main_call13_v15 : StableHlo.TRef sig ⟨S128x256, .f32⟩) (.of main_call13_v16 : StableHlo.TRef sig ⟨S128x256, .f32⟩) Host.absf,
    StableHlo.TRef.unary (.of main_call13_v0 : StableHlo.TRef sig ⟨S_, .f32⟩) (.of main_call13_v17 : StableHlo.TRef sig ⟨S_, .f32⟩) id,
    StableHlo.TRef.unary (.of main_call13_v17 : StableHlo.TRef sig ⟨S_, .f32⟩) (.of main_call13_v18 : StableHlo.TRef sig ⟨S128x256, .f32⟩) (broadcastInDim S128x256 ![] bcast_S_S128x256),
    StableHlo.TRef.binary (.of main_call13_v16 : StableHlo.TRef sig ⟨S128x256, .f32⟩) (.of main_call13_v18 : StableHlo.TRef sig ⟨S128x256, .f32⟩) (.of main_call13_v19 : StableHlo.TRef sig ⟨S128x256, .f32⟩) Host.divf,
    StableHlo.TRef.unary (.of main_call13_v19 : StableHlo.TRef sig ⟨S128x256, .f32⟩) (.of main_call13_v20 : StableHlo.TRef sig ⟨S128x256, .f32⟩) Host.absf,
    StableHlo.TRef.nullary (.of main_call13_cst_5 : StableHlo.TRef sig ⟨S_, .f32⟩) (constant S_ .f32 0x3F800000#32),
    StableHlo.TRef.unary (.of main_call13_cst_5 : StableHlo.TRef sig ⟨S_, .f32⟩) (.of main_call13_v21 : StableHlo.TRef sig ⟨S128x256, .f32⟩) (broadcastInDim S128x256 ![] bcast_S_S128x256),
    StableHlo.TRef.binary (.of main_call13_v21 : StableHlo.TRef sig ⟨S128x256, .f32⟩) (.of main_call13_v20 : StableHlo.TRef sig ⟨S128x256, .f32⟩) (.of main_call13_v22 : StableHlo.TRef sig ⟨S128x256, .f32⟩) subf,
    StableHlo.TRef.nullary (.of main_call13_cst_6 : StableHlo.TRef sig ⟨S_, .f32⟩) (constant S_ .f32 0x00000000#32),
    StableHlo.TRef.unary (.of main_call13_cst_6 : StableHlo.TRef sig ⟨S_, .f32⟩) (.of main_call13_v23 : StableHlo.TRef sig ⟨S128x256, .f32⟩) (broadcastInDim S128x256 ![] bcast_S_S128x256),
    StableHlo.TRef.binary (.of main_call13_v23 : StableHlo.TRef sig ⟨S128x256, .f32⟩) (.of main_call13_v22 : StableHlo.TRef sig ⟨S128x256, .f32⟩) (.of main_call13_v24 : StableHlo.TRef sig ⟨S128x256, .f32⟩) maximumf,
    StableHlo.TRef.nullary (.of main_call13_cst_7 : StableHlo.TRef sig ⟨S_, .f32⟩) (constant S_ .f32 0x00000000#32),
    StableHlo.TRef.binary (.of main_call13_v24 : StableHlo.TRef sig ⟨S128x256, .f32⟩) (.of main_call13_cst_7 : StableHlo.TRef sig ⟨S_, .f32⟩) (.of main_call13_v25 : StableHlo.TRef sig ⟨S256, .f32⟩) (fun x v => Host.reduceAdd x v reducesTo_S128x256_S256_d0 h_S_),
    StableHlo.TRef.unary (.of main_call13_v25 : StableHlo.TRef sig ⟨S256, .f32⟩) (.of main_call13_v26 : StableHlo.TRef sig ⟨S1x256, .f32⟩) (broadcastInDim S1x256 ![1] bcast_S256_S1x256_1),
    StableHlo.TRef.unary (.of main_call13_v26 : StableHlo.TRef sig ⟨S1x256, .f32⟩) (.of main_call13_v27 : StableHlo.TRef sig ⟨S1x256, .f32⟩) Host.absf,
    StableHlo.TRef.nullary (.of main_call13_cst_8 : StableHlo.TRef sig ⟨S_, .f32⟩) (constant S_ .f32 0x38FA0000#32),
    StableHlo.TRef.unary (.of main_call13_cst_8 : StableHlo.TRef sig ⟨S_, .f32⟩) (.of main_call13_v28 : StableHlo.TRef sig ⟨S1x256, .f32⟩) (broadcastInDim S1x256 ![] bcast_S_S1x256),
    StableHlo.TRef.binary (.of main_call13_v27 : StableHlo.TRef sig ⟨S1x256, .f32⟩) (.of main_call13_v28 : StableHlo.TRef sig ⟨S1x256, .f32⟩) (.of main_call13_v29 : StableHlo.TRef sig ⟨S1x256, .i1⟩) (cmpf .ogt),
    StableHlo.TRef.nullary (.of main_call13_cst_9 : StableHlo.TRef sig ⟨S_, .f32⟩) (constant S_ .f32 0x00000000#32),
    StableHlo.TRef.unary (.of main_call13_cst_9 : StableHlo.TRef sig ⟨S_, .f32⟩) (.of main_call13_v30 : StableHlo.TRef sig ⟨S1x256, .f32⟩) (broadcastInDim S1x256 ![] bcast_S_S1x256),
    StableHlo.TRef.binary (.of main_call13_v26 : StableHlo.TRef sig ⟨S1x256, .f32⟩) (.of main_call13_v30 : StableHlo.TRef sig ⟨S1x256, .f32⟩) (.of main_call13_v31 : StableHlo.TRef sig ⟨S1x256, .i1⟩) (cmpf .une),
    StableHlo.TRef.nullary (.of main_call13_c : StableHlo.TRef sig ⟨S_, .i32⟩) (constantI S_ 32 1#32),
    StableHlo.TRef.unary (.of main_call13_c : StableHlo.TRef sig ⟨S_, .i32⟩) (.of main_call13_call0_v0 : StableHlo.TRef sig ⟨S_, .f32⟩) (sitofp .f32),
    StableHlo.TRef.unary (.of main_call13_call0_v0 : StableHlo.TRef sig ⟨S_, .f32⟩) (.of main_call13_call0_v1 : StableHlo.TRef sig ⟨S1x256, .f32⟩) (broadcastInDim S1x256 ![] bcast_S_S1x256),
    StableHlo.TRef.ternary (.of main_call13_v31 : StableHlo.TRef sig ⟨S1x256, .i1⟩) (.of main_call13_v26 : StableHlo.TRef sig ⟨S1x256, .f32⟩) (.of main_call13_call0_v1 : StableHlo.TRef sig ⟨S1x256, .f32⟩) (.of main_call13_v32 : StableHlo.TRef sig ⟨S1x256, .f32⟩) select,
    StableHlo.TRef.unary (.of main_call13_v32 : StableHlo.TRef sig ⟨S1x256, .f32⟩) (.of main_call13_v33 : StableHlo.TRef sig ⟨S128x256, .f32⟩) (broadcastInDim S128x256 ![0, 1] bcast_S1x256_S128x256_0_1),
    StableHlo.TRef.binary (.of main_call13_v24 : StableHlo.TRef sig ⟨S128x256, .f32⟩) (.of main_call13_v33 : StableHlo.TRef sig ⟨S128x256, .f32⟩) (.of main_call13_v34 : StableHlo.TRef sig ⟨S128x256, .f32⟩) Host.divf,
    StableHlo.TRef.nullary (.of main_call13_c_10 : StableHlo.TRef sig ⟨S_, .i32⟩) (constantI S_ 32 0#32),
    StableHlo.TRef.unary (.of main_call13_c_10 : StableHlo.TRef sig ⟨S_, .i32⟩) (.of main_call13_call1_v0 : StableHlo.TRef sig ⟨S_, .f32⟩) (sitofp .f32),
    StableHlo.TRef.unary (.of main_call13_v29 : StableHlo.TRef sig ⟨S1x256, .i1⟩) (.of main_call13_call1_v1 : StableHlo.TRef sig ⟨S128x256, .i1⟩) (broadcastInDim S128x256 ![0, 1] bcast_S1x256_S128x256_0_1),
    StableHlo.TRef.unary (.of main_call13_call1_v0 : StableHlo.TRef sig ⟨S_, .f32⟩) (.of main_call13_call1_v2 : StableHlo.TRef sig ⟨S128x256, .f32⟩) (broadcastInDim S128x256 ![] bcast_S_S128x256),
    StableHlo.TRef.ternary (.of main_call13_call1_v1 : StableHlo.TRef sig ⟨S128x256, .i1⟩) (.of main_call13_v34 : StableHlo.TRef sig ⟨S128x256, .f32⟩) (.of main_call13_call1_v2 : StableHlo.TRef sig ⟨S128x256, .f32⟩) (.of main_call13_v35 : StableHlo.TRef sig ⟨S128x256, .f32⟩) select,
    StableHlo.TRef.nullary (.of main_call13_cst_11 : StableHlo.TRef sig ⟨S_, .f32⟩) (constant S_ .f32 0xBF000000#32),
    StableHlo.TRef.unary (.of main_call13_cst_11 : StableHlo.TRef sig ⟨S_, .f32⟩) (.of main_call13_v36 : StableHlo.TRef sig ⟨S256, .f32⟩) (broadcastInDim S256 ![] bcast_S_S256),
    StableHlo.TRef.binary (.of main_call13_v9 : StableHlo.TRef sig ⟨S256, .f32⟩) (.of main_call13_v36 : StableHlo.TRef sig ⟨S256, .f32⟩) (.of main_call13_v37 : StableHlo.TRef sig ⟨S256, .i1⟩) (cmpf .oge),
    StableHlo.TRef.nullary (.of main_call13_cst_12 : StableHlo.TRef sig ⟨S_, .f32⟩) (constant S_ .f32 0x42FF0000#32),
    StableHlo.TRef.unary (.of main_call13_cst_12 : StableHlo.TRef sig ⟨S_, .f32⟩) (.of main_call13_v38 : StableHlo.TRef sig ⟨S256, .f32⟩) (broadcastInDim S256 ![] bcast_S_S256),
    StableHlo.TRef.binary (.of main_call13_v9 : StableHlo.TRef sig ⟨S256, .f32⟩) (.of main_call13_v38 : StableHlo.TRef sig ⟨S256, .f32⟩) (.of main_call13_v39 : StableHlo.TRef sig ⟨S256, .i1⟩) (cmpf .ole),
    StableHlo.TRef.binary (.of main_call13_v37 : StableHlo.TRef sig ⟨S256, .i1⟩) (.of main_call13_v39 : StableHlo.TRef sig ⟨S256, .i1⟩) (.of main_call13_v40 : StableHlo.TRef sig ⟨S256, .i1⟩) andi,
    StableHlo.TRef.unary (.of main_call13_v40 : StableHlo.TRef sig ⟨S256, .i1⟩) (.of main_call13_v41 : StableHlo.TRef sig ⟨S1x256, .i1⟩) (broadcastInDim S1x256 ![1] bcast_S256_S1x256_1),
    StableHlo.TRef.nullary (.of main_call13_c_13 : StableHlo.TRef sig ⟨S_, .i32⟩) (constantI S_ 32 0#32),
    StableHlo.TRef.unary (.of main_call13_c_13 : StableHlo.TRef sig ⟨S_, .i32⟩) (.of main_call13_call2_v0 : StableHlo.TRef sig ⟨S_, .f32⟩) (sitofp .f32),
    StableHlo.TRef.unary (.of main_call13_v41 : StableHlo.TRef sig ⟨S1x256, .i1⟩) (.of main_call13_call2_v1 : StableHlo.TRef sig ⟨S128x256, .i1⟩) (broadcastInDim S128x256 ![0, 1] bcast_S1x256_S128x256_0_1),
    StableHlo.TRef.unary (.of main_call13_call2_v0 : StableHlo.TRef sig ⟨S_, .f32⟩) (.of main_call13_call2_v2 : StableHlo.TRef sig ⟨S128x256, .f32⟩) (broadcastInDim S128x256 ![] bcast_S_S128x256),
    StableHlo.TRef.ternary (.of main_call13_call2_v1 : StableHlo.TRef sig ⟨S128x256, .i1⟩) (.of main_call13_v35 : StableHlo.TRef sig ⟨S128x256, .f32⟩) (.of main_call13_call2_v2 : StableHlo.TRef sig ⟨S128x256, .f32⟩) (.of main_call13_v42 : StableHlo.TRef sig ⟨S128x256, .f32⟩) select,
    StableHlo.TRef.binary (.of main_v125 : StableHlo.TRef sig ⟨S32x256x128, .f32⟩) (.of main_call13_v42 : StableHlo.TRef sig ⟨S128x256, .f32⟩) (.of main_v126 : StableHlo.TRef sig ⟨S32x256x256, .f32⟩) (fun l r => Host.dotGeneral dot_S32x256x128_S128x256_S32x256x256_2_0_01_1_n_n (some .fp32) l r) ]

theorem up3_sub : (up3 : List (HloOp τ sig (Elt F))).Forall fun op => op.bufs ⊆ StableHlo.tcRefs τ sig :=
  ⟨StableHlo.nullary_bufs_sub .., StableHlo.nullary_bufs_sub .., StableHlo.binary_bufs_sub .., StableHlo.nullary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.unary_bufs_sub .., StableHlo.unary_bufs_sub .., StableHlo.ternary_bufs_sub .., StableHlo.binary_bufs_sub ..⟩

theorem up3_fresh : (up3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Operations: what the stage's filter needs. -/
abbrev prep3 : List (HloOp τ sig (Elt F)) :=
  [ StableHlo.nullary main_cst_12 (constant S_ .f32 0x3F000000#32),
    StableHlo.unary main_cst_12 main_v127 (broadcastInDim S32x256x256 ![] bcast_S_S32x256x256 : (⟨S_, .f32⟩ : BufTy).Contents (Elt F) → (⟨S32x256x256, .f32⟩ : BufTy).Contents (Elt F)),
    StableHlo.binary main_v126 main_v127 main_v128 (mulf : (⟨S32x256x256, .f32⟩ : BufTy).Contents (Elt F) → (⟨S32x256x256, .f32⟩ : BufTy).Contents (Elt F) → (⟨S32x256x256, .f32⟩ : BufTy).Contents (Elt F)),
    StableHlo.unary main_arg2 main_v129 ((extractStridedSlice S1x256x256x3 ![2, 0, 0, 0] · slices_S4x256x256x3_S1x256x256x3_2_0_0_0) : (⟨S4x256x256x3, .f32⟩ : BufTy).Contents (Elt F) → (⟨S1x256x256x3, .f32⟩ : BufTy).Contents (Elt F)),
    StableHlo.reshape main_v129 main_v130 (rfl : (.f32 : EltTy) = .f32) shapeCasts_S1x256x256x3_S256x256x3,
    StableHlo.unary main_arg3 main_v131 ((extractStridedSlice S1x256 ![2, 0] · slices_S4x256_S1x256_2_0) : (⟨S4x256, .f32⟩ : BufTy).Contents (Elt F) → (⟨S1x256, .f32⟩ : BufTy).Contents (Elt F)),
    StableHlo.reshape main_v131 main_v132 (rfl : (.f32 : EltTy) = .f32) shapeCasts_S1x256_S256,
    StableHlo.nullary main_c_13 (constantI S_ 32 0#32) ]

theorem prep3_sub : (prep3 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub ..⟩

theorem prep3_fresh : (prep3 : List (HloOp τ sig (Elt F))).Forall fun op => op.fresh = ∅ :=
  ⟨rfl, rfl, rfl, rfl, rfl, rfl, rfl, rfl⟩

/-- Operations: the zeros on both sides. -/
abbrev pad3 : List (HloOp τ sig (Elt F)) :=
  [ StableHlo.TRef.unary (.of main_c_13 : StableHlo.TRef sig ⟨S_, .i32⟩) (.of main_call14_v0 : StableHlo.TRef sig ⟨S_, .f32⟩) (sitofp .f32),
    StableHlo.TRef.binary (.of main_v126 : StableHlo.TRef sig ⟨S32x256x256, .f32⟩) (.of main_call14_v0 : StableHlo.TRef sig ⟨S_, .f32⟩) (.of main_v133 : StableHlo.TRef sig ⟨S32x256x258, .f32⟩) (fun x v => pad S32x256x258 ![0, 0, 1] ![0, 0, 1] ![0, 0, 0] x v pads_S32x256x256_S32x256x258_000_000_110 h_S_) ]

theorem pad3_sub : (pad3 : List (HloOp τ sig (Elt F))).Forall fun op => op.bufs ⊆ StableHlo.tcRefs τ sig :=
  ⟨StableHlo.unary_bufs_sub .., StableHlo.binary_bufs_sub ..⟩

theorem pad3_fresh : (pad3 : List (HloOp τ sig (Elt F))).Forall fun op => op.fresh = ∅ :=
  ⟨rfl, rfl⟩

/-- Operations: the filter, the sum and the remainder. -/
abbrev mix3 : List (HloOp τ sig (Elt F)) :=
  [ StableHlo.unary main_v130 main_v134 ((extractStridedSlice S256x256x1 ![0, 0, 0] · slices_S256x256x3_S256x256x1_0_0_0) : (⟨S256x256x3, .f32⟩ : BufTy).Contents (Elt F) → (⟨S256x256x1, .f32⟩ : BufTy).Contents (Elt F)),
    StableHlo.reshape main_v134 main_v135 (rfl : (.f32 : EltTy) = .f32) shapeCasts_S256x256x1_S256x256,
    StableHlo.unary main_v133 main_v136 ((extractStridedSlice S32x256x256 ![0, 0, 0] · slices_S32x256x258_S32x256x256_0_0_0) : (⟨S32x256x258, .f32⟩ : BufTy).Contents (Elt F) → (⟨S32x256x256, .f32⟩ : BufTy).Contents (Elt F)),
    StableHlo.binary main_v136 main_v135 main_v137 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v137 main_v138 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v130 main_v139 ((extractStridedSlice S256x256x1 ![0, 0, 1] · slices_S256x256x3_S256x256x1_0_0_1) : (⟨S256x256x3, .f32⟩ : BufTy).Contents (Elt F) → (⟨S256x256x1, .f32⟩ : BufTy).Contents (Elt F)),
    StableHlo.reshape main_v139 main_v140 (rfl : (.f32 : EltTy) = .f32) shapeCasts_S256x256x1_S256x256,
    StableHlo.unary main_v133 main_v141 ((extractStridedSlice S32x256x256 ![0, 0, 1] · slices_S32x256x258_S32x256x256_0_0_1) : (⟨S32x256x258, .f32⟩ : BufTy).Contents (Elt F) → (⟨S32x256x256, .f32⟩ : BufTy).Contents (Elt F)),
    StableHlo.binary main_v141 main_v140 main_v142 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v142 main_v143 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v130 main_v144 ((extractStridedSlice S256x256x1 ![0, 0, 2] · slices_S256x256x3_S256x256x1_0_0_2) : (⟨S256x256x3, .f32⟩ : BufTy).Contents (Elt F) → (⟨S256x256x1, .f32⟩ : BufTy).Contents (Elt F)),
    StableHlo.reshape main_v144 main_v145 (rfl : (.f32 : EltTy) = .f32) shapeCasts_S256x256x1_S256x256,
    StableHlo.unary main_v133 main_v146 ((extractStridedSlice S32x256x256 ![0, 0, 2] · slices_S32x256x258_S32x256x256_0_0_2) : (⟨S32x256x258, .f32⟩ : BufTy).Contents (Elt F) → (⟨S32x256x256, .f32⟩ : BufTy).Contents (Elt F)),
    StableHlo.binary main_v146 main_v145 main_v147 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v147 main_v148 ((transpose S32x256x256 [0, 2, 1] · transposes_S32x256x256_S32x256x256_0_2_1) : (⟨S32x256x256, .f32⟩ : BufTy).Contents (Elt F) → (⟨S32x256x256, .f32⟩ : BufTy).Contents (Elt F)),
    StableHlo.binary main_v138 main_v143 main_v149 (addf : (⟨S32x256x256, .f32⟩ : BufTy).Contents (Elt F) → (⟨S32x256x256, .f32⟩ : BufTy).Contents (Elt F) → (⟨S32x256x256, .f32⟩ : BufTy).Contents (Elt F)),
    StableHlo.binary main_v149 main_v148 main_v150 (addf : (⟨S32x256x256, .f32⟩ : BufTy).Contents (Elt F) → (⟨S32x256x256, .f32⟩ : BufTy).Contents (Elt F) → (⟨S32x256x256, .f32⟩ : BufTy).Contents (Elt F)),
    StableHlo.unary main_v132 main_v151 (broadcastInDim S1x256x1 ![1] bcast_S256_S1x256x1_1 : (⟨S256, .f32⟩ : BufTy).Contents (Elt F) → (⟨S1x256x1, .f32⟩ : BufTy).Contents (Elt F)),
    StableHlo.unary main_v151 main_v152 (broadcastInDim S32x256x256 ![0, 1, 2] bcast_S1x256x1_S32x256x256_0_1_2 : (⟨S1x256x1, .f32⟩ : BufTy).Contents (Elt F) → (⟨S32x256x256, .f32⟩ : BufTy).Contents (Elt F)),
    StableHlo.binary main_v150 main_v152 main_v153 (addf : (⟨S32x256x256, .f32⟩ : BufTy).Contents (Elt F) → (⟨S32x256x256, .f32⟩ : BufTy).Contents (Elt F) → (⟨S32x256x256, .f32⟩ : BufTy).Contents (Elt F)),
    StableHlo.nullary main_cst_14 (constant S_ .f32 0x3F000000#32),
    StableHlo.unary main_cst_14 main_v154 (broadcastInDim S32x256x256 ![] bcast_S_S32x256x256 : (⟨S_, .f32⟩ : BufTy).Contents (Elt F) → (⟨S32x256x256, .f32⟩ : BufTy).Contents (Elt F)),
    StableHlo.binary main_v153 main_v154 main_v155 (mulf : (⟨S32x256x256, .f32⟩ : BufTy).Contents (Elt F) → (⟨S32x256x256, .f32⟩ : BufTy).Contents (Elt F) → (⟨S32x256x256, .f32⟩ : BufTy).Contents (Elt F)),
    StableHlo.binary main_v128 main_v155 main_v156 (addf : (⟨S32x256x256, .f32⟩ : BufTy).Contents (Elt F) → (⟨S32x256x256, .f32⟩ : BufTy).Contents (Elt F) → (⟨S32x256x256, .f32⟩ : BufTy).Contents (Elt F)),
    StableHlo.binary main_v105 main_v156 main_v157 (addf : (⟨S32x256x256, .f32⟩ : BufTy).Contents (Elt F) → (⟨S32x256x256, .f32⟩ : BufTy).Contents (Elt F) → (⟨S32x256x256, .f32⟩ : BufTy).Contents (Elt F)),
    StableHlo.binary main_v106 main_v156 main_v158 (subf : (⟨S32x256x256, .f32⟩ : BufTy).Contents (Elt F) → (⟨S32x256x256, .f32⟩ : BufTy).Contents (Elt F) → (⟨S32x256x256, .f32⟩ : BufTy).Contents (Elt F)) ]

theorem mix3_sub : (mix3 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩

theorem mix3_fresh : (mix3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

end Cert.Proof.Ref
-- ==== Proof.RefOps4.lean ====
/- The operations of the reference, last stage. -/
module

public import proofs.«01_k».proof.ReferenceIdeal
public import Idealize.ShloMosaic.PureOps.Ideal
public import Idealize.ShloMosaic.Lib.StableHlo.RunRead
public import Idealize.ShloMosaic.Lib.StableHlo.RunHlo

@[expose] public section

set_option synthInstance.maxSize 4096

noncomputable section

namespace Cert.Proof.Ref

open Idealize.ShloMosaic Idealize.SL.Sem
open Cert.ReferenceIdeal Cert.ReferenceIdeal.Facts₀ Cert.ReferenceIdeal.Facts

variable {F : FTy → Type} [FloatOps F] [Cert.ReferenceIdeal.Facts]

/-- Operations: the distances to the codes. -/
abbrev gap4a : List (HloOp τ sig (Elt F)) :=
  [ StableHlo.unary main_v158 main_v159 ((transpose S32x256x256 [0, 2, 1] · transposes_S32x256x256_S32x256x256_0_2_1) : (⟨S32x256x256, .f32⟩ : BufTy).Contents (Elt F) → (⟨S32x256x256, .f32⟩ : BufTy).Contents (Elt F)),
    StableHlo.reshape main_v159 main_v160 (rfl : (.f32 : EltTy) = .f32) shapeCasts_S32x256x256_S8192x256,
    StableHlo.binary main_v160 main_v160 main_v161 (mulf : (⟨S8192x256, .f32⟩ : BufTy).Contents (Elt F) → (⟨S8192x256, .f32⟩ : BufTy).Contents (Elt F) → (⟨S8192x256, .f32⟩ : BufTy).Contents (Elt F)),
    StableHlo.nullary main_cst_15 (constant S_ .f32 0x00000000#32) ]

theorem gap4a_sub : (gap4a : List (HloOp τ sig (Elt F))).Forall fun op => op.bufs ⊆ StableHlo.tcRefs τ sig :=
  ⟨StableHlo.unary_bufs_sub .., StableHlo.reshape_bufs_sub .., StableHlo.binary_bufs_sub .., StableHlo.nullary_bufs_sub ..⟩

theorem gap4a_fresh : (gap4a : List (HloOp τ sig (Elt F))).Forall fun op => op.fresh = ∅ :=
  ⟨rfl, rfl, rfl, rfl⟩

/-- Operations: the distances to the codes. -/
abbrev gap4b : List (HloOp τ sig (Elt F)) :=
  [ StableHlo.binary main_v161 main_cst_15 main_v162 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    StableHlo.unary main_v162 main_v163 (broadcastInDim S8192x1 ![0] bcast_S8192_S8192x1_0 : (⟨S8192, .f32⟩ : BufTy).Contents (Elt F) → (⟨S8192x1, .f32⟩ : BufTy).Contents (Elt F)),
    StableHlo.unary main_arg1 main_v164 ((transpose S256x1024 [1, 0] · transposes_S1024x256_S256x1024_1_0) : (⟨S1024x256, .f32⟩ : BufTy).Contents (Elt F) → (⟨S256x1024, .f32⟩ : BufTy).Contents (Elt F)),
    StableHlo.binary main_v160 main_v164 main_v165 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    StableHlo.nullary main_cst_16 (constant S_ .f32 0x40000000#32),
    StableHlo.unary main_cst_16 main_v166 (broadcastInDim S8192x1024 ![] bcast_S_S8192x1024 : (⟨S_, .f32⟩ : BufTy).Contents (Elt F) → (⟨S8192x1024, .f32⟩ : BufTy).Contents (Elt F)),
    StableHlo.binary main_v166 main_v165 main_v167 (mulf : (⟨S8192x1024, .f32⟩ : BufTy).Contents (Elt F) → (⟨S8192x1024, .f32⟩ : BufTy).Contents (Elt F) → (⟨S8192x1024, .f32⟩ : BufTy).Contents (Elt F)),
    StableHlo.unary main_v163 main_v168 (broadcastInDim S8192x1024 ![0, 1] bcast_S8192x1_S8192x1024_0_1 : (⟨S8192x1, .f32⟩ : BufTy).Contents (Elt F) → (⟨S8192x1024, .f32⟩ : BufTy).Contents (Elt F)),
    StableHlo.binary main_v168 main_v167 main_v169 (subf : (⟨S8192x1024, .f32⟩ : BufTy).Contents (Elt F) → (⟨S8192x1024, .f32⟩ : BufTy).Contents (Elt F) → (⟨S8192x1024, .f32⟩ : BufTy).Contents (Elt F)),
    StableHlo.unary main_v2 main_v170 (broadcastInDim S1x1024 ![1] bcast_S1024_S1x1024_1 : (⟨S1024, .f32⟩ : BufTy).Contents (Elt F) → (⟨S1x1024, .f32⟩ : BufTy).Contents (Elt F)),
    StableHlo.unary main_v170 main_v171 (broadcastInDim S8192x1024 ![0, 1] bcast_S1x1024_S8192x1024_0_1 : (⟨S1x1024, .f32⟩ : BufTy).Contents (Elt F) → (⟨S8192x1024, .f32⟩ : BufTy).Contents (Elt F)),
    StableHlo.binary main_v169 main_v171 main_v172 (addf : (⟨S8192x1024, .f32⟩ : BufTy).Contents (Elt F) → (⟨S8192x1024, .f32⟩ : BufTy).Contents (Elt F) → (⟨S8192x1024, .f32⟩ : BufTy).Contents (Elt F)) ]

theorem gap4b_sub : (gap4b : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩

theorem gap4b_fresh : (gap4b : List (HloOp τ sig (Elt F))).Forall fun op => op.fresh = ∅ :=
  ⟨rfl, rfl, rfl, rfl, rfl, rfl, rfl, rfl, rfl, rfl, rfl, rfl⟩

/-- Operations: the place of the nearest code. -/
abbrev least4 : List (HloOp τ sig (Elt F)) :=
  [ StableHlo.TRef.nullary (.of main_call15_v0 : StableHlo.TRef sig ⟨S8192x1024, .i32⟩) (iotaInDim S8192x1024 32 1),
    StableHlo.TRef.nullary (.of main_call15_cst : StableHlo.TRef sig ⟨S_, .f32⟩) (constant S_ .f32 0x7F800000#32),
    StableHlo.TRef.nullary (.of main_call15_c : StableHlo.TRef sig ⟨S_, .i32⟩) (constantI S_ 32 0#32),
    StableHlo.TRef.quaternary (.of main_v172 : StableHlo.TRef sig ⟨S8192x1024, .f32⟩) (.of main_call15_v0 : StableHlo.TRef sig ⟨S8192x1024, .i32⟩) (.of main_call15_cst : StableHlo.TRef sig ⟨S_, .f32⟩) (.of main_call15_c : StableHlo.TRef sig ⟨S_, .i32⟩) (.of main_call15_v1_0 : StableHlo.TRef sig ⟨S8192, .f32⟩) (fun x y u v j => (Host.argReduce reducer_argmin_f32_i32 x y u v reducesTo_S8192x1024_S8192_d1 h_S_ j).1),
    StableHlo.TRef.quaternary (.of main_v172 : StableHlo.TRef sig ⟨S8192x1024, .f32⟩) (.of main_call15_v0 : StableHlo.TRef sig ⟨S8192x1024, .i32⟩) (.of main_call15_cst : StableHlo.TRef sig ⟨S_, .f32⟩) (.of main_call15_c : StableHlo.TRef sig ⟨S_, .i32⟩) (.of main_v173 : StableHlo.TRef sig ⟨S8192, .i32⟩) (fun x y u v j => (Host.argReduce reducer_argmin_f32_i32 x y u v reducesTo_S8192x1024_S8192_d1 h_S_ j).2) ]

theorem least4_sub : (least4 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem least4_fresh : (least4 : List (HloOp τ sig (Elt F))).Forall fun op => op.fresh = ∅ :=
  ⟨rfl, rfl, rfl, rfl, rfl⟩

/-- Operations: the nearest code. -/
abbrev take4 : List (HloOp τ sig (Elt F)) :=
  [ StableHlo.TRef.nullary (.of main_call16_c : StableHlo.TRef sig ⟨S_, .i32⟩) (constantI S_ 32 0#32),
    StableHlo.TRef.unary (.of main_call16_c : StableHlo.TRef sig ⟨S_, .i32⟩) (.of main_call16_v0 : StableHlo.TRef sig ⟨S8192, .i32⟩) (broadcastInDim S8192 ![] bcast_S_S8192),
    StableHlo.TRef.binary (.of main_v173 : StableHlo.TRef sig ⟨S8192, .i32⟩) (.of main_call16_v0 : StableHlo.TRef sig ⟨S8192, .i32⟩) (.of main_call16_v1 : StableHlo.TRef sig ⟨S8192, .i1⟩) (cmpi .slt),
    StableHlo.TRef.nullary (.of main_call16_c_0 : StableHlo.TRef sig ⟨S_, .i32⟩) (constantI S_ 32 1024#32),
    StableHlo.TRef.unary (.of main_call16_c_0 : StableHlo.TRef sig ⟨S_, .i32⟩) (.of main_call16_v2 : StableHlo.TRef sig ⟨S8192, .i32⟩) (broadcastInDim S8192 ![] bcast_S_S8192),
    StableHlo.TRef.binary (.of main_v173 : StableHlo.TRef sig ⟨S8192, .i32⟩) (.of main_call16_v2 : StableHlo.TRef sig ⟨S8192, .i32⟩) (.of main_call16_v3 : StableHlo.TRef sig ⟨S8192, .i32⟩) addi,
    StableHlo.TRef.ternary (.of main_call16_v1 : StableHlo.TRef sig ⟨S8192, .i1⟩) (.of main_call16_v3 : StableHlo.TRef sig ⟨S8192, .i32⟩) (.of main_v173 : StableHlo.TRef sig ⟨S8192, .i32⟩) (.of main_call16_v4 : StableHlo.TRef sig ⟨S8192, .i32⟩) select,
    StableHlo.TRef.unary (.of main_call16_v4 : StableHlo.TRef sig ⟨S8192, .i32⟩) (.of main_call16_v5 : StableHlo.TRef sig ⟨S8192x1, .i32⟩) (broadcastInDim S8192x1 ![0] bcast_S8192_S8192x1_0),
    StableHlo.TRef.nullary (.of main_call16_c_1 : StableHlo.TRef sig ⟨S1, .i32⟩) (constantI S1 32 1023#32),
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v6 : StableHlo.TRef sig ⟨S8192x1, .i32⟩) (broadcastInDim S8192x1 ![] bcast_S_S8192x1),
    StableHlo.TRef.binary (.of main_call16_v5 : StableHlo.TRef sig ⟨S8192x1, .i32⟩) (.of main_call16_v6 : StableHlo.TRef sig ⟨S8192x1, .i32⟩) (.of main_call16_v7 : StableHlo.TRef sig ⟨S8192x1, .i1⟩) (cmpi .sge),
    StableHlo.TRef.unary (.of main_call16_c_1 : StableHlo.TRef sig ⟨S1, .i32⟩) (.of main_call16_v8 : StableHlo.TRef sig ⟨S1x1, .i32⟩) (broadcastInDim S1x1 ![1] bcast_S1_S1x1_1),
    StableHlo.TRef.unary (.of main_call16_v8 : StableHlo.TRef sig ⟨S1x1, .i32⟩) (.of main_call16_v9 : StableHlo.TRef sig ⟨S8192x1, .i32⟩) (broadcastInDim S8192x1 ![0, 1] bcast_S1x1_S8192x1_0_1),
    StableHlo.TRef.binary (.of main_call16_v5 : StableHlo.TRef sig ⟨S8192x1, .i32⟩) (.of main_call16_v9 : StableHlo.TRef sig ⟨S8192x1, .i32⟩) (.of main_call16_v10 : StableHlo.TRef sig ⟨S8192x1, .i1⟩) (cmpi .sle),
    StableHlo.TRef.binary (.of main_call16_v7 : StableHlo.TRef sig ⟨S8192x1, .i1⟩) (.of main_call16_v10 : StableHlo.TRef sig ⟨S8192x1, .i1⟩) (.of main_call16_v11 : StableHlo.TRef sig ⟨S8192x1, .i1⟩) andi,
    StableHlo.TRef.nullary (.of main_call16_c_3 : StableHlo.TRef sig ⟨S_, .i1⟩) (constantI S_ 1 1#1),
    StableHlo.TRef.binary (.of main_call16_v11 : StableHlo.TRef sig ⟨S8192x1, .i1⟩) (.of main_call16_c_3 : StableHlo.TRef sig ⟨S_, .i1⟩) (.of main_call16_v12 : StableHlo.TRef sig ⟨S8192, .i1⟩) (fun x v => Host.reduce IntOp.andi x v reducesTo_S8192x1_S8192_d1 h_S_),
    StableHlo.TRef.binary (.of main_arg1 : StableHlo.TRef sig ⟨S1024x256, .f32⟩) (.of main_call16_v5 : StableHlo.TRef sig ⟨S8192x1, .i32⟩) (.of main_call16_v13 : StableHlo.TRef sig ⟨S8192x256, .f32⟩) (fun x i => Host.gather gather_S1024x256_S8192x1_S8192x256_1_0_n_n_0_1_1256 x i),
    StableHlo.TRef.unary (.of main_call16_v12 : StableHlo.TRef sig ⟨S8192, .i1⟩) (.of main_call16_v14 : StableHlo.TRef sig ⟨S8192x256, .i1⟩) (broadcastInDim S8192x256 ![0] bcast_S8192_S8192x256_0),
    StableHlo.TRef.nullary (.of main_call16_cst : StableHlo.TRef sig ⟨S_, .f32⟩) (constant S_ .f32 0x7FC00000#32),
    StableHlo.TRef.unary (.of main_call16_cst : StableHlo.TRef sig ⟨S_, .f32⟩) (.of main_call16_v15 : StableHlo.TRef sig ⟨S8192x256, .f32⟩) (broadcastInDim S8192x256 ![] bcast_S_S8192x256),
    StableHlo.TRef.ternary (.of main_call16_v14 : StableHlo.TRef sig ⟨S8192x256, .i1⟩) (.of main_call16_v13 : StableHlo.TRef sig ⟨S8192x256, .f32⟩) (.of main_call16_v15 : StableHlo.TRef sig ⟨S8192x256, .f32⟩) (.of main_v174 : StableHlo.TRef sig ⟨S8192x256, .f32⟩) select ]

theorem take4_sub : (take4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem take4_fresh : (take4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

/-- Operations: the codes back as a stack. -/
abbrev box4 : List (HloOp τ sig (Elt F)) :=
  [ StableHlo.reshape main_v174 main_v175 (rfl : (.f32 : EltTy) = .f32) shapeCasts_S8192x256_S32x256x256,
    StableHlo.unary main_v175 main_v176 ((transpose S32x256x256 [0, 2, 1] · transposes_S32x256x256_S32x256x256_0_2_1) : (⟨S32x256x256, .f32⟩ : BufTy).Contents (Elt F) → (⟨S32x256x256, .f32⟩ : BufTy).Contents (Elt F)) ]

theorem box4_sub : (box4 : List (HloOp τ sig (Elt F))).Forall fun op => op.bufs ⊆ StableHlo.tcRefs τ sig :=
  ⟨StableHlo.reshape_bufs_sub .., StableHlo.unary_bufs_sub ..⟩

theorem box4_fresh : (box4 : List (HloOp τ sig (Elt F))).Forall fun op => op.fresh = ∅ :=
  ⟨rfl, rfl⟩

/-- Operations: what the stage's filter needs. -/
abbrev prep4 : List (HloOp τ sig (Elt F)) :=
  [ StableHlo.nullary main_cst_17 (constant S_ .f32 0x3F000000#32),
    StableHlo.unary main_cst_17 main_v177 (broadcastInDim S32x256x256 ![] bcast_S_S32x256x256 : (⟨S_, .f32⟩ : BufTy).Contents (Elt F) → (⟨S32x256x256, .f32⟩ : BufTy).Contents (Elt F)),
    StableHlo.binary main_v176 main_v177 main_v178 (mulf : (⟨S32x256x256, .f32⟩ : BufTy).Contents (Elt F) → (⟨S32x256x256, .f32⟩ : BufTy).Contents (Elt F) → (⟨S32x256x256, .f32⟩ : BufTy).Contents (Elt F)),
    StableHlo.unary main_arg2 main_v179 ((extractStridedSlice S1x256x256x3 ![3, 0, 0, 0] · slices_S4x256x256x3_S1x256x256x3_3_0_0_0) : (⟨S4x256x256x3, .f32⟩ : BufTy).Contents (Elt F) → (⟨S1x256x256x3, .f32⟩ : BufTy).Contents (Elt F)),
    StableHlo.reshape main_v179 main_v180 (rfl : (.f32 : EltTy) = .f32) shapeCasts_S1x256x256x3_S256x256x3,
    StableHlo.unary main_arg3 main_v181 ((extractStridedSlice S1x256 ![3, 0] · slices_S4x256_S1x256_3_0) : (⟨S4x256, .f32⟩ : BufTy).Contents (Elt F) → (⟨S1x256, .f32⟩ : BufTy).Contents (Elt F)),
    StableHlo.reshape main_v181 main_v182 (rfl : (.f32 : EltTy) = .f32) shapeCasts_S1x256_S256,
    StableHlo.nullary main_c_18 (constantI S_ 32 0#32) ]

theorem prep4_sub : (prep4 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.nullary_bufs_sub ..⟩

theorem prep4_fresh : (prep4 : List (HloOp τ sig (Elt F))).Forall fun op => op.fresh = ∅ :=
  ⟨rfl, rfl, rfl, rfl, rfl, rfl, rfl, rfl⟩

/-- Operations: the zeros on both sides. -/
abbrev pad4 : List (HloOp τ sig (Elt F)) :=
  [ StableHlo.TRef.unary (.of main_c_18 : StableHlo.TRef sig ⟨S_, .i32⟩) (.of main_call17_v0 : StableHlo.TRef sig ⟨S_, .f32⟩) (sitofp .f32),
    StableHlo.TRef.binary (.of main_v176 : StableHlo.TRef sig ⟨S32x256x256, .f32⟩) (.of main_call17_v0 : StableHlo.TRef sig ⟨S_, .f32⟩) (.of main_v183 : StableHlo.TRef sig ⟨S32x256x258, .f32⟩) (fun x v => pad S32x256x258 ![0, 0, 1] ![0, 0, 1] ![0, 0, 0] x v pads_S32x256x256_S32x256x258_000_000_110 h_S_) ]

theorem pad4_sub : (pad4 : List (HloOp τ sig (Elt F))).Forall fun op => op.bufs ⊆ StableHlo.tcRefs τ sig :=
  ⟨StableHlo.unary_bufs_sub .., StableHlo.binary_bufs_sub ..⟩

theorem pad4_fresh : (pad4 : List (HloOp τ sig (Elt F))).Forall fun op => op.fresh = ∅ :=
  ⟨rfl, rfl⟩

/-- Operations: the filter, the sum and the remainder. -/
abbrev mix4 : List (HloOp τ sig (Elt F)) :=
  [ StableHlo.unary main_v180 main_v184 ((extractStridedSlice S256x256x1 ![0, 0, 0] · slices_S256x256x3_S256x256x1_0_0_0) : (⟨S256x256x3, .f32⟩ : BufTy).Contents (Elt F) → (⟨S256x256x1, .f32⟩ : BufTy).Contents (Elt F)),
    StableHlo.reshape main_v184 main_v185 (rfl : (.f32 : EltTy) = .f32) shapeCasts_S256x256x1_S256x256,
    StableHlo.unary main_v183 main_v186 ((extractStridedSlice S32x256x256 ![0, 0, 0] · slices_S32x256x258_S32x256x256_0_0_0) : (⟨S32x256x258, .f32⟩ : BufTy).Contents (Elt F) → (⟨S32x256x256, .f32⟩ : BufTy).Contents (Elt F)),
    StableHlo.binary main_v186 main_v185 main_v187 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v187 main_v188 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v180 main_v189 ((extractStridedSlice S256x256x1 ![0, 0, 1] · slices_S256x256x3_S256x256x1_0_0_1) : (⟨S256x256x3, .f32⟩ : BufTy).Contents (Elt F) → (⟨S256x256x1, .f32⟩ : BufTy).Contents (Elt F)),
    StableHlo.reshape main_v189 main_v190 (rfl : (.f32 : EltTy) = .f32) shapeCasts_S256x256x1_S256x256,
    StableHlo.unary main_v183 main_v191 ((extractStridedSlice S32x256x256 ![0, 0, 1] · slices_S32x256x258_S32x256x256_0_0_1) : (⟨S32x256x258, .f32⟩ : BufTy).Contents (Elt F) → (⟨S32x256x256, .f32⟩ : BufTy).Contents (Elt F)),
    StableHlo.binary main_v191 main_v190 main_v192 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v192 main_v193 ((transpose S32x256x256 [0, 2, 1] · transposes_S32x256x256_S32x256x256_0_2_1) : (⟨S32x256x256, .f32⟩ : BufTy).Contents (Elt F) → (⟨S32x256x256, .f32⟩ : BufTy).Contents (Elt F)),
    StableHlo.unary main_v180 main_v194 ((extractStridedSlice S256x256x1 ![0, 0, 2] · slices_S256x256x3_S256x256x1_0_0_2) : (⟨S256x256x3, .f32⟩ : BufTy).Contents (Elt F) → (⟨S256x256x1, .f32⟩ : BufTy).Contents (Elt F)),
    StableHlo.reshape main_v194 main_v195 (rfl : (.f32 : EltTy) = .f32) shapeCasts_S256x256x1_S256x256,
    StableHlo.unary main_v183 main_v196 ((extractStridedSlice S32x256x256 ![0, 0, 2] · slices_S32x256x258_S32x256x256_0_0_2) : (⟨S32x256x258, .f32⟩ : BufTy).Contents (Elt F) → (⟨S32x256x256, .f32⟩ : BufTy).Contents (Elt F)),
    StableHlo.binary main_v196 main_v195 main_v197 ((fun l r => Host.dotGeneral dot_S32x256x256_S256x256_S32x256x256_1_1_02_0_n_n none l r) : (⟨S32x256x256, .f32⟩ : BufTy).Contents (Elt F) → (⟨S256x256, .f32⟩ : BufTy).Contents (Elt F) → (⟨S32x256x256, .f32⟩ : BufTy).Contents (Elt F)),
    StableHlo.unary main_v197 main_v198 ((transpose S32x256x256 [0, 2, 1] · transposes_S32x256x256_S32x256x256_0_2_1) : (⟨S32x256x256, .f32⟩ : BufTy).Contents (Elt F) → (⟨S32x256x256, .f32⟩ : BufTy).Contents (Elt F)),
    StableHlo.binary main_v188 main_v193 main_v199 (addf : (⟨S32x256x256, .f32⟩ : BufTy).Contents (Elt F) → (⟨S32x256x256, .f32⟩ : BufTy).Contents (Elt F) → (⟨S32x256x256, .f32⟩ : BufTy).Contents (Elt F)),
    StableHlo.binary main_v199 main_v198 main_v200 (addf : (⟨S32x256x256, .f32⟩ : BufTy).Contents (Elt F) → (⟨S32x256x256, .f32⟩ : BufTy).Contents (Elt F) → (⟨S32x256x256, .f32⟩ : BufTy).Contents (Elt F)),
    StableHlo.unary main_v182 main_v201 (broadcastInDim S1x256x1 ![1] bcast_S256_S1x256x1_1 : (⟨S256, .f32⟩ : BufTy).Contents (Elt F) → (⟨S1x256x1, .f32⟩ : BufTy).Contents (Elt F)),
    StableHlo.unary main_v201 main_v202 (broadcastInDim S32x256x256 ![0, 1, 2] bcast_S1x256x1_S32x256x256_0_1_2 : (⟨S1x256x1, .f32⟩ : BufTy).Contents (Elt F) → (⟨S32x256x256, .f32⟩ : BufTy).Contents (Elt F)),
    StableHlo.binary main_v200 main_v202 main_v203 (addf : (⟨S32x256x256, .f32⟩ : BufTy).Contents (Elt F) → (⟨S32x256x256, .f32⟩ : BufTy).Contents (Elt F) → (⟨S32x256x256, .f32⟩ : BufTy).Contents (Elt F)),
    StableHlo.nullary main_cst_19 (constant S_ .f32 0x3F000000#32),
    StableHlo.unary main_cst_19 main_v204 (broadcastInDim S32x256x256 ![] bcast_S_S32x256x256 : (⟨S_, .f32⟩ : BufTy).Contents (Elt F) → (⟨S32x256x256, .f32⟩ : BufTy).Contents (Elt F)),
    StableHlo.binary main_v203 main_v204 main_v205 (mulf : (⟨S32x256x256, .f32⟩ : BufTy).Contents (Elt F) → (⟨S32x256x256, .f32⟩ : BufTy).Contents (Elt F) → (⟨S32x256x256, .f32⟩ : BufTy).Contents (Elt F)),
    StableHlo.binary main_v178 main_v205 main_v206 (addf : (⟨S32x256x256, .f32⟩ : BufTy).Contents (Elt F) → (⟨S32x256x256, .f32⟩ : BufTy).Contents (Elt F) → (⟨S32x256x256, .f32⟩ : BufTy).Contents (Elt F)),
    StableHlo.binary main_v157 main_v206 main_v207 (addf : (⟨S32x256x256, .f32⟩ : BufTy).Contents (Elt F) → (⟨S32x256x256, .f32⟩ : BufTy).Contents (Elt F) → (⟨S32x256x256, .f32⟩ : BufTy).Contents (Elt F)),
    StableHlo.binary main_v158 main_v206 main_v208 (subf : (⟨S32x256x256, .f32⟩ : BufTy).Contents (Elt F) → (⟨S32x256x256, .f32⟩ : BufTy).Contents (Elt F) → (⟨S32x256x256, .f32⟩ : BufTy).Contents (Elt F)) ]

theorem mix4_sub : (mix4 : List (HloOp τ sig (Elt F))).Forall fun op => op.bufs ⊆ StableHlo.tcRefs τ sig :=
  ⟨StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.unary_bufs_sub .., StableHlo.reshape_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub ..⟩

theorem mix4_fresh : (mix4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

end Cert.Proof.Ref
-- ==== Proof.RefMain.lean ====
/- The reference as one straight line of operations. -/
module

public import proofs.«01_k».proof.Proof.RefOps1
public import proofs.«01_k».proof.Proof.RefOps2
public import proofs.«01_k».proof.Proof.RefOps3
public import proofs.«01_k».proof.Proof.RefOps4

@[expose] public section

noncomputable section

namespace Cert.Proof.Ref

open Idealize.ShloMosaic Idealize.SL.Sem
open Cert.ReferenceIdeal

variable {F : FTy → Type} [FloatOps F] [Cert.ReferenceIdeal.Facts]

/-- The operations of the first part. -/
abbrev ops0 : List (HloOp τ sig (Elt F)) := start ++ down1 ++ gap1 ++ least1 ++ take1 ++ box1 ++ up1 ++ prep1 ++ pad1 ++ mix1a
/-- The operations of the second part. -/
abbrev ops1 : List (HloOp τ sig (Elt F)) := mix1b ++ down2 ++ gap2 ++ least2 ++ take2 ++ box2 ++ up2 ++ prep2 ++ pad2 ++ mix2 ++ down3
/-- The operations of the third part. -/
abbrev ops2 : List (HloOp τ sig (Elt F)) := gap3 ++ least3 ++ take3 ++ box3 ++ up3 ++ prep3 ++ pad3 ++ mix3 ++ gap4a
/-- The operations of the last part. -/
abbrev ops3 : List (HloOp τ sig (Elt F)) := gap4b ++ least4 ++ take4 ++ box4 ++ prep4 ++ pad4 ++ mix4

set_option maxHeartbeats 4000000
set_option maxRecDepth 100000

theorem main_part0_eq (d : Dev nD) : main_part0 (F := F) d = StableHlo.seq ops0 := rfl
theorem main_part1_eq (d : Dev nD) : main_part1 (F := F) d = StableHlo.seq ops1 := rfl
theorem main_part2_eq (d : Dev nD) : main_part2 (F := F) d = StableHlo.seq ops2 := rfl
theorem main_part3_eq (d : Dev nD) : main_part3 (F := F) d = StableHlo.seq ops3 := rfl

/-- The operations of the reference, in order. -/
abbrev ops : List (HloOp τ sig (Elt F)) := ops0 ++ (ops1 ++ (ops2 ++ ops3))

theorem main_eq (d : Dev nD) : main (F := F) d = StableHlo.seq ops := by
  unfold main
  rw [main_part0_eq, main_part1_eq, main_part2_eq, main_part3_eq, StableHlo.seq_append ops0, StableHlo.seq_append ops1,
    StableHlo.seq_append ops2]

/-- What holds of every member of two lists holds of every member of the one followed by the other. -/
theorem both {α : Type*} {P : α → Prop} {a b : List α} (ha : a.Forall P) (hb : b.Forall P) : (a ++ b).Forall P :=
  List.forall_iff_forall_mem.2 fun x hx => (List.mem_append.1 hx).elim (List.forall_iff_forall_mem.1 ha x) (List.forall_iff_forall_mem.1 hb x)

theorem ops_sub : (ops : List (HloOp τ sig (Elt F))).Forall fun op => op.bufs ⊆ StableHlo.tcRefs τ sig :=
  both (both (both (both (both (both (both (both (both (both start_sub down1_sub) gap1_sub) least1_sub) take1_sub) box1_sub) up1_sub) prep1_sub) pad1_sub) mix1a_sub)
    (both (both (both (both (both (both (both (both (both (both (both mix1b_sub down2_sub) gap2_sub) least2_sub) take2_sub) box2_sub) up2_sub) prep2_sub) pad2_sub) mix2_sub) down3_sub)
    (both (both (both (both (both (both (both (both (both gap3_sub least3_sub) take3_sub) box3_sub) up3_sub) prep3_sub) pad3_sub) mix3_sub) gap4a_sub)
    (both (both (both (both (both (both gap4b_sub least4_sub) take4_sub) box4_sub) prep4_sub) pad4_sub) mix4_sub)))

theorem ops_fresh : (ops : List (HloOp τ sig (Elt F))).Forall fun op => op.fresh = ∅ :=
  both (both (both (both (both (both (both (both (both (both start_fresh down1_fresh) gap1_fresh) least1_fresh) take1_fresh) box1_fresh) up1_fresh) prep1_fresh) pad1_fresh) mix1a_fresh)
    (both (both (both (both (both (both (both (both (both (both (both mix1b_fresh down2_fresh) gap2_fresh) least2_fresh) take2_fresh) box2_fresh) up2_fresh) prep2_fresh) pad2_fresh) mix2_fresh) down3_fresh)
    (both (both (both (both (both (both (both (both (both gap3_fresh least3_fresh) take3_fresh) box3_fresh) up3_fresh) prep3_fresh) pad3_fresh) mix3_fresh) gap4a_fresh)
    (both (both (both (both (both (both gap4b_fresh least4_fresh) take4_fresh) box4_fresh) prep4_fresh) pad4_fresh) mix4_fresh)))

end Cert.Proof.Ref
-- ==== Proof.RefRead1.lean ====
/- What the first stage of the reference leaves. -/
module

public import proofs.«01_k».proof.Proof.RefOps1
public import proofs.«01_k».proof.Proof.Total
public import proofs.«01_k».proof.Proof.Gen.ReferenceIdeal

@[expose] public section

set_option maxRecDepth 20000

noncomputable section

namespace Cert.Proof.Ref

open Idealize.ShloMosaic hiding ix0 ix1 ix2 ix3 ix4
open Idealize.SL.Sem
open Cert.ReferenceIdeal Cert.Proof.Vq

variable (V : Valuation τ sig (Elt Ideal))

theorem down1_read : StableHlo.after down1 V (Proc.devRef .tc main_v3)
    = resampleR scale_256_32 (V (Proc.devRef .tc main_arg0)) (weightV lattice_256_32 0x41000000#32 0x437F8000#32) := by
  after_reads_simp
  rfl

theorem gap1_read : StableHlo.after (gap1 (F := Ideal)) V (Proc.devRef .tc main_v17)
    = gapV gaps_1024 (flatV table_32 (V (Proc.devRef .tc main_v3))) (V (Proc.devRef .tc main_arg1)) (V (Proc.devRef .tc main_v2)) := by
  after_reads_simp
  rfl

theorem least1_read : StableHlo.after least1 V (Proc.devRef .tc main_v18)
    = leastV table_32.least gaps_1024.pos (V (Proc.devRef .tc main_v17)) := by
  after_reads_simp
  rfl

theorem take1_read : StableHlo.after take1 V (Proc.devRef .tc main_v19)
    = takeV take_1024 (V (Proc.devRef .tc main_arg1)) (V (Proc.devRef .tc main_v18)) := by
  after_reads_simp
  rfl

theorem box1_read : StableHlo.after box1 V (Proc.devRef .tc main_v21) = boxV table_32 (V (Proc.devRef .tc main_v19)) := by
  after_reads_simp
  rfl

theorem up1_read : StableHlo.after up1 V (Proc.devRef .tc main_v22)
    = resampleR scale_32_256 (V (Proc.devRef .tc main_v21)) (weightV lattice_32_256 0x3E000000#32 0x41FC0000#32) := by
  after_reads_simp
  rfl

/-- The filter of the first stage, the sum and the remainder. -/
abbrev filter1 : List (HloOp τ sig (Elt Ideal)) := prep1 ++ pad1 ++ mix1a ++ mix1b

theorem filter1_sum : StableHlo.after filter1 V (Proc.devRef .tc main_v53)
    = addf (V (Proc.devRef .tc main_v0))
      (blendR blend_0 (V (Proc.devRef .tc main_v22)) (V (Proc.devRef .tc main_arg2)) (V (Proc.devRef .tc main_arg3))) := by
  after_reads_simp
  rfl

theorem filter1_rest : StableHlo.after filter1 V (Proc.devRef .tc main_v54)
    = subf (V (Proc.devRef .tc main_arg0))
      (blendR blend_0 (V (Proc.devRef .tc main_v22)) (V (Proc.devRef .tc main_arg2)) (V (Proc.devRef .tc main_arg3))) := by
  after_reads_simp
  rfl

/-- What the buffers hold after the first stage. -/
def pass1 : Valuation τ sig (Elt Ideal) :=
  StableHlo.after filter1 (StableHlo.after up1 (StableHlo.after box1 (StableHlo.after take1 (StableHlo.after least1 (StableHlo.after gap1 (StableHlo.after down1 V))))))

theorem pass1_arg0 : pass1 V (Proc.devRef .tc main_arg0) = V (Proc.devRef .tc main_arg0) := by
  unfold pass1
  after_reads_simp

theorem pass1_arg1 : pass1 V (Proc.devRef .tc main_arg1) = V (Proc.devRef .tc main_arg1) := by
  unfold pass1
  after_reads_simp

theorem pass1_arg2 : pass1 V (Proc.devRef .tc main_arg2) = V (Proc.devRef .tc main_arg2) := by
  unfold pass1
  after_reads_simp

theorem pass1_arg3 : pass1 V (Proc.devRef .tc main_arg3) = V (Proc.devRef .tc main_arg3) := by
  unfold pass1
  after_reads_simp

theorem pass1_v2 : pass1 V (Proc.devRef .tc main_v2) = V (Proc.devRef .tc main_v2) := by
  unfold pass1
  after_reads_simp

variable (hq : V (Proc.devRef .tc main_v2) = lensR (V (Proc.devRef .tc main_arg1)))
include hq

theorem pass1_sum : pass1 V (Proc.devRef .tc main_v53)
    = addf (V (Proc.devRef .tc main_v0)) (h1R (V (Proc.devRef .tc main_arg1)) (V (Proc.devRef .tc main_arg2)) (V (Proc.devRef .tc main_arg3)) (V (Proc.devRef .tc main_arg0))) := by
  unfold pass1
  rw [filter1_sum, up1_read, box1_read, take1_read, least1_read, gap1_read, down1_read]
  after_reads_simp
  rw [hq]
  rfl

theorem pass1_rest : pass1 V (Proc.devRef .tc main_v54)
    = subf (V (Proc.devRef .tc main_arg0)) (h1R (V (Proc.devRef .tc main_arg1)) (V (Proc.devRef .tc main_arg2)) (V (Proc.devRef .tc main_arg3)) (V (Proc.devRef .tc main_arg0))) := by
  unfold pass1
  rw [filter1_rest, up1_read, box1_read, take1_read, least1_read, gap1_read, down1_read]
  after_reads_simp
  rw [hq]
  rfl

end Cert.Proof.Ref
-- ==== Proof.RefRead2.lean ====
/- What the second stage of the reference leaves. -/
module

public import proofs.«01_k».proof.Proof.RefOps2
public import proofs.«01_k».proof.Proof.Total
public import proofs.«01_k».proof.Proof.Gen.ReferenceIdeal

@[expose] public section

set_option maxRecDepth 20000

noncomputable section

namespace Cert.Proof.Ref

open Idealize.ShloMosaic hiding ix0 ix1 ix2 ix3 ix4
open Idealize.SL.Sem
open Cert.ReferenceIdeal Cert.Proof.Vq

variable (V : Valuation τ sig (Elt Ideal))

theorem down2_read : StableHlo.after down2 V (Proc.devRef .tc main_v55)
    = resampleR scale_256_64 (V (Proc.devRef .tc main_v54)) (weightV lattice_256_64 0x40800000#32 0x437F8000#32) := by
  after_reads_simp
  rfl

theorem gap2_read : StableHlo.after (gap2 (F := Ideal)) V (Proc.devRef .tc main_v69)
    = gapV gaps_2048 (flatV table_64 (V (Proc.devRef .tc main_v55))) (V (Proc.devRef .tc main_arg1)) (V (Proc.devRef .tc main_v2)) := by
  after_reads_simp
  rfl

theorem least2_read : StableHlo.after least2 V (Proc.devRef .tc main_v70)
    = leastV table_64.least gaps_2048.pos (V (Proc.devRef .tc main_v69)) := by
  after_reads_simp
  rfl

theorem take2_read : StableHlo.after take2 V (Proc.devRef .tc main_v71)
    = takeV take_2048 (V (Proc.devRef .tc main_arg1)) (V (Proc.devRef .tc main_v70)) := by
  after_reads_simp
  rfl

theorem box2_read : StableHlo.after box2 V (Proc.devRef .tc main_v73) = boxV table_64 (V (Proc.devRef .tc main_v71)) := by
  after_reads_simp
  rfl

theorem up2_read : StableHlo.after up2 V (Proc.devRef .tc main_v74)
    = resampleR scale_64_256 (V (Proc.devRef .tc main_v73)) (weightV lattice_64_256 0x3E800000#32 0x427E0000#32) := by
  after_reads_simp
  rfl

/-- The filter of the second stage, the sum and the remainder. -/
abbrev filter2 : List (HloOp τ sig (Elt Ideal)) := prep2 ++ pad2 ++ mix2

theorem filter2_sum : StableHlo.after filter2 V (Proc.devRef .tc main_v105)
    = addf (V (Proc.devRef .tc main_v53))
      (blendR blend_1 (V (Proc.devRef .tc main_v74)) (V (Proc.devRef .tc main_arg2)) (V (Proc.devRef .tc main_arg3))) := by
  after_reads_simp
  rfl

theorem filter2_rest : StableHlo.after filter2 V (Proc.devRef .tc main_v106)
    = subf (V (Proc.devRef .tc main_v54))
      (blendR blend_1 (V (Proc.devRef .tc main_v74)) (V (Proc.devRef .tc main_arg2)) (V (Proc.devRef .tc main_arg3))) := by
  after_reads_simp
  rfl

/-- What the buffers hold after the second stage. -/
def pass2 : Valuation τ sig (Elt Ideal) :=
  StableHlo.after filter2 (StableHlo.after up2 (StableHlo.after box2 (StableHlo.after take2 (StableHlo.after least2 (StableHlo.after gap2 (StableHlo.after down2 V))))))

theorem pass2_arg0 : pass2 V (Proc.devRef .tc main_arg0) = V (Proc.devRef .tc main_arg0) := by
  unfold pass2
  after_reads_simp

theorem pass2_arg1 : pass2 V (Proc.devRef .tc main_arg1) = V (Proc.devRef .tc main_arg1) := by
  unfold pass2
  after_reads_simp

theorem pass2_arg2 : pass2 V (Proc.devRef .tc main_arg2) = V (Proc.devRef .tc main_arg2) := by
  unfold pass2
  after_reads_simp

theorem pass2_arg3 : pass2 V (Proc.devRef .tc main_arg3) = V (Proc.devRef .tc main_arg3) := by
  unfold pass2
  after_reads_simp

theorem pass2_v2 : pass2 V (Proc.devRef .tc main_v2) = V (Proc.devRef .tc main_v2) := by
  unfold pass2
  after_reads_simp

variable (hq : V (Proc.devRef .tc main_v2) = lensR (V (Proc.devRef .tc main_arg1)))
include hq

theorem pass2_sum : pass2 V (Proc.devRef .tc main_v105)
    = addf (V (Proc.devRef .tc main_v53)) (h2R (V (Proc.devRef .tc main_arg1)) (V (Proc.devRef .tc main_arg2)) (V (Proc.devRef .tc main_arg3)) (V (Proc.devRef .tc main_v54))) := by
  unfold pass2
  rw [filter2_sum, up2_read, box2_read, take2_read, least2_read, gap2_read, down2_read]
  after_reads_simp
  rw [hq]
  rfl

theorem pass2_rest : pass2 V (Proc.devRef .tc main_v106)
    = subf (V (Proc.devRef .tc main_v54)) (h2R (V (Proc.devRef .tc main_arg1)) (V (Proc.devRef .tc main_arg2)) (V (Proc.devRef .tc main_arg3)) (V (Proc.devRef .tc main_v54))) := by
  unfold pass2
  rw [filter2_rest, up2_read, box2_read, take2_read, least2_read, gap2_read, down2_read]
  after_reads_simp
  rw [hq]
  rfl

end Cert.Proof.Ref
-- ==== Proof.RefRead3.lean ====
/- What the third stage of the reference leaves. -/
module

public import proofs.«01_k».proof.Proof.RefOps3
public import proofs.«01_k».proof.Proof.Total
public import proofs.«01_k».proof.Proof.Gen.ReferenceIdeal

@[expose] public section

set_option maxRecDepth 20000

noncomputable section

namespace Cert.Proof.Ref

open Idealize.ShloMosaic hiding ix0 ix1 ix2 ix3 ix4
open Idealize.SL.Sem
open Cert.ReferenceIdeal Cert.Proof.Vq

variable (V : Valuation τ sig (Elt Ideal))

theorem down3_read : StableHlo.after down3 V (Proc.devRef .tc main_v107)
    = resampleR scale_256_128 (V (Proc.devRef .tc main_v106)) (weightV lattice_256_128 0x40000000#32 0x437F8000#32) := by
  after_reads_simp
  rfl

theorem gap3_read : StableHlo.after (gap3 (F := Ideal)) V (Proc.devRef .tc main_v121)
    = gapV gaps_4096 (flatV table_128 (V (Proc.devRef .tc main_v107))) (V (Proc.devRef .tc main_arg1)) (V (Proc.devRef .tc main_v2)) := by
  after_reads_simp
  rfl

theorem least3_read : StableHlo.after least3 V (Proc.devRef .tc main_v122)
    = leastV table_128.least gaps_4096.pos (V (Proc.devRef .tc main_v121)) := by
  after_reads_simp
  rfl

theorem take3_read : StableHlo.after take3 V (Proc.devRef .tc main_v123)
    = takeV take_4096 (V (Proc.devRef .tc main_arg1)) (V (Proc.devRef .tc main_v122)) := by
  after_reads_simp
  rfl

theorem box3_read : StableHlo.after box3 V (Proc.devRef .tc main_v125) = boxV table_128 (V (Proc.devRef .tc main_v123)) := by
  after_reads_simp
  rfl

theorem up3_read : StableHlo.after up3 V (Proc.devRef .tc main_v126)
    = resampleR scale_128_256 (V (Proc.devRef .tc main_v125)) (weightV lattice_128_256 0x3F000000#32 0x42FF0000#32) := by
  after_reads_simp
  rfl

/-- The filter of the third stage, the sum and the remainder. -/
abbrev filter3 : List (HloOp τ sig (Elt Ideal)) := prep3 ++ pad3 ++ mix3

theorem filter3_sum : StableHlo.after filter3 V (Proc.devRef .tc main_v157)
    = addf (V (Proc.devRef .tc main_v105))
      (blendR blend_2 (V (Proc.devRef .tc main_v126)) (V (Proc.devRef .tc main_arg2)) (V (Proc.devRef .tc main_arg3))) := by
  after_reads_simp
  rfl

theorem filter3_rest : StableHlo.after filter3 V (Proc.devRef .tc main_v158)
    = subf (V (Proc.devRef .tc main_v106))
      (blendR blend_2 (V (Proc.devRef .tc main_v126)) (V (Proc.devRef .tc main_arg2)) (V (Proc.devRef .tc main_arg3))) := by
  after_reads_simp
  rfl

/-- What the buffers hold after the third stage. -/
def pass3 : Valuation τ sig (Elt Ideal) :=
  StableHlo.after filter3 (StableHlo.after up3 (StableHlo.after box3 (StableHlo.after take3 (StableHlo.after least3 (StableHlo.after gap3 (StableHlo.after down3 V))))))

theorem pass3_arg0 : pass3 V (Proc.devRef .tc main_arg0) = V (Proc.devRef .tc main_arg0) := by
  unfold pass3
  after_reads_simp

theorem pass3_arg1 : pass3 V (Proc.devRef .tc main_arg1) = V (Proc.devRef .tc main_arg1) := by
  unfold pass3
  after_reads_simp

theorem pass3_arg2 : pass3 V (Proc.devRef .tc main_arg2) = V (Proc.devRef .tc main_arg2) := by
  unfold pass3
  after_reads_simp

theorem pass3_arg3 : pass3 V (Proc.devRef .tc main_arg3) = V (Proc.devRef .tc main_arg3) := by
  unfold pass3
  after_reads_simp

theorem pass3_v2 : pass3 V (Proc.devRef .tc main_v2) = V (Proc.devRef .tc main_v2) := by
  unfold pass3
  after_reads_simp

variable (hq : V (Proc.devRef .tc main_v2) = lensR (V (Proc.devRef .tc main_arg1)))
include hq

theorem pass3_sum : pass3 V (Proc.devRef .tc main_v157)
    = addf (V (Proc.devRef .tc main_v105)) (h3R (V (Proc.devRef .tc main_arg1)) (V (Proc.devRef .tc main_arg2)) (V (Proc.devRef .tc main_arg3)) (V (Proc.devRef .tc main_v106))) := by
  unfold pass3
  rw [filter3_sum, up3_read, box3_read, take3_read, least3_read, gap3_read, down3_read]
  after_reads_simp
  rw [hq]
  rfl

theorem pass3_rest : pass3 V (Proc.devRef .tc main_v158)
    = subf (V (Proc.devRef .tc main_v106)) (h3R (V (Proc.devRef .tc main_arg1)) (V (Proc.devRef .tc main_arg2)) (V (Proc.devRef .tc main_arg3)) (V (Proc.devRef .tc main_v106))) := by
  unfold pass3
  rw [filter3_rest, up3_read, box3_read, take3_read, least3_read, gap3_read, down3_read]
  after_reads_simp
  rw [hq]
  rfl

end Cert.Proof.Ref
-- ==== Proof.RefRead4.lean ====
/- What the last stage of the reference leaves. -/
module

public import proofs.«01_k».proof.Proof.RefOps4
public import proofs.«01_k».proof.Proof.Total
public import proofs.«01_k».proof.Proof.Gen.ReferenceIdeal

@[expose] public section

set_option maxRecDepth 20000

noncomputable section

namespace Cert.Proof.Ref

open Idealize.ShloMosaic hiding ix0 ix1 ix2 ix3 ix4
open Idealize.SL.Sem
open Cert.ReferenceIdeal Cert.Proof.Vq

variable (V : Valuation τ sig (Elt Ideal))

/-- The distances of the last stage. -/
abbrev gap4 {F : FTy → Type} [FloatOps F] : List (HloOp τ sig (Elt F)) := gap4a ++ gap4b

theorem gap4_read : StableHlo.after (gap4 (F := Ideal)) V (Proc.devRef .tc main_v172)
    = gapV gaps_8192 (flatV table_256 (V (Proc.devRef .tc main_v158))) (V (Proc.devRef .tc main_arg1)) (V (Proc.devRef .tc main_v2)) := by
  after_reads_simp
  rfl

theorem least4_read : StableHlo.after least4 V (Proc.devRef .tc main_v173)
    = leastV table_256.least gaps_8192.pos (V (Proc.devRef .tc main_v172)) := by
  after_reads_simp
  rfl

theorem take4_read : StableHlo.after take4 V (Proc.devRef .tc main_v174)
    = takeV take_8192 (V (Proc.devRef .tc main_arg1)) (V (Proc.devRef .tc main_v173)) := by
  after_reads_simp
  rfl

theorem box4_read : StableHlo.after box4 V (Proc.devRef .tc main_v176) = boxV table_256 (V (Proc.devRef .tc main_v174)) := by
  after_reads_simp
  rfl

/-- The filter of the last stage, the sum and the remainder. -/
abbrev filter4 : List (HloOp τ sig (Elt Ideal)) := prep4 ++ pad4 ++ mix4

theorem filter4_sum : StableHlo.after filter4 V (Proc.devRef .tc main_v207)
    = addf (V (Proc.devRef .tc main_v157))
      (blendR blend_3 (V (Proc.devRef .tc main_v176)) (V (Proc.devRef .tc main_arg2)) (V (Proc.devRef .tc main_arg3))) := by
  after_reads_simp
  rfl

/-- What the buffers hold after the last stage. -/
def pass4 : Valuation τ sig (Elt Ideal) :=
  StableHlo.after filter4 (StableHlo.after box4 (StableHlo.after take4 (StableHlo.after least4 (StableHlo.after gap4 V))))

theorem pass4_arg0 : pass4 V (Proc.devRef .tc main_arg0) = V (Proc.devRef .tc main_arg0) := by
  unfold pass4
  after_reads_simp

theorem pass4_arg1 : pass4 V (Proc.devRef .tc main_arg1) = V (Proc.devRef .tc main_arg1) := by
  unfold pass4
  after_reads_simp

theorem pass4_arg2 : pass4 V (Proc.devRef .tc main_arg2) = V (Proc.devRef .tc main_arg2) := by
  unfold pass4
  after_reads_simp

theorem pass4_arg3 : pass4 V (Proc.devRef .tc main_arg3) = V (Proc.devRef .tc main_arg3) := by
  unfold pass4
  after_reads_simp

variable (hq : V (Proc.devRef .tc main_v2) = lensR (V (Proc.devRef .tc main_arg1)))
include hq

theorem pass4_sum : pass4 V (Proc.devRef .tc main_v207)
    = addf (V (Proc.devRef .tc main_v157)) (h4R (V (Proc.devRef .tc main_arg1)) (V (Proc.devRef .tc main_arg2)) (V (Proc.devRef .tc main_arg3)) (V (Proc.devRef .tc main_v158))) := by
  unfold pass4
  rw [filter4_sum, box4_read, take4_read, least4_read, gap4_read]
  after_reads_simp
  rw [hq]
  rfl

end Cert.Proof.Ref
-- ==== Proof.RefRun.lean ====
/- The reference runs, leaves its arguments as they were, and ends with the sum of the four stages. -/
module

public import proofs.«01_k».proof.Proof.RefMain
public import proofs.«01_k».proof.Proof.RefRead1
public import proofs.«01_k».proof.Proof.RefRead2
public import proofs.«01_k».proof.Proof.RefRead3
public import proofs.«01_k».proof.Proof.RefRead4
public import Idealize.ShloMosaic.Lib.Pipeline.Frame

@[expose] public section

noncomputable section

namespace Cert.Proof.Ref

open Idealize.ShloMosaic hiding ix0 ix1 ix2 ix3 ix4
open Idealize.SL.Sem
open Cert.ReferenceIdeal Cert.Proof.Vq

section
variable (V : Valuation τ sig (Elt Ideal))

theorem start_zero : StableHlo.after start V (Proc.devRef .tc main_v0) = onCube blend_0 0x00000000#32 := by
  after_reads_simp
  rfl

theorem start_lens : StableHlo.after start V (Proc.devRef .tc main_v2) = lensR (V (Proc.devRef .tc main_arg1)) := by
  after_reads_simp
  rfl

theorem start_arg0 : StableHlo.after (start (F := Ideal)) V (Proc.devRef .tc main_arg0) = V (Proc.devRef .tc main_arg0) := by after_reads_simp
theorem start_arg1 : StableHlo.after (start (F := Ideal)) V (Proc.devRef .tc main_arg1) = V (Proc.devRef .tc main_arg1) := by after_reads_simp
theorem start_arg2 : StableHlo.after (start (F := Ideal)) V (Proc.devRef .tc main_arg2) = V (Proc.devRef .tc main_arg2) := by after_reads_simp
theorem start_arg3 : StableHlo.after (start (F := Ideal)) V (Proc.devRef .tc main_arg3) = V (Proc.devRef .tc main_arg3) := by after_reads_simp

theorem ops_passes : StableHlo.after (ops (F := Ideal)) V = pass4 (pass3 (pass2 (pass1 (StableHlo.after start V)))) := by
  simp only [ops, ops0, ops1, ops2, ops3, StableHlo.after_append, pass1, pass2, pass3, pass4, filter1, filter2, filter3, filter4, gap4]

/-- A buffer the reference has for an argument keeps what it holds. -/
theorem ops_arg0 : StableHlo.after (ops (F := Ideal)) V (Proc.devRef .tc main_arg0) = V (Proc.devRef .tc main_arg0) := by
  rw [ops_passes, pass4_arg0, pass3_arg0, pass2_arg0, pass1_arg0, start_arg0]
theorem ops_arg1 : StableHlo.after (ops (F := Ideal)) V (Proc.devRef .tc main_arg1) = V (Proc.devRef .tc main_arg1) := by
  rw [ops_passes, pass4_arg1, pass3_arg1, pass2_arg1, pass1_arg1, start_arg1]
theorem ops_arg2 : StableHlo.after (ops (F := Ideal)) V (Proc.devRef .tc main_arg2) = V (Proc.devRef .tc main_arg2) := by
  rw [ops_passes, pass4_arg2, pass3_arg2, pass2_arg2, pass1_arg2, start_arg2]
theorem ops_arg3 : StableHlo.after (ops (F := Ideal)) V (Proc.devRef .tc main_arg3) = V (Proc.devRef .tc main_arg3) := by
  rw [ops_passes, pass4_arg3, pass3_arg3, pass2_arg3, pass1_arg3, start_arg3]

theorem ops_result : StableHlo.after (ops (F := Ideal)) V (Proc.devRef .tc main_v207)
    = totalR (V (Proc.devRef .tc main_arg0)) (V (Proc.devRef .tc main_arg1)) (V (Proc.devRef .tc main_arg2)) (V (Proc.devRef .tc main_arg3)) := by
  have q0 : StableHlo.after start V (Proc.devRef .tc main_v2) = lensR (StableHlo.after start V (Proc.devRef .tc main_arg1)) := by
    rw [start_lens, start_arg1]
  have q1 : pass1 (StableHlo.after start V) (Proc.devRef .tc main_v2) = lensR (pass1 (StableHlo.after start V) (Proc.devRef .tc main_arg1)) := by
    rw [pass1_v2, pass1_arg1, q0]
  have q2 : pass2 (pass1 (StableHlo.after start V)) (Proc.devRef .tc main_v2)
      = lensR (pass2 (pass1 (StableHlo.after start V)) (Proc.devRef .tc main_arg1)) := by
    rw [pass2_v2, pass2_arg1, q1]
  have q3 : pass3 (pass2 (pass1 (StableHlo.after start V))) (Proc.devRef .tc main_v2)
      = lensR (pass3 (pass2 (pass1 (StableHlo.after start V))) (Proc.devRef .tc main_arg1)) := by
    rw [pass3_v2, pass3_arg1, q2]
  rw [ops_passes, pass4_sum _ q3, pass3_sum _ q2, pass3_rest _ q2, pass2_sum _ q1, pass2_rest _ q1, pass1_sum _ q0, pass1_rest _ q0,
    pass3_arg1, pass3_arg2, pass3_arg3, pass2_arg1, pass2_arg2, pass2_arg3, pass1_arg1, pass1_arg2, pass1_arg3,
    start_zero, start_arg0, start_arg1, start_arg2, start_arg3]
  rfl

end

/-- The reference has no semaphore. -/
theorem no_sem (g : GSem nD τ sig) : False := by
  obtain ⟨_, s⟩ := g
  cases s with
  | reg s => exact Fin.elim0 s
  | dma s => exact Fin.elim0 s

variable (m : (ℓ : Loc nD τ sig) → Buf (Elt Ideal) ℓ) (ρ : Dev nD → PrngReg)

/-- The reference ends with the sum of the four stages, its arguments as they were, every counter at zero. -/
theorem ref_run : θ_run (defs (F := Ideal)) (onTc (τ := τ) (main (F := Ideal))) ⟨m, fun _ => 0, ρ⟩ fun r =>
    (∀ c : Dev nD, r.2.mem ((c.tc : Thread nD τ).loc main_v207)
        = totalR (m ((c.tc : Thread nD τ).loc main_arg0)) (m ((c.tc : Thread nD τ).loc main_arg1)) (m ((c.tc : Thread nD τ).loc main_arg2))
          (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  θ_run_mono (StableHlo.run_hlo defs main (ops := ops) main_eq (by decide) (by decide) ops_sub
      (List.forall_iff_forall_mem.1 ops_fresh) m ρ) fun r h =>
    ⟨fun c => ⟨(h c main_v207).trans (ops_result _), (h c main_arg0).trans (ops_arg0 _), (h c main_arg1).trans (ops_arg1 _),
      (h c main_arg2).trans (ops_arg2 _), (h c main_arg3).trans (ops_arg3 _)⟩, funext fun g => (no_sem g).elim⟩

end Cert.Proof.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import proofs.«01_k».proof.Proof.RefRun
public import Idealize.ShloMosaic.Adequacy
public import Idealize.ShloMosaic.Init

@[expose] public section

noncomputable section

namespace Cert.Proof

open Idealize.ShloMosaic Idealize.SL.Sem

theorem finite_facts : Cert.Pre_finite.Facts := ⟨by decide, by decide, by decide, by decide⟩

section
local instance : Cert.KernelIdeal.Facts := Cert.KernelIdeal.Gen.facts
local instance : Cert.ReferenceIdeal.Facts := Cert.ReferenceIdeal.Gen.facts
local instance : Cert.Pre_finite.Facts := finite_facts

/-- The reference leaves its arguments and every counter as they were. -/
theorem reference_frame : Cert.quiescent_ReferenceIdeal := fun m g _ =>
  (θ_run (Cert.ReferenceIdeal.defs (F := Ideal)) _ _).mono (fun _ h => ⟨fun c => (h.1 c).2, h.2⟩) (Ref.ref_run m g)

/-- On finite arguments the kernel and the reference end with the same array. -/
theorem same : Cert.algebraic_KernelIdeal_ReferenceIdeal_pre_finite := by
  intro m g m' g' pre agree
  have hx := fun c => Vq.real_of_below _ _ _ (pre c).1
  have hcb := fun c => Vq.real_of_below _ _ _ (pre c).2.1
  have hw := fun c => Vq.real_of_below _ _ _ (pre c).2.2.1
  have hb := fun c => Vq.real_of_below _ _ _ (pre c).2.2.2
  refine ⟨fun c => Vq.resultOf m c, Vq.kernel_run m g hcb, ?_⟩
  refine (θ_run (Cert.ReferenceIdeal.defs (F := Ideal)) _ _).mono (fun r h c => ⟨(h.1 c).1.trans ?_, (h.1 c).2⟩) (Ref.ref_run m' g')
  obtain ⟨a0, a1, a2, a3⟩ := agree c
  rw [a0, a1, a2, a3]
  exact Vq.total_eq _ _ _ _ (hx c) (hcb c) (hw c) (hb c)

end

theorem claim : Cert.Claim :=
  ⟨Cert.Kernel.Gen.facts, Cert.KernelIdeal.Gen.facts, Cert.ReferenceIdeal.Gen.facts, finite_facts,
    fun m g _ => Cert.Kernel.Gen.frame m g,
    fun m g _ => Cert.KernelIdeal.Gen.frame m g,
    fun m g _ => Cert.KernelIdeal.Gen.frame m g,
    reference_frame,
    fun m g _ => reference_frame m g True.intro,
    trivial,
    same⟩

end Cert.Proof

end
